-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v149_0)) (v1 : (c : Dev Cert.KernelIdeal.nD) → Buf (Elt Ideal) ((c.tc : Thread Cert.KernelIdeal.nD Cert.KernelIdeal.τ).loc Cert.KernelIdeal.main_v149_1)) (v2 : (c : Dev Cert.KernelIdeal.nD) → Buf (Elt Ideal) ((c.tc : Thread Cert.KernelIdeal.nD Cert.KernelIdeal.τ).loc Cert.KernelIdeal.main_v149_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149_0) = v0 c
          ∧ r.2.mem ((c.tc : Thread Cert.KernelIdeal.nD Cert.KernelIdeal.τ).loc Cert.KernelIdeal.main_v149_1) = v1 c
          ∧ r.2.mem ((c.tc : Thread Cert.KernelIdeal.nD Cert.KernelIdeal.τ).loc Cert.KernelIdeal.main_v149_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_v278) = v1 c
          ∧ r.2.mem ((c.tc : Thread Cert.ReferenceIdeal.nD Cert.ReferenceIdeal.τ).loc Cert.ReferenceIdeal.main_v280) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_v23) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_v13) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_v23) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_v13) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v6) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v4) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v5) = v0 c
          ∧ r.2.mem ((c.tc : Thread Cert.Reference29Ideal.nD Cert.Reference29Ideal.τ).loc Cert.Reference29Ideal.main_v6) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v6) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v5) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite.lean ====
abbrev S4096x2304 : Shape := ⟨2, ![4096, 2304]⟩
abbrev S4096x768 : Shape := ⟨2, ![4096, 768]⟩
abbrev S1x4096x12x64 : Shape := ⟨4, ![1, 4096, 12, 64]⟩
abbrev S1x4096x12 : Shape := ⟨3, ![1, 4096, 12]⟩
abbrev S_ : Shape := ⟨0, ![]⟩

class Facts : Prop where
  bitsLt_bf16_f32 : FTy.bits .bf16 < FTy.bits .f32
  bcast_S_S4096x2304 : S_.BroadcastsInDim S4096x2304 (![] : Fin 0 → Fin S4096x2304.rank)
  reducesTo_S4096x2304_S_d0_1 : S4096x2304.ReducesTo [0, 1] S_
  h_S_ : 0 < S_.numel
  bcast_S_S4096x768 : S_.BroadcastsInDim S4096x768 (![] : Fin 0 → Fin S4096x768.rank)
  reducesTo_S4096x768_S_d0_1 : S4096x768.ReducesTo [0, 1] S_
  bcast_S_S1x4096x12x64 : S_.BroadcastsInDim S1x4096x12x64 (![] : Fin 0 → Fin S1x4096x12x64.rank)
  reducesTo_S1x4096x12x64_S_d0_1_2_3 : S1x4096x12x64.ReducesTo [0, 1, 2, 3] S_
  bcast_S_S1x4096x12 : S_.BroadcastsInDim S1x4096x12 (![] : Fin 0 → Fin S1x4096x12.rank)
  reducesTo_S1x4096x12_S_d0_1_2 : S1x4096x12.ReducesTo [0, 1, 2] S_

variable [Facts]

def fn_part1 {F : FTy → Type} [FloatOps F] (main_arg4 : FVec F S1x4096x12x64 .f32) (main_arg5 : FVec F S1x4096x12 .f32) (main_v5 : IVec S_ 1) (main_v9 : IVec S_ 1) (main_v13 : IVec S_ 1) (main_v16 : IVec S1x4096x12 1) : IVec S_ 1 :=
  let main_c_5 : IVec S_ 1 := constantI S_ 1 1#1
  let main_v17 : IVec S_ 1 := (fun x v => Host.reduce IntOp.andi x v reducesTo_S1x4096x12_S_d0_1_2 h_S_) main_v16 main_c_5
  let main_v18 : FVec F S1x4096x12x64 .f32 := Host.absf main_arg4
  let main_cst_6 : FVec F S_ .f32 := constant S_ .f32 0x7F800000#32
  let main_v19 : FVec F S1x4096x12x64 .f32 := broadcastInDim S1x4096x12x64 ![] bcast_S_S1x4096x12x64 main_cst_6
  let main_v20 : IVec S1x4096x12x64 1 := cmpf .olt main_v18 main_v19
  let main_c_7 : IVec S_ 1 := constantI S_ 1 1#1
  let main_v21 : IVec S_ 1 := (fun x v => Host.reduce IntOp.andi x v reducesTo_S1x4096x12x64_S_d0_1_2_3 h_S_) main_v20 main_c_7
  let main_v22 : FVec F S1x4096x12 .f32 := Host.absf main_arg5
  let main_cst_8 : FVec F S_ .f32 := constant S_ .f32 0x7F800000#32
  let main_v23 : FVec F S1x4096x12 .f32 := broadcastInDim S1x4096x12 ![] bcast_S_S1x4096x12 main_cst_8
  let main_v24 : IVec S1x4096x12 1 := cmpf .olt main_v22 main_v23
  let main_c_9 : IVec S_ 1 := constantI S_ 1 1#1
  let main_v25 : IVec S_ 1 := (fun x v => Host.reduce IntOp.andi x v reducesTo_S1x4096x12_S_d0_1_2 h_S_) main_v24 main_c_9
  let main_v26 : IVec S_ 1 := andi main_v5 main_v9
  let main_v27 : IVec S_ 1 := andi main_v26 main_v13
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S4096x2304 .bf16) (main_arg1 : FVec F S4096x768 .bf16) (main_arg2 : FVec F S1x4096x12x64 .f32) (main_arg3 : FVec F S1x4096x12 .f32) (main_arg4 : FVec F S1x4096x12x64 .f32) (main_arg5 : FVec F S1x4096x12 .f32) : IVec S_ 1 :=
  let main_v0 : FVec F S4096x2304 .f32 := (extf .f32 · bitsLt_bf16_f32) main_arg0
  let main_v1 : FVec F S4096x768 .f32 := (extf .f32 · bitsLt_bf16_f32) main_arg1
  let main_v2 : FVec F S4096x2304 .f32 := Host.absf main_v0
  let main_cst : FVec F S_ .f32 := constant S_ .f32 0x7F800000#32
  let main_v3 : FVec F S4096x2304 .f32 := broadcastInDim S4096x2304 ![] bcast_S_S4096x2304 main_cst
  let main_v4 : IVec S4096x2304 1 := cmpf .olt main_v2 main_v3
  let main_c : IVec S_ 1 := constantI S_ 1 1#1
  let main_v5 : IVec S_ 1 := (fun x v => Host.reduce IntOp.andi x v reducesTo_S4096x2304_S_d0_1 h_S_) main_v4 main_c
  let main_v6 : FVec F S4096x768 .f32 := Host.absf main_v1
  let main_cst_0 : FVec F S_ .f32 := constant S_ .f32 0x7F800000#32
  let main_v7 : FVec F S4096x768 .f32 := broadcastInDim S4096x768 ![] bcast_S_S4096x768 main_cst_0
  let main_v8 : IVec S4096x768 1 := cmpf .olt main_v6 main_v7
  let main_c_1 : IVec S_ 1 := constantI S_ 1 1#1
  let main_v9 : IVec S_ 1 := (fun x v => Host.reduce IntOp.andi x v reducesTo_S4096x768_S_d0_1 h_S_) main_v8 main_c_1
  let main_v10 : FVec F S1x4096x12x64 .f32 := Host.absf main_arg2
  let main_cst_2 : FVec F S_ .f32 := constant S_ .f32 0x7F800000#32
  let main_v11 : FVec F S1x4096x12x64 .f32 := broadcastInDim S1x4096x12x64 ![] bcast_S_S1x4096x12x64 main_cst_2
  let main_v12 : IVec S1x4096x12x64 1 := cmpf .olt main_v10 main_v11
  let main_c_3 : IVec S_ 1 := constantI S_ 1 1#1
  let main_v13 : IVec S_ 1 := (fun x v => Host.reduce IntOp.andi x v reducesTo_S1x4096x12x64_S_d0_1_2_3 h_S_) main_v12 main_c_3
  let main_v14 : FVec F S1x4096x12 .f32 := Host.absf main_arg3
  let main_cst_4 : FVec F S_ .f32 := constant S_ .f32 0x7F800000#32
  let main_v15 : FVec F S1x4096x12 .f32 := broadcastInDim S1x4096x12 ![] bcast_S_S1x4096x12 main_cst_4
  let main_v16 : IVec S1x4096x12 1 := cmpf .olt main_v14 main_v15
  fn_part1 (F := F) main_arg4 main_arg5 main_v5 main_v9 main_v13 main_v16
-- ==== Kernel.lean ====
abbrev S4096x2304 : Shape := ⟨2, ![4096, 2304]⟩
abbrev S4096x768 : Shape := ⟨2, ![4096, 768]⟩
abbrev S1x4096x12x64 : Shape := ⟨4, ![1, 4096, 12, 64]⟩
abbrev S1x4096x12 : Shape := ⟨3, ![1, 4096, 12]⟩
abbrev S_ : Shape := ⟨0, ![]⟩
abbrev S1 : Shape := ⟨1, ![1]⟩
abbrev S12 : Shape := ⟨1, ![12]⟩
abbrev S1x4096x1x12x64 : Shape := ⟨5, ![1, 4096, 1, 12, 64]⟩
abbrev S1x1x4096x12x64 : Shape := ⟨5, ![1, 1, 4096, 12, 64]⟩
abbrev S1x32x128x12x64 : Shape := ⟨5, ![1, 32, 128, 12, 64]⟩
abbrev S1x128x12x64 : Shape := ⟨4, ![1, 128, 12, 64]⟩
abbrev S1x4224x12x64 : Shape := ⟨4, ![1, 4224, 12, 64]⟩
abbrev S1x32x256x12x64 : Shape := ⟨5, ![1, 32, 256, 12, 64]⟩
abbrev S1x32x12x128x256 : Shape := ⟨5, ![1, 32, 12, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S12x1x1 : Shape := ⟨3, ![12, 1, 1]⟩
abbrev S12x128x256 : Shape := ⟨3, ![12, 128, 256]⟩
abbrev S1x32x1x128x256 : Shape := ⟨5, ![1, 32, 1, 128, 256]⟩
abbrev S1x1x12x128x256 : Shape := ⟨5, ![1, 1, 12, 128, 256]⟩
abbrev S1x32x12x128 : Shape := ⟨4, ![1, 32, 12, 128]⟩
abbrev S1x32x12x128x1 : Shape := ⟨5, ![1, 32, 12, 128, 1]⟩
abbrev S1x32x12x64x128 : Shape := ⟨5, ![1, 32, 12, 64, 128]⟩
abbrev S1x32x128x12 : Shape := ⟨4, ![1, 32, 128, 12]⟩
abbrev S1x1x4096x12 : Shape := ⟨4, ![1, 1, 4096, 12]⟩
abbrev S1x4096x1x12 : Shape := ⟨4, ![1, 4096, 1, 12]⟩
abbrev S1x4096x12x1 : Shape := ⟨4, ![1, 4096, 12, 1]⟩
abbrev S4096x12 : Shape := ⟨2, ![4096, 12]⟩
abbrev S4096x128 : Shape := ⟨2, ![4096, 128]⟩
abbrev S128x768 : Shape := ⟨2, ![128, 768]⟩
abbrev S128x128 : Shape := ⟨2, ![128, 128]⟩
abbrev S256x128 : Shape := ⟨2, ![256, 128]⟩

abbrev nBuf : Space → Nat
  | .hbm => 191
  | .vmem => 24
  | .smem => 0
  | _ => 0

abbrev hbmTy0_0 (i : Nat) : BufTy := match i % 128 with
  | 0 => ⟨S4096x2304, .bf16⟩
  | 1 => ⟨S4096x768, .bf16⟩
  | 2 => ⟨S1x4096x12x64, .f32⟩
  | 3 => ⟨S1x4096x12, .f32⟩
  | 4 => ⟨S1x4096x12x64, .f32⟩
  | 5 => ⟨S1x4096x12, .f32⟩
  | 6 => ⟨S4096x2304, .f32⟩
  | 7 => ⟨S4096x768, .f32⟩
  | 8 => ⟨S1x4096x12x64, .f32⟩
  | 9 => ⟨S4096x768, .f32⟩
  | 10 => ⟨S1x4096x12x64, .f32⟩
  | 11 => ⟨S4096x768, .f32⟩
  | 12 => ⟨S1x4096x12x64, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S1, .f32⟩
  | 26 => ⟨S1, .f32⟩
  | 27 => ⟨S1, .f32⟩
  | 28 => ⟨S1, .f32⟩
  | 29 => ⟨S1, .f32⟩
  | 30 => ⟨S1, .f32⟩
  | 31 => ⟨S1, .f32⟩
  | 32 => ⟨S1, .f32⟩
  | 33 => ⟨S1, .f32⟩
  | 34 => ⟨S1, .f32⟩
  | 35 => ⟨S1, .f32⟩
  | 36 => ⟨S1, .f32⟩
  | 37 => ⟨S12, .f32⟩
  | 38 => ⟨S1x4096x1x12x64, .f32⟩
  | 39 => ⟨S1x1x4096x12x64, .f32⟩
  | 40 => ⟨S1x4096x12x64, .f32⟩
  | 41 => ⟨S1x4096x1x12x64, .f32⟩
  | 42 => ⟨S1x1x4096x12x64, .f32⟩
  | 43 => ⟨S1x4096x12x64, .f32⟩
  | 44 => ⟨S1x4096x1x12x64, .f32⟩
  | 45 => ⟨S1x1x4096x12x64, .f32⟩
  | 46 => ⟨S1x4096x12x64, .f32⟩
  | 47 => ⟨S1x32x128x12x64, .f32⟩
  | 48 => ⟨S_, .f32⟩
  | 49 => ⟨S1x128x12x64, .f32⟩
  | 50 => ⟨S1x4224x12x64, .f32⟩
  | 51 => ⟨S1x4096x12x64, .f32⟩
  | 52 => ⟨S1x32x128x12x64, .f32⟩
  | 53 => ⟨S1x32x128x12x64, .f32⟩
  | 54 => ⟨S1x32x256x12x64, .f32⟩
  | 55 => ⟨S_, .f32⟩
  | 56 => ⟨S1x128x12x64, .f32⟩
  | 57 => ⟨S1x4224x12x64, .f32⟩
  | 58 => ⟨S1x4096x12x64, .f32⟩
  | 59 => ⟨S1x32x128x12x64, .f32⟩
  | 60 => ⟨S1x32x128x12x64, .f32⟩
  | 61 => ⟨S1x32x256x12x64, .f32⟩
  | 62 => ⟨S1x32x12x128x256, .f32⟩
  | 63 => ⟨S_, .f32⟩
  | 64 => ⟨S1x32x12x128x256, .f32⟩
  | 65 => ⟨S1x32x12x128x256, .f32⟩
  | 66 => ⟨S128, .i32⟩
  | 67 => ⟨S128x1, .i32⟩
  | 68 => ⟨S256, .i32⟩
  | 69 => ⟨S1x256, .i32⟩
  | 70 => ⟨S_, .i32⟩
  | 71 => ⟨S128x1, .i32⟩
  | 72 => ⟨S128x1, .i32⟩
  | 73 => ⟨S128x256, .i32⟩
  | 74 => ⟨S128x256, .i32⟩
  | 75 => ⟨S128x256, .i32⟩
  | 76 => ⟨S32, .i32⟩
  | 77 => ⟨S32x1x1, .i32⟩
  | 78 => ⟨S_, .i32⟩
  | 79 => ⟨S32x1x1, .i32⟩
  | 80 => ⟨S32x1x1, .i32⟩
  | 81 => ⟨S1x1x256, .i32⟩
  | 82 => ⟨S32x1x256, .i32⟩
  | 83 => ⟨S32x1x256, .i32⟩
  | 84 => ⟨S32x1x256, .i32⟩
  | 85 => ⟨S_, .i32⟩
  | 86 => ⟨S32x1x256, .i32⟩
  | 87 => ⟨S32x1x256, .i32⟩
  | 88 => ⟨S1x128x256, .i32⟩
  | 89 => ⟨S_, .i32⟩
  | 90 => ⟨S1x128x256, .i32⟩
  | 91 => ⟨S1x128x256, .i1⟩
  | 92 => ⟨S1x128x256, .i32⟩
  | 93 => ⟨S_, .i32⟩
  | 94 => ⟨S1x128x256, .i32⟩
  | 95 => ⟨S1x128x256, .i1⟩
  | 96 => ⟨S1x128x256, .i1⟩
  | 97 => ⟨S_, .i32⟩
  | 98 => ⟨S32x1x256, .i32⟩
  | 99 => ⟨S32x1x256, .i1⟩
  | 100 => ⟨S32x128x256, .i1⟩
  | 101 => ⟨S32x128x256, .i1⟩
  | 102 => ⟨S32x128x256, .i1⟩
  | 103 => ⟨S12x1x1, .f32⟩
  | 104 => ⟨S12x1x1, .f32⟩
  | 105 => ⟨S_, .i32⟩
  | 106 => ⟨S128x256, .i32⟩
  | 107 => ⟨S128x256, .i32⟩
  | 108 => ⟨S128x256, .f32⟩
  | 109 => ⟨S1x128x256, .f32⟩
  | 110 => ⟨S12x128x256, .f32⟩
  | 111 => ⟨S12x128x256, .f32⟩
  | 112 => ⟨S12x128x256, .f32⟩
  | 113 => ⟨S1x32x1x128x256, .i1⟩
  | 114 => ⟨S1x1x12x128x256, .f32⟩
  | 115 => ⟨S1x32x12x128x256, .f32⟩
  | 116 => ⟨S1x32x12x128x256, .f32⟩
  | 117 => ⟨S_, .f32⟩
  | 118 => ⟨S_, .f32⟩
  | 119 => ⟨S1x32x12x128x256, .i1⟩
  | 120 => ⟨S1x32x12x128x256, .f32⟩
  | 121 => ⟨S1x32x12x128x256, .f32⟩
  | 122 => ⟨S_, .f32⟩
  | 123 => ⟨S1x32x12x128, .f32⟩
  | 124 => ⟨S1x32x12x128x1, .f32⟩
  | 125 => ⟨S1x32x12x128x256, .f32⟩
  | 126 => ⟨S1x32x12x128x256, .f32⟩
  | 127 => ⟨S1x32x12x128x256, .f32⟩
  | _ => ⟨S4096x2304, .bf16⟩

abbrev hbmTy0_1 (i : Nat) : BufTy := match i % 128 with
  | 0 => ⟨S_, .f32⟩
  | 1 => ⟨S1x32x12x128, .f32⟩
  | 2 => ⟨S1x32x12x128x1, .f32⟩
  | 3 => ⟨S1x32x12x128x256, .f32⟩
  | 4 => ⟨S1x32x12x128x256, .f32⟩
  | 5 => ⟨S1x32x12x64x128, .f32⟩
  | 6 => ⟨S1x32x128x12x64, .f32⟩
  | 7 => ⟨S1x32x12x128x1, .f32⟩
  | 8 => ⟨S1x32x12x128x1, .f32⟩
  | 9 => ⟨S1x32x12x128, .f32⟩
  | 10 => ⟨S1x4096x12x64, .f32⟩
  | 11 => ⟨S1x1x4096x12x64, .f32⟩
  | 12 => ⟨S1x4096x1x12x64, .f32⟩
  | 13 => ⟨S1x4096x12x64, .f32⟩
  | 14 => ⟨S1x32x128x12, .f32⟩
  | 15 => ⟨S1x4096x12, .f32⟩
  | 16 => ⟨S1x1x4096x12, .f32⟩
  | 17 => ⟨S1x4096x1x12, .f32⟩
  | 18 => ⟨S1x4096x12, .f32⟩
  | 19 => ⟨S1x4096x12, .f32⟩
  | 20 => ⟨S1x4096x12, .f32⟩
  | 21 => ⟨S1x4096x12, .f32⟩
  | 22 => ⟨S1x4096x12, .f32⟩
  | 23 => ⟨S1x4096x12, .f32⟩
  | 24 => ⟨S1x4096x12, .f32⟩
  | 25 => ⟨S1x4096x12, .f32⟩
  | 26 => ⟨S1x4096x12, .f32⟩
  | 27 => ⟨S1x4096x12, .f32⟩
  | 28 => ⟨S1x4096x12, .f32⟩
  | 29 => ⟨S1x4096x12, .f32⟩
  | 30 => ⟨S1x4096x12x1, .f32⟩
  | 31 => ⟨S1x4096x12x64, .f32⟩
  | 32 => ⟨S1x4096x12x64, .f32⟩
  | 33 => ⟨S1x4096x12, .f32⟩
  | 34 => ⟨S1x4096x12x1, .f32⟩
  | 35 => ⟨S1x4096x12x64, .f32⟩
  | 36 => ⟨S1x4096x12x64, .f32⟩
  | 37 => ⟨S1x4096x12x64, .f32⟩
  | 38 => ⟨S1x4096x12, .f32⟩
  | 39 => ⟨S1x4096x12x1, .f32⟩
  | 40 => ⟨S1x4096x12x64, .f32⟩
  | 41 => ⟨S1x4096x12x64, .f32⟩
  | 42 => ⟨S1x4096x12x64, .f32⟩
  | 43 => ⟨S1x4096x12x64, .bf16⟩
  | 44 => ⟨S1x4096x12x64, .f32⟩
  | 45 => ⟨S1x4096x12, .f32⟩
  | 46 => ⟨S1x4096x12, .f32⟩
  | 47 => ⟨S4096x768, .f32⟩
  | 48 => ⟨S1x4096x12x64, .f32⟩
  | 49 => ⟨S1x4096x12x64, .f32⟩
  | 50 => ⟨S_, .f32⟩
  | 51 => ⟨S1x4096x12, .f32⟩
  | 52 => ⟨S4096x12, .f32⟩
  | 53 => ⟨S_, .i32⟩
  | 54 => ⟨S_, .f32⟩
  | 55 => ⟨S4096x128, .f32⟩
  | 56 => ⟨S4096x12, .f32⟩
  | 57 => ⟨S_, .i32⟩
  | 58 => ⟨S_, .f32⟩
  | 59 => ⟨S4096x128, .f32⟩
  | 60 => ⟨S4096x768, .bf16⟩
  | 61 => ⟨S4096x768, .bf16⟩
  | 62 => ⟨S4096x768, .bf16⟩
  | _ => ⟨S4096x2304, .bf16⟩

abbrev hbmTy (i : Nat) : BufTy := match i / 128 with
  | 0 => hbmTy0_0 i
  | 1 => hbmTy0_1 i
  | _ => ⟨S4096x2304, .bf16⟩

abbrev bufTy : (tb : Table) → Fin (tcTables nBuf tb) → BufTy
  | .hbm, ⟨i, _⟩ => hbmTy i
  | .local _ .vmem, ⟨0, _⟩ => ⟨S128x768, .bf16⟩
  | .local _ .vmem, ⟨1, _⟩ => ⟨S128x768, .bf16⟩
  | .local _ .vmem, ⟨2, _⟩ => ⟨S128x768, .bf16⟩
  | .local _ .vmem, ⟨3, _⟩ => ⟨S128x768, .bf16⟩
  | .local _ .vmem, ⟨4, _⟩ => ⟨S128x768, .bf16⟩
  | .local _ .vmem, ⟨5, _⟩ => ⟨S128x768, .bf16⟩
  | .local _ .vmem, ⟨6, _⟩ => ⟨S128x768, .bf16⟩
  | .local _ .vmem, ⟨7, _⟩ => ⟨S128x768, .bf16⟩
  | .local _ .vmem, ⟨8, _⟩ => ⟨S128x768, .bf16⟩
  | .local _ .vmem, ⟨9, _⟩ => ⟨S128x768, .bf16⟩
  | .local _ .vmem, ⟨10, _⟩ => ⟨S128x768, .bf16⟩
  | .local _ .vmem, ⟨11, _⟩ => ⟨S128x768, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x768, .bf16⟩
  | .local _ .vmem, ⟨17, _⟩ => ⟨S128x768, .bf16⟩
  | .local _ .vmem, ⟨18, _⟩ => ⟨S128x768, .bf16⟩
  | .local _ .vmem, ⟨19, _⟩ => ⟨S128x768, .bf16⟩
  | .local _ .vmem, ⟨20, _⟩ => ⟨S128x768, .bf16⟩
  | .local _ .vmem, ⟨21, _⟩ => ⟨S128x768, .bf16⟩
  | .local _ .vmem, ⟨22, _⟩ => ⟨S128x768, .f32⟩
  | .local _ .vmem, ⟨23, _⟩ => ⟨S128x768, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_0 : Ref sig .tc := ⟨.hbm, 14, rfl⟩
abbrev main_cst_1 : Ref sig .tc := ⟨.hbm, 15, rfl⟩
abbrev main_cst_2 : Ref sig .tc := ⟨.hbm, 16, rfl⟩
abbrev main_cst_3 : Ref sig .tc := ⟨.hbm, 17, rfl⟩
abbrev main_cst_4 : Ref sig .tc := ⟨.hbm, 18, rfl⟩
abbrev main_cst_5 : Ref sig .tc := ⟨.hbm, 19, rfl⟩
abbrev main_cst_6 : Ref sig .tc := ⟨.hbm, 20, rfl⟩
abbrev main_cst_7 : Ref sig .tc := ⟨.hbm, 21, rfl⟩
abbrev main_cst_8 : Ref sig .tc := ⟨.hbm, 22, rfl⟩
abbrev main_cst_9 : Ref sig .tc := ⟨.hbm, 23, rfl⟩
abbrev main_cst_10 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_11 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_12 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_14 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_15 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_16 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_18 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_19 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_20 : Ref sig .tc := ⟨.hbm, 117, rfl⟩
abbrev main_call0_v0 : Ref sig .tc := ⟨.hbm, 118, rfl⟩
abbrev main_call0_v1 : Ref sig .tc := ⟨.hbm, 119, rfl⟩
abbrev main_call0_v2 : Ref sig .tc := ⟨.hbm, 120, rfl⟩
abbrev main_v89 : Ref sig .tc := ⟨.hbm, 121, rfl⟩
abbrev main_cst_21 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_22 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_23 : Ref sig .tc := ⟨.hbm, 178, rfl⟩
abbrev main_v144 : Ref sig .tc := ⟨.hbm, 179, rfl⟩
abbrev main_v145 : Ref sig .tc := ⟨.hbm, 180, rfl⟩
abbrev main_c_24 : Ref sig .tc := ⟨.hbm, 181, rfl⟩
abbrev main_call1_v0 : Ref sig .tc := ⟨.hbm, 182, rfl⟩
abbrev main_v146 : Ref sig .tc := ⟨.hbm, 183, rfl⟩
abbrev main_v147 : Ref sig .tc := ⟨.hbm, 184, rfl⟩
abbrev main_c_25 : Ref sig .tc := ⟨.hbm, 185, rfl⟩
abbrev main_call2_v0 : Ref sig .tc := ⟨.hbm, 186, rfl⟩
abbrev main_v148 : Ref sig .tc := ⟨.hbm, 187, rfl⟩
abbrev main_v149_0 : Ref sig .tc := ⟨.hbm, 188, rfl⟩
abbrev main_v149_1 : Ref sig .tc := ⟨.hbm, 189, rfl⟩
abbrev main_v149_2 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 33], ![false, false]⟩

def k0_cond2 (i : grid0.Coords) : BitVec 1 :=
  let arg1 : BitVec 32 := BitVec.ofNat 32 (i 1).val
  let c32_i32 : BitVec 32 := 32#32
  let v3 : BitVec 1 := Scalar.cmpi .slt arg1 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c32_i32_2 : BitVec 32 := 32#32
  let v6 : BitVec 1 := Scalar.cmpi .eq arg1 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c3_i32 : BitVec 32 := 3#32
  let v1 : BitVec 32 := Scalar.muli c3_i32 arg0
  let c0_i32 : BitVec 32 := 0#32
  let v2 : BitVec 32 := Scalar.addi v1 c0_i32
  let c0_i32_0 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c3_i32 : BitVec 32 := 3#32
  let v1 : BitVec 32 := Scalar.muli c3_i32 arg0
  let c1_i32 : BitVec 32 := 1#32
  let v2 : BitVec 32 := Scalar.addi v1 c1_i32
  let c0_i32 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli c3_i32 arg0
  let c1_i32_0 : BitVec 32 := 1#32
  let v4 : BitVec 32 := Scalar.addi v3 c1_i32_0
  let c0_i32_1 : BitVec 32 := 0#32
  ![v2.toNat, v4.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c3_i32 : BitVec 32 := 3#32
  let v1 : BitVec 32 := Scalar.muli c3_i32 arg0
  let c2_i32 : BitVec 32 := 2#32
  let v2 : BitVec 32 := Scalar.addi v1 c2_i32
  let c0_i32 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli c3_i32 arg0
  let c2_i32 : BitVec 32 := 2#32
  let v4 : BitVec 32 := Scalar.addi v3 c2_i32
  let c0_i32_0 : BitVec 32 := 0#32
  ![v2.toNat, v4.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

abbrev stage0_0 : Fin 2 → Memref sig .tc .vmem S128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x2304 : Shape := ⟨2, ![4096, 2304]⟩
abbrev S4096x768 : Shape := ⟨2, ![4096, 768]⟩
abbrev S1x4096x12x64 : Shape := ⟨4, ![1, 4096, 12, 64]⟩
abbrev S1x4096x12 : Shape := ⟨3, ![1, 4096, 12]⟩
abbrev S_ : Shape := ⟨0, ![]⟩
abbrev S1 : Shape := ⟨1, ![1]⟩
abbrev S12 : Shape := ⟨1, ![12]⟩
abbrev S1x4096x1x12x64 : Shape := ⟨5, ![1, 4096, 1, 12, 64]⟩
abbrev S1x1x4096x12x64 : Shape := ⟨5, ![1, 1, 4096, 12, 64]⟩
abbrev S1x32x128x12x64 : Shape := ⟨5, ![1, 32, 128, 12, 64]⟩
abbrev S1x128x12x64 : Shape := ⟨4, ![1, 128, 12, 64]⟩
abbrev S1x4224x12x64 : Shape := ⟨4, ![1, 4224, 12, 64]⟩
abbrev S1x32x256x12x64 : Shape := ⟨5, ![1, 32, 256, 12, 64]⟩
abbrev S1x32x12x128x256 : Shape := ⟨5, ![1, 32, 12, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S12x1x1 : Shape := ⟨3, ![12, 1, 1]⟩
abbrev S12x128x256 : Shape := ⟨3, ![12, 128, 256]⟩
abbrev S1x32x1x128x256 : Shape := ⟨5, ![1, 32, 1, 128, 256]⟩
abbrev S1x1x12x128x256 : Shape := ⟨5, ![1, 1, 12, 128, 256]⟩
abbrev S1x32x12x128 : Shape := ⟨4, ![1, 32, 12, 128]⟩
abbrev S1x32x12x128x1 : Shape := ⟨5, ![1, 32, 12, 128, 1]⟩
abbrev S1x32x12x64x128 : Shape := ⟨5, ![1, 32, 12, 64, 128]⟩
abbrev S1x32x128x12 : Shape := ⟨4, ![1, 32, 128, 12]⟩
abbrev S1x1x4096x12 : Shape := ⟨4, ![1, 1, 4096, 12]⟩
abbrev S1x4096x1x12 : Shape := ⟨4, ![1, 4096, 1, 12]⟩
abbrev S3x1x4096x12 : Shape := ⟨4, ![3, 1, 4096, 12]⟩
abbrev S3x1x4096x12x1 : Shape := ⟨5, ![3, 1, 4096, 12, 1]⟩
abbrev S3x1x4096x12x64 : Shape := ⟨5, ![3, 1, 4096, 12, 64]⟩
abbrev S3x4096x12 : Shape := ⟨3, ![3, 4096, 12]⟩
abbrev S4096x12 : Shape := ⟨2, ![4096, 12]⟩
abbrev S1x32x12x64x256 : Shape := ⟨5, ![1, 32, 12, 64, 256]⟩
abbrev S32x12x128 : Shape := ⟨3, ![32, 12, 128]⟩
abbrev S1x32x12x256x64 : Shape := ⟨5, ![1, 32, 12, 256, 64]⟩
abbrev S1x32x12x128x64 : Shape := ⟨5, ![1, 32, 12, 128, 64]⟩

abbrev nBuf : Space → Nat
  | .hbm => 349
  | .vmem => 0
  | .smem => 0
  | _ => 0

abbrev hbmTy0_0 (i : Nat) : BufTy := match i % 128 with
  | 0 => ⟨S4096x2304, .bf16⟩
  | 1 => ⟨S4096x768, .bf16⟩
  | 2 => ⟨S1x4096x12x64, .f32⟩
  | 3 => ⟨S1x4096x12, .f32⟩
  | 4 => ⟨S1x4096x12x64, .f32⟩
  | 5 => ⟨S1x4096x12, .f32⟩
  | 6 => ⟨S4096x2304, .f32⟩
  | 7 => ⟨S4096x768, .f32⟩
  | 8 => ⟨S1x4096x12x64, .f32⟩
  | 9 => ⟨S4096x768, .f32⟩
  | 10 => ⟨S1x4096x12x64, .f32⟩
  | 11 => ⟨S4096x768, .f32⟩
  | 12 => ⟨S1x4096x12x64, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S1, .f32⟩
  | 26 => ⟨S1, .f32⟩
  | 27 => ⟨S1, .f32⟩
  | 28 => ⟨S1, .f32⟩
  | 29 => ⟨S1, .f32⟩
  | 30 => ⟨S1, .f32⟩
  | 31 => ⟨S1, .f32⟩
  | 32 => ⟨S1, .f32⟩
  | 33 => ⟨S1, .f32⟩
  | 34 => ⟨S1, .f32⟩
  | 35 => ⟨S1, .f32⟩
  | 36 => ⟨S1, .f32⟩
  | 37 => ⟨S12, .f32⟩
  | 38 => ⟨S1x4096x1x12x64, .f32⟩
  | 39 => ⟨S1x1x4096x12x64, .f32⟩
  | 40 => ⟨S1x4096x12x64, .f32⟩
  | 41 => ⟨S1x4096x1x12x64, .f32⟩
  | 42 => ⟨S1x1x4096x12x64, .f32⟩
  | 43 => ⟨S1x4096x12x64, .f32⟩
  | 44 => ⟨S1x4096x1x12x64, .f32⟩
  | 45 => ⟨S1x1x4096x12x64, .f32⟩
  | 46 => ⟨S1x4096x12x64, .f32⟩
  | 47 => ⟨S1x32x128x12x64, .f32⟩
  | 48 => ⟨S_, .f32⟩
  | 49 => ⟨S1x128x12x64, .f32⟩
  | 50 => ⟨S1x4224x12x64, .f32⟩
  | 51 => ⟨S_, .f32⟩
  | 52 => ⟨S1x128x12x64, .f32⟩
  | 53 => ⟨S1x4096x12x64, .f32⟩
  | 54 => ⟨S1x32x128x12x64, .f32⟩
  | 55 => ⟨S1x32x128x12x64, .f32⟩
  | 56 => ⟨S1x32x256x12x64, .f32⟩
  | 57 => ⟨S_, .f32⟩
  | 58 => ⟨S1x128x12x64, .f32⟩
  | 59 => ⟨S1x4224x12x64, .f32⟩
  | 60 => ⟨S_, .f32⟩
  | 61 => ⟨S1x128x12x64, .f32⟩
  | 62 => ⟨S1x4096x12x64, .f32⟩
  | 63 => ⟨S1x32x128x12x64, .f32⟩
  | 64 => ⟨S1x32x128x12x64, .f32⟩
  | 65 => ⟨S1x32x256x12x64, .f32⟩
  | 66 => ⟨S1x32x12x128x256, .f32⟩
  | 67 => ⟨S_, .f32⟩
  | 68 => ⟨S1x32x12x128x256, .f32⟩
  | 69 => ⟨S1x32x12x128x256, .f32⟩
  | 70 => ⟨S128, .i32⟩
  | 71 => ⟨S128x1, .i32⟩
  | 72 => ⟨S256, .i32⟩
  | 73 => ⟨S1x256, .i32⟩
  | 74 => ⟨S_, .i32⟩
  | 75 => ⟨S128x1, .i32⟩
  | 76 => ⟨S128x1, .i32⟩
  | 77 => ⟨S128x256, .i32⟩
  | 78 => ⟨S128x256, .i32⟩
  | 79 => ⟨S128x256, .i32⟩
  | 80 => ⟨S32, .i32⟩
  | 81 => ⟨S32x1x1, .i32⟩
  | 82 => ⟨S_, .i32⟩
  | 83 => ⟨S32x1x1, .i32⟩
  | 84 => ⟨S32x1x1, .i32⟩
  | 85 => ⟨S1x1x256, .i32⟩
  | 86 => ⟨S32x1x256, .i32⟩
  | 87 => ⟨S32x1x256, .i32⟩
  | 88 => ⟨S32x1x256, .i32⟩
  | 89 => ⟨S_, .i32⟩
  | 90 => ⟨S32x1x256, .i32⟩
  | 91 => ⟨S32x1x256, .i32⟩
  | 92 => ⟨S1x128x256, .i32⟩
  | 93 => ⟨S_, .i32⟩
  | 94 => ⟨S1x128x256, .i32⟩
  | 95 => ⟨S1x128x256, .i1⟩
  | 96 => ⟨S1x128x256, .i32⟩
  | 97 => ⟨S_, .i32⟩
  | 98 => ⟨S1x128x256, .i32⟩
  | 99 => ⟨S1x128x256, .i1⟩
  | 100 => ⟨S1x128x256, .i1⟩
  | 101 => ⟨S_, .i32⟩
  | 102 => ⟨S32x1x256, .i32⟩
  | 103 => ⟨S32x1x256, .i1⟩
  | 104 => ⟨S32x128x256, .i1⟩
  | 105 => ⟨S32x128x256, .i1⟩
  | 106 => ⟨S32x128x256, .i1⟩
  | 107 => ⟨S12x1x1, .f32⟩
  | 108 => ⟨S12x1x1, .f32⟩
  | 109 => ⟨S_, .i32⟩
  | 110 => ⟨S128x256, .i32⟩
  | 111 => ⟨S128x256, .i32⟩
  | 112 => ⟨S128x256, .f32⟩
  | 113 => ⟨S1x128x256, .f32⟩
  | 114 => ⟨S12x128x256, .f32⟩
  | 115 => ⟨S12x128x256, .f32⟩
  | 116 => ⟨S12x128x256, .f32⟩
  | 117 => ⟨S1x32x1x128x256, .i1⟩
  | 118 => ⟨S1x1x12x128x256, .f32⟩
  | 119 => ⟨S1x32x12x128x256, .f32⟩
  | 120 => ⟨S1x32x12x128x256, .f32⟩
  | 121 => ⟨S_, .f32⟩
  | 122 => ⟨S_, .f32⟩
  | 123 => ⟨S1x32x12x128x256, .i1⟩
  | 124 => ⟨S1x32x12x128x256, .f32⟩
  | 125 => ⟨S1x32x12x128x256, .f32⟩
  | 126 => ⟨S_, .f32⟩
  | 127 => ⟨S1x32x12x128x256, .f32⟩
  | _ => ⟨S4096x2304, .bf16⟩

abbrev hbmTy0_1 (i : Nat) : BufTy := match i % 128 with
  | 0 => ⟨S_, .f32⟩
  | 1 => ⟨S1x32x12x128, .f32⟩
  | 2 => ⟨S1x32x12x128x1, .f32⟩
  | 3 => ⟨S1x32x12x128x256, .f32⟩
  | 4 => ⟨S1x32x12x128x256, .i1⟩
  | 5 => ⟨S1x32x12x128x256, .f32⟩
  | 6 => ⟨S_, .f32⟩
  | 7 => ⟨S1x32x12x128, .f32⟩
  | 8 => ⟨S1x32x12x128x1, .f32⟩
  | 9 => ⟨S1x32x12x128x256, .f32⟩
  | 10 => ⟨S1x32x12x128x256, .f32⟩
  | 11 => ⟨S1x32x12x128x256, .f32⟩
  | 12 => ⟨S_, .f32⟩
  | 13 => ⟨S1x32x12x128, .f32⟩
  | 14 => ⟨S1x32x12x128x1, .f32⟩
  | 15 => ⟨S1x32x12x128x256, .f32⟩
  | 16 => ⟨S1x32x12x128x256, .f32⟩
  | 17 => ⟨S1x32x12x128x1, .f32⟩
  | 18 => ⟨S_, .f32⟩
  | 19 => ⟨S1x32x12x128x1, .f32⟩
  | 20 => ⟨S1x32x12x128x1, .f32⟩
  | 21 => ⟨S1x32x12x64x128, .f32⟩
  | 22 => ⟨S1x32x128x12x64, .f32⟩
  | 23 => ⟨S1x32x12x128x1, .f32⟩
  | 24 => ⟨S1x32x12x128x1, .f32⟩
  | 25 => ⟨S1x32x12x128, .f32⟩
  | 26 => ⟨S1x4096x12x64, .f32⟩
  | 27 => ⟨S1x1x4096x12x64, .f32⟩
  | 28 => ⟨S1x4096x1x12x64, .f32⟩
  | 29 => ⟨S1x4096x12x64, .f32⟩
  | 30 => ⟨S1x32x128x12, .f32⟩
  | 31 => ⟨S1x4096x12, .f32⟩
  | 32 => ⟨S1x1x4096x12, .f32⟩
  | 33 => ⟨S1x4096x1x12, .f32⟩
  | 34 => ⟨S1x4096x12, .f32⟩
  | 35 => ⟨S1x1x4096x12, .f32⟩
  | 36 => ⟨S1x1x4096x12, .f32⟩
  | 37 => ⟨S1x1x4096x12, .f32⟩
  | 38 => ⟨S3x1x4096x12, .f32⟩
  | 39 => ⟨S_, .f32⟩
  | 40 => ⟨S1x4096x12, .f32⟩
  | 41 => ⟨S_, .f32⟩
  | 42 => ⟨S1x4096x12, .f32⟩
  | 43 => ⟨S_, .f32⟩
  | 44 => ⟨S1x4096x12, .f32⟩
  | 45 => ⟨S1x1x4096x12, .f32⟩
  | 46 => ⟨S3x1x4096x12, .f32⟩
  | 47 => ⟨S3x1x4096x12, .i1⟩
  | 48 => ⟨S3x1x4096x12, .f32⟩
  | 49 => ⟨S_, .f32⟩
  | 50 => ⟨S1x4096x12, .f32⟩
  | 51 => ⟨S_, .f32⟩
  | 52 => ⟨S1x4096x12, .f32⟩
  | 53 => ⟨S1x4096x12, .f32⟩
  | 54 => ⟨S_, .f32⟩
  | 55 => ⟨S1x4096x12, .f32⟩
  | 56 => ⟨S1x4096x12, .i1⟩
  | 57 => ⟨S_, .f32⟩
  | 58 => ⟨S1x4096x12, .f32⟩
  | 59 => ⟨S1x4096x12, .i1⟩
  | 60 => ⟨S_, .f32⟩
  | 61 => ⟨S1x4096x12, .f32⟩
  | 62 => ⟨S_, .f32⟩
  | 63 => ⟨S1x4096x12, .f32⟩
  | 64 => ⟨S_, .f32⟩
  | 65 => ⟨S1x4096x12, .f32⟩
  | 66 => ⟨S1x4096x12, .f32⟩
  | 67 => ⟨S1x4096x12, .f32⟩
  | 68 => ⟨S1x1x4096x12, .f32⟩
  | 69 => ⟨S3x1x4096x12, .f32⟩
  | 70 => ⟨S3x1x4096x12, .f32⟩
  | 71 => ⟨S3x1x4096x12, .f32⟩
  | 72 => ⟨S_, .f32⟩
  | 73 => ⟨S1x4096x12, .f32⟩
  | 74 => ⟨S1x1x4096x12, .f32⟩
  | 75 => ⟨S3x1x4096x12, .f32⟩
  | 76 => ⟨S3x1x4096x12, .f32⟩
  | 77 => ⟨S1x1x4096x12, .f32⟩
  | 78 => ⟨S_, .f32⟩
  | 79 => ⟨S1x1x4096x12, .f32⟩
  | 80 => ⟨S1x1x4096x12, .f32⟩
  | 81 => ⟨S3x1x4096x12x1, .f32⟩
  | 82 => ⟨S1x1x4096x12x64, .f32⟩
  | 83 => ⟨S1x1x4096x12x64, .f32⟩
  | 84 => ⟨S1x1x4096x12x64, .f32⟩
  | 85 => ⟨S3x1x4096x12x64, .f32⟩
  | 86 => ⟨S_, .f32⟩
  | 87 => ⟨S1x4096x12x64, .f32⟩
  | 88 => ⟨S_, .f32⟩
  | 89 => ⟨S1x4096x12x64, .f32⟩
  | 90 => ⟨S3x1x4096x12x64, .f32⟩
  | 91 => ⟨S3x1x4096x12x64, .f32⟩
  | 92 => ⟨S_, .f32⟩
  | 93 => ⟨S1x4096x12x64, .f32⟩
  | 94 => ⟨S1x4096x12x64, .bf16⟩
  | 95 => ⟨S1x4096x12x64, .bf16⟩
  | 96 => ⟨S1x4096x12x64, .f32⟩
  | 97 => ⟨S3x1x4096x12x64, .f32⟩
  | 98 => ⟨S3x1x4096x12x64, .f32⟩
  | 99 => ⟨S3x1x4096x12x64, .f32⟩
  | 100 => ⟨S3x1x4096x12x64, .f32⟩
  | 101 => ⟨S_, .f32⟩
  | 102 => ⟨S3x1x4096x12, .f32⟩
  | 103 => ⟨S3x1x4096x12x1, .f32⟩
  | 104 => ⟨S1x1x4096x12x64, .f32⟩
  | 105 => ⟨S1x4096x12x64, .f32⟩
  | 106 => ⟨S1x1x4096x12x64, .f32⟩
  | 107 => ⟨S1x4096x12x64, .f32⟩
  | 108 => ⟨S1x1x4096x12x64, .f32⟩
  | 109 => ⟨S1x4096x12x64, .f32⟩
  | 110 => ⟨S_, .f32⟩
  | 111 => ⟨S3x4096x12, .f32⟩
  | 112 => ⟨S3x1x4096x12, .f32⟩
  | 113 => ⟨S3x1x4096x12, .f32⟩
  | 114 => ⟨S3x1x4096x12, .f32⟩
  | 115 => ⟨S3x1x4096x12, .f32⟩
  | 116 => ⟨S_, .f32⟩
  | 117 => ⟨S1x4096x12, .f32⟩
  | 118 => ⟨S1x1x4096x12, .f32⟩
  | 119 => ⟨S1x1x4096x12, .f32⟩
  | 120 => ⟨S3x1x4096x12, .f32⟩
  | 121 => ⟨S3x1x4096x12, .f32⟩
  | 122 => ⟨S_, .f32⟩
  | 123 => ⟨S4096x12, .f32⟩
  | 124 => ⟨S1x4096x12, .f32⟩
  | 125 => ⟨S3x1x4096x12, .f32⟩
  | 126 => ⟨S3x1x4096x12, .f32⟩
  | 127 => ⟨S3x1x4096x12, .f32⟩
  | _ => ⟨S4096x2304, .bf16⟩

abbrev hbmTy0_2 (i : Nat) : BufTy := match i % 128 with
  | 0 => ⟨S1x1x4096x12, .f32⟩
  | 1 => ⟨S1x4096x12, .f32⟩
  | 2 => ⟨S1x1x4096x12, .f32⟩
  | 3 => ⟨S1x4096x12, .f32⟩
  | 4 => ⟨S1x1x4096x12, .f32⟩
  | 5 => ⟨S1x4096x12, .f32⟩
  | 6 => ⟨S1x4096x1x12, .f32⟩
  | 7 => ⟨S1x1x4096x12, .f32⟩
  | 8 => ⟨S1x4096x12, .f32⟩
  | 9 => ⟨S1x32x128x12, .f32⟩
  | 10 => ⟨S1x32x12x128, .f32⟩
  | 11 => ⟨S1x4096x1x12x64, .f32⟩
  | 12 => ⟨S1x1x4096x12x64, .f32⟩
  | 13 => ⟨S1x4096x12x64, .f32⟩
  | 14 => ⟨S1x32x128x12x64, .f32⟩
  | 15 => ⟨S1x32x12x128x1, .f32⟩
  | 16 => ⟨S1x32x12x128x1, .f32⟩
  | 17 => ⟨S1x32x12x64x128, .f32⟩
  | 18 => ⟨S1x32x12x128x256, .f32⟩
  | 19 => ⟨S1x32x12x64x256, .f32⟩
  | 20 => ⟨S1x32x256x12x64, .f32⟩
  | 21 => ⟨S1x32x12x128x256, .f32⟩
  | 22 => ⟨S1x32x12x128x256, .f32⟩
  | 23 => ⟨S1x32x12x128x256, .f32⟩
  | 24 => ⟨S_, .f32⟩
  | 25 => ⟨S1x32x12x128, .f32⟩
  | 26 => ⟨S1x32x12x128x1, .f32⟩
  | 27 => ⟨S1x32x12x128x1, .f32⟩
  | 28 => ⟨S1x32x12x128x1, .f32⟩
  | 29 => ⟨S1x32x12x128x256, .f32⟩
  | 30 => ⟨S1x32x12x128x256, .f32⟩
  | 31 => ⟨S_, .f32⟩
  | 32 => ⟨S32x12x128, .f32⟩
  | 33 => ⟨S1x32x12x128, .f32⟩
  | 34 => ⟨S1x32x12x128x256, .f32⟩
  | 35 => ⟨S1x32x12x128x256, .f32⟩
  | 36 => ⟨S1x32x12x128x256, .f32⟩
  | 37 => ⟨S1x32x12x128x256, .f32⟩
  | 38 => ⟨S_, .f32⟩
  | 39 => ⟨S1x32x12x128, .f32⟩
  | 40 => ⟨S1x32x12x128x1, .f32⟩
  | 41 => ⟨S1x32x12x128x1, .f32⟩
  | 42 => ⟨S_, .f32⟩
  | 43 => ⟨S32x12x128, .f32⟩
  | 44 => ⟨S1x32x12x128, .f32⟩
  | 45 => ⟨S1x32x12x128, .f32⟩
  | 46 => ⟨S1x32x12x128x256, .f32⟩
  | 47 => ⟨S1x32x12x128x256, .f32⟩
  | 48 => ⟨S1x32x12x128x256, .f32⟩
  | 49 => ⟨S_, .f32⟩
  | 50 => ⟨S1x32x12x128x256, .f32⟩
  | 51 => ⟨S1x32x12x128x256, .f32⟩
  | 52 => ⟨S_, .f32⟩
  | 53 => ⟨S1x32x12x128x256, .f32⟩
  | 54 => ⟨S1x32x12x128x256, .f32⟩
  | 55 => ⟨S1x32x12x256x64, .f32⟩
  | 56 => ⟨S1x32x256x12x64, .f32⟩
  | 57 => ⟨S1x32x12x128x64, .f32⟩
  | 58 => ⟨S1x32x128x12x64, .f32⟩
  | 59 => ⟨S1x32x128x12x64, .f32⟩
  | 60 => ⟨S1x32x128x12x64, .f32⟩
  | 61 => ⟨S1x4096x12x64, .f32⟩
  | 62 => ⟨S1x4096x12x64, .f32⟩
  | 63 => ⟨S_, .f32⟩
  | 64 => ⟨S1x4224x12x64, .f32⟩
  | 65 => ⟨S1x128x12x64, .f32⟩
  | 66 => ⟨S1x4096x12x64, .f32⟩
  | 67 => ⟨S1x4096x12x64, .f32⟩
  | 68 => ⟨S1x32x128x12x64, .f32⟩
  | 69 => ⟨S1x32x128x12x64, .f32⟩
  | 70 => ⟨S1x4096x12x64, .f32⟩
  | 71 => ⟨S1x4096x12x64, .f32⟩
  | 72 => ⟨S_, .f32⟩
  | 73 => ⟨S1x4224x12x64, .f32⟩
  | 74 => ⟨S1x128x12x64, .f32⟩
  | 75 => ⟨S1x4096x12x64, .f32⟩
  | 76 => ⟨S1x4096x12x64, .f32⟩
  | 77 => ⟨S1x4096x12x64, .f32⟩
  | 78 => ⟨S1x1x4096x12x64, .f32⟩
  | 79 => ⟨S1x4096x1x12x64, .f32⟩
  | 80 => ⟨S1x4096x12x64, .f32⟩
  | 81 => ⟨S1x1x4096x12x64, .f32⟩
  | 82 => ⟨S1x4096x1x12x64, .f32⟩
  | 83 => ⟨S1x4096x12x64, .f32⟩
  | 84 => ⟨S1x1x4096x12x64, .f32⟩
  | 85 => ⟨S1x4096x1x12x64, .f32⟩
  | 86 => ⟨S1x4096x12x64, .f32⟩
  | 87 => ⟨S4096x768, .f32⟩
  | 88 => ⟨S4096x768, .bf16⟩
  | 89 => ⟨S4096x768, .f32⟩
  | 90 => ⟨S4096x768, .bf16⟩
  | 91 => ⟨S4096x768, .f32⟩
  | 92 => ⟨S4096x768, .bf16⟩
  | _ => ⟨S4096x2304, .bf16⟩

abbrev hbmTy (i : Nat) : BufTy := match i / 128 with
  | 0 => hbmTy0_0 i
  | 1 => hbmTy0_1 i
  | 2 => hbmTy0_2 i
  | _ => ⟨S4096x2304, .bf16⟩

abbrev bufTy : (tb : Table) → Fin (tcTables nBuf tb) → BufTy
  | .hbm, ⟨i, _⟩ => hbmTy i
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_0 : Ref sig .tc := ⟨.hbm, 14, rfl⟩
abbrev main_cst_1 : Ref sig .tc := ⟨.hbm, 15, rfl⟩
abbrev main_cst_2 : Ref sig .tc := ⟨.hbm, 16, rfl⟩
abbrev main_cst_3 : Ref sig .tc := ⟨.hbm, 17, rfl⟩
abbrev main_cst_4 : Ref sig .tc := ⟨.hbm, 18, rfl⟩
abbrev main_cst_5 : Ref sig .tc := ⟨.hbm, 19, rfl⟩
abbrev main_cst_6 : Ref sig .tc := ⟨.hbm, 20, rfl⟩
abbrev main_cst_7 : Ref sig .tc := ⟨.hbm, 21, rfl⟩
abbrev main_cst_8 : Ref sig .tc := ⟨.hbm, 22, rfl⟩
abbrev main_cst_9 : Ref sig .tc := ⟨.hbm, 23, rfl⟩
abbrev main_cst_10 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_11 : Ref sig .tc := ⟨.hbm, 48, rfl⟩
abbrev main_v30 : Ref sig .tc := ⟨.hbm, 49, rfl⟩
abbrev main_v31 : Ref sig .tc := ⟨.hbm, 50, rfl⟩
abbrev main_cst_12 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_13 : Ref sig .tc := ⟨.hbm, 57, rfl⟩
abbrev main_v37 : Ref sig .tc := ⟨.hbm, 58, rfl⟩
abbrev main_v38 : Ref sig .tc := ⟨.hbm, 59, rfl⟩
abbrev main_cst_14 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_15 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_16 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_17 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_18 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_19 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_20 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_21 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_22 : Ref sig .tc := ⟨.hbm, 121, rfl⟩
abbrev main_call0_v0 : Ref sig .tc := ⟨.hbm, 122, rfl⟩
abbrev main_v91_1 : Ref sig .tc := ⟨.hbm, 123, rfl⟩
abbrev main_call0_v2 : Ref sig .tc := ⟨.hbm, 124, rfl⟩
abbrev main_v91_0 : Ref sig .tc := ⟨.hbm, 125, rfl⟩
abbrev main_call0_cst : Ref sig .tc := ⟨.hbm, 126, rfl⟩
abbrev main_v91_2 : Ref sig .tc := ⟨.hbm, 127, rfl⟩
abbrev main_cst_23 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_24 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_25 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_26 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_27 : Ref sig .tc := ⟨.hbm, 167, rfl⟩
abbrev main_v127 : Ref sig .tc := ⟨.hbm, 168, rfl⟩
abbrev main_cst_28 : Ref sig .tc := ⟨.hbm, 169, rfl⟩
abbrev main_v128 : Ref sig .tc := ⟨.hbm, 170, rfl⟩
abbrev main_cst_29 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_30 : Ref sig .tc := ⟨.hbm, 177, rfl⟩
abbrev main_v134 : Ref sig .tc := ⟨.hbm, 178, rfl⟩
abbrev main_cst_31 : Ref sig .tc := ⟨.hbm, 179, rfl⟩
abbrev main_v135 : Ref sig .tc := ⟨.hbm, 180, rfl⟩
abbrev main_v136 : Ref sig .tc := ⟨.hbm, 181, rfl⟩
abbrev main_cst_32 : Ref sig .tc := ⟨.hbm, 182, rfl⟩
abbrev main_v137 : Ref sig .tc := ⟨.hbm, 183, rfl⟩
abbrev main_v138 : Ref sig .tc := ⟨.hbm, 184, rfl⟩
abbrev main_cst_33 : Ref sig .tc := ⟨.hbm, 185, rfl⟩
abbrev main_v139 : Ref sig .tc := ⟨.hbm, 186, rfl⟩
abbrev main_v140 : Ref sig .tc := ⟨.hbm, 187, rfl⟩
abbrev main_cst_34 : Ref sig .tc := ⟨.hbm, 188, rfl⟩
abbrev main_v141 : Ref sig .tc := ⟨.hbm, 189, rfl⟩
abbrev main_cst_35 : Ref sig .tc := ⟨.hbm, 190, rfl⟩
abbrev main_v142 : Ref sig .tc := ⟨.hbm, 191, rfl⟩
abbrev main_cst_36 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_37 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_38 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_cst_39 : Ref sig .tc := ⟨.hbm, 214, rfl⟩
abbrev main_v162 : Ref sig .tc := ⟨.hbm, 215, rfl⟩
abbrev main_cst_40 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_cst_41 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_cst_42 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_cst_43 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_cst_44 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_cst_45 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_cst_46 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_cst_47 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_cst_48 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_cst_49 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_call1_cst : Ref sig .tc := ⟨.hbm, 305, rfl⟩
abbrev main_call1_v0 : Ref sig .tc := ⟨.hbm, 306, rfl⟩
abbrev main_v242 : Ref sig .tc := ⟨.hbm, 307, rfl⟩
abbrev main_cst_50 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_cst_51 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_cst_52 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_v268 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩

abbrev nD : Nat := 1
abbrev τ : Topo := Topo.v7x

variable {F : FTy → Type} [FloatOps F]
-- ==== Kernel2.lean ====
abbrev S4096x1024 : Shape := ⟨2, ![4096, 1024]⟩
abbrev S4x4096x704 : Shape := ⟨3, ![4, 4096, 704]⟩
abbrev S4x1024x704 : Shape := ⟨3, ![4, 1024, 704]⟩
abbrev S1x4096x704 : Shape := ⟨3, ![1, 4096, 704]⟩
abbrev S1x1024x704 : Shape := ⟨3, ![1, 1024, 704]⟩
abbrev S4096x704 : Shape := ⟨2, ![4096, 704]⟩
abbrev S1024x704 : Shape := ⟨2, ![1024, 704]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4x4096x704, .bf16⟩
  | .hbm, ⟨2, _⟩ => ⟨S4x1024x704, .bf16⟩
  | .local _ .vmem, ⟨0, _⟩ => ⟨S4096x1024, .bf16⟩
  | .local _ .vmem, ⟨1, _⟩ => ⟨S1x4096x704, .bf16⟩
  | .local _ .vmem, ⟨2, _⟩ => ⟨S1x4096x704, .bf16⟩
  | .local _ .vmem, ⟨3, _⟩ => ⟨S1x1024x704, .bf16⟩
  | .local _ .vmem, ⟨4, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference2Ideal.lean ====
abbrev S4096x1024 : Shape := ⟨2, ![4096, 1024]⟩
abbrev S4x4096x704 : Shape := ⟨3, ![4, 4096, 704]⟩
abbrev S_ : Shape := ⟨0, ![]⟩
abbrev S1024x2816 : Shape := ⟨2, ![1024, 2816]⟩
abbrev S4096x2816 : Shape := ⟨2, ![4096, 2816]⟩
abbrev S4096x4x704 : Shape := ⟨3, ![4096, 4, 704]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4096x704, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4x4096x704, .f32⟩
  | .hbm, ⟨7, _⟩ => ⟨S4096x4x704, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S1024x4x704, .f32⟩
  | .hbm, ⟨12, _⟩ => ⟨S4x1024x704, .f32⟩
  | .hbm, ⟨13, _⟩ => ⟨S4x1024x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x4096x704 : Shape := ⟨3, ![4, 4096, 704]⟩
abbrev S4096x1024 : Shape := ⟨2, ![4096, 1024]⟩
abbrev S_ : Shape := ⟨0, ![]⟩
abbrev S2816x1024 : Shape := ⟨2, ![2816, 1024]⟩
abbrev S4096x4x704 : Shape := ⟨3, ![4096, 4, 704]⟩
abbrev S4096x2816 : Shape := ⟨2, ![4096, 2816]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4x4096x704, .f32⟩
  | .hbm, ⟨5, _⟩ => ⟨S4096x4x704, .f32⟩
  | .hbm, ⟨6, _⟩ => ⟨S4096x2816, .f32⟩
  | .hbm, ⟨7, _⟩ => ⟨S4096x1024, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | .hbm, ⟨12, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S4x4096x704 : Shape := ⟨3, ![4, 4096, 704]⟩
abbrev S4x4x1024x704 : Shape := ⟨4, ![4, 4, 1024, 704]⟩
abbrev S4096x1024 : Shape := ⟨2, ![4096, 1024]⟩
abbrev S1x1024x704 : Shape := ⟨3, ![1, 1024, 704]⟩
abbrev S1x1x1024x704 : Shape := ⟨4, ![1, 1, 1024, 704]⟩
abbrev S1024x1024 : Shape := ⟨2, ![1024, 1024]⟩
abbrev S1024x704 : Shape := ⟨2, ![1024, 704]⟩

abbrev nBuf : Space → Nat
  | .hbm => 4
  | .vmem => 11
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x4x1024x704, .bf16⟩
  | .hbm, ⟨3, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1x1024x704, .bf16⟩
  | .local _ .vmem, ⟨7, _⟩ => ⟨S1x1x1024x704, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_17 : BitVec 32 := 0#32
  let v19 : BitVec 1 := Scalar.cmpi .ne v18 c0_i32_17
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S4x4096x704 : Shape := ⟨3, ![4, 4096, 704]⟩
abbrev S4x4x1024x704 : Shape := ⟨4, ![4, 4, 1024, 704]⟩
abbrev S_ : Shape := ⟨0, ![]⟩
abbrev S4096x1024 : Shape := ⟨2, ![4096, 1024]⟩
abbrev S4x1x1024x704 : Shape := ⟨4, ![4, 1, 1024, 704]⟩
abbrev S4x1024x704 : Shape := ⟨3, ![4, 1024, 704]⟩
abbrev S1024x4x704 : Shape := ⟨3, ![1024, 4, 704]⟩
abbrev S1024x2816 : Shape := ⟨2, ![1024, 2816]⟩
abbrev S4096x2816 : Shape := ⟨2, ![4096, 2816]⟩
abbrev S4096x4x704 : Shape := ⟨3, ![4096, 4, 704]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x4x1024x704, .bf16⟩
  | .hbm, ⟨3, _⟩ => ⟨S_, .f32⟩
  | .hbm, ⟨4, _⟩ => ⟨S4096x1024, .f32⟩
  | .hbm, ⟨5, _⟩ => ⟨S4x1x1024x704, .bf16⟩
  | .hbm, ⟨6, _⟩ => ⟨S4x1024x704, .bf16⟩
  | .hbm, ⟨7, _⟩ => ⟨S4x1024x704, .f32⟩
  | .hbm, ⟨8, _⟩ => ⟨S1024x4x704, .f32⟩
  | .hbm, ⟨9, _⟩ => ⟨S1024x2816, .f32⟩
  | .hbm, ⟨10, _⟩ => ⟨S4096x2816, .f32⟩
  | .hbm, ⟨11, _⟩ => ⟨S4x1x1024x704, .bf16⟩
  | .hbm, ⟨12, _⟩ => ⟨S4x1024x704, .bf16⟩
  | .hbm, ⟨13, _⟩ => ⟨S4x1024x704, .f32⟩
  | .hbm, ⟨14, _⟩ => ⟨S1024x4x704, .f32⟩
  | .hbm, ⟨15, _⟩ => ⟨S1024x2816, .f32⟩
  | .hbm, ⟨16, _⟩ => ⟨S4096x2816, .f32⟩
  | .hbm, ⟨17, _⟩ => ⟨S4x4096x704, .f32⟩
  | .hbm, ⟨18, _⟩ => ⟨S4096x4x704, .f32⟩
  | .hbm, ⟨19, _⟩ => ⟨S4096x2816, .f32⟩
  | .hbm, ⟨20, _⟩ => ⟨S4x4096x704, .f32⟩
  | .hbm, ⟨21, _⟩ => ⟨S4096x4x704, .f32⟩
  | .hbm, ⟨22, _⟩ => ⟨S4096x2816, .f32⟩
  | .hbm, ⟨23, _⟩ => ⟨S4096x1024, .f32⟩
  | .hbm, ⟨24, _⟩ => ⟨S4096x1024, .f32⟩
  | .hbm, ⟨25, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Kernel5.lean ====
abbrev S4096x1024 : Shape := ⟨2, ![4096, 1024]⟩
abbrev S4x2x704x1024 : Shape := ⟨4, ![4, 2, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x2x704x1024, .bf16⟩
  | .hbm, ⟨2, _⟩ => ⟨S4x4096x704, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference5Ideal.lean ====
abbrev S4096x1024 : Shape := ⟨2, ![4096, 1024]⟩
abbrev S4x2x704x1024 : Shape := ⟨4, ![4, 2, 704, 1024]⟩
abbrev S4x4096x704 : Shape := ⟨3, ![4, 4096, 704]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S4096x4x704 : Shape := ⟨3, ![4096, 4, 704]⟩
abbrev S4096x2816 : Shape := ⟨2, ![4096, 2816]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x2x704x1024, .bf16⟩
  | .hbm, ⟨2, _⟩ => ⟨S4x4096x704, .bf16⟩
  | .hbm, ⟨3, _⟩ => ⟨S4x4096x704, .bf16⟩
  | .hbm, ⟨4, _⟩ => ⟨S4x1x704x1024, .bf16⟩
  | .hbm, ⟨5, _⟩ => ⟨S4x704x1024, .bf16⟩
  | .hbm, ⟨6, _⟩ => ⟨S4x704x1024, .f32⟩
  | .hbm, ⟨7, _⟩ => ⟨S2816x1024, .f32⟩
  | .hbm, ⟨8, _⟩ => ⟨S4x4096x704, .f32⟩
  | .hbm, ⟨9, _⟩ => ⟨S4096x4x704, .f32⟩
  | .hbm, ⟨10, _⟩ => ⟨S4096x2816, .f32⟩
  | .hbm, ⟨11, _⟩ => ⟨S4x4096x704, .f32⟩
  | .hbm, ⟨12, _⟩ => ⟨S4096x4x704, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x1024, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x4x704, .f32⟩
  | .hbm, ⟨38, _⟩ => ⟨S4x4096x704, .f32⟩
  | .hbm, ⟨39, _⟩ => ⟨S4x4096x704, .bf16⟩
  | .hbm, ⟨40, _⟩ => ⟨S4096x4x704, .f32⟩
  | .hbm, ⟨41, _⟩ => ⟨S4x4096x704, .f32⟩
  | .hbm, ⟨42, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v10_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v10_1 : Ref sig .tc := ⟨.hbm, 25, rfl⟩
abbrev main_v10_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel6.lean ====
abbrev S4096x1024 : Shape := ⟨2, ![4096, 1024]⟩
abbrev S4x4x1024x704 : Shape := ⟨4, ![4, 4, 1024, 704]⟩
abbrev S4x4096x704 : Shape := ⟨3, ![4, 4096, 704]⟩
abbrev S1024x1024 : Shape := ⟨2, ![1024, 1024]⟩
abbrev S1x1x1024x704 : Shape := ⟨4, ![1, 1, 1024, 704]⟩
abbrev S1x1024x704 : Shape := ⟨3, ![1, 1024, 704]⟩
abbrev S1024x704 : Shape := ⟨2, ![1024, 704]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x4x1024x704, .bf16⟩
  | .hbm, ⟨2, _⟩ => ⟨S4x4096x704, .bf16⟩
  | .hbm, ⟨3, _⟩ => ⟨S4x4096x704, .bf16⟩
  | .hbm, ⟨4, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4096x1024 : Shape := ⟨2, ![4096, 1024]⟩
abbrev S4x4x1024x704 : Shape := ⟨4, ![4, 4, 1024, 704]⟩
abbrev S4x1x1024x704 : Shape := ⟨4, ![4, 1, 1024, 704]⟩
abbrev S4x1024x704 : Shape := ⟨3, ![4, 1024, 704]⟩
abbrev S1024x4x704 : Shape := ⟨3, ![1024, 4, 704]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4x1024x704, .bf16⟩
  | .hbm, ⟨2, _⟩ => ⟨S4096x1024, .f32⟩
  | .hbm, ⟨3, _⟩ => ⟨S4x1x1024x704, .bf16⟩
  | .hbm, ⟨4, _⟩ => ⟨S4x1024x704, .bf16⟩
  | .hbm, ⟨5, _⟩ => ⟨S4x1024x704, .f32⟩
  | .hbm, ⟨6, _⟩ => ⟨S1024x4x704, .f32⟩
  | .hbm, ⟨7, _⟩ => ⟨S1024x2816, .f32⟩
  | .hbm, ⟨8, _⟩ => ⟨S4096x2816, .f32⟩
  | .hbm, ⟨9, _⟩ => ⟨S4x1x1024x704, .bf16⟩
  | .hbm, ⟨10, _⟩ => ⟨S4x1024x704, .bf16⟩
  | .hbm, ⟨11, _⟩ => ⟨S4x1024x704, .f32⟩
  | .hbm, ⟨12, _⟩ => ⟨S1024x4x704, .f32⟩
  | .hbm, ⟨13, _⟩ => ⟨S1024x2816, .f32⟩
  | .hbm, ⟨14, _⟩ => ⟨S4096x2816, .f32⟩
  | .hbm, ⟨15, _⟩ => ⟨S4096x4x704, .f32⟩
  | .hbm, ⟨16, _⟩ => ⟨S4x4096x704, .f32⟩
  | .hbm, ⟨17, _⟩ => ⟨S4x4096x704, .bf16⟩
  | .hbm, ⟨18, _⟩ => ⟨S4096x4x704, .f32⟩
  | .hbm, ⟨19, _⟩ => ⟨S4x4096x704, .f32⟩
  | .hbm, ⟨20, _⟩ => ⟨S4x4096x704, .bf16⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x4x704, .f32⟩
  | .hbm, ⟨32, _⟩ => ⟨S4x4096x704, .f32⟩
  | .hbm, ⟨33, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel7.lean ====
abbrev S4x4096x704 : Shape := ⟨3, ![4, 4096, 704]⟩
abbrev S4x2x704x1024 : Shape := ⟨4, ![4, 2, 704, 1024]⟩
abbrev S4096x1024 : Shape := ⟨2, ![4096, 1024]⟩
abbrev S1x1024 : Shape := ⟨2, ![1, 1024]⟩
abbrev S1x1024x704 : Shape := ⟨3, ![1, 1024, 704]⟩
abbrev S1x1x704x1024 : Shape := ⟨4, ![1, 1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4x4096x704, .bf16⟩
  | .hbm, ⟨1, _⟩ => ⟨S4x2x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S4x4096x704 : Shape := ⟨3, ![4, 4096, 704]⟩
abbrev S4x2x704x1024 : Shape := ⟨4, ![4, 2, 704, 1024]⟩
abbrev S4096x1024 : Shape := ⟨2, ![4096, 1024]⟩
abbrev S1x1024 : Shape := ⟨2, ![1, 1024]⟩
abbrev S4096x4x704 : Shape := ⟨3, ![4096, 4, 704]⟩
abbrev S4096x2816 : Shape := ⟨2, ![4096, 2816]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x2x704x1024, .bf16⟩
  | .hbm, ⟨2, _⟩ => ⟨S4096x1024, .f32⟩
  | .hbm, ⟨3, _⟩ => ⟨S1x1024, .f32⟩
  | .hbm, ⟨4, _⟩ => ⟨S4x4096x704, .f32⟩
  | .hbm, ⟨5, _⟩ => ⟨S4096x4x704, .f32⟩
  | .hbm, ⟨6, _⟩ => ⟨S4096x2816, .f32⟩
  | .hbm, ⟨7, _⟩ => ⟨S4x1x704x1024, .bf16⟩
  | .hbm, ⟨8, _⟩ => ⟨S4x704x1024, .bf16⟩
  | .hbm, ⟨9, _⟩ => ⟨S4x704x1024, .f32⟩
  | .hbm, ⟨10, _⟩ => ⟨S2816x1024, .f32⟩
  | .hbm, ⟨11, _⟩ => ⟨S4096x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S4x4096x704 : Shape := ⟨3, ![4, 4096, 704]⟩
abbrev S4x4x1024x704 : Shape := ⟨4, ![4, 4, 1024, 704]⟩
abbrev S4096x1024 : Shape := ⟨2, ![4096, 1024]⟩
abbrev S1x1024x704 : Shape := ⟨3, ![1, 1024, 704]⟩
abbrev S1x1x1024x704 : Shape := ⟨4, ![1, 1, 1024, 704]⟩
abbrev S1024x1024 : Shape := ⟨2, ![1024, 1024]⟩
abbrev S1024x704 : Shape := ⟨2, ![1024, 704]⟩

abbrev nBuf : Space → Nat
  | .hbm => 4
  | .vmem => 11
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x4x1024x704, .bf16⟩
  | .hbm, ⟨3, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1x1024x704, .bf16⟩
  | .local _ .vmem, ⟨7, _⟩ => ⟨S1x1x1024x704, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_17 : BitVec 32 := 0#32
  let v19 : BitVec 1 := Scalar.cmpi .ne v18 c0_i32_17
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg2.toNat, c2_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![arg2.toNat, c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference8Ideal.lean ====
abbrev S4x4096x704 : Shape := ⟨3, ![4, 4096, 704]⟩
abbrev S4x4x1024x704 : Shape := ⟨4, ![4, 4, 1024, 704]⟩
abbrev S_ : Shape := ⟨0, ![]⟩
abbrev S4096x1024 : Shape := ⟨2, ![4096, 1024]⟩
abbrev S4x1x1024x704 : Shape := ⟨4, ![4, 1, 1024, 704]⟩
abbrev S4x1024x704 : Shape := ⟨3, ![4, 1024, 704]⟩
abbrev S1024x4x704 : Shape := ⟨3, ![1024, 4, 704]⟩
abbrev S1024x2816 : Shape := ⟨2, ![1024, 2816]⟩
abbrev S4096x2816 : Shape := ⟨2, ![4096, 2816]⟩
abbrev S4096x4x704 : Shape := ⟨3, ![4096, 4, 704]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x4x1024x704, .bf16⟩
  | .hbm, ⟨3, _⟩ => ⟨S_, .f32⟩
  | .hbm, ⟨4, _⟩ => ⟨S4096x1024, .f32⟩
  | .hbm, ⟨5, _⟩ => ⟨S4x1x1024x704, .bf16⟩
  | .hbm, ⟨6, _⟩ => ⟨S4x1024x704, .bf16⟩
  | .hbm, ⟨7, _⟩ => ⟨S4x1024x704, .f32⟩
  | .hbm, ⟨8, _⟩ => ⟨S1024x4x704, .f32⟩
  | .hbm, ⟨9, _⟩ => ⟨S1024x2816, .f32⟩
  | .hbm, ⟨10, _⟩ => ⟨S4096x2816, .f32⟩
  | .hbm, ⟨11, _⟩ => ⟨S4x1x1024x704, .bf16⟩
  | .hbm, ⟨12, _⟩ => ⟨S4x1024x704, .bf16⟩
  | .hbm, ⟨13, _⟩ => ⟨S4x1024x704, .f32⟩
  | .hbm, ⟨14, _⟩ => ⟨S1024x4x704, .f32⟩
  | .hbm, ⟨15, _⟩ => ⟨S1024x2816, .f32⟩
  | .hbm, ⟨16, _⟩ => ⟨S4096x2816, .f32⟩
  | .hbm, ⟨17, _⟩ => ⟨S4x4096x704, .f32⟩
  | .hbm, ⟨18, _⟩ => ⟨S4096x4x704, .f32⟩
  | .hbm, ⟨19, _⟩ => ⟨S4096x2816, .f32⟩
  | .hbm, ⟨20, _⟩ => ⟨S4x4096x704, .f32⟩
  | .hbm, ⟨21, _⟩ => ⟨S4096x4x704, .f32⟩
  | .hbm, ⟨22, _⟩ => ⟨S4096x2816, .f32⟩
  | .hbm, ⟨23, _⟩ => ⟨S4096x1024, .f32⟩
  | .hbm, ⟨24, _⟩ => ⟨S4096x1024, .f32⟩
  | .hbm, ⟨25, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Kernel9.lean ====
abbrev S4096x1024 : Shape := ⟨2, ![4096, 1024]⟩
abbrev S4x2x704x1024 : Shape := ⟨4, ![4, 2, 704, 1024]⟩
abbrev S4x4096x704 : Shape := ⟨3, ![4, 4096, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x2x704x1024, .bf16⟩
  | .hbm, ⟨2, _⟩ => ⟨S4x4096x704, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference9Ideal.lean ====
abbrev S4096x1024 : Shape := ⟨2, ![4096, 1024]⟩
abbrev S4x2x704x1024 : Shape := ⟨4, ![4, 2, 704, 1024]⟩
abbrev S4x4096x704 : Shape := ⟨3, ![4, 4096, 704]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S4096x4x704 : Shape := ⟨3, ![4096, 4, 704]⟩
abbrev S4096x2816 : Shape := ⟨2, ![4096, 2816]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x2x704x1024, .bf16⟩
  | .hbm, ⟨2, _⟩ => ⟨S4x4096x704, .bf16⟩
  | .hbm, ⟨3, _⟩ => ⟨S4x4096x704, .bf16⟩
  | .hbm, ⟨4, _⟩ => ⟨S4x1x704x1024, .bf16⟩
  | .hbm, ⟨5, _⟩ => ⟨S4x704x1024, .bf16⟩
  | .hbm, ⟨6, _⟩ => ⟨S4x704x1024, .f32⟩
  | .hbm, ⟨7, _⟩ => ⟨S2816x1024, .f32⟩
  | .hbm, ⟨8, _⟩ => ⟨S4x4096x704, .f32⟩
  | .hbm, ⟨9, _⟩ => ⟨S4096x4x704, .f32⟩
  | .hbm, ⟨10, _⟩ => ⟨S4096x2816, .f32⟩
  | .hbm, ⟨11, _⟩ => ⟨S4x4096x704, .f32⟩
  | .hbm, ⟨12, _⟩ => ⟨S4096x4x704, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x1024, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x4x704, .f32⟩
  | .hbm, ⟨38, _⟩ => ⟨S4x4096x704, .f32⟩
  | .hbm, ⟨39, _⟩ => ⟨S4x4096x704, .bf16⟩
  | .hbm, ⟨40, _⟩ => ⟨S4096x4x704, .f32⟩
  | .hbm, ⟨41, _⟩ => ⟨S4x4096x704, .f32⟩
  | .hbm, ⟨42, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v10_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v10_1 : Ref sig .tc := ⟨.hbm, 25, rfl⟩
abbrev main_v10_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel10.lean ====
abbrev S4096x1024 : Shape := ⟨2, ![4096, 1024]⟩
abbrev S4x4x1024x704 : Shape := ⟨4, ![4, 4, 1024, 704]⟩
abbrev S4x4096x704 : Shape := ⟨3, ![4, 4096, 704]⟩
abbrev S1024x1024 : Shape := ⟨2, ![1024, 1024]⟩
abbrev S1x1x1024x704 : Shape := ⟨4, ![1, 1, 1024, 704]⟩
abbrev S1x1024x704 : Shape := ⟨3, ![1, 1024, 704]⟩
abbrev S1024x704 : Shape := ⟨2, ![1024, 704]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4x4x1024x704, .bf16⟩
  | .hbm, ⟨2, _⟩ => ⟨S4x4096x704, .bf16⟩
  | .hbm, ⟨3, _⟩ => ⟨S4x4096x704, .bf16⟩
  | .hbm, ⟨4, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg1.toNat, c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S4096x1024 : Shape := ⟨2, ![4096, 1024]⟩
abbrev S4x4x1024x704 : Shape := ⟨4, ![4, 4, 1024, 704]⟩
abbrev S4x1x1024x704 : Shape := ⟨4, ![4, 1, 1024, 704]⟩
abbrev S4x1024x704 : Shape := ⟨3, ![4, 1024, 704]⟩
abbrev S1024x4x704 : Shape := ⟨3, ![1024, 4, 704]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x4x1024x704, .bf16⟩
  | .hbm, ⟨2, _⟩ => ⟨S4096x1024, .f32⟩
  | .hbm, ⟨3, _⟩ => ⟨S4x1x1024x704, .bf16⟩
  | .hbm, ⟨4, _⟩ => ⟨S4x1024x704, .bf16⟩
  | .hbm, ⟨5, _⟩ => ⟨S4x1024x704, .f32⟩
  | .hbm, ⟨6, _⟩ => ⟨S1024x4x704, .f32⟩
  | .hbm, ⟨7, _⟩ => ⟨S1024x2816, .f32⟩
  | .hbm, ⟨8, _⟩ => ⟨S4096x2816, .f32⟩
  | .hbm, ⟨9, _⟩ => ⟨S4x1x1024x704, .bf16⟩
  | .hbm, ⟨10, _⟩ => ⟨S4x1024x704, .bf16⟩
  | .hbm, ⟨11, _⟩ => ⟨S4x1024x704, .f32⟩
  | .hbm, ⟨12, _⟩ => ⟨S1024x4x704, .f32⟩
  | .hbm, ⟨13, _⟩ => ⟨S1024x2816, .f32⟩
  | .hbm, ⟨14, _⟩ => ⟨S4096x2816, .f32⟩
  | .hbm, ⟨15, _⟩ => ⟨S4096x4x704, .f32⟩
  | .hbm, ⟨16, _⟩ => ⟨S4x4096x704, .f32⟩
  | .hbm, ⟨17, _⟩ => ⟨S4x4096x704, .bf16⟩
  | .hbm, ⟨18, _⟩ => ⟨S4096x4x704, .f32⟩
  | .hbm, ⟨19, _⟩ => ⟨S4x4096x704, .f32⟩
  | .hbm, ⟨20, _⟩ => ⟨S4x4096x704, .bf16⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x4x704, .f32⟩
  | .hbm, ⟨32, _⟩ => ⟨S4x4096x704, .f32⟩
  | .hbm, ⟨33, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel11.lean ====
abbrev S4x4096x704 : Shape := ⟨3, ![4, 4096, 704]⟩
abbrev S4x2x704x1024 : Shape := ⟨4, ![4, 2, 704, 1024]⟩
abbrev S4096x1024 : Shape := ⟨2, ![4096, 1024]⟩
abbrev S1x1024 : Shape := ⟨2, ![1, 1024]⟩
abbrev S1x1024x704 : Shape := ⟨3, ![1, 1024, 704]⟩
abbrev S1x1x704x1024 : Shape := ⟨4, ![1, 1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4x4096x704, .bf16⟩
  | .hbm, ⟨1, _⟩ => ⟨S4x2x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S4x4096x704 : Shape := ⟨3, ![4, 4096, 704]⟩
abbrev S4x2x704x1024 : Shape := ⟨4, ![4, 2, 704, 1024]⟩
abbrev S4096x1024 : Shape := ⟨2, ![4096, 1024]⟩
abbrev S1x1024 : Shape := ⟨2, ![1, 1024]⟩
abbrev S4096x4x704 : Shape := ⟨3, ![4096, 4, 704]⟩
abbrev S4096x2816 : Shape := ⟨2, ![4096, 2816]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x2x704x1024, .bf16⟩
  | .hbm, ⟨2, _⟩ => ⟨S4096x1024, .f32⟩
  | .hbm, ⟨3, _⟩ => ⟨S1x1024, .f32⟩
  | .hbm, ⟨4, _⟩ => ⟨S4x4096x704, .f32⟩
  | .hbm, ⟨5, _⟩ => ⟨S4096x4x704, .f32⟩
  | .hbm, ⟨6, _⟩ => ⟨S4096x2816, .f32⟩
  | .hbm, ⟨7, _⟩ => ⟨S4x1x704x1024, .bf16⟩
  | .hbm, ⟨8, _⟩ => ⟨S4x704x1024, .bf16⟩
  | .hbm, ⟨9, _⟩ => ⟨S4x704x1024, .f32⟩
  | .hbm, ⟨10, _⟩ => ⟨S2816x1024, .f32⟩
  | .hbm, ⟨11, _⟩ => ⟨S4096x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel12.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x1024, .f32⟩
  | .hbm, ⟨3, _⟩ => ⟨S1024x2304, .f32⟩
  | .hbm, ⟨4, _⟩ => ⟨S4096x2304, .f32⟩
  | .hbm, ⟨5, _⟩ => ⟨S4096x2304, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S4096x1024 : Shape := ⟨2, ![4096, 1024]⟩
abbrev S4096x3072 : Shape := ⟨2, ![4096, 3072]⟩
abbrev S1024x3072 : Shape := ⟨2, ![1024, 3072]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x1024 : Shape := ⟨2, ![4096, 1024]⟩
abbrev S4096x2304 : Shape := ⟨2, ![4096, 2304]⟩
abbrev S1024x2304 : Shape := ⟨2, ![1024, 2304]⟩
abbrev S4096x384 : Shape := ⟨2, ![4096, 384]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S1024x2304, .bf16⟩
  | .local _ .vmem, ⟨0, _⟩ => ⟨S4096x1024, .bf16⟩
  | .local _ .vmem, ⟨1, _⟩ => ⟨S4096x384, .bf16⟩
  | .local _ .vmem, ⟨2, _⟩ => ⟨S4096x384, .bf16⟩
  | .local _ .vmem, ⟨3, _⟩ => ⟨S1024x384, .bf16⟩
  | .local _ .vmem, ⟨4, _⟩ => ⟨S1024x384, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S4096x2304 : Shape := ⟨2, ![4096, 2304]⟩
abbrev S_ : Shape := ⟨0, ![]⟩
abbrev S1024x2304 : Shape := ⟨2, ![1024, 2304]⟩
abbrev S2304x1024 : Shape := ⟨2, ![2304, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S_, .f32⟩
  | .hbm, ⟨3, _⟩ => ⟨S1024x2304, .f32⟩
  | .hbm, ⟨4, _⟩ => ⟨S4096x1024, .f32⟩
  | .hbm, ⟨5, _⟩ => ⟨S4096x2304, .f32⟩
  | .hbm, ⟨6, _⟩ => ⟨S4096x2304, .f32⟩
  | .hbm, ⟨7, _⟩ => ⟨S2304x1024, .f32⟩
  | .hbm, ⟨8, _⟩ => ⟨S1024x2304, .f32⟩
  | .hbm, ⟨9, _⟩ => ⟨S1024x2304, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S4096x3072 : Shape := ⟨2, ![4096, 3072]⟩
abbrev S1024x3072 : Shape := ⟨2, ![1024, 3072]⟩
abbrev S4096x1024 : Shape := ⟨2, ![4096, 1024]⟩
abbrev S512x3072 : Shape := ⟨2, ![512, 3072]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .local _ .vmem, ⟨0, _⟩ => ⟨S1024x3072, .bf16⟩
  | .local _ .vmem, ⟨1, _⟩ => ⟨S1024x3072, .bf16⟩
  | .local _ .vmem, ⟨2, _⟩ => ⟨S512x3072, .bf16⟩
  | .local _ .vmem, ⟨3, _⟩ => ⟨S512x3072, .bf16⟩
  | .local _ .vmem, ⟨4, _⟩ => ⟨S1024x512, .f32⟩
  | .local _ .vmem, ⟨5, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S_, .f32⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S4096x2304 : Shape := ⟨2, ![4096, 2304]⟩
abbrev S1024x2304 : Shape := ⟨2, ![1024, 2304]⟩
abbrev S4096x1024 : Shape := ⟨2, ![4096, 1024]⟩
abbrev S512x2304 : Shape := ⟨2, ![512, 2304]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S4096x1024, .f32⟩
  | .hbm, ⟨3, _⟩ => ⟨S4096x1024, .f32⟩
  | .local _ .vmem, ⟨0, _⟩ => ⟨S1024x2304, .bf16⟩
  | .local _ .vmem, ⟨1, _⟩ => ⟨S1024x2304, .bf16⟩
  | .local _ .vmem, ⟨2, _⟩ => ⟨S512x2304, .bf16⟩
  | .local _ .vmem, ⟨3, _⟩ => ⟨S512x2304, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference21Ideal.lean ====
abbrev S4096x2304 : Shape := ⟨2, ![4096, 2304]⟩
abbrev S1024x2304 : Shape := ⟨2, ![1024, 2304]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x2304, .f32⟩
  | .hbm, ⟨6, _⟩ => ⟨S4096x2304, .f32⟩
  | .hbm, ⟨7, _⟩ => ⟨S4096x2304, .f32⟩
  | .hbm, ⟨8, _⟩ => ⟨S4096x1024, .f32⟩
  | .hbm, ⟨9, _⟩ => ⟨S4096x1024, .f32⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel22.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S4096x2048 : Shape := ⟨2, ![4096, 2048]⟩
abbrev S1024x2048 : Shape := ⟨2, ![1024, 2048]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x2048, .f32⟩
  | .hbm, ⟨6, _⟩ => ⟨S4096x2048, .f32⟩
  | .hbm, ⟨7, _⟩ => ⟨S4096x2048, .f32⟩
  | .hbm, ⟨8, _⟩ => ⟨S4096x1024, .f32⟩
  | .hbm, ⟨9, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel23.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel24.lean ====
abbrev S4096x768 : Shape := ⟨2, ![4096, 768]⟩
abbrev S768x1024 : Shape := ⟨2, ![768, 1024]⟩
abbrev S4096x1024 : Shape := ⟨2, ![4096, 1024]⟩
abbrev S1024x768 : Shape := ⟨2, ![1024, 768]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x768, .bf16⟩
  | .hbm, ⟨1, _⟩ => ⟨S768x1024, .bf16⟩
  | .hbm, ⟨2, _⟩ => ⟨S4096x1024, .bf16⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S1024x1024, .bf16⟩
  | .local _ .vmem, ⟨4, _⟩ => ⟨S1024x1024, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x768 : Shape := ⟨2, ![4096, 768]⟩
abbrev S768x1024 : Shape := ⟨2, ![768, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S768x1024, .bf16⟩
  | .hbm, ⟨2, _⟩ => ⟨S4096x768, .f32⟩
  | .hbm, ⟨3, _⟩ => ⟨S768x1024, .f32⟩
  | .hbm, ⟨4, _⟩ => ⟨S4096x1024, .f32⟩
  | .hbm, ⟨5, _⟩ => ⟨S4096x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel25.lean ====
abbrev S4096x768 : Shape := ⟨2, ![4096, 768]⟩
abbrev S4096x1024 : Shape := ⟨2, ![4096, 1024]⟩
abbrev S768x1024 : Shape := ⟨2, ![768, 1024]⟩
abbrev S4096x512 : Shape := ⟨2, ![4096, 512]⟩
abbrev S768x512 : Shape := ⟨2, ![768, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S768x1024, .bf16⟩
  | .local _ .vmem, ⟨0, _⟩ => ⟨S4096x768, .bf16⟩
  | .local _ .vmem, ⟨1, _⟩ => ⟨S4096x512, .bf16⟩
  | .local _ .vmem, ⟨2, _⟩ => ⟨S4096x512, .bf16⟩
  | .local _ .vmem, ⟨3, _⟩ => ⟨S768x512, .bf16⟩
  | .local _ .vmem, ⟨4, _⟩ => ⟨S768x512, .bf16⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x768 : Shape := ⟨2, ![4096, 768]⟩
abbrev S4096x1024 : Shape := ⟨2, ![4096, 1024]⟩
abbrev S_ : Shape := ⟨0, ![]⟩
abbrev S768x1024 : Shape := ⟨2, ![768, 1024]⟩
abbrev S1024x768 : Shape := ⟨2, ![1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S_, .f32⟩
  | .hbm, ⟨3, _⟩ => ⟨S768x1024, .f32⟩
  | .hbm, ⟨4, _⟩ => ⟨S4096x768, .f32⟩
  | .hbm, ⟨5, _⟩ => ⟨S4096x1024, .f32⟩
  | .hbm, ⟨6, _⟩ => ⟨S4096x1024, .f32⟩
  | .hbm, ⟨7, _⟩ => ⟨S1024x768, .f32⟩
  | .hbm, ⟨8, _⟩ => ⟨S768x1024, .f32⟩
  | .hbm, ⟨9, _⟩ => ⟨S768x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel26.lean ====
abbrev S4096x1024 : Shape := ⟨2, ![4096, 1024]⟩
abbrev S768x1024 : Shape := ⟨2, ![768, 1024]⟩
abbrev S4096x768 : Shape := ⟨2, ![4096, 768]⟩
abbrev S1024x1024 : Shape := ⟨2, ![1024, 1024]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S768x1024, .bf16⟩
  | .hbm, ⟨2, _⟩ => ⟨S4096x768, .bf16⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S1024x768, .bf16⟩
  | .local _ .vmem, ⟨4, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4096x1024 : Shape := ⟨2, ![4096, 1024]⟩
abbrev S768x1024 : Shape := ⟨2, ![768, 1024]⟩
abbrev S_ : Shape := ⟨0, ![]⟩
abbrev S4096x768 : Shape := ⟨2, ![4096, 768]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S768x1024, .bf16⟩
  | .hbm, ⟨2, _⟩ => ⟨S_, .f32⟩
  | .hbm, ⟨3, _⟩ => ⟨S4096x768, .f32⟩
  | .hbm, ⟨4, _⟩ => ⟨S768x1024, .f32⟩
  | .hbm, ⟨5, _⟩ => ⟨S4096x1024, .f32⟩
  | .hbm, ⟨6, _⟩ => ⟨S4096x1024, .f32⟩
  | .hbm, ⟨7, _⟩ => ⟨S4096x768, .f32⟩
  | .hbm, ⟨8, _⟩ => ⟨S4096x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel28.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel29.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference29Ideal.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel30.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel31.lean ====
abbrev S4096x1024 : Shape := ⟨2, ![4096, 1024]⟩
abbrev S4096x128 : Shape := ⟨2, ![4096, 128]⟩
abbrev S1024x128 : Shape := ⟨2, ![1024, 128]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S1024x128, .bf16⟩
  | .local _ .vmem, ⟨0, _⟩ => ⟨S4096x1024, .bf16⟩
  | .local _ .vmem, ⟨1, _⟩ => ⟨S4096x128, .bf16⟩
  | .local _ .vmem, ⟨2, _⟩ => ⟨S1024x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference31Ideal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S4096x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel32.lean ====
abbrev S4096x128 : Shape := ⟨2, ![4096, 128]⟩
abbrev S1024x128 : Shape := ⟨2, ![1024, 128]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S4096x1024, .f32⟩
  | .hbm, ⟨3, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference32Ideal.lean ====
abbrev S4096x128 : Shape := ⟨2, ![4096, 128]⟩
abbrev S1024x128 : Shape := ⟨2, ![1024, 128]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x128, .f32⟩
  | .hbm, ⟨6, _⟩ => ⟨S4096x128, .f32⟩
  | .hbm, ⟨7, _⟩ => ⟨S4096x128, .f32⟩
  | .hbm, ⟨8, _⟩ => ⟨S4096x1024, .f32⟩
  | .hbm, ⟨9, _⟩ => ⟨S4096x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Run.lean ====
/- The body of the backward kernel run once, in each of its three cases: what its stores leave in every buffer. -/
module

public import proofs.«01_k».proof.Proof.Gen.KernelIdeal.Frame
public import proofs.«01_k».proof.Proof.Gen.KernelIdeal.Skeleton

@[expose] public section

set_option maxRecDepth 16384

noncomputable section

namespace Cert.KernelIdeal.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-! ## The three conditions of the body -/

/-- The first step: the two carried sums are set to zero. -/
abbrev first (i : grid0.Coords) : Prop := (Scalar.cmpi .ne (Scalar.extui (Scalar.cmpi .eq (BitVec.ofNat 32 (i 1).val) 0#32)) 0#32) = 1#1
/-- A step with a block of queries. -/
abbrev work (i : grid0.Coords) : Prop := k0_cond2 i = 1#1
/-- The last step, which only hands the carried sums out. -/
abbrev last (i : grid0.Coords) : Prop := k0_cond3 i = 1#1

theorem first_iff : ∀ t : Fin cfg0.N, first (grid0.coords t) ↔ t.val = 0 :=
  (by decide +kernel : ∀ t : Fin grid0.N, first (grid0.coords t) ↔ t.val = 0)
theorem work_iff : ∀ t : Fin cfg0.N, work (grid0.coords t) ↔ t.val < 32 :=
  (by decide +kernel : ∀ t : Fin grid0.N, work (grid0.coords t) ↔ t.val < 32)
theorem last_iff : ∀ t : Fin cfg0.N, last (grid0.coords t) ↔ t.val = 32 :=
  (by decide +kernel : ∀ t : Fin grid0.N, last (grid0.coords t) ↔ t.val = 32)

/-- The two carried buffers. -/
abbrev ckM : Memref sig .tc .vmem S128x768 .f32 := Memref.whole cc0_scratch0
abbrev cvM : Memref sig .tc .vmem S128x768 .f32 := Memref.whole cc0_scratch1

/-- What the launch hands the region beside the windows: the carried buffers at anything and the generator register. -/
theorem PhiA_eq (c : Dev nD) :
    (Pipeline.ΦA spec0 c : sProp 𝕄)
      = iprop(iprop((∃ d, owns (c : Thread nD τ) ckM fullShare d) ∗ (∃ d, owns (c : Thread nD τ) cvM fullShare d)) ∗ (∃ r, prngReg c r)) := by
  unfold Pipeline.ΦA; rw [scopedRest0_eq]; simp only [ckM, cvM, owns_whole]; try rfl

variable (c : Dev nD) (i : grid0.Coords)
  (arg2 : Memref sig .tc .vmem S128x768 .bf16) (harg2 : arg2.IsWhole)
  (arg3 : Memref sig .tc .vmem S128x768 .bf16) (harg3 : arg3.IsWhole)
  (arg4 : Memref sig .tc .vmem S128x768 .bf16) (harg4 : arg4.IsWhole)
  (arg5 : Memref sig .tc .vmem S128x768 .bf16) (harg5 : arg5.IsWhole)
  (arg6 : Memref sig .tc .vmem S128x768 .bf16) (harg6 : arg6.IsWhole)
  (arg7 : Memref sig .tc .vmem S128x768 .bf16) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S128x768 .bf16) (harg10 : arg10.IsWhole)
  (arg11 : Memref sig .tc .vmem S128x768 .bf16) (harg11 : arg11.IsWhole)
  (arg12 : Memref sig .tc .vmem S128x768 .bf16) (harg12 : arg12.IsWhole)
  (arg13 : Memref sig .tc .vmem S128x768 .f32) (harg13 : arg13.IsWhole)
  (arg14 : Memref sig .tc .vmem S128x768 .f32) (harg14 : arg14.IsWhole)
  (x0 x1 x2 x3 x4 x5 : Vec F S128x768 .bf16) (x6 x7 : Vec F S128x128 .f32) (xs0 xs1 : Vec F S128x768 .f32)

set_option maxHeartbeats 1000000 in
/-- The last step: the carried sums go to the two late outputs, everything else stays. -/
noncomputable def runLast (hc0 : ¬first i) (hc1 : ¬work i) (hc2 : last i) (y : Vec F S128x768 .bf16) :
    Σ' (L9 : List (View.Piece (Elt F) S128x768 .bf16)), { L10 : List (View.Piece (Elt F) S128x768 .bf16) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare y ∗ (∃ d, owns (c : Thread nD τ) arg11 fullShare d) ∗ (∃ d, owns (c : Thread nD τ) arg12 fullShare d) ∗ owns (c : Thread nD τ) arg13 fullShare xs0 ∗ owns (c : Thread nD τ) arg14 fullShare xs1
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ owns (c : Thread nD τ) arg10 fullShare y ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)
          ∗ owns (c : Thread nD τ) arg13 fullShare xs0 ∗ owns (c : Thread nD τ) arg14 fullShare xs1) -∗ K ⟨⟩))
        ⊢ wp frame (wpE (defs₀ (F := F)) Variants.none c none) E (cc0_da1_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_da1_bwd_eq_skeleton]; unfold cc0_da1_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hf8
    obtain rfl := harg13.eq_unread hfs0; obtain rfl := harg14.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [HS0]
    · iexists _; isplitr; · ipureintro; exact harg13.read_unread _
      iexact HS0
    iexists _; isplitr; · ipureintro; exact harg14.read_unread _
    iexact HS1

end Cert.KernelIdeal.Da

end
-- ==== Proof.RunWork.lean ====
/- The body of the backward kernel run once, in each of its three cases: what its stores leave in every buffer. -/
module

public import proofs.«01_k».proof.Proof.Run
public import proofs.«01_k».proof.Proof.Gen.KernelIdeal.Skeleton

@[expose] public section

set_option maxRecDepth 16384

noncomputable section

namespace Cert.KernelIdeal.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (arg2 : Memref sig .tc .vmem S128x768 .bf16) (harg2 : arg2.IsWhole)
  (arg3 : Memref sig .tc .vmem S128x768 .bf16) (harg3 : arg3.IsWhole)
  (arg4 : Memref sig .tc .vmem S128x768 .bf16) (harg4 : arg4.IsWhole)
  (arg5 : Memref sig .tc .vmem S128x768 .bf16) (harg5 : arg5.IsWhole)
  (arg6 : Memref sig .tc .vmem S128x768 .bf16) (harg6 : arg6.IsWhole)
  (arg7 : Memref sig .tc .vmem S128x768 .bf16) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S128x768 .bf16) (harg10 : arg10.IsWhole)
  (arg11 : Memref sig .tc .vmem S128x768 .bf16) (harg11 : arg11.IsWhole)
  (arg12 : Memref sig .tc .vmem S128x768 .bf16) (harg12 : arg12.IsWhole)
  (arg13 : Memref sig .tc .vmem S128x768 .f32) (harg13 : arg13.IsWhole)
  (arg14 : Memref sig .tc .vmem S128x768 .f32) (harg14 : arg14.IsWhole)
  (x0 x1 x2 x3 x4 x5 : Vec F S128x768 .bf16) (x6 x7 : Vec F S128x128 .f32) (xs0 xs1 : Vec F S128x768 .f32)

set_option maxHeartbeats 1000000 in
/-- A middle step, with the stores its outputs and the carried buffers end with. -/
noncomputable def runWork (hc0 : ¬first i) (hc1 : work i) (hc2 : ¬last i) :
    Σ' (L8 : List (View.Piece (Elt F) S128x768 .bf16)), Σ' (L9 : List (View.Piece (Elt F) S128x768 .bf16)), Σ' (L10 : List (View.Piece (Elt F) S128x768 .bf16)), Σ' (LS0 : List (View.Piece (Elt F) S128x768 .f32)), { LS1 : List (View.Piece (Elt F) S128x768 .f32) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs0 ∗ owns (c : Thread nD τ) arg14 fullShare xs1
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)
          ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
        ⊢ wp frame (wpE (defs₀ (F := F)) Variants.none c none) E (cc0_da1_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_da1_bwd_eq_skeleton]; unfold cc0_da1_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg13.eq_unread hfs0; obtain rfl := harg14.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    iexists _; iexact HS1

end Cert.KernelIdeal.Da

end
-- ==== Proof.RunFirst.lean ====
/- The body of the backward kernel run once, in each of its three cases: what its stores leave in every buffer. -/
module

public import proofs.«01_k».proof.Proof.RunWork
public import proofs.«01_k».proof.Proof.Gen.KernelIdeal.Skeleton

@[expose] public section

set_option maxRecDepth 16384

noncomputable section

namespace Cert.KernelIdeal.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (c : Dev nD) (i : grid0.Coords)
  (arg2 : Memref sig .tc .vmem S128x768 .bf16) (harg2 : arg2.IsWhole)
  (arg3 : Memref sig .tc .vmem S128x768 .bf16) (harg3 : arg3.IsWhole)
  (arg4 : Memref sig .tc .vmem S128x768 .bf16) (harg4 : arg4.IsWhole)
  (arg5 : Memref sig .tc .vmem S128x768 .bf16) (harg5 : arg5.IsWhole)
  (arg6 : Memref sig .tc .vmem S128x768 .bf16) (harg6 : arg6.IsWhole)
  (arg7 : Memref sig .tc .vmem S128x768 .bf16) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S128x768 .bf16) (harg10 : arg10.IsWhole)
  (arg11 : Memref sig .tc .vmem S128x768 .bf16) (harg11 : arg11.IsWhole)
  (arg12 : Memref sig .tc .vmem S128x768 .bf16) (harg12 : arg12.IsWhole)
  (arg13 : Memref sig .tc .vmem S128x768 .f32) (harg13 : arg13.IsWhole)
  (arg14 : Memref sig .tc .vmem S128x768 .f32) (harg14 : arg14.IsWhole)
  (x0 x1 x2 x3 x4 x5 : Vec F S128x768 .bf16) (x6 x7 : Vec F S128x128 .f32) (xs0 xs1 : Vec F S128x768 .f32)

set_option maxHeartbeats 1000000 in
/-- The first step, the carried buffers set to zero before anything is read from them. -/
noncomputable def runFirst (hc0 : first i) (hc1 : work i) (hc2 : ¬last i) :
    Σ' (L8 : List (View.Piece (Elt F) S128x768 .bf16)), Σ' (L9 : List (View.Piece (Elt F) S128x768 .bf16)), Σ' (L10 : List (View.Piece (Elt F) S128x768 .bf16)), Σ' (LS0 : List (View.Piece (Elt F) S128x768 .f32)), { LS1 : List (View.Piece (Elt F) S128x768 .f32) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
          ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare x6
          ∗ owns (c : Thread nD τ) arg9 fullShare x7
          ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10)
          ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1)) -∗ K ⟨⟩))
        ⊢ wp frame (wpE (defs₀ (F := F)) Variants.none c none) E (cc0_da1_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_da1_bwd_eq_skeleton]; unfold cc0_da1_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    iexists _; iexact HS1

end Cert.KernelIdeal.Da

end
-- ==== Proof.Tile.lean ====
/- What a step with a block of queries computes, written once for any pair of heads: the scores, the weights, the
   gradient of the scores, and the three products, over the 128 lanes that hold two heads of 64. -/
module

public import proofs.«01_k».proof.Proof.Gen.KernelIdeal.Skeleton
public import Idealize.ShloMosaic.Lib.Pointwise.Index
public import Idealize.ShloMosaic.Lib.WholeRead
public import Idealize.ShloMosaic.Lib.Pipeline.ReadBack

@[expose] public section

set_option maxRecDepth 16384

noncomputable section

namespace Cert.KernelIdeal.Da

open Idealize.ShloMosaic Idealize.ShloMosaic.TcCoe Idealize.SL.Sem
open Cert.KernelIdeal Cert.KernelIdeal.Gen

variable {F : FTy → Type} [FloatOps F] [Named F]

/-- The twelve slopes of the distance penalty, as words. -/
def slopeW : ℕ → BitVec 32
  | 0 => 0x3F214518#32 | 1 => 0x3ECB2FF5#32 | 2 => 0x3E800000#32 | 3 => 0x3E214518#32
  | 4 => 0x3DCB2FF5#32 | 5 => 0x3D800000#32 | 6 => 0x3D214518#32 | 7 => 0x3CCB2FF5#32
  | 8 => 0x3C800000#32 | 9 => 0x3C214518#32 | 10 => 0x3BCB2FF5#32 | _ => 0x3B800000#32

/-- The lanes of the even head of a pair, and of the odd one. -/
def halfMask (odd : Bool) : IVec S128x128 1 :=
  match odd with
  | false => cmpi .slt (iota .tc S128x128 32 [1] iota_S128x128_d1_w32) (broadcast S128x128 64#32)
  | true => cmpi .sge (iota .tc S128x128 32 [1] iota_S128x128_d1_w32) (broadcast S128x128 64#32)

/-- A block with the other head's lanes at zero. -/
def halfOf (odd : Bool) (x : Vec F S128x128 .bf16) : FVec F S128x128 .bf16 :=
  truncf .bf16 (select (halfMask odd) (extf .f32 x bitsLt_bf16_f32) (broadcast S128x128 (Scalar.ofBits .f32 0x00000000#32))) bitsLt_bf16_f32

/-- One lane of a block as a column, along 256 keys. -/
def laneCol (b : BitVec 32) (x : Vec F S128x128 .f32) : FVec F S128x256 .f32 :=
  broadcastTo S128x256 (shapeCast S128x1
    (multiReduction .add [1] S128
      (select (cmpi .eq (iota .tc S128x128 32 [1] iota_S128x128_d1_w32) (broadcast S128x128 b))
        (shapeCast S128x128 x shapeCasts_S128x128_S128x128) (broadcast S128x128 (Scalar.ofBits .f32 0x00000000#32)))
      0x00000000#32 reduces_S128x128_S128 (.inl rfl) rfl) shapeCasts_S128_S128x1) broadcasts_S128x1_S128x256

/-- Two blocks of keys (the one before, then the current one). -/
def both (p c : Vec F S128x128 .bf16) : FVec F S256x128 .bf16 :=
  concatenate S256x128 0 [⟨S128x128, p⟩, ⟨S128x128, c⟩] concatenates_S128x128_S128x128_S256x128_d0

/-- The masked scores of one head. -/
def scores (a : BitVec 32) (odd : Bool) (w : BitVec 32) (q kp kc : Vec F S128x128 .bf16) : FVec F S128x256 .f32 :=
  select (k0_pay7 a)
    (subf (mulf (matmul dot_S128x128_S256x128_S128x256_1_1_0_0_n_n none (halfOf odd q) (both kp kc) (constant S128x256 .f32 0x00000000#32))
        (broadcast S128x256 (Scalar.ofBits .f32 0x3E000000#32)))
      (mulf (broadcast S128x256 (Scalar.ofBits .f32 w)) (k0_pay8 (F := F))))
    (broadcast S128x256 (Named.named κ "mask" 0xF149F2CA#32))

/-- The weights of one head. -/
def weights (a : BitVec 32) (odd : Bool) (w b : BitVec 32) (q kp kc : Vec F S128x128 .bf16) (ls : Vec F S128x128 .f32) : FVec F S128x256 .f32 :=
  exp (subf (scores a odd w q kp kc) (laneCol b ls))

/-- The gradient of the scores of one head, the scale of the scores included. -/
def dscores (a : BitVec 32) (odd : Bool) (w b : BitVec 32) (q kp kc vp vc g : Vec F S128x128 .bf16) (ls dl : Vec F S128x128 .f32) : FVec F S128x256 .bf16 :=
  truncf .bf16 (mulf (mulf (weights a odd w b q kp kc ls)
      (subf (matmul dot_S128x128_S256x128_S128x256_1_1_0_0_n_n none (halfOf odd g) (both vp vc) (constant S128x256 .f32 0x00000000#32)) (laneCol b dl)))
    (broadcast S128x256 (Scalar.ofBits .f32 0x3E000000#32))) bitsLt_bf16_f32

section Pair

variable (a : BitVec 32) (h : ℕ) (q kp kc vp vc g : Vec F S128x128 .bf16) (ls dl : Vec F S128x128 .f32)

/-- The even and the odd head of pair `h`. -/
def dsEven : FVec F S128x256 .bf16 := dscores a false (slopeW (2 * h)) (BitVec.ofNat 32 (2 * h)) q kp kc vp vc g ls dl
def dsOdd : FVec F S128x256 .bf16 := dscores a true (slopeW (2 * h + 1)) (BitVec.ofNat 32 (2 * h + 1)) q kp kc vp vc g ls dl
def pEven : FVec F S128x256 .f32 := weights a false (slopeW (2 * h)) (BitVec.ofNat 32 (2 * h)) q kp kc ls
def pOdd : FVec F S128x256 .f32 := weights a true (slopeW (2 * h + 1)) (BitVec.ofNat 32 (2 * h + 1)) q kp kc ls

/-- The queries' gradient of a pair of heads. -/
def dqT : FVec F S128x128 .bf16 :=
  truncf .bf16 (addf (addf (broadcast S128x128 (Scalar.ofBits .f32 0x00000000#32))
      (select (halfMask false) (matmul dot_S128x256_S256x128_S128x128_1_0_0_1_n_n none (dsEven a h q kp kc vp vc g ls dl) (both kp kc) (constant S128x128 .f32 0x00000000#32))
        (broadcast S128x128 (Scalar.ofBits .f32 0x00000000#32))))
    (select (halfMask true) (matmul dot_S128x256_S256x128_S128x128_1_0_0_1_n_n none (dsOdd a h q kp kc vp vc g ls dl) (both kp kc) (constant S128x128 .f32 0x00000000#32))
        (broadcast S128x128 (Scalar.ofBits .f32 0x00000000#32)))) bitsLt_bf16_f32

/-- The gradient of both blocks of keys of a pair of heads. -/
def dk2T : FVec F S256x128 .f32 :=
  addf (addf (broadcast S256x128 (Scalar.ofBits .f32 0x00000000#32))
      (matmul dot_S128x256_S128x128_S256x128_0_0_1_1_n_n none (dsEven a h q kp kc vp vc g ls dl) (halfOf false q) (constant S256x128 .f32 0x00000000#32)))
    (matmul dot_S128x256_S128x128_S256x128_0_0_1_1_n_n none (dsOdd a h q kp kc vp vc g ls dl) (halfOf true q) (constant S256x128 .f32 0x00000000#32))

/-- The gradient of both blocks of values of a pair of heads. -/
def dv2T : FVec F S256x128 .f32 :=
  addf (addf (broadcast S256x128 (Scalar.ofBits .f32 0x00000000#32))
      (matmul dot_S128x256_S128x128_S256x128_0_0_1_1_n_n none (truncf .bf16 (pEven a h q kp kc ls) bitsLt_bf16_f32) (halfOf false g) (constant S256x128 .f32 0x00000000#32)))
    (matmul dot_S128x256_S128x128_S256x128_0_0_1_1_n_n none (truncf .bf16 (pOdd a h q kp kc ls) bitsLt_bf16_f32) (halfOf true g) (constant S256x128 .f32 0x00000000#32))

end Pair

/-- The half of a two-block gradient that belongs to the block before, added to what was carried. -/
def lateT (acc : Vec F S128x128 .f32) (d2 : FVec F S256x128 .f32) : FVec F S128x128 .bf16 :=
  truncf .bf16 (addf acc (extractStridedSlice S128x128 ![0, 0] d2 slices_S256x128_o0_0_S128x128)) bitsLt_bf16_f32

/-- The half that belongs to the current block, which is carried on. -/
def carryT (d2 : FVec F S256x128 .f32) : FVec F S128x128 .f32 :=
  shapeCast S128x128 (extractStridedSlice S128x128 ![128, 0] d2 slices_S256x128_o128_0_S128x128) shapeCasts_S128x128_S128x128

/-! ## Whole blocks of 768 lanes: six pairs of heads -/

/-- The 128 lanes of pair `h`. -/
def lanesOf {e : EltTy} (x : Vec F S128x768 e) (h : Fin 6) : Vec F S128x128 e :=
  fun z => x (ix2 (z 0) ⟨128 * h.val + (z 1).val, by have := (z 1).isLt; have := h.isLt; simp only [Shape.size] at *; simp at *; omega⟩)

/-- Six blocks of 128 lanes side by side. -/
def sideBySide {e : EltTy} (T : Fin 6 → Vec F S128x128 e) : Vec F S128x768 e :=
  fun y => T ⟨(y 1).val / 128, by have h : (y 1).val < 768 := (y 1).isLt; omega⟩ (ix2 (y 0) ⟨(y 1).val % 128, Nat.mod_lt _ (by decide)⟩)

section Block

variable (a : BitVec 32) (x0 x1 x2 x3 x4 x5 : Vec F S128x768 .bf16) (x6 x7 : Vec F S128x128 .f32) (ck cv : Vec F S128x768 .f32)

/-- Both blocks' key gradient, and value gradient, of pair `h`. -/
def dk2B (h : Fin 6) : FVec F S256x128 .f32 := dk2T a h.val (lanesOf x0 h) (lanesOf x2 h) (lanesOf x1 h) (lanesOf x4 h) (lanesOf x3 h) (lanesOf x5 h) x6 x7
def dv2B (h : Fin 6) : FVec F S256x128 .f32 := dv2T a h.val (lanesOf x0 h) (lanesOf x2 h) (lanesOf x1 h) (lanesOf x5 h) x6

/-- What a step leaves in the queries' gradient, in the two late outputs over what was carried, and in the carried sums. -/
def dqB : Vec F S128x768 .bf16 := sideBySide fun h => dqT a h.val (lanesOf x0 h) (lanesOf x2 h) (lanesOf x1 h) (lanesOf x4 h) (lanesOf x3 h) (lanesOf x5 h) x6 x7
def dkB : Vec F S128x768 .bf16 := sideBySide fun h => lateT (lanesOf ck h) (dk2B a x0 x1 x2 x3 x4 x5 x6 x7 h)
def dvB : Vec F S128x768 .bf16 := sideBySide fun h => lateT (lanesOf cv h) (dv2B a x0 x1 x2 x5 x6 h)
def ckB : Vec F S128x768 .f32 := sideBySide fun h => carryT (dk2B a x0 x1 x2 x3 x4 x5 x6 x7 h)
def cvB : Vec F S128x768 .f32 := sideBySide fun h => carryT (dv2B a x0 x1 x2 x5 x6 h)

end Block

/-! ## Reading them through the rectangles of the stores and loads -/

/-- Six blocks side by side, read through the rectangle of pair `h`. -/
theorem sideBySide_emb {e : EltTy} (T : Fin 6 → Vec F S128x128 e) (h : Fin 6) {off : Fin 2 → ℕ}
    (inb : ∀ a, off a + S128x128.size a ≤ S128x768.size a) (h0 : off 0 = 0) (h1 : off 1 = 128 * h.val)
    (x : (Rect.unit (s := S128x768) off S128x128.size inb).shape.Idx) :
    sideBySide T ((Rect.unit (s := S128x768) off S128x128.size inb).emb x) = T h x := by
  have hx1 : (x 1).val < 128 := (x 1).isLt
  have e0 : (((Rect.unit (s := S128x768) off S128x128.size inb).emb x) 0).val = (x 0).val := by
    show off 0 + 1 * (x 0).val = _; rw [h0]; omega
  have e1 : (((Rect.unit (s := S128x768) off S128x128.size inb).emb x) 1).val = 128 * h.val + (x 1).val := by
    show off 1 + 1 * (x 1).val = _; rw [h1]; omega
  have eh : (⟨(((Rect.unit (s := S128x768) off S128x128.size inb).emb x) 1).val / 128, by
      rw [e1]; have := h.isLt; omega⟩ : Fin 6) = h := Fin.ext (by show _ / 128 = _; rw [e1]; omega)
  unfold sideBySide
  rw [eh]
  refine congrArg (T h) (funext fun k => ?_)
  match k with
  | ⟨0, _⟩ => exact Fin.ext e0
  | ⟨1, _⟩ => exact Fin.ext (by show (((Rect.unit (s := S128x768) off S128x128.size inb).emb x) 1).val % 128 = (x 1).val; rw [e1]; omega)

/-- A load of pair `h`'s lanes from a whole buffer. -/
theorem load_lanes {e : EltTy} {m : Memref sig .tc .vmem S128x768 e} (hm : m.IsWhole) (X : Vec F S128x768 e) (h : Fin 6) {off : Fin 2 → ℕ}
    (inb : ∀ a, off a + S128x128.size a ≤ S128x768.size a) (h0 : off 0 = 0) (h1 : off 1 = 128 * h.val) :
    m.view.readAt (Elt F) (Rect.unit (s := S128x768) off S128x128.size inb).toLoadRect (hm.unread X) = lanesOf X h := by
  funext x
  rw [hm.readAt_unread]
  refine congrArg X (funext fun k => ?_)
  match k with
  | ⟨0, _⟩ => exact Fin.ext (by show off 0 + 1 * (x 0).val = _; rw [h0]; show _ = (x 0).val; omega)
  | ⟨1, _⟩ => exact Fin.ext (by show off 1 + 1 * (x 1).val = _; rw [h1]; show _ = 128 * h.val + (x 1).val; omega)

/-- A load of a whole buffer. -/
theorem load_whole {s : Shape} {e : EltTy} {m : Memref sig .tc .vmem s e} (hm : m.IsWhole) (X : Vec F s e) {off : Fin s.rank → ℕ}
    (inb : ∀ a, off a + s.size a ≤ s.size a) (h0 : ∀ a, off a = 0) :
    m.view.readAt (Elt F) (Rect.unit (s := s) off s.size inb).toLoadRect (hm.unread X) = X := by
  funext x
  rw [hm.readAt_unread]
  refine congrArg X (funext fun k => Fin.ext ?_)
  show off k + 1 * (x k).val = _
  rw [h0]; omega

end Cert.KernelIdeal.Da

end
-- ==== Proof.Pieces.lean ====
/- The lists of stores the runs of a step leave are blocks of the closed forms, so every buffer reads its closed form afterwards. -/
module

public import proofs.«01_k».proof.Proof.RunWork
public import proofs.«01_k».proof.Proof.RunFirst
public import proofs.«01_k».proof.Proof.Tile
public import Idealize.ShloMosaic.Lib.Ring

@[expose] public section

set_option maxRecDepth 16384

noncomputable section

namespace Cert.KernelIdeal.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

section Tiles

variable {arg2 : Memref sig .tc .vmem S128x768 .bf16} (harg2 : arg2.IsWhole) {arg3 : Memref sig .tc .vmem S128x768 .bf16} (harg3 : arg3.IsWhole) {arg4 : Memref sig .tc .vmem S128x768 .bf16} (harg4 : arg4.IsWhole) {arg5 : Memref sig .tc .vmem S128x768 .bf16} (harg5 : arg5.IsWhole) {arg6 : Memref sig .tc .vmem S128x768 .bf16} (harg6 : arg6.IsWhole) {arg7 : Memref sig .tc .vmem S128x768 .bf16} (harg7 : arg7.IsWhole) {arg8 : Memref sig .tc .vmem S128x128 .f32} (harg8 : arg8.IsWhole) {arg9 : Memref sig .tc .vmem S128x128 .f32} (harg9 : arg9.IsWhole)
  (x0 x1 x2 x3 x4 x5 : Vec F S128x768 .bf16) (x6 x7 : Vec F S128x128 .f32) (ck cv : Vec F S128x768 .f32)
  (a : BitVec 32) (h : Fin 6) {off : Fin 2 → ℕ} (inb : ∀ a, off a + S128x128.size a ≤ S128x768.size a) (h0 : off 0 = 0) (h1 : off 1 = 128 * h.val)
  (x : (Rect.unit (s := S128x768) off S128x128.size inb).shape.Idx)

include h0 h1

/-- The five tiles of a pair of heads, over the loads of its lanes, are the closed forms under the rectangle of the pair. -/
theorem dq_tile : dqT a h.val (arg2.view.readAt (Elt F) (Rect.unit (s := S128x768) off S128x128.size inb).toLoadRect (harg2.unread x0)) (arg4.view.readAt (Elt F) (Rect.unit (s := S128x768) off S128x128.size inb).toLoadRect (harg4.unread x2)) (arg3.view.readAt (Elt F) (Rect.unit (s := S128x768) off S128x128.size inb).toLoadRect (harg3.unread x1)) (arg6.view.readAt (Elt F) (Rect.unit (s := S128x768) off S128x128.size inb).toLoadRect (harg6.unread x4)) (arg5.view.readAt (Elt F) (Rect.unit (s := S128x768) off S128x128.size inb).toLoadRect (harg5.unread x3)) (arg7.view.readAt (Elt F) (Rect.unit (s := S128x768) off S128x128.size inb).toLoadRect (harg7.unread x5)) (arg8.view.readAt (Elt F) (Rect.unit (s := S128x128) ![0, 0] S128x128.size inb_S128x128_S128x128_0_0).toLoadRect (harg8.unread x6)) (arg9.view.readAt (Elt F) (Rect.unit (s := S128x128) ![0, 0] S128x128.size inb_S128x128_S128x128_0_0).toLoadRect (harg9.unread x7)) x
      = dqB a x0 x1 x2 x3 x4 x5 x6 x7 ((Rect.unit (s := S128x768) off S128x128.size inb).emb x) := by
  unfold dqB
  rw [sideBySide_emb _ h inb h0 h1, load_lanes harg2 _ h inb h0 h1, load_lanes harg3 _ h inb h0 h1, load_lanes harg4 _ h inb h0 h1, load_lanes harg5 _ h inb h0 h1, load_lanes harg6 _ h inb h0 h1, load_lanes harg7 _ h inb h0 h1, load_whole harg8 _ inb_S128x128_S128x128_0_0 (by decide), load_whole harg9 _ inb_S128x128_S128x128_0_0 (by decide)]

theorem dk_tile (acc : Vec F S128x128 .f32) (hacc : acc = lanesOf ck h) : lateT acc (dk2T a h.val (arg2.view.readAt (Elt F) (Rect.unit (s := S128x768) off S128x128.size inb).toLoadRect (harg2.unread x0)) (arg4.view.readAt (Elt F) (Rect.unit (s := S128x768) off S128x128.size inb).toLoadRect (harg4.unread x2)) (arg3.view.readAt (Elt F) (Rect.unit (s := S128x768) off S128x128.size inb).toLoadRect (harg3.unread x1)) (arg6.view.readAt (Elt F) (Rect.unit (s := S128x768) off S128x128.size inb).toLoadRect (harg6.unread x4)) (arg5.view.readAt (Elt F) (Rect.unit (s := S128x768) off S128x128.size inb).toLoadRect (harg5.unread x3)) (arg7.view.readAt (Elt F) (Rect.unit (s := S128x768) off S128x128.size inb).toLoadRect (harg7.unread x5)) (arg8.view.readAt (Elt F) (Rect.unit (s := S128x128) ![0, 0] S128x128.size inb_S128x128_S128x128_0_0).toLoadRect (harg8.unread x6)) (arg9.view.readAt (Elt F) (Rect.unit (s := S128x128) ![0, 0] S128x128.size inb_S128x128_S128x128_0_0).toLoadRect (harg9.unread x7))) x
      = dkB a x0 x1 x2 x3 x4 x5 x6 x7 ck ((Rect.unit (s := S128x768) off S128x128.size inb).emb x) := by
  unfold dkB dk2B
  rw [sideBySide_emb _ h inb h0 h1, hacc, load_lanes harg2 _ h inb h0 h1, load_lanes harg3 _ h inb h0 h1, load_lanes harg4 _ h inb h0 h1, load_lanes harg5 _ h inb h0 h1, load_lanes harg6 _ h inb h0 h1, load_lanes harg7 _ h inb h0 h1, load_whole harg8 _ inb_S128x128_S128x128_0_0 (by decide), load_whole harg9 _ inb_S128x128_S128x128_0_0 (by decide)]

theorem dv_tile (acc : Vec F S128x128 .f32) (hacc : acc = lanesOf cv h) : lateT acc (dv2T a h.val (arg2.view.readAt (Elt F) (Rect.unit (s := S128x768) off S128x128.size inb).toLoadRect (harg2.unread x0)) (arg4.view.readAt (Elt F) (Rect.unit (s := S128x768) off S128x128.size inb).toLoadRect (harg4.unread x2)) (arg3.view.readAt (Elt F) (Rect.unit (s := S128x768) off S128x128.size inb).toLoadRect (harg3.unread x1)) (arg7.view.readAt (Elt F) (Rect.unit (s := S128x768) off S128x128.size inb).toLoadRect (harg7.unread x5)) (arg8.view.readAt (Elt F) (Rect.unit (s := S128x128) ![0, 0] S128x128.size inb_S128x128_S128x128_0_0).toLoadRect (harg8.unread x6))) x
      = dvB a x0 x1 x2 x5 x6 cv ((Rect.unit (s := S128x768) off S128x128.size inb).emb x) := by
  unfold dvB dv2B
  rw [sideBySide_emb _ h inb h0 h1, hacc, load_lanes harg2 _ h inb h0 h1, load_lanes harg3 _ h inb h0 h1, load_lanes harg4 _ h inb h0 h1, load_lanes harg7 _ h inb h0 h1, load_whole harg8 _ inb_S128x128_S128x128_0_0 (by decide)]

theorem ck_tile : carryT (dk2T a h.val (arg2.view.readAt (Elt F) (Rect.unit (s := S128x768) off S128x128.size inb).toLoadRect (harg2.unread x0)) (arg4.view.readAt (Elt F) (Rect.unit (s := S128x768) off S128x128.size inb).toLoadRect (harg4.unread x2)) (arg3.view.readAt (Elt F) (Rect.unit (s := S128x768) off S128x128.size inb).toLoadRect (harg3.unread x1)) (arg6.view.readAt (Elt F) (Rect.unit (s := S128x768) off S128x128.size inb).toLoadRect (harg6.unread x4)) (arg5.view.readAt (Elt F) (Rect.unit (s := S128x768) off S128x128.size inb).toLoadRect (harg5.unread x3)) (arg7.view.readAt (Elt F) (Rect.unit (s := S128x768) off S128x128.size inb).toLoadRect (harg7.unread x5)) (arg8.view.readAt (Elt F) (Rect.unit (s := S128x128) ![0, 0] S128x128.size inb_S128x128_S128x128_0_0).toLoadRect (harg8.unread x6)) (arg9.view.readAt (Elt F) (Rect.unit (s := S128x128) ![0, 0] S128x128.size inb_S128x128_S128x128_0_0).toLoadRect (harg9.unread x7))) x
      = ckB a x0 x1 x2 x3 x4 x5 x6 x7 ((Rect.unit (s := S128x768) off S128x128.size inb).emb x) := by
  unfold ckB dk2B
  rw [sideBySide_emb _ h inb h0 h1, load_lanes harg2 _ h inb h0 h1, load_lanes harg3 _ h inb h0 h1, load_lanes harg4 _ h inb h0 h1, load_lanes harg5 _ h inb h0 h1, load_lanes harg6 _ h inb h0 h1, load_lanes harg7 _ h inb h0 h1, load_whole harg8 _ inb_S128x128_S128x128_0_0 (by decide), load_whole harg9 _ inb_S128x128_S128x128_0_0 (by decide)]

theorem cv_tile : carryT (dv2T a h.val (arg2.view.readAt (Elt F) (Rect.unit (s := S128x768) off S128x128.size inb).toLoadRect (harg2.unread x0)) (arg4.view.readAt (Elt F) (Rect.unit (s := S128x768) off S128x128.size inb).toLoadRect (harg4.unread x2)) (arg3.view.readAt (Elt F) (Rect.unit (s := S128x768) off S128x128.size inb).toLoadRect (harg3.unread x1)) (arg7.view.readAt (Elt F) (Rect.unit (s := S128x768) off S128x128.size inb).toLoadRect (harg7.unread x5)) (arg8.view.readAt (Elt F) (Rect.unit (s := S128x128) ![0, 0] S128x128.size inb_S128x128_S128x128_0_0).toLoadRect (harg8.unread x6))) x
      = cvB a x0 x1 x2 x5 x6 ((Rect.unit (s := S128x768) off S128x128.size inb).emb x) := by
  unfold cvB dv2B
  rw [sideBySide_emb _ h inb h0 h1, load_lanes harg2 _ h inb h0 h1, load_lanes harg3 _ h inb h0 h1, load_lanes harg4 _ h inb h0 h1, load_lanes harg7 _ h inb h0 h1, load_whole harg8 _ inb_S128x128_S128x128_0_0 (by decide)]

end Tiles

/-- Stores that are blocks of `G` and cover the buffer leave `G`, over any earlier stores. -/
theorem read_of_pieces {sp : Space} {s : Shape} {e : EltTy} (v : View sig .tc sp s e) (f : v.ty.Contents (Elt F)) (G : s.Idx → Elt F e)
    (L L' : List (View.Piece (Elt F) s e)) (hp : View.PiecesOf G L) (hc : ∀ y, ∃ p ∈ L, y ∈ p.1.set) :
    v.read (Elt F) (v.writes (Elt F) f (L ++ L')) = G :=
  (View.read_writes_eq_canon v f _ fun y => by obtain ⟨p, h, hy⟩ := hc y; exact ⟨p, List.mem_append_left _ h, hy⟩).trans
    (funext fun y => View.canon_append_of_piecesOf G L' L hp y (hc y))

/-- Nothing carried. -/
def zeroB : Vec F S128x768 .f32 := broadcast S128x768 (Scalar.ofBits .f32 0x00000000#32)

variable (c : Dev nD) (i : grid0.Coords)
  (arg2 : Memref sig .tc .vmem S128x768 .bf16) (harg2 : arg2.IsWhole)
  (arg3 : Memref sig .tc .vmem S128x768 .bf16) (harg3 : arg3.IsWhole)
  (arg4 : Memref sig .tc .vmem S128x768 .bf16) (harg4 : arg4.IsWhole)
  (arg5 : Memref sig .tc .vmem S128x768 .bf16) (harg5 : arg5.IsWhole)
  (arg6 : Memref sig .tc .vmem S128x768 .bf16) (harg6 : arg6.IsWhole)
  (arg7 : Memref sig .tc .vmem S128x768 .bf16) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S128x768 .bf16) (harg10 : arg10.IsWhole)
  (arg11 : Memref sig .tc .vmem S128x768 .bf16) (harg11 : arg11.IsWhole)
  (arg12 : Memref sig .tc .vmem S128x768 .bf16) (harg12 : arg12.IsWhole)
  (arg13 : Memref sig .tc .vmem S128x768 .f32) (harg13 : arg13.IsWhole)
  (arg14 : Memref sig .tc .vmem S128x768 .f32) (harg14 : arg14.IsWhole)
  (x0 x1 x2 x3 x4 x5 : Vec F S128x768 .bf16) (x6 x7 : Vec F S128x128 .f32) (xs0 xs1 : Vec F S128x768 .f32)

/-- What the step leaves in the buffer of `dq`. -/
theorem work_dq (hc0 : ¬first i) (hc1 : work i) (hc2 : ¬last i) (f : arg10.view.ty.Contents (Elt F)) :
    arg10.view.read (Elt F) (arg10.view.writes (Elt F) f (runWork c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs0 xs1 hc0 hc1 hc2).1) = dqB (BitVec.ofNat 32 (i 1).val) x0 x1 x2 x3 x4 x5 x6 x7 := by
  have T := fun (h : Fin 6) {off : Fin 2 → ℕ} (inb : ∀ a, off a + S128x128.size a ≤ S128x768.size a) (h0 : off 0 = 0) (h1 : off 1 = 128 * h.val) => dq_tile harg2 harg3 harg4 harg5 harg6 harg7 harg8 harg9 x0 x1 x2 x3 x4 x5 x6 x7 (BitVec.ofNat 32 (i 1).val) h inb h0 h1
  exact read_of_pieces arg10.view f _ [_, _, _, _, _, _] []
    ⟨T 5 inb_S128x768_S128x128_0_640 rfl rfl, T 4 inb_S128x768_S128x128_0_512 rfl rfl, T 3 inb_S128x768_S128x128_0_384 rfl rfl, T 2 inb_S128x768_S128x128_0_256 rfl rfl, T 1 inb_S128x768_S128x128_0_128 rfl rfl, T 0 inb_S128x768_S128x128_0_0 rfl rfl, True.intro⟩
    (View.cover_of_tiledL _ S128x128.size (by sl_kernel_rfl))

/-- What the step leaves in the buffer of `dk`. -/
theorem work_dk (hc0 : ¬first i) (hc1 : work i) (hc2 : ¬last i) (f : arg11.view.ty.Contents (Elt F)) :
    arg11.view.read (Elt F) (arg11.view.writes (Elt F) f (runWork c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs0 xs1 hc0 hc1 hc2).2.1) = dkB (BitVec.ofNat 32 (i 1).val) x0 x1 x2 x3 x4 x5 x6 x7 xs0 := by
  have T := fun (h : Fin 6) {off : Fin 2 → ℕ} (inb : ∀ a, off a + S128x128.size a ≤ S128x768.size a) (h0 : off 0 = 0) (h1 : off 1 = 128 * h.val) => dk_tile harg2 harg3 harg4 harg5 harg6 harg7 harg8 harg9 x0 x1 x2 x3 x4 x5 x6 x7 xs0 (BitVec.ofNat 32 (i 1).val) h inb h0 h1
  exact read_of_pieces arg11.view f _ [_, _, _, _, _, _] []
    ⟨fun x => T 5 inb_S128x768_S128x128_0_640 rfl rfl x _ (load_lanes harg13 xs0 5 inb_S128x768_S128x128_0_640 rfl rfl), fun x => T 4 inb_S128x768_S128x128_0_512 rfl rfl x _ (load_lanes harg13 xs0 4 inb_S128x768_S128x128_0_512 rfl rfl), fun x => T 3 inb_S128x768_S128x128_0_384 rfl rfl x _ (load_lanes harg13 xs0 3 inb_S128x768_S128x128_0_384 rfl rfl), fun x => T 2 inb_S128x768_S128x128_0_256 rfl rfl x _ (load_lanes harg13 xs0 2 inb_S128x768_S128x128_0_256 rfl rfl), fun x => T 1 inb_S128x768_S128x128_0_128 rfl rfl x _ (load_lanes harg13 xs0 1 inb_S128x768_S128x128_0_128 rfl rfl), fun x => T 0 inb_S128x768_S128x128_0_0 rfl rfl x _ (load_lanes harg13 xs0 0 inb_S128x768_S128x128_0_0 rfl rfl), True.intro⟩
    (View.cover_of_tiledL _ S128x128.size (by sl_kernel_rfl))

/-- What the step leaves in the buffer of `dv`. -/
theorem work_dv (hc0 : ¬first i) (hc1 : work i) (hc2 : ¬last i) (f : arg12.view.ty.Contents (Elt F)) :
    arg12.view.read (Elt F) (arg12.view.writes (Elt F) f (runWork c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs0 xs1 hc0 hc1 hc2).2.2.1) = dvB (BitVec.ofNat 32 (i 1).val) x0 x1 x2 x5 x6 xs1 := by
  have T := fun (h : Fin 6) {off : Fin 2 → ℕ} (inb : ∀ a, off a + S128x128.size a ≤ S128x768.size a) (h0 : off 0 = 0) (h1 : off 1 = 128 * h.val) => dv_tile harg2 harg3 harg4 harg7 harg8 x0 x1 x2 x5 x6 xs1 (BitVec.ofNat 32 (i 1).val) h inb h0 h1
  exact read_of_pieces arg12.view f _ [_, _, _, _, _, _] []
    ⟨fun x => T 5 inb_S128x768_S128x128_0_640 rfl rfl x _ (load_lanes harg14 xs1 5 inb_S128x768_S128x128_0_640 rfl rfl), fun x => T 4 inb_S128x768_S128x128_0_512 rfl rfl x _ (load_lanes harg14 xs1 4 inb_S128x768_S128x128_0_512 rfl rfl), fun x => T 3 inb_S128x768_S128x128_0_384 rfl rfl x _ (load_lanes harg14 xs1 3 inb_S128x768_S128x128_0_384 rfl rfl), fun x => T 2 inb_S128x768_S128x128_0_256 rfl rfl x _ (load_lanes harg14 xs1 2 inb_S128x768_S128x128_0_256 rfl rfl), fun x => T 1 inb_S128x768_S128x128_0_128 rfl rfl x _ (load_lanes harg14 xs1 1 inb_S128x768_S128x128_0_128 rfl rfl), fun x => T 0 inb_S128x768_S128x128_0_0 rfl rfl x _ (load_lanes harg14 xs1 0 inb_S128x768_S128x128_0_0 rfl rfl), True.intro⟩
    (View.cover_of_tiledL _ S128x128.size (by sl_kernel_rfl))

/-- What the step leaves in the buffer of `ck`. -/
theorem work_ck (hc0 : ¬first i) (hc1 : work i) (hc2 : ¬last i) (f : arg13.view.ty.Contents (Elt F)) :
    arg13.view.read (Elt F) (arg13.view.writes (Elt F) f (runWork c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs0 xs1 hc0 hc1 hc2).2.2.2.1) = ckB (BitVec.ofNat 32 (i 1).val) x0 x1 x2 x3 x4 x5 x6 x7 := by
  have T := fun (h : Fin 6) {off : Fin 2 → ℕ} (inb : ∀ a, off a + S128x128.size a ≤ S128x768.size a) (h0 : off 0 = 0) (h1 : off 1 = 128 * h.val) => ck_tile harg2 harg3 harg4 harg5 harg6 harg7 harg8 harg9 x0 x1 x2 x3 x4 x5 x6 x7 (BitVec.ofNat 32 (i 1).val) h inb h0 h1
  exact read_of_pieces arg13.view f _ [_, _, _, _, _, _] []
    ⟨T 5 inb_S128x768_S128x128_0_640 rfl rfl, T 4 inb_S128x768_S128x128_0_512 rfl rfl, T 3 inb_S128x768_S128x128_0_384 rfl rfl, T 2 inb_S128x768_S128x128_0_256 rfl rfl, T 1 inb_S128x768_S128x128_0_128 rfl rfl, T 0 inb_S128x768_S128x128_0_0 rfl rfl, True.intro⟩
    (View.cover_of_tiledL _ S128x128.size (by sl_kernel_rfl))

/-- What the step leaves in the buffer of `cv`. -/
theorem work_cv (hc0 : ¬first i) (hc1 : work i) (hc2 : ¬last i) (f : arg14.view.ty.Contents (Elt F)) :
    arg14.view.read (Elt F) (arg14.view.writes (Elt F) f (runWork c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs0 xs1 hc0 hc1 hc2).2.2.2.2.1) = cvB (BitVec.ofNat 32 (i 1).val) x0 x1 x2 x5 x6 := by
  have T := fun (h : Fin 6) {off : Fin 2 → ℕ} (inb : ∀ a, off a + S128x128.size a ≤ S128x768.size a) (h0 : off 0 = 0) (h1 : off 1 = 128 * h.val) => cv_tile harg2 harg3 harg4 harg7 harg8 x0 x1 x2 x5 x6 (BitVec.ofNat 32 (i 1).val) h inb h0 h1
  exact read_of_pieces arg14.view f _ [_, _, _, _, _, _] []
    ⟨T 5 inb_S128x768_S128x128_0_640 rfl rfl, T 4 inb_S128x768_S128x128_0_512 rfl rfl, T 3 inb_S128x768_S128x128_0_384 rfl rfl, T 2 inb_S128x768_S128x128_0_256 rfl rfl, T 1 inb_S128x768_S128x128_0_128 rfl rfl, T 0 inb_S128x768_S128x128_0_0 rfl rfl, True.intro⟩
    (View.cover_of_tiledL _ S128x128.size (by sl_kernel_rfl))

/-- What the step leaves in the buffer of `dq`. -/
theorem first_dq (hc0 : first i) (hc1 : work i) (hc2 : ¬last i) (f : arg10.view.ty.Contents (Elt F)) :
    arg10.view.read (Elt F) (arg10.view.writes (Elt F) f (runFirst c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7  hc0 hc1 hc2).1) = dqB (BitVec.ofNat 32 (i 1).val) x0 x1 x2 x3 x4 x5 x6 x7 := by
  have T := fun (h : Fin 6) {off : Fin 2 → ℕ} (inb : ∀ a, off a + S128x128.size a ≤ S128x768.size a) (h0 : off 0 = 0) (h1 : off 1 = 128 * h.val) => dq_tile harg2 harg3 harg4 harg5 harg6 harg7 harg8 harg9 x0 x1 x2 x3 x4 x5 x6 x7 (BitVec.ofNat 32 (i 1).val) h inb h0 h1
  exact read_of_pieces arg10.view f _ [_, _, _, _, _, _] []
    ⟨T 5 inb_S128x768_S128x128_0_640 rfl rfl, T 4 inb_S128x768_S128x128_0_512 rfl rfl, T 3 inb_S128x768_S128x128_0_384 rfl rfl, T 2 inb_S128x768_S128x128_0_256 rfl rfl, T 1 inb_S128x768_S128x128_0_128 rfl rfl, T 0 inb_S128x768_S128x128_0_0 rfl rfl, True.intro⟩
    (View.cover_of_tiledL _ S128x128.size (by sl_kernel_rfl))

/-- What the step leaves in the buffer of `dk`. -/
theorem first_dk (hc0 : first i) (hc1 : work i) (hc2 : ¬last i) (f : arg11.view.ty.Contents (Elt F)) :
    arg11.view.read (Elt F) (arg11.view.writes (Elt F) f (runFirst c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7  hc0 hc1 hc2).2.1) = dkB (BitVec.ofNat 32 (i 1).val) x0 x1 x2 x3 x4 x5 x6 x7 zeroB := by
  have T := fun (h : Fin 6) {off : Fin 2 → ℕ} (inb : ∀ a, off a + S128x128.size a ≤ S128x768.size a) (h0 : off 0 = 0) (h1 : off 1 = 128 * h.val) => dk_tile harg2 harg3 harg4 harg5 harg6 harg7 harg8 harg9 x0 x1 x2 x3 x4 x5 x6 x7 zeroB (BitVec.ofNat 32 (i 1).val) h inb h0 h1
  exact read_of_pieces arg11.view f _ [_, _, _, _, _, _] []
    ⟨fun x => T 5 inb_S128x768_S128x128_0_640 rfl rfl x _ ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_fill _ _ _ _ _ (by decide)).trans (by rfl))))))), fun x => T 4 inb_S128x768_S128x128_0_512 rfl rfl x _ ((View.readCov_skip _ _ _ _ _ (by decide)).trans ((View.readCov_skip _ _ _ _ _ (by decide)).trans ((View.readCov_skip _ _ _ _ _ (by decide)).trans ((View.readCov_skip _ _ _ _ _ (by decide)).trans ((View.readCov_fill _ _ _ _ _ (by decide)).trans (by rfl)))))), fun x => T 3 inb_S128x768_S128x128_0_384 rfl rfl x _ ((View.readCov_skip _ _ _ _ _ (by decide)).trans ((View.readCov_skip _ _ _ _ _ (by decide)).trans ((View.readCov_skip _ _ _ _ _ (by decide)).trans ((View.readCov_fill _ _ _ _ _ (by decide)).trans (by rfl))))), fun x => T 2 inb_S128x768_S128x128_0_256 rfl rfl x _ ((View.readCov_skip _ _ _ _ _ (by decide)).trans ((View.readCov_skip _ _ _ _ _ (by decide)).trans ((View.readCov_fill _ _ _ _ _ (by decide)).trans (by rfl)))), fun x => T 1 inb_S128x768_S128x128_0_128 rfl rfl x _ ((View.readCov_skip _ _ _ _ _ (by decide)).trans ((View.readCov_fill _ _ _ _ _ (by decide)).trans (by rfl))), fun x => T 0 inb_S128x768_S128x128_0_0 rfl rfl x _ ((View.readCov_fill _ _ _ _ _ (by decide)).trans (by rfl)), True.intro⟩
    (View.cover_of_tiledL _ S128x128.size (by sl_kernel_rfl))

/-- What the step leaves in the buffer of `dv`. -/
theorem first_dv (hc0 : first i) (hc1 : work i) (hc2 : ¬last i) (f : arg12.view.ty.Contents (Elt F)) :
    arg12.view.read (Elt F) (arg12.view.writes (Elt F) f (runFirst c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7  hc0 hc1 hc2).2.2.1) = dvB (BitVec.ofNat 32 (i 1).val) x0 x1 x2 x5 x6 zeroB := by
  have T := fun (h : Fin 6) {off : Fin 2 → ℕ} (inb : ∀ a, off a + S128x128.size a ≤ S128x768.size a) (h0 : off 0 = 0) (h1 : off 1 = 128 * h.val) => dv_tile harg2 harg3 harg4 harg7 harg8 x0 x1 x2 x5 x6 zeroB (BitVec.ofNat 32 (i 1).val) h inb h0 h1
  exact read_of_pieces arg12.view f _ [_, _, _, _, _, _] []
    ⟨fun x => T 5 inb_S128x768_S128x128_0_640 rfl rfl x _ ((View.readCov_skip _ _ _ _ _ (by decide)).trans ((View.readCov_skip _ _ _ _ _ (by decide)).trans ((View.readCov_skip _ _ _ _ _ (by decide)).trans ((View.readCov_skip _ _ _ _ _ (by decide)).trans ((View.readCov_skip _ _ _ _ _ (by decide)).trans ((View.readCov_fill _ _ _ _ _ (by decide)).trans (by rfl))))))), fun x => T 4 inb_S128x768_S128x128_0_512 rfl rfl x _ ((View.readCov_skip _ _ _ _ _ (by decide)).trans ((View.readCov_skip _ _ _ _ _ (by decide)).trans ((View.readCov_skip _ _ _ _ _ (by decide)).trans ((View.readCov_skip _ _ _ _ _ (by decide)).trans ((View.readCov_fill _ _ _ _ _ (by decide)).trans (by rfl)))))), fun x => T 3 inb_S128x768_S128x128_0_384 rfl rfl x _ ((View.readCov_skip _ _ _ _ _ (by decide)).trans ((View.readCov_skip _ _ _ _ _ (by decide)).trans ((View.readCov_skip _ _ _ _ _ (by decide)).trans ((View.readCov_fill _ _ _ _ _ (by decide)).trans (by rfl))))), fun x => T 2 inb_S128x768_S128x128_0_256 rfl rfl x _ ((View.readCov_skip _ _ _ _ _ (by decide)).trans ((View.readCov_skip _ _ _ _ _ (by decide)).trans ((View.readCov_fill _ _ _ _ _ (by decide)).trans (by rfl)))), fun x => T 1 inb_S128x768_S128x128_0_128 rfl rfl x _ ((View.readCov_skip _ _ _ _ _ (by decide)).trans ((View.readCov_fill _ _ _ _ _ (by decide)).trans (by rfl))), fun x => T 0 inb_S128x768_S128x128_0_0 rfl rfl x _ ((View.readCov_fill _ _ _ _ _ (by decide)).trans (by rfl)), True.intro⟩
    (View.cover_of_tiledL _ S128x128.size (by sl_kernel_rfl))

/-- What the step leaves in the buffer of `ck`. -/
theorem first_ck (hc0 : first i) (hc1 : work i) (hc2 : ¬last i) (f : arg13.view.ty.Contents (Elt F)) :
    arg13.view.read (Elt F) (arg13.view.writes (Elt F) f (runFirst c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7  hc0 hc1 hc2).2.2.2.1) = ckB (BitVec.ofNat 32 (i 1).val) x0 x1 x2 x3 x4 x5 x6 x7 := by
  have T := fun (h : Fin 6) {off : Fin 2 → ℕ} (inb : ∀ a, off a + S128x128.size a ≤ S128x768.size a) (h0 : off 0 = 0) (h1 : off 1 = 128 * h.val) => ck_tile harg2 harg3 harg4 harg5 harg6 harg7 harg8 harg9 x0 x1 x2 x3 x4 x5 x6 x7 (BitVec.ofNat 32 (i 1).val) h inb h0 h1
  exact read_of_pieces arg13.view f _ [_, _, _, _, _, _] [_]
    ⟨T 5 inb_S128x768_S128x128_0_640 rfl rfl, T 4 inb_S128x768_S128x128_0_512 rfl rfl, T 3 inb_S128x768_S128x128_0_384 rfl rfl, T 2 inb_S128x768_S128x128_0_256 rfl rfl, T 1 inb_S128x768_S128x128_0_128 rfl rfl, T 0 inb_S128x768_S128x128_0_0 rfl rfl, True.intro⟩
    (View.cover_of_tiledL _ S128x128.size (by sl_kernel_rfl))

/-- What the step leaves in the buffer of `cv`. -/
theorem first_cv (hc0 : first i) (hc1 : work i) (hc2 : ¬last i) (f : arg14.view.ty.Contents (Elt F)) :
    arg14.view.read (Elt F) (arg14.view.writes (Elt F) f (runFirst c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7  hc0 hc1 hc2).2.2.2.2.1) = cvB (BitVec.ofNat 32 (i 1).val) x0 x1 x2 x5 x6 := by
  have T := fun (h : Fin 6) {off : Fin 2 → ℕ} (inb : ∀ a, off a + S128x128.size a ≤ S128x768.size a) (h0 : off 0 = 0) (h1 : off 1 = 128 * h.val) => cv_tile harg2 harg3 harg4 harg7 harg8 x0 x1 x2 x5 x6 (BitVec.ofNat 32 (i 1).val) h inb h0 h1
  exact read_of_pieces arg14.view f _ [_, _, _, _, _, _] [_]
    ⟨T 5 inb_S128x768_S128x128_0_640 rfl rfl, T 4 inb_S128x768_S128x128_0_512 rfl rfl, T 3 inb_S128x768_S128x128_0_384 rfl rfl, T 2 inb_S128x768_S128x128_0_256 rfl rfl, T 1 inb_S128x768_S128x128_0_128 rfl rfl, T 0 inb_S128x768_S128x128_0_0 rfl rfl, True.intro⟩
    (View.cover_of_tiledL _ S128x128.size (by sl_kernel_rfl))

end Cert.KernelIdeal.Da

end
-- ==== Proof.Launch.lean ====
/- The proof data of the backward kernel's pipeline, the body's triple at every grid point, and the launch: the whole program runs and every
   array ends at what the proof data says. -/
module

public import proofs.«01_k».proof.Proof.Pieces
public import proofs.«01_k».proof.Proof.Gen.KernelIdeal.Frame
public import proofs.«01_k».proof.Proof.Gen.KernelIdeal.Points
public import Idealize.ShloMosaic.Lib.Claim

@[expose] public section

set_option maxRecDepth 16384

noncomputable section

namespace Cert.KernelIdeal.Da

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The current buffers of the windows -/

abbrev ms0 (t : Fin cfg0.N) := win0_0.stage (cfg0.slots t 0)
theorem hs0 (t : Fin cfg0.N) : (ms0 t).IsWhole := hstage0_0 ((cfg0.slots t 0).cast nbuf0_0)
abbrev ms1 (t : Fin cfg0.N) := win0_1.stage (cfg0.slots t 1)
theorem hs1 (t : Fin cfg0.N) : (ms1 t).IsWhole := hstage0_1 ((cfg0.slots t 1).cast nbuf0_1)
abbrev ms2 (t : Fin cfg0.N) := win0_2.stage (cfg0.slots t 2)
theorem hs2 (t : Fin cfg0.N) : (ms2 t).IsWhole := hstage0_2 ((cfg0.slots t 2).cast nbuf0_2)
abbrev ms3 (t : Fin cfg0.N) := win0_3.stage (cfg0.slots t 3)
theorem hs3 (t : Fin cfg0.N) : (ms3 t).IsWhole := hstage0_3 ((cfg0.slots t 3).cast nbuf0_3)
abbrev ms4 (t : Fin cfg0.N) := win0_4.stage (cfg0.slots t 4)
theorem hs4 (t : Fin cfg0.N) : (ms4 t).IsWhole := hstage0_4 ((cfg0.slots t 4).cast nbuf0_4)
abbrev ms5 (t : Fin cfg0.N) := win0_5.stage (cfg0.slots t 5)
theorem hs5 (t : Fin cfg0.N) : (ms5 t).IsWhole := hstage0_5 ((cfg0.slots t 5).cast nbuf0_5)
abbrev ms6 (t : Fin cfg0.N) := win0_6.stage (cfg0.slots t 6)
theorem hs6 (t : Fin cfg0.N) : (ms6 t).IsWhole := hstage0_6 ((cfg0.slots t 6).cast nbuf0_6)
abbrev ms7 (t : Fin cfg0.N) := win0_7.stage (cfg0.slots t 7)
theorem hs7 (t : Fin cfg0.N) : (ms7 t).IsWhole := hstage0_7 ((cfg0.slots t 7).cast nbuf0_7)
abbrev ms8 (t : Fin cfg0.N) := win0_8.stage (cfg0.slots t 8)
theorem hs8 (t : Fin cfg0.N) : (ms8 t).IsWhole := hstage0_8 ((cfg0.slots t 8).cast nbuf0_8)
abbrev ms9 (t : Fin cfg0.N) := win0_9.stage (cfg0.slots t 9)
theorem hs9 (t : Fin cfg0.N) : (ms9 t).IsWhole := hstage0_9 ((cfg0.slots t 9).cast nbuf0_9)
abbrev ms10 (t : Fin cfg0.N) := win0_10.stage (cfg0.slots t 10)
theorem hs10 (t : Fin cfg0.N) : (ms10 t).IsWhole := hstage0_10 ((cfg0.slots t 10).cast nbuf0_10)

/-! ## What every step leaves -/

/-- The block number of a point, as the body reads it. -/
abbrev word (t : Fin cfg0.N) : BitVec 32 := BitVec.ofNat 32 (grid0.coords t 1).val

/-- The carried gradients of the current block of keys and of values before point `n`. -/
def ckOf (c : Dev nD) : ℕ → Vec F S128x768 .f32
  | 0 => zeroB
  | n + 1 => if h : n < 32 then (fun t : Fin cfg0.N => ckB (word t) (iblk m c 0 t) (iblk m c 1 t) (iblk m c 2 t) (iblk m c 3 t) (iblk m c 4 t) (iblk m c 5 t) (iblk m c 6 t) (iblk m c 7 t)) ⟨n, lt_trans h (by decide +kernel)⟩ else ckOf c n
def cvOf (c : Dev nD) : ℕ → Vec F S128x768 .f32
  | 0 => zeroB
  | n + 1 => if h : n < 32 then (fun t : Fin cfg0.N => cvB (word t) (iblk m c 0 t) (iblk m c 1 t) (iblk m c 2 t) (iblk m c 5 t) (iblk m c 6 t)) ⟨n, lt_trans h (by decide +kernel)⟩ else cvOf c n

/-- The queries' gradient of the block of point `t`. -/
def dqOf (c : Dev nD) (t : Fin cfg0.N) : Vec F S128x768 .bf16 := dqB (word t) (iblk m c 0 t) (iblk m c 1 t) (iblk m c 2 t) (iblk m c 3 t) (iblk m c 4 t) (iblk m c 5 t) (iblk m c 6 t) (iblk m c 7 t)
/-- The last step with a block of queries, up to `t`. -/
def upTo (t : Fin cfg0.N) : Fin cfg0.N := ⟨min t.val 31, lt_of_le_of_lt (Nat.min_le_left _ _) t.isLt⟩
/-- The late outputs of point `t`. -/
def dkOf (c : Dev nD) (t : Fin cfg0.N) : Vec F S128x768 .bf16 :=
  if t.val < 32 then dkB (word t) (iblk m c 0 t) (iblk m c 1 t) (iblk m c 2 t) (iblk m c 3 t) (iblk m c 4 t) (iblk m c 5 t) (iblk m c 6 t) (iblk m c 7 t) (ckOf m c t.val) else k0_pay4 (ckOf m c t.val)
def dvOf (c : Dev nD) (t : Fin cfg0.N) : Vec F S128x768 .bf16 :=
  if t.val < 32 then dvB (word t) (iblk m c 0 t) (iblk m c 1 t) (iblk m c 2 t) (iblk m c 5 t) (iblk m c 6 t) (cvOf m c t.val) else k0_pay5 (cvOf m c t.val)

theorem ckOf_work (c : Dev nD) (t : Fin cfg0.N) (h : t.val < 32) : ckOf m c (t.val + 1) = ckB (word t) (iblk m c 0 t) (iblk m c 1 t) (iblk m c 2 t) (iblk m c 3 t) (iblk m c 4 t) (iblk m c 5 t) (iblk m c 6 t) (iblk m c 7 t) := by
  unfold ckOf; rw [dif_pos h]
theorem cvOf_work (c : Dev nD) (t : Fin cfg0.N) (h : t.val < 32) : cvOf m c (t.val + 1) = cvB (word t) (iblk m c 0 t) (iblk m c 1 t) (iblk m c 2 t) (iblk m c 5 t) (iblk m c 6 t) := by
  unfold cvOf; rw [dif_pos h]
theorem ckOf_last (c : Dev nD) (t : Fin cfg0.N) (h : ¬t.val < 32) : ckOf m c (t.val + 1) = ckOf m c t.val := by
  conv_lhs => unfold ckOf
  rw [dif_neg h]
theorem cvOf_last (c : Dev nD) (t : Fin cfg0.N) (h : ¬t.val < 32) : cvOf m c (t.val + 1) = cvOf m c t.val := by
  conv_lhs => unfold cvOf
  rw [dif_neg h]

/-- What is held beside the windows before point `n`. -/
def PhiS (c : Dev nD) : ℕ → sProp 𝕄
  | 0 => Pipeline.ΦA spec0 c
  | n + 1 => iprop(iprop(owns (c : Thread nD τ) ckM fullShare (ckOf m c (n + 1)) ∗ owns (c : Thread nD τ) cvM fullShare (cvOf m c (n + 1))) ∗ (∃ r, prngReg c r))

theorem PhiS_pos (c : Dev nD) (n : ℕ) (h : n ≠ 0) :
    PhiS m c n = iprop(iprop(owns (c : Thread nD τ) ckM fullShare (ckOf m c n) ∗ owns (c : Thread nD τ) cvM fullShare (cvOf m c n)) ∗ (∃ r, prngReg c r)) := by
  cases n with
  | zero => exact absurd rfl h
  | succ n => rfl

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t | ⟨1, _⟩ => iblk m c 1 t | ⟨2, _⟩ => iblk m c 2 t | ⟨3, _⟩ => iblk m c 3 t
    | ⟨4, _⟩ => iblk m c 4 t | ⟨5, _⟩ => iblk m c 5 t | ⟨6, _⟩ => iblk m c 6 t | ⟨7, _⟩ => iblk m c 7 t
    | ⟨8, _⟩ => dqOf m c (upTo t) | ⟨9, _⟩ => dkOf m c t | ⟨10, _⟩ => dvOf m c t
  Φ t := PhiS m c t.val
  q w := Pipeline.shareOf spec0 w
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d
theorem before7 (c : Dev nD) (t : Fin cfg0.N) (d) : (dats m 0 c).before 7 t d = iblk m c 7 t :=
  before0_7_of m (dats m 0 c) (A_eq m c 7) (fun t => by dsimp only [dats]) t d

/-! ## Which windows a step leaves alone: only the queries' gradient, at the last point -/

theorem live_in (w : Fin cfg0.W) (h : w.val < 8) (t : Fin cfg0.N) : cfg0.idle w (grid0.coords t) = false :=
  match w, h with
  | ⟨0, _⟩, _ => rfl | ⟨1, _⟩, _ => rfl | ⟨2, _⟩, _ => rfl | ⟨3, _⟩, _ => rfl
  | ⟨4, _⟩, _ => rfl | ⟨5, _⟩, _ => rfl | ⟨6, _⟩, _ => rfl | ⟨7, _⟩, _ => rfl
theorem live8 : ∀ t : Fin cfg0.N, t.val < 32 → cfg0.idle 8 (grid0.coords t) = false := by decide +kernel
theorem idle8 : ∀ t : Fin cfg0.N, ¬t.val < 32 → cfg0.idle 8 (grid0.coords t) = true ∧ (cfg0.win 8).flush t = true ∧ (cfg0.win 8).fetch t = false
    ∧ (cfg0.win 8).flush ⟨t.val - 1, Nat.lt_of_le_of_lt (Nat.sub_le _ _) t.isLt⟩ = false := by decide +kernel
theorem live9 : ∀ t : Fin cfg0.N, cfg0.idle 9 (grid0.coords t) = false := by decide +kernel
theorem live10 : ∀ t : Fin cfg0.N, cfg0.idle 10 (grid0.coords t) = false := by decide +kernel

/-- A window the step stores into, or an input, is left at the proof data's contents. -/
theorem leaves_live (c : Dev nD) (w : Fin cfg0.W) (t : Fin cfg0.N) (h : cfg0.idle w (grid0.coords t) = false) :
    (dats (F := F) m 0 c).leavesExact w t = owns (c : Thread nD τ) ((cfg0.win w).stage (cfg0.slots t w)) fullShare ((dats m 0 c).after w t) := by
  unfold Dat.leavesExact; rw [show cfg0.idle w (cfg0.grid.coords t) = false from h]

/-- At the last point the queries' gradient still holds the block of the point before, and is written back. -/
theorem before8_last (c : Dev nD) (t : Fin cfg0.N) (h : ¬t.val < 32) (d) : (dats m 0 c).before 8 t d = dqOf m c (upTo t) := by
  have hN : t.val < 33 := lt_of_lt_of_eq t.isLt (show cfg0.N = 33 from N_0)
  obtain ⟨_, _, hf, hf'⟩ := idle8 t h
  rw [(dats m 0 c).before_of_pos 8 t (by omega) hf, hf', if_neg Bool.false_ne_true]
  unfold Dat.left
  have hl := live8 ⟨t.val - 1, Nat.lt_of_le_of_lt (Nat.sub_le _ _) t.isLt⟩ (by show t.val - 1 < 32; omega)
  rw [show cfg0.idle 8 (cfg0.grid.coords ⟨t.val - 1, Nat.lt_of_le_of_lt (Nat.sub_le _ _) t.isLt⟩) = false from hl]
  show (dats m 0 c).kept 8 _ d = _
  unfold Dat.kept
  refine (Pipeline.fill_of_clip_none 8 _ (fun _ => rfl) _ ((dats m 0 c).after 8 ⟨t.val - 1, Nat.lt_of_le_of_lt (Nat.sub_le _ _) t.isLt⟩) _).trans ?_
  rw [Window.fill_cut]
  show dqOf m c (upTo _) = _
  refine congrArg (dqOf m c) (Fin.ext ?_)
  show min (t.val - 1) 31 = min t.val 31
  omega

theorem leaves8_last (c : Dev nD) (t : Fin cfg0.N) (h : ¬t.val < 32) :
    (dats (F := F) m 0 c).leavesExact 8 t = owns (c : Thread nD τ) (ms8 t) fullShare (dqOf m c (upTo t)) := by
  obtain ⟨hi, hf, _, _⟩ := idle8 t h
  unfold Dat.leavesExact; rw [show cfg0.idle 8 (cfg0.grid.coords t) = true from hi, hf]; rfl

theorem upTo_work (t : Fin cfg0.N) (h : t.val < 32) : upTo t = t := Fin.ext (by show min t.val 31 = t.val; omega)

/-! ## The body's triple at a point -/

/-- What the body finds, and what it leaves. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- The last step hands the carried sums out. -/
theorem last_dk (c : Dev nD) (i : grid0.Coords)
(arg2 : Memref sig .tc .vmem S128x768 .bf16) (harg2 : arg2.IsWhole)
  (arg3 : Memref sig .tc .vmem S128x768 .bf16) (harg3 : arg3.IsWhole)
  (arg4 : Memref sig .tc .vmem S128x768 .bf16) (harg4 : arg4.IsWhole)
  (arg5 : Memref sig .tc .vmem S128x768 .bf16) (harg5 : arg5.IsWhole)
  (arg6 : Memref sig .tc .vmem S128x768 .bf16) (harg6 : arg6.IsWhole)
  (arg7 : Memref sig .tc .vmem S128x768 .bf16) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S128x768 .bf16) (harg10 : arg10.IsWhole)
  (arg11 : Memref sig .tc .vmem S128x768 .bf16) (harg11 : arg11.IsWhole)
  (arg12 : Memref sig .tc .vmem S128x768 .bf16) (harg12 : arg12.IsWhole)
  (arg13 : Memref sig .tc .vmem S128x768 .f32) (harg13 : arg13.IsWhole)
  (arg14 : Memref sig .tc .vmem S128x768 .f32) (harg14 : arg14.IsWhole)
  (x0 x1 x2 x3 x4 x5 : Vec F S128x768 .bf16) (x6 x7 : Vec F S128x128 .f32) (xs0 xs1 : Vec F S128x768 .f32)
  (hc0 : ¬first i) (hc1 : ¬work i) (hc2 : last i) (y : Vec F S128x768 .bf16) (f : arg11.view.ty.Contents (Elt F)) :
    arg11.view.read (Elt F) (arg11.view.writes (Elt F) f (runLast c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs0 xs1 hc0 hc1 hc2 y).1) = k0_pay4 xs0 := by
  refine (View.read_writes_eq_canon _ f _ (View.cover_of_tiledL _ S128x768.size (by sl_kernel_rfl))).trans ?_
  refine (View.canon_unit_zero (S := S128x768) (off := ![0, 0]) (funext fun a => by revert a; decide) inb_S128x768_S128x768_0_0 _).trans ?_
  exact congrArg k0_pay4 (load_whole harg13 xs0 inb_S128x768_S128x768_0_0 (by decide))
theorem last_dv (c : Dev nD) (i : grid0.Coords)
(arg2 : Memref sig .tc .vmem S128x768 .bf16) (harg2 : arg2.IsWhole)
  (arg3 : Memref sig .tc .vmem S128x768 .bf16) (harg3 : arg3.IsWhole)
  (arg4 : Memref sig .tc .vmem S128x768 .bf16) (harg4 : arg4.IsWhole)
  (arg5 : Memref sig .tc .vmem S128x768 .bf16) (harg5 : arg5.IsWhole)
  (arg6 : Memref sig .tc .vmem S128x768 .bf16) (harg6 : arg6.IsWhole)
  (arg7 : Memref sig .tc .vmem S128x768 .bf16) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S128x768 .bf16) (harg10 : arg10.IsWhole)
  (arg11 : Memref sig .tc .vmem S128x768 .bf16) (harg11 : arg11.IsWhole)
  (arg12 : Memref sig .tc .vmem S128x768 .bf16) (harg12 : arg12.IsWhole)
  (arg13 : Memref sig .tc .vmem S128x768 .f32) (harg13 : arg13.IsWhole)
  (arg14 : Memref sig .tc .vmem S128x768 .f32) (harg14 : arg14.IsWhole)
  (x0 x1 x2 x3 x4 x5 : Vec F S128x768 .bf16) (x6 x7 : Vec F S128x128 .f32) (xs0 xs1 : Vec F S128x768 .f32)
  (hc0 : ¬first i) (hc1 : ¬work i) (hc2 : last i) (y : Vec F S128x768 .bf16) (f : arg12.view.ty.Contents (Elt F)) :
    arg12.view.read (Elt F) (arg12.view.writes (Elt F) f (runLast c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs0 xs1 hc0 hc1 hc2 y).2.1) = k0_pay5 xs1 := by
  refine (View.read_writes_eq_canon _ f _ (View.cover_of_tiledL _ S128x768.size (by sl_kernel_rfl))).trans ?_
  refine (View.canon_unit_zero (S := S128x768) (off := ![0, 0]) (funext fun a => by revert a; decide) inb_S128x768_S128x768_0_0 _).trans ?_
  exact congrArg k0_pay5 (load_whole harg14 xs1 inb_S128x768_S128x768_0_0 (by decide))

set_option maxHeartbeats 4000000 in
/-- The body at any point: the run of its case, over the blocks the windows hold. -/
theorem body_point (c : Dev nD) (t : Fin cfg0.N) :
    bodyPre m c t ⊢ wp frame (wpE (defs₀ (F := F)) Variants.none c none) Set.univ (bodyAt0 t) (fun _ => bodyPost m c t) := by
  have hN : t.val < 33 := lt_of_lt_of_eq t.isLt (show cfg0.N = 33 from N_0)
  unfold bodyPre bodyPost bodyAt0
  simp only [before0, before1, before2, before3, before4, before5, before6, before7]
  rw [show (dats m 0 c).owesAt () t.succ = (dats m 0 c).owesAt () t.castSucc from rfl,
    show (dats m 0 c).Φ t.succ = PhiS m c (t.val + 1) from rfl, PhiS_pos m c (t.val + 1) (by omega),
    show (dats m 0 c).Φ t.castSucc = PhiS m c t.val from rfl]
  rw [leaves_live m c 0 t rfl, leaves_live m c 1 t rfl, leaves_live m c 2 t rfl, leaves_live m c 3 t rfl, leaves_live m c 4 t rfl,
    leaves_live m c 5 t rfl, leaves_live m c 6 t rfl, leaves_live m c 7 t rfl, leaves_live m c 9 t (live9 t), leaves_live m c 10 t (live10 t)]
  by_cases hz : t.val = 0
  · have hw : t.val < 32 := by omega
    rw [show PhiS m c t.val = PhiS m c 0 from by rw [hz], show PhiS m c 0 = Pipeline.ΦA spec0 c from rfl, PhiA_eq]
    rw [leaves_live m c 8 t (live8 t hw), ckOf_work m c t hw, cvOf_work m c t hw]
    rw [show (dats m 0 c).after 8 t = dqOf m c t from congrArg (dqOf m c) (upTo_work t hw), show (dats m 0 c).after 9 t = _ from if_pos hw, show (dats m 0 c).after 10 t = _ from if_pos hw]
    rw [show ckOf m c t.val = zeroB from by rw [hz]; rfl, show cvOf m c t.val = zeroB from by rw [hz]; rfl]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t) ((first_iff t).mpr hz) ((work_iff t).mpr hw) (fun h => by have := (last_iff t).mp h; omega)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, ⟨%e8, H8⟩, ⟨%e9, H9⟩, ⟨%e10, H10⟩, ⟨%es0, HS0⟩, ⟨%es1, HS1⟩⟩
    isplitl [HS0 HS1 Hg]
    · isplitl [HS0 HS1]
      · isplitl [HS0]
        · unfold owns; iexists _; isplitr; swap; · iexact HS0
          ipureintro; exact first_ck c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t)  ((first_iff t).mpr hz) ((work_iff t).mpr hw) (fun h => by have := (last_iff t).mp h; omega) _
        unfold owns; iexists _; isplitr; swap; · iexact HS1
        ipureintro; exact first_cv c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t)  ((first_iff t).mpr hz) ((work_iff t).mpr hw) (fun h => by have := (last_iff t).mp h; omega) _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr; swap; · iexact H8
      ipureintro; exact first_dq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t)  ((first_iff t).mpr hz) ((work_iff t).mpr hw) (fun h => by have := (last_iff t).mp h; omega) _
    isplitl [H9]
    · unfold owns; iexists _; isplitr; swap; · iexact H9
      ipureintro; exact first_dk c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t)  ((first_iff t).mpr hz) ((work_iff t).mpr hw) (fun h => by have := (last_iff t).mp h; omega) _
    unfold owns; iexists _; isplitr; swap; · iexact H10
    ipureintro; exact first_dv c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t)  ((first_iff t).mpr hz) ((work_iff t).mpr hw) (fun h => by have := (last_iff t).mp h; omega) _
  by_cases hw : t.val < 32
  · rw [PhiS_pos m c _ hz]
    rw [leaves_live m c 8 t (live8 t hw), ckOf_work m c t hw, cvOf_work m c t hw]
    rw [show (dats m 0 c).after 8 t = dqOf m c t from congrArg (dqOf m c) (upTo_work t hw), show (dats m 0 c).after 9 t = _ from if_pos hw, show (dats m 0 c).after 10 t = _ from if_pos hw]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runWork c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t) (ckOf m c t.val) (cvOf m c t.val) ((fun h => hz ((first_iff t).mp h))) ((work_iff t).mpr hw) (fun h => by have := (last_iff t).mp h; omega)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, ⟨%e8, H8⟩, ⟨%e9, H9⟩, ⟨%e10, H10⟩, ⟨%es0, HS0⟩, ⟨%es1, HS1⟩⟩
    isplitl [HS0 HS1 Hg]
    · isplitl [HS0 HS1]
      · isplitl [HS0]
        · unfold owns; iexists _; isplitr; swap; · iexact HS0
          ipureintro; exact work_ck c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t) (ckOf m c t.val) (cvOf m c t.val)  ((fun h => hz ((first_iff t).mp h))) ((work_iff t).mpr hw) (fun h => by have := (last_iff t).mp h; omega) _
        unfold owns; iexists _; isplitr; swap; · iexact HS1
        ipureintro; exact work_cv c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t) (ckOf m c t.val) (cvOf m c t.val)  ((fun h => hz ((first_iff t).mp h))) ((work_iff t).mpr hw) (fun h => by have := (last_iff t).mp h; omega) _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr; swap; · iexact H8
      ipureintro; exact work_dq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t) (ckOf m c t.val) (cvOf m c t.val)  ((fun h => hz ((first_iff t).mp h))) ((work_iff t).mpr hw) (fun h => by have := (last_iff t).mp h; omega) _
    isplitl [H9]
    · unfold owns; iexists _; isplitr; swap; · iexact H9
      ipureintro; exact work_dk c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t) (ckOf m c t.val) (cvOf m c t.val)  ((fun h => hz ((first_iff t).mp h))) ((work_iff t).mpr hw) (fun h => by have := (last_iff t).mp h; omega) _
    unfold owns; iexists _; isplitr; swap; · iexact H10
    ipureintro; exact work_dv c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t) (ckOf m c t.val) (cvOf m c t.val)  ((fun h => hz ((first_iff t).mp h))) ((work_iff t).mpr hw) (fun h => by have := (last_iff t).mp h; omega) _
  rw [PhiS_pos m c _ hz]
  simp only [before8_last m c t hw]
  rw [leaves8_last m c t hw, ckOf_last m c t hw, cvOf_last m c t hw]
  rw [show (dats m 0 c).after 9 t = k0_pay4 (ckOf m c t.val) from if_neg hw, show (dats m 0 c).after 10 t = k0_pay5 (cvOf m c t.val) from if_neg hw]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t) (ckOf m c t.val) (cvOf m c t.val) ((fun h => hz ((first_iff t).mp h))) (fun h => hw ((work_iff t).mp h)) ((last_iff t).mpr (by omega)) (dqOf m c (upTo t))).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexact HS0
  isplitl [HS1]; · iexact HS1
  iintro ⟨H0, H1, H2, H3, H4, H5, H6, H7, H8, ⟨%e9, H9⟩, ⟨%e10, H10⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexact H8
  isplitl [H9]
  · unfold owns; iexists _; isplitr; swap; · iexact H9
    ipureintro; exact last_dk c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t) (ckOf m c t.val) (cvOf m c t.val)  ((fun h => hz ((first_iff t).mp h))) (fun h => hw ((work_iff t).mp h)) ((last_iff t).mpr (by omega)) (dqOf m c (upTo t)) _
  unfold owns; iexists _; isplitr; swap; · iexact H10
  ipureintro; exact last_dv c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) ckM (Memref.isWhole_whole _) cvM (Memref.isWhole_whole _) (iblk m c 0 t) (iblk m c 1 t) (iblk m c 2 t) (iblk m c 3 t) (iblk m c 4 t) (iblk m c 5 t) (iblk m c 6 t) (iblk m c 7 t) (ckOf m c t.val) (cvOf m c t.val)  ((fun h => hz ((first_iff t).mp h))) (fun h => hw ((work_iff t).mp h)) ((last_iff t).mpr (by omega)) (dqOf m c (upTo t)) _

/-! ## The launch -/

theorem body_ok (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (body_point m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N from rfl, PhiS_pos m c _ (by have : cfg0.N = 33 := N_0; omega), PhiA_eq]
  iintro ⟨⟨HS0, HS1⟩, Hg⟩
  isplitl [HS0 HS1]
  · isplitl [HS0]
    · iexists _; iexact HS0
    iexists _; iexact HS1
  iexact Hg

set_option backward.isDefEq.respectTransparency.types false in
/-- Every run of the program ends, with every array at what the proof data says and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments end unchanged, and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) (run_main m ρ)) ((θ_run defs _ _).mono (fun _ h => h.2) (run_quiet m ρ))

end Cert.KernelIdeal.Da

end
-- ==== Proof.Host.lean ====
/- What the host code before the kernel's region computes: the two arrays of 128 lanes that the kernel's last two inputs read. The host code
   repeats the reference's forward operations, so its values are named after the reference's. -/
module

public import proofs.«01_k».proof.Proof.Gen.KernelIdeal.Frame
public import proofs.«01_k».proof.Proof.Gen.ReferenceIdeal.Read

@[expose] public section

set_option maxRecDepth 16384
set_option maxHeartbeats 4000000

noncomputable section

namespace Cert.KernelIdeal.Da

open Idealize.ShloMosaic Idealize.ShloMosaic.TcCoe Idealize.ShloMosaic.Tactic StableHlo
open Cert.KernelIdeal Cert.KernelIdeal.Gen Cert.ReferenceIdeal.Read

variable {F : FTy → Type} [FloatOps F] [Named F]

/-! ## The mixture of the three branches -/

/-- The largest of the three log-denominators. -/
def mixMax (a b c : Vec F S1x4096x12 .f32) : Vec F S1x4096x12 .f32 := maximumf (maximumf a b) c
/-- One branch's share before the division. -/
def mixExp (m a : Vec F S1x4096x12 .f32) : Vec F S1x4096x12 .f32 := Host.exp (subf a m)
/-- The sum of the three shares. -/
def mixSum (a b c : Vec F S1x4096x12 .f32) : Vec F S1x4096x12 .f32 :=
  addf (addf (mixExp (mixMax a b c) a) (mixExp (mixMax a b c) b)) (mixExp (mixMax a b c) c)
/-- The log-denominator of the mixture. -/
def mixLse (a b c : Vec F S1x4096x12 .f32) : Vec F S1x4096x12 .f32 := addf (mixMax a b c) (Host.log (mixSum a b c))
/-- One branch's output times its weight. -/
def mixTerm (a b c l : Vec F S1x4096x12 .f32) (o : Vec F S1x4096x12x64 .f32) : Vec F S1x4096x12x64 .f32 :=
  mulf (broadcastInDim S1x4096x12x64 ![0, 1, 2, 3] bcast_S1x4096x12x1_S1x4096x12x64_0_1_2_3
    (broadcastInDim S1x4096x12x1 ![0, 1, 2] bcast_S1x4096x12_S1x4096x12x1_0_1_2 (Host.divf (mixExp (mixMax a b c) l) (mixSum a b c)))) o
/-- The mixture's output, rounded. -/
def mixOut (a b c : Vec F S1x4096x12 .f32) (o1 o2 o3 : Vec F S1x4096x12x64 .f32) : Vec F S1x4096x12x64 .f32 :=
  extf .f32 (truncf .bf16 (addf (addf (mixTerm a b c a o1) (mixTerm a b c b o2)) (mixTerm a b c c o3)) bitsLt_bf16_f32) bitsLt_bf16_f32
/-- The rows' sums of output times cotangent. -/
def mixDelta (g : Vec F S4096x768 .bf16) (a b c : Vec F S1x4096x12 .f32) (o1 o2 o3 : Vec F S1x4096x12x64 .f32) : Vec F S1x4096x12 .f32 :=
  Host.reduceAdd (mulf (shapeCast S1x4096x12x64 (extf .f32 g bitsLt_bf16_f32) shapeCasts_S4096x768_S1x4096x12x64) (mixOut a b c o1 o2 o3))
    (constant S_ .f32 0x00000000#32) reducesTo_S1x4096x12x64_S1x4096x12_d3 h_S_
/-- Twelve columns in the first lanes of 128, the other lanes zero. -/
def lanesV (x : Vec F S1x4096x12 .f32) : Vec F S4096x128 .f32 :=
  pad S4096x128 ![0, 0] ![0, 116] ![0, 0] (shapeCast S4096x12 x shapeCasts_S1x4096x12_S4096x12) (sitofp .f32 (constantI S_ 32 0#32)) pads_S4096x12_S4096x128_000_01160 h_S_

/-- The subsequence of one residue class, at rate 1 the array itself. -/
def subseqV (t : Vec F S1x4096x12x64 .f32) : Vec F S1x4096x12x64 .f32 :=
  shapeCast S1x4096x12x64 (transpose S1x1x4096x12x64 [0, 2, 1, 3, 4] (shapeCast S1x4096x1x12x64 t shapeCasts_S1x4096x12x64_S1x4096x1x12x64)
    transposes_S1x4096x1x12x64_S1x1x4096x12x64_0_2_1_3_4) shapeCasts_S1x1x4096x12x64_S1x4096x12x64
/-- The previous and the current block of every block. -/
def bandV (t : Vec F S1x4096x12x64 .f32) : Vec F S1x32x256x12x64 .f32 :=
  concatenate S1x32x256x12x64 2
    [⟨S1x32x128x12x64, shapeCast S1x32x128x12x64 (extractStridedSlice S1x4096x12x64 ![0, 0, 0, 0]
        (concatenate S1x4224x12x64 1 [⟨S1x128x12x64, broadcastInDim S1x128x12x64 ![] bcast_S_S1x128x12x64 (constant S_ .f32 0x00000000#32)⟩, ⟨S1x4096x12x64, subseqV t⟩]
          concatenates_S1x128x12x64_S1x4096x12x64_S1x4224x12x64_d1) slices_S1x4224x12x64_S1x4096x12x64_0_0_0_0) shapeCasts_S1x4096x12x64_S1x32x128x12x64⟩,
      ⟨S1x32x128x12x64, shapeCast S1x32x128x12x64 (subseqV t) shapeCasts_S1x4096x12x64_S1x32x128x12x64⟩]
    concatenates_S1x32x128x12x64_S1x32x128x12x64_S1x32x256x12x64_d2

/-! ## The host code in windows -/

section Windows

variable (W : Valuation τ sig (Elt F))

local notation "at_" r => Proc.devRef (τ := τ) Proc.tc r

def opsA : List (HloOp τ sig (Elt F)) := hostOps0.take 32
def opsB : List (HloOp τ sig (Elt F)) := (hostOps0.drop 32).take 24
def opsC : List (HloOp τ sig (Elt F)) := (hostOps0.drop 56).take 26
def opsD : List (HloOp τ sig (Elt F)) := hostOps0.drop 82
def opsG : List (HloOp τ sig (Elt F)) := hostOps0_2.take 25
def opsH : List (HloOp τ sig (Elt F)) := hostOps0_2.drop 25

theorem A_keep_arg1 : after opsA W (Proc.devRef .tc main_arg1) = W (Proc.devRef .tc main_arg1) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem A_keep_arg2 : after opsA W (Proc.devRef .tc main_arg2) = W (Proc.devRef .tc main_arg2) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem A_keep_arg3 : after opsA W (Proc.devRef .tc main_arg3) = W (Proc.devRef .tc main_arg3) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem A_keep_arg4 : after opsA W (Proc.devRef .tc main_arg4) = W (Proc.devRef .tc main_arg4) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem A_keep_arg5 : after opsA W (Proc.devRef .tc main_arg5) = W (Proc.devRef .tc main_arg5) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem B_keep_arg1 : after opsB W (Proc.devRef .tc main_arg1) = W (Proc.devRef .tc main_arg1) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem B_keep_arg2 : after opsB W (Proc.devRef .tc main_arg2) = W (Proc.devRef .tc main_arg2) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem B_keep_arg3 : after opsB W (Proc.devRef .tc main_arg3) = W (Proc.devRef .tc main_arg3) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem B_keep_arg4 : after opsB W (Proc.devRef .tc main_arg4) = W (Proc.devRef .tc main_arg4) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem B_keep_arg5 : after opsB W (Proc.devRef .tc main_arg5) = W (Proc.devRef .tc main_arg5) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem B_keep_v19 : after opsB W (Proc.devRef .tc main_v19) = W (Proc.devRef .tc main_v19) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem C_keep_arg1 : after opsC W (Proc.devRef .tc main_arg1) = W (Proc.devRef .tc main_arg1) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem C_keep_arg2 : after opsC W (Proc.devRef .tc main_arg2) = W (Proc.devRef .tc main_arg2) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem C_keep_arg3 : after opsC W (Proc.devRef .tc main_arg3) = W (Proc.devRef .tc main_arg3) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem C_keep_arg4 : after opsC W (Proc.devRef .tc main_arg4) = W (Proc.devRef .tc main_arg4) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem C_keep_arg5 : after opsC W (Proc.devRef .tc main_arg5) = W (Proc.devRef .tc main_arg5) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem C_keep_v19 : after opsC W (Proc.devRef .tc main_v19) = W (Proc.devRef .tc main_v19) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem C_keep_v41 : after opsC W (Proc.devRef .tc main_v41) = W (Proc.devRef .tc main_v41) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem D_keep_arg1 : after opsD W (Proc.devRef .tc main_arg1) = W (Proc.devRef .tc main_arg1) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem D_keep_arg2 : after opsD W (Proc.devRef .tc main_arg2) = W (Proc.devRef .tc main_arg2) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem D_keep_arg3 : after opsD W (Proc.devRef .tc main_arg3) = W (Proc.devRef .tc main_arg3) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem D_keep_arg4 : after opsD W (Proc.devRef .tc main_arg4) = W (Proc.devRef .tc main_arg4) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem D_keep_arg5 : after opsD W (Proc.devRef .tc main_arg5) = W (Proc.devRef .tc main_arg5) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem D_keep_v41 : after opsD W (Proc.devRef .tc main_v41) = W (Proc.devRef .tc main_v41) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem E_keep_arg1 : after hostOps0_1 W (Proc.devRef .tc main_arg1) = W (Proc.devRef .tc main_arg1) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem E_keep_arg2 : after hostOps0_1 W (Proc.devRef .tc main_arg2) = W (Proc.devRef .tc main_arg2) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem E_keep_arg3 : after hostOps0_1 W (Proc.devRef .tc main_arg3) = W (Proc.devRef .tc main_arg3) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem E_keep_arg4 : after hostOps0_1 W (Proc.devRef .tc main_arg4) = W (Proc.devRef .tc main_arg4) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem E_keep_arg5 : after hostOps0_1 W (Proc.devRef .tc main_arg5) = W (Proc.devRef .tc main_arg5) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem E_keep_v41 : after hostOps0_1 W (Proc.devRef .tc main_v41) = W (Proc.devRef .tc main_v41) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem G_keep_arg1 : after opsG W (Proc.devRef .tc main_arg1) = W (Proc.devRef .tc main_arg1) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem G_keep_arg2 : after opsG W (Proc.devRef .tc main_arg2) = W (Proc.devRef .tc main_arg2) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem G_keep_arg3 : after opsG W (Proc.devRef .tc main_arg3) = W (Proc.devRef .tc main_arg3) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem G_keep_arg4 : after opsG W (Proc.devRef .tc main_arg4) = W (Proc.devRef .tc main_arg4) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem G_keep_arg5 : after opsG W (Proc.devRef .tc main_arg5) = W (Proc.devRef .tc main_arg5) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem I_keep_v144 : after hostOps0_3 W (Proc.devRef .tc main_v144) = W (Proc.devRef .tc main_v144) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem J_keep_v146 : after (hostOps0_4 ++ hostOps0_5) W (Proc.devRef .tc main_v146) = W (Proc.devRef .tc main_v146) := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp

theorem A_v2 (x0 : (⟨S4096x2304, .bf16⟩ : BufTy).Contents (Elt F)) (harg0 : W (Proc.devRef .tc main_arg0) = x0) :
    after opsA W (Proc.devRef .tc main_v2) = val_main_v2 (F := F) x0 := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  simp only [harg0] <;> rfl

theorem A_v4 (x0 : (⟨S4096x2304, .bf16⟩ : BufTy).Contents (Elt F)) (harg0 : W (Proc.devRef .tc main_arg0) = x0) :
    after opsA W (Proc.devRef .tc main_v4) = val_main_v4 (F := F) x0 := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  simp only [harg0] <;> rfl

theorem A_v6 (x0 : (⟨S4096x2304, .bf16⟩ : BufTy).Contents (Elt F)) (harg0 : W (Proc.devRef .tc main_arg0) = x0) :
    after opsA W (Proc.devRef .tc main_v6) = val_main_v6 (F := F) x0 := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  simp only [harg0] <;> rfl

theorem A_v19   :
    after opsA W (Proc.devRef .tc main_v19) = val_main_v19 (F := F) := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  rfl

theorem B_v29 (x0 : (⟨S4096x2304, .bf16⟩ : BufTy).Contents (Elt F)) (hv2 : W (Proc.devRef .tc main_v2) = val_main_v2 (F := F) x0) :
    after opsB W (Proc.devRef .tc main_v29) = val_main_v29 (F := F) x0 := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  simp only [hv2] <;> rfl

theorem B_v35 (x0 : (⟨S4096x2304, .bf16⟩ : BufTy).Contents (Elt F)) (hv4 : W (Proc.devRef .tc main_v4) = val_main_v4 (F := F) x0) :
    after opsB W (Proc.devRef .tc main_v35) = val_main_v36 (F := F) x0 := by
  refine Eq.trans (b := bandV (W (Proc.devRef .tc main_v4))) ?_ (by rw [hv4]; rfl)
  simp only [opsB, hostOps0, List.take_succ_cons, List.take_zero, List.drop_succ_cons, List.drop_zero, List.take_nil]
  after_results
  rfl

theorem B_v41 (x0 : (⟨S4096x2304, .bf16⟩ : BufTy).Contents (Elt F)) (hv6 : W (Proc.devRef .tc main_v6) = val_main_v6 (F := F) x0) :
    after opsB W (Proc.devRef .tc main_v41) = val_main_v43 (F := F) x0 := by
  refine Eq.trans (b := bandV (W (Proc.devRef .tc main_v6))) ?_ (by rw [hv6]; rfl)
  simp only [opsB, hostOps0, List.take_succ_cons, List.take_zero, List.drop_succ_cons, List.drop_zero, List.take_nil]
  after_results
  rfl

theorem C_v44 (x0 : (⟨S4096x2304, .bf16⟩ : BufTy).Contents (Elt F)) (hv29 : W (Proc.devRef .tc main_v29) = val_main_v29 (F := F) x0) (hv35 : W (Proc.devRef .tc main_v35) = val_main_v36 (F := F) x0) :
    after opsC W (Proc.devRef .tc main_v44) = val_main_v46 (F := F) x0 := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  simp only [hv29, hv35] <;> rfl

theorem C_v53   :
    after opsC W (Proc.devRef .tc main_v53) = val_main_v55 (F := F) := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  rfl

theorem C_v63   :
    after opsC W (Proc.devRef .tc main_v63) = val_main_v65 (F := F) := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  rfl

theorem D_v85  (hv53 : W (Proc.devRef .tc main_v53) = val_main_v55 (F := F)) (hv63 : W (Proc.devRef .tc main_v63) = val_main_v65 (F := F)) :
    after opsD W (Proc.devRef .tc main_v85) = val_main_v87 (F := F) := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  simp only [hv53, hv63] <;> rfl

theorem D_v88 (x0 : (⟨S4096x2304, .bf16⟩ : BufTy).Contents (Elt F)) (hv53 : W (Proc.devRef .tc main_v53) = val_main_v55 (F := F)) (hv44 : W (Proc.devRef .tc main_v44) = val_main_v46 (F := F) x0) (hv19 : W (Proc.devRef .tc main_v19) = val_main_v19 (F := F)) :
    after opsD W (Proc.devRef .tc main_v88) = val_main_v90 (F := F) x0 := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  simp only [hv53, hv44, hv19] <;> rfl

theorem D_cst_20   :
    after opsD W (Proc.devRef .tc main_cst_20) = val_main_cst_22 (F := F) := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  rfl

theorem E_v89 (x0 : (⟨S4096x2304, .bf16⟩ : BufTy).Contents (Elt F)) (hv85 : W (Proc.devRef .tc main_v85) = val_main_v87 (F := F)) (hv88 : W (Proc.devRef .tc main_v88) = val_main_v90 (F := F) x0) (hcst_20 : W (Proc.devRef .tc main_cst_20) = val_main_cst_22 (F := F)) :
    after hostOps0_1 W (Proc.devRef .tc main_v89) = val_main_v91_0 (F := F) x0 := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  simp only [hv85, hv88, hcst_20] <;> rfl

theorem G_v107 (x0 : (⟨S4096x2304, .bf16⟩ : BufTy).Contents (Elt F)) (hv89 : W (Proc.devRef .tc main_v89) = val_main_v91_0 (F := F) x0) (hv41 : W (Proc.devRef .tc main_v41) = val_main_v43 (F := F) x0) :
    after opsG W (Proc.devRef .tc main_v107) = val_main_v117 (F := F) x0 := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  simp only [hv89, hv41] <;> rfl

theorem G_v112 (x0 : (⟨S4096x2304, .bf16⟩ : BufTy).Contents (Elt F)) (hv89 : W (Proc.devRef .tc main_v89) = val_main_v91_0 (F := F) x0) :
    after opsG W (Proc.devRef .tc main_v112) = val_main_v122 (F := F) x0 := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  simp only [hv89] <;> rfl

theorem H_v145 (a b c : Vec F S1x4096x12 .f32) (hv112 : W (Proc.devRef .tc main_v112) = a) (harg3 : W (Proc.devRef .tc main_arg3) = b) (harg5 : W (Proc.devRef .tc main_arg5) = c) :
    after opsH W (Proc.devRef .tc main_v145) = shapeCast S4096x12 (mixLse a b c) shapeCasts_S1x4096x12_S4096x12 := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  simp only [hv112, harg3, harg5] <;> rfl

theorem H_v144 (g : (⟨S4096x768, .bf16⟩ : BufTy).Contents (Elt F)) (a b c : Vec F S1x4096x12 .f32) (o1 o2 o3 : Vec F S1x4096x12x64 .f32) (hv112 : W (Proc.devRef .tc main_v112) = a) (harg3 : W (Proc.devRef .tc main_arg3) = b) (harg5 : W (Proc.devRef .tc main_arg5) = c) (hv107 : W (Proc.devRef .tc main_v107) = o1) (harg2 : W (Proc.devRef .tc main_arg2) = o2) (harg4 : W (Proc.devRef .tc main_arg4) = o3) (harg1 : W (Proc.devRef .tc main_arg1) = g) :
    after opsH W (Proc.devRef .tc main_v144) = mixDelta g a b c o1 o2 o3 := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  simp only [hv112, harg3, harg5, hv107, harg2, harg4, harg1] <;> rfl

theorem H_c_24   :
    after opsH W (Proc.devRef .tc main_c_24) = constantI S_ 32 0#32 := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]

theorem I_v146 (x : Vec F S1x4096x12 .f32) (hv145 : W (Proc.devRef .tc main_v145) = shapeCast S4096x12 x shapeCasts_S1x4096x12_S4096x12) (hc_24 : W (Proc.devRef .tc main_c_24) = constantI S_ 32 0#32) :
    after hostOps0_3 W (Proc.devRef .tc main_v146) = lanesV x := by
  simp only [opsA, opsB, opsC, opsD, opsG, opsH, hostOps0, hostOps0_1, hostOps0_2, hostOps0_3, hostOps0_4, hostOps0_5, List.take_succ_cons, List.take_zero, List.drop_succ_cons, List.drop_zero, List.take_nil]
  after_results_simp
  try dsimp only [Matrix.cons_val]
  try after_results_simp
  simp only [hv145, hc_24] <;> rfl

theorem J_v148 (x : Vec F S1x4096x12 .f32) (hv144 : W (Proc.devRef .tc main_v144) = x) :
    after (hostOps0_4 ++ hostOps0_5) W (Proc.devRef .tc main_v148) = lanesV x := by
  simp only [opsA, opsB, opsC, opsD, opsG, opsH, hostOps0, hostOps0_1, hostOps0_2, hostOps0_3, hostOps0_4, hostOps0_5, List.take_succ_cons, List.take_zero, List.drop_succ_cons, List.drop_zero, List.take_nil, List.cons_append, List.nil_append]
  after_results_simp
  try dsimp only [Matrix.cons_val]
  try after_results_simp
  simp only [hv144] <;> rfl

end Windows

/-! ## The two arrays -/

variable (m : (ℓ : Loc nD τ sig) → Buf (Elt F) ℓ) (c : Dev nD)

theorem V_chain (b : Ref sig .tc) : V m c b = after (hostOps0_4 ++ hostOps0_5) (after hostOps0_3 (after opsH (after opsG (after hostOps0_1 (after opsD (after opsC (after opsB
    (after opsA (fun b => m (c, b)))))))))) (Proc.devRef .tc b) := rfl

/-- The arguments as launched. -/
abbrev a0 : (⟨S4096x2304, .bf16⟩ : BufTy).Contents (Elt F) := m ((c : Thread nD τ).loc main_arg0)
abbrev a1 : (⟨S4096x768, .bf16⟩ : BufTy).Contents (Elt F) := m ((c : Thread nD τ).loc main_arg1)
abbrev a2 : (⟨S1x4096x12x64, .f32⟩ : BufTy).Contents (Elt F) := m ((c : Thread nD τ).loc main_arg2)
abbrev a3 : (⟨S1x4096x12, .f32⟩ : BufTy).Contents (Elt F) := m ((c : Thread nD τ).loc main_arg3)
abbrev a4 : (⟨S1x4096x12x64, .f32⟩ : BufTy).Contents (Elt F) := m ((c : Thread nD τ).loc main_arg4)
abbrev a5 : (⟨S1x4096x12, .f32⟩ : BufTy).Contents (Elt F) := m ((c : Thread nD τ).loc main_arg5)

theorem V_lanes : V m c main_v146 = lanesV (mixLse (val_main_v122 (F := F) (a0 m c)) (a3 m c) (a5 m c))
    ∧ V m c main_v148 = lanesV (mixDelta (a1 m c) (val_main_v122 (F := F) (a0 m c)) (a3 m c) (a5 m c) (val_main_v117 (F := F) (a0 m c)) (a2 m c) (a4 m c)) := by
  rw [V_chain, V_chain]
  have hA2 := A_v2 (F := F) (fun b => m (c, b)) (a0 m c) rfl
  have hA4 := A_v4 (F := F) (fun b => m (c, b)) (a0 m c) rfl
  have hA6 := A_v6 (F := F) (fun b => m (c, b)) (a0 m c) rfl
  have hA19 := A_v19 (F := F) (fun b => m (c, b))
  have k1 := A_keep_arg1 (F := F) (fun b => m (c, b)); have k2 := A_keep_arg2 (F := F) (fun b => m (c, b)); have k3 := A_keep_arg3 (F := F) (fun b => m (c, b))
  have k4 := A_keep_arg4 (F := F) (fun b => m (c, b)); have k5 := A_keep_arg5 (F := F) (fun b => m (c, b))
  generalize after opsA (fun b => m (c, b)) = W at *
  have b29 := B_v29 W _ hA2; have b35 := B_v35 W _ hA4; have b41 := B_v41 W _ hA6; have b19 := (B_keep_v19 W).trans hA19
  replace k1 := (B_keep_arg1 W).trans k1; replace k2 := (B_keep_arg2 W).trans k2; replace k3 := (B_keep_arg3 W).trans k3
  replace k4 := (B_keep_arg4 W).trans k4; replace k5 := (B_keep_arg5 W).trans k5
  clear hA2 hA4 hA6 hA19
  generalize after opsB W = W at *
  have c44 := C_v44 W _ b29 b35; have c53 := C_v53 W; have c63 := C_v63 W; have c41 := (C_keep_v41 W).trans b41; have c19 := (C_keep_v19 W).trans b19
  replace k1 := (C_keep_arg1 W).trans k1; replace k2 := (C_keep_arg2 W).trans k2; replace k3 := (C_keep_arg3 W).trans k3
  replace k4 := (C_keep_arg4 W).trans k4; replace k5 := (C_keep_arg5 W).trans k5
  clear b29 b35 b41 b19
  generalize after opsC W = W at *
  have d85 := D_v85 W c53 c63; have d88 := D_v88 W _ c53 c44 c19; have dc := D_cst_20 W; have d41 := (D_keep_v41 W).trans c41
  replace k1 := (D_keep_arg1 W).trans k1; replace k2 := (D_keep_arg2 W).trans k2; replace k3 := (D_keep_arg3 W).trans k3
  replace k4 := (D_keep_arg4 W).trans k4; replace k5 := (D_keep_arg5 W).trans k5
  clear c44 c53 c63 c41 c19
  generalize after opsD W = W at *
  have e89 := E_v89 W _ d85 d88 dc; have e41 := (E_keep_v41 W).trans d41
  replace k1 := (E_keep_arg1 W).trans k1; replace k2 := (E_keep_arg2 W).trans k2; replace k3 := (E_keep_arg3 W).trans k3
  replace k4 := (E_keep_arg4 W).trans k4; replace k5 := (E_keep_arg5 W).trans k5
  clear d85 d88 dc d41
  generalize after hostOps0_1 W = W at *
  have g107 := G_v107 W _ e89 e41; have g112 := G_v112 W _ e89
  replace k1 := (G_keep_arg1 W).trans k1; replace k2 := (G_keep_arg2 W).trans k2; replace k3 := (G_keep_arg3 W).trans k3
  replace k4 := (G_keep_arg4 W).trans k4; replace k5 := (G_keep_arg5 W).trans k5
  clear e89 e41
  generalize after opsG W = W at *
  have h145 := H_v145 W _ _ _ g112 k3 k5
  have h144 := H_v144 W _ _ _ _ _ _ _ g112 k3 k5 g107 k2 k4 k1
  have h24 := H_c_24 W
  clear k1 k2 k3 k4 k5 g107 g112
  generalize after opsH W = W at *
  have i146 := I_v146 W _ h145 h24
  have i144 := (I_keep_v144 W).trans h144
  clear h145 h144 h24
  generalize after hostOps0_3 W = W at *
  exact ⟨(J_keep_v146 W).trans i146, J_v148 W _ i144⟩

end Cert.KernelIdeal.Da
-- ==== Proof.Reals.lean ====
/- The gradient of one branch of the attention over the real numbers: the scores, the weights, the mixture with two more branches, and the
   three gradients, as functions of arrays indexed by natural numbers. The facts about them used on both sides of the claim. -/
module

public import proofs.«01_k».proof.Proof.Tile

@[expose] public section

noncomputable section

namespace Cert.Da

open Idealize.ShloMosaic

/-! ## Real numbers among the extended ones -/

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem div_real {y : ℝ} (h : y ≠ 0) (x : ℝ) : Ideal.div (x : EReal) (y : EReal) = ((x / y : ℝ) : EReal) := by
  rw [Ideal.div_coe h, ← EReal.coe_mul, mul_one_div]

theorem log_real {x : ℝ} (h : 0 < x) : Ideal.log (x : EReal) = ((Real.log x : ℝ) : EReal) := by
  rw [Ideal.log_coe, if_neg (not_le.mpr h)]

theorem word_real (b : BitVec 32) (h : (b.extractLsb' 23 8).toNat ≠ 2 ^ 8 - 1) : ∃ r : ℝ, Ideal.ofBits .f32 b = (r : EReal) := by
  unfold Ideal.ofBits Ideal.ieee
  dsimp only
  rw [if_neg h]
  split
  · exact ⟨_, rfl⟩
  · exact ⟨_, rfl⟩

/-- The slope of head `h`'s distance penalty: the real number of its float word. -/
def slope (h : ℕ) : ℝ := (Ideal.ofBits .f32 (Cert.KernelIdeal.Da.slopeW h)).toReal

theorem slope_word (h : ℕ) : Ideal.ofBits .f32 (Cert.KernelIdeal.Da.slopeW h) = ((slope h : ℝ) : EReal) := by
  obtain ⟨r, hr⟩ : ∃ r : ℝ, Ideal.ofBits .f32 (Cert.KernelIdeal.Da.slopeW h) = (r : EReal) := by
    refine word_real _ ?_
    unfold Cert.KernelIdeal.Da.slopeW
    split <;> decide
  rw [slope, hr, EReal.toReal_coe]

theorem eighth_word : Ideal.ofBits .f32 0x3E000000#32 = ((1 / 8 : ℝ) : EReal) := by
  simp [Ideal.ofBits, Ideal.ieee]
  rw [← EReal.coe_mul]
  norm_num

theorem one_word : Ideal.ofBits .f32 0x3F800000#32 = ((1 : ℝ) : EReal) := by
  simp [Ideal.ofBits, Ideal.ieee]
  rw [← EReal.coe_mul]
  norm_num

theorem zero_word : Ideal.ofBits .f32 0x00000000#32 = ((0 : ℝ) : EReal) := by
  simp [Ideal.ofBits, Ideal.ieee]

theorem negInf_word : Ideal.ofBits .f32 0xFF800000#32 = (⊥ : EReal) := by
  simp [Ideal.ofBits, Ideal.ieee]

/-- A left fold of `max` from −∞ bounds every entry and, unless it is −∞, is one of them. -/
theorem foldl_max {ι : Type} (l : List ι) (f : ι → EReal) (z : EReal) :
    (∀ n ∈ l, f n ≤ l.foldl (fun r n => max r (f n)) z) ∧ z ≤ l.foldl (fun r n => max r (f n)) z
      ∧ (l.foldl (fun r n => max r (f n)) z = z ∨ ∃ n ∈ l, l.foldl (fun r n => max r (f n)) z = f n) := by
  induction l generalizing z with
  | nil => exact ⟨fun _ h => absurd h List.not_mem_nil, le_rfl, .inl rfl⟩
  | cons a l ih =>
    obtain ⟨h1, h2, h3⟩ := ih (max z (f a))
    refine ⟨fun n hn => ?_, le_trans (le_max_left _ _) h2, ?_⟩
    · rcases List.mem_cons.mp hn with rfl | hn
      · exact le_trans (le_max_right _ _) h2
      · exact h1 n hn
    · rcases h3 with h3 | ⟨n, hn, h3⟩
      · rcases max_choice z (f a) with hm | hm
        · left; rw [List.foldl_cons, h3, hm]
        · right; exact ⟨a, List.mem_cons_self, by rw [List.foldl_cons, h3, hm]⟩
      · right; exact ⟨n, List.mem_cons_of_mem _ hn, by rw [List.foldl_cons, h3]⟩

/-! ## The branch -/

section Branch

variable (X : ℕ → ℕ → ℝ)

/-- Queries, and the band of keys and of values of a block: the block before and the block itself, zero before the first. -/
def qv (n r h d : ℕ) : ℝ := X (128 * n + r) (64 * h + d)
def kb (n h κ d : ℕ) : ℝ := if 128 * n + κ < 128 then 0 else X (128 * n + κ - 128) (768 + (64 * h + d))
def vb (n h κ d : ℕ) : ℝ := if 128 * n + κ < 128 then 0 else X (128 * n + κ - 128) (1536 + (64 * h + d))

/-- Query `r` of block `n` sees key `κ` of the band. -/
def ok (n r κ : ℕ) : Prop := (r ≤ κ ∧ κ ≤ r + 128) ∧ 128 ≤ 128 * n + κ

instance (n r κ : ℕ) : Decidable (ok n r κ) := inferInstanceAs (Decidable (_ ∧ _))

/-- The score with its distance penalty. -/
def sc (n h r κ : ℕ) : ℝ := (∑ d : Fin 64, qv X n r h d * kb X n h κ d) * (1 / 8) + -slope h * ((r : ℝ) + 128 - κ)

variable (M : ℕ → ℕ → ℕ → ℝ)

/-- The exponentials below a row's reference point `M`, their sum, and the weights. -/
def ew (n h r κ : ℕ) : ℝ := if ok n r κ then Real.exp (sc X n h r κ - M n h r) else 0
def den (n h r : ℕ) : ℝ := ∑ κ : Fin 256, ew X M n h r κ
def wt (n h r κ : ℕ) : ℝ := ew X M n h r κ / den X M n h r
/-- The branch's output and log-denominator. -/
def out (n h r d : ℕ) : ℝ := ∑ κ : Fin 256, vb X n h κ d * wt X M n h r κ
def l1 (t h : ℕ) : ℝ := M (t / 128) h (t % 128) + Real.log (den X M (t / 128) h (t % 128))
def o1 (t h d : ℕ) : ℝ := out X M (t / 128) h (t % 128) d

theorem ew_nonneg (n h r κ : ℕ) : 0 ≤ ew X M n h r κ := by
  unfold ew; split
  · exact (Real.exp_pos _).le
  · exact le_rfl

theorem den_pos (n h r : ℕ) (hr : r < 128) : 0 < den X M n h r := by
  refine Finset.sum_pos' (fun κ _ => ew_nonneg X M n h r κ) ⟨⟨r + 128, by omega⟩, Finset.mem_univ _, ?_⟩
  unfold ew
  rw [if_pos (show ok n r (r + 128) from ⟨⟨by omega, by omega⟩, by omega⟩)]
  exact Real.exp_pos _

theorem sum_wt (n h r : ℕ) (hr : r < 128) : ∑ κ : Fin 256, wt X M n h r κ = 1 := by
  unfold wt
  rw [← Finset.sum_div]
  exact div_self (den_pos X M n h r hr).ne'

end Branch

/-! ## The mixture -/

section Mix

variable (X : ℕ → ℕ → ℝ) (M : ℕ → ℕ → ℕ → ℝ) (G : ℕ → ℕ → ℝ) (L2 L3 : ℕ → ℕ → ℝ) (O2 O3 : ℕ → ℕ → ℕ → ℝ)

/-- The mixture's denominator. -/
def Z (t h : ℕ) : ℝ := Real.exp (l1 X M t h) + Real.exp (L2 t h) + Real.exp (L3 t h)

theorem Z_pos (t h : ℕ) : 0 < Z X M L2 L3 t h := by unfold Z; positivity

/-- Branch `j`'s log-denominator and output. -/
def lj (j t h : ℕ) : ℝ := if j = 0 then l1 X M t h else if j = 1 then L2 t h else L3 t h
def oj (j t h d : ℕ) : ℝ := if j = 0 then o1 X M t h d else if j = 1 then O2 t h d else O3 t h d
/-- Branch `j`'s weight, and the cotangent against its output. -/
def wj (j t h : ℕ) : ℝ := Real.exp (lj X M L2 L3 j t h) / Z X M L2 L3 t h
def gv (t h d : ℕ) : ℝ := G t (64 * h + d)
def dj (j t h : ℕ) : ℝ := ∑ d : Fin 64, gv G t h d * oj X M O2 O3 j t h d
/-- The cotangent against the mixture's output. -/
def del (t h : ℕ) : ℝ := ∑ j : Fin 3, wj X M L2 L3 j t h * dj X M G O2 O3 j t h

theorem del_eq (t h : ℕ) : del X M G L2 L3 O2 O3 t h
    = ∑ d : Fin 64, gv G t h d * (wj X M L2 L3 0 t h * o1 X M t h d + wj X M L2 L3 1 t h * O2 t h d + wj X M L2 L3 2 t h * O3 t h d) := by
  unfold del dj
  rw [Fin.sum_univ_three, Finset.mul_sum, Finset.mul_sum, Finset.mul_sum, ← Finset.sum_add_distrib, ← Finset.sum_add_distrib]
  refine Finset.sum_congr rfl fun d _ => ?_
  simp only [oj, Fin.val_zero, Fin.val_one, Fin.val_two, if_true, one_ne_zero, if_false, OfNat.ofNat_ne_zero, OfNat.ofNat_ne_one]
  ring

/-- A branch's weight from exponentials below any reference point. -/
theorem share (m : ℝ) (j t h : ℕ) :
    Real.exp (lj X M L2 L3 j t h - m) / (∑ i : Fin 3, Real.exp (lj X M L2 L3 i t h - m)) = wj X M L2 L3 j t h := by
  unfold wj
  have e : (∑ i : Fin 3, Real.exp (lj X M L2 L3 i t h - m)) = Z X M L2 L3 t h * Real.exp (-m) := by
    rw [Fin.sum_univ_three]
    simp only [lj, Z, Fin.val_zero, Fin.val_one, Fin.val_two, if_true, one_ne_zero, if_false, OfNat.ofNat_ne_zero, OfNat.ofNat_ne_one, sub_eq_add_neg, Real.exp_add]
    ring
  rw [e, sub_eq_add_neg, Real.exp_add]
  exact mul_div_mul_right _ _ (Real.exp_pos _).ne'

/-- The gradient of the first branch's log-denominator. -/
theorem grad_lse (m : ℝ) (t h : ℕ) (tot : ℝ) (htot : tot = ∑ i : Fin 3, Real.exp (lj X M L2 L3 i t h - m)) (D : ℕ → ℝ)  :
    (D 0 / tot + -(∑ j : Fin 3, D j * (1 / (tot * tot)) * Real.exp (lj X M L2 L3 j t h - m))) * Real.exp (lj X M L2 L3 0 t h - m)
      = wj X M L2 L3 0 t h * (D 0 - ∑ j : Fin 3, wj X M L2 L3 j t h * D j) := by
  have hp : 0 < tot := by rw [htot, Fin.sum_univ_three]; positivity
  have e : ∀ j, wj X M L2 L3 j t h = Real.exp (lj X M L2 L3 j t h - m) / tot := fun j => by rw [htot, share]
  rw [Fin.sum_univ_three, Fin.sum_univ_three]
  simp only [e]
  field_simp
  ring

/-! ## The gradients -/

/-- The weight of a key in the whole mixture, its gradient, and the gradient of the score. -/
def pt (n h r κ : ℕ) : ℝ := if ok n r κ then Real.exp (sc X n h r κ - Real.log (Z X M L2 L3 (128 * n + r) h)) else 0
def dp (n h r κ : ℕ) : ℝ := ∑ d : Fin 64, gv G (128 * n + r) h d * vb X n h κ d
def DS (n h r κ : ℕ) : ℝ := pt X M L2 L3 n h r κ * (dp X G n h r κ - del X M G L2 L3 O2 O3 (128 * n + r) h) * (1 / 8)

theorem pt_of_not_ok (n h r κ : ℕ) (hk : ¬ok n r κ) : pt X M L2 L3 n h r κ = 0 := if_neg hk
theorem DS_of_not_ok (n h r κ : ℕ) (hk : ¬ok n r κ) : DS X M G L2 L3 O2 O3 n h r κ = 0 := by
  unfold DS; rw [pt_of_not_ok X M L2 L3 n h r κ hk]; ring

theorem pt_eq (n h r κ : ℕ) (hr : r < 128) : pt X M L2 L3 n h r κ = wt X M n h r κ * wj X M L2 L3 0 (128 * n + r) h := by
  have hd := den_pos X M n h r hr
  have hZ := Z_pos X M L2 L3 (128 * n + r) h
  have e1 : (128 * n + r) / 128 = n := by omega
  have e2 : (128 * n + r) % 128 = r := by omega
  unfold pt wt wj ew
  split
  · rw [Real.exp_sub, Real.exp_log hZ, lj, if_pos rfl, l1, e1, e2, Real.exp_add, Real.exp_log hd, Real.exp_sub]
    have := (Real.exp_pos (M n h r)).ne'
    field_simp
  · rw [zero_div, zero_mul]

/-- The outputs' cotangent against the first branch is the weights' against the values'. -/
theorem sum_dp_wt (n h r : ℕ) (hr : r < 128) :
    ∑ κ : Fin 256, dp X G n h r κ * wt X M n h r κ = dj X M G O2 O3 0 (128 * n + r) h := by
  have e1 : (128 * n + r) / 128 = n := by omega
  have e2 : (128 * n + r) % 128 = r := by omega
  unfold dp dj
  simp only [oj, if_true, o1, out, e1, e2, Finset.sum_mul, Finset.mul_sum]
  rw [Finset.sum_comm]
  refine Finset.sum_congr rfl fun d _ => Finset.sum_congr rfl fun κ _ => ?_
  ring

/-- The gradient of a score, as the transpose of the softmax with its log-denominator gives it. -/
theorem grad_score (n h r κ : ℕ) (hr : r < 128) (w gl : ℝ) (dw : ℕ → ℝ)
    (hw : w = wj X M L2 L3 0 (128 * n + r) h)
    (hdw : ∀ κ, dw κ = w * dp X G n h r κ)
    (hgl : gl = w * (dj X M G O2 O3 0 (128 * n + r) h - del X M G L2 L3 O2 O3 (128 * n + r) h)) :
    (dw κ / den X M n h r + (gl / den X M n h r
      + -(∑ k : Fin 256, dw k * (1 / (den X M n h r * den X M n h r)) * ew X M n h r k))) * ew X M n h r κ
      = pt X M L2 L3 n h r κ * (dp X G n h r κ - del X M G L2 L3 O2 O3 (128 * n + r) h) := by
  have hd := (den_pos X M n h r hr).ne'
  have e : (∑ k : Fin 256, dw k * (1 / (den X M n h r * den X M n h r)) * ew X M n h r k)
      = w * dj X M G O2 O3 0 (128 * n + r) h / den X M n h r := by
    rw [← sum_dp_wt X M G O2 O3 n h r hr, Finset.mul_sum, Finset.sum_div]
    refine Finset.sum_congr rfl fun k _ => ?_
    rw [hdw, wt]; field_simp
  rw [e, hdw, hgl, pt_eq X M L2 L3 n h r κ hr, ← hw, wt]
  field_simp
  ring

/-- The gradient of the log-denominator is spent on the scores: the rest is zero. -/
theorem grad_rest (n h r : ℕ) (hr : r < 128) (gl : ℝ)
    (hgl : gl = wj X M L2 L3 0 (128 * n + r) h * (dj X M G O2 O3 0 (128 * n + r) h - del X M G L2 L3 O2 O3 (128 * n + r) h)) :
    gl + (∑ κ : Fin 256, -(pt X M L2 L3 n h r κ * (dp X G n h r κ - del X M G L2 L3 O2 O3 (128 * n + r) h))) = 0 := by
  have e : ∀ κ : Fin 256, -(pt X M L2 L3 n h r κ * (dp X G n h r κ - del X M G L2 L3 O2 O3 (128 * n + r) h))
      = -wj X M L2 L3 0 (128 * n + r) h * (dp X G n h r κ * wt X M n h r κ)
        + wj X M L2 L3 0 (128 * n + r) h * del X M G L2 L3 O2 O3 (128 * n + r) h * wt X M n h r κ := fun κ => by
    rw [pt_eq X M L2 L3 n h r κ hr]; ring
  rw [Finset.sum_congr rfl fun κ _ => e κ, Finset.sum_add_distrib, ← Finset.mul_sum, ← Finset.mul_sum, sum_dp_wt X M G O2 O3 n h r hr, sum_wt X M n h r hr, hgl]
  ring

/-- The gradients of the queries, the keys and the values, at row `t` and lane `c`. -/
def dqR (t c : ℕ) : ℝ := ∑ κ : Fin 256, DS X M G L2 L3 O2 O3 (t / 128) (c / 64) (t % 128) κ * kb X (t / 128) (c / 64) κ (c % 64)
def dk2 (n h κ d : ℕ) : ℝ := ∑ r : Fin 128, DS X M G L2 L3 O2 O3 n h r κ * qv X n r h d
def dv2 (n h κ d : ℕ) : ℝ := ∑ r : Fin 128, pt X M L2 L3 n h r κ * gv G (128 * n + r) h d
def dkR (t c : ℕ) : ℝ := dk2 X M G L2 L3 O2 O3 (t / 128) (c / 64) (128 + t % 128) (c % 64)
  + if t / 128 < 31 then dk2 X M G L2 L3 O2 O3 (t / 128 + 1) (c / 64) (t % 128) (c % 64) else 0
def dvR (t c : ℕ) : ℝ := dv2 X M G L2 L3 (t / 128) (c / 64) (128 + t % 128) (c % 64)
  + if t / 128 < 31 then dv2 X M G L2 L3 (t / 128 + 1) (c / 64) (t % 128) (c % 64) else 0

end Mix

end Cert.Da
-- ==== Proof.RefFwd.lean ====
/- The reference's forward values over the real numbers, stage by stage: queries, the bands of keys and values, the mask, the scores, the
   row maxima, the weights, and the branch's output and log-denominator. -/
module

public import proofs.«01_k».proof.Proof.Gen.ReferenceIdeal.Read
public import proofs.«01_k».proof.Proof.Reals

@[expose] public section

set_option maxRecDepth 16384

noncomputable section

namespace Cert.Da

open Idealize.ShloMosaic Cert.ReferenceIdeal Cert.ReferenceIdeal.Gen Cert.ReferenceIdeal.Read

/-! ## Equal indices -/

theorem c2 (f : ℕ → ℕ → ℝ) {a a' b b' : ℕ} (ha : a = a') (hb : b = b') : ((f a b : ℝ) : EReal) = ((f a' b' : ℝ) : EReal) := by
  rw [ha, hb]
theorem c3 (f : ℕ → ℕ → ℕ → ℝ) {a a' b b' c c' : ℕ} (ha : a = a') (hb : b = b') (hc : c = c') :
    ((f a b c : ℝ) : EReal) = ((f a' b' c' : ℝ) : EReal) := by rw [ha, hb, hc]
theorem c4 (f : ℕ → ℕ → ℕ → ℕ → ℝ) {a a' b b' c c' d d' : ℕ} (ha : a = a') (hb : b = b') (hc : c = c') (hd : d = d') :
    ((f a b c d : ℝ) : EReal) = ((f a' b' c' d' : ℝ) : EReal) := by rw [ha, hb, hc, hd]

theorem bnd4 (i : S1x4096x12x64.Idx) : (i 0).val < 1 ∧ (i 1).val < 4096 ∧ (i 2).val < 12 ∧ (i 3).val < 64 :=
  ⟨(i 0).isLt, (i 1).isLt, (i 2).isLt, (i 3).isLt⟩
theorem bndQ (i : S1x32x128x12x64.Idx) : (i 0).val < 1 ∧ (i 1).val < 32 ∧ (i 2).val < 128 ∧ (i 3).val < 12 ∧ (i 4).val < 64 :=
  ⟨(i 0).isLt, (i 1).isLt, (i 2).isLt, (i 3).isLt, (i 4).isLt⟩
theorem bndK (i : S1x32x256x12x64.Idx) : (i 0).val < 1 ∧ (i 1).val < 32 ∧ (i 2).val < 256 ∧ (i 3).val < 12 ∧ (i 4).val < 64 :=
  ⟨(i 0).isLt, (i 1).isLt, (i 2).isLt, (i 3).isLt, (i 4).isLt⟩
theorem bndS (i : S1x32x12x128x256.Idx) : (i 0).val < 1 ∧ (i 1).val < 32 ∧ (i 2).val < 12 ∧ (i 3).val < 128 ∧ (i 4).val < 256 :=
  ⟨(i 0).isLt, (i 1).isLt, (i 2).isLt, (i 3).isLt, (i 4).isLt⟩
theorem bndR (i : S1x32x12x128.Idx) : (i 0).val < 1 ∧ (i 1).val < 32 ∧ (i 2).val < 12 ∧ (i 3).val < 128 :=
  ⟨(i 0).isLt, (i 1).isLt, (i 2).isLt, (i 3).isLt⟩
theorem bndR1 (i : S1x32x12x128x1.Idx) : (i 0).val < 1 ∧ (i 1).val < 32 ∧ (i 2).val < 12 ∧ (i 3).val < 128 ∧ (i 4).val < 1 :=
  ⟨(i 0).isLt, (i 1).isLt, (i 2).isLt, (i 3).isLt, (i 4).isLt⟩
theorem bndL (i : S1x4096x12.Idx) : (i 0).val < 1 ∧ (i 1).val < 4096 ∧ (i 2).val < 12 :=
  ⟨(i 0).isLt, (i 1).isLt, (i 2).isLt⟩
theorem bndC (i : S1x4224x12x64.Idx) : (i 0).val < 1 ∧ (i 1).val < 4224 ∧ (i 2).val < 12 ∧ (i 3).val < 64 :=
  ⟨(i 0).isLt, (i 1).isLt, (i 2).isLt, (i 3).isLt⟩

section Fwd

variable {x0 : (⟨S4096x2304, .bf16⟩ : BufTy).Contents (Elt Ideal)} {X : ℕ → ℕ → ℝ}
  (hX : ∀ j, x0 j = ((X (j 0).val (j 1).val : ℝ) : EReal))
include hX

/-! ## Queries, keys, values -/

theorem r2 (i : S1x4096x12x64.Idx) : val_main_v2 (F := Ideal) x0 i = ((X (i 1).val (64 * (i 2).val + (i 3).val) : ℝ) : EReal) := by
  obtain ⟨h0, h1, h2, h3⟩ := bnd4 i
  rw [val_main_v2_apply, val_main_v1_apply, val_main_v0_apply]
  simp only [Ideal.extf_def, hX]
  refine c2 X ?_ ?_ <;> omega

theorem r4 (i : S1x4096x12x64.Idx) : val_main_v4 (F := Ideal) x0 i = ((X (i 1).val (768 + (64 * (i 2).val + (i 3).val)) : ℝ) : EReal) := by
  obtain ⟨h0, h1, h2, h3⟩ := bnd4 i
  rw [val_main_v4_apply, val_main_v3_apply, val_main_v0_apply]
  simp only [Ideal.extf_def, hX]
  refine c2 X ?_ ?_ <;> omega

theorem r6 (i : S1x4096x12x64.Idx) : val_main_v6 (F := Ideal) x0 i = ((X (i 1).val (1536 + (64 * (i 2).val + (i 3).val)) : ℝ) : EReal) := by
  obtain ⟨h0, h1, h2, h3⟩ := bnd4 i
  rw [val_main_v6_apply, val_main_v5_apply, val_main_v0_apply]
  simp only [Ideal.extf_def, hX]
  refine c2 X ?_ ?_ <;> omega

theorem r22 (i : S1x4096x12x64.Idx) : val_main_v22 (F := Ideal) x0 i = ((X (i 1).val (64 * (i 2).val + (i 3).val) : ℝ) : EReal) := by
  obtain ⟨h0, h1, h2, h3⟩ := bnd4 i
  rw [val_main_v22_apply, val_main_v21_apply, val_main_v20_apply, r2 hX]
  refine c2 X ?_ ?_ <;> dsimp only [idx_main_v20, idx_main_v21, idx_main_v22] <;> omega

theorem r25 (i : S1x4096x12x64.Idx) : val_main_v25 (F := Ideal) x0 i = ((X (i 1).val (768 + (64 * (i 2).val + (i 3).val)) : ℝ) : EReal) := by
  obtain ⟨h0, h1, h2, h3⟩ := bnd4 i
  rw [val_main_v25_apply, val_main_v24_apply, val_main_v23_apply, r4 hX]
  refine c2 X ?_ ?_ <;> dsimp only [idx_main_v23, idx_main_v24, idx_main_v25] <;> omega

theorem r28 (i : S1x4096x12x64.Idx) : val_main_v28 (F := Ideal) x0 i = ((X (i 1).val (1536 + (64 * (i 2).val + (i 3).val)) : ℝ) : EReal) := by
  obtain ⟨h0, h1, h2, h3⟩ := bnd4 i
  rw [val_main_v28_apply, val_main_v27_apply, val_main_v26_apply, r6 hX]
  refine c2 X ?_ ?_ <;> dsimp only [idx_main_v26, idx_main_v27, idx_main_v28] <;> omega

theorem r29 (i : S1x32x128x12x64.Idx) :
    val_main_v29 (F := Ideal) x0 i = ((qv X (i 1).val (i 2).val (i 3).val (i 4).val : ℝ) : EReal) := by
  obtain ⟨h0, h1, h2, h3, h4⟩ := bndQ i
  rw [val_main_v29_apply, r22 hX]
  refine c2 X ?_ ?_ <;> dsimp only [idx_main_v29] <;> omega

/-- A band's source shifted a block down: zero rows first. -/
theorem r31 (i : S1x4224x12x64.Idx) : val_main_v31 (F := Ideal) x0 i
    = (((if (i 1).val < 128 then 0 else X ((i 1).val - 128) (768 + (64 * (i 2).val + (i 3).val)) : ℝ)) : EReal) := by
  obtain ⟨h0, h1, h2, h3⟩ := bndC i
  unfold val_main_v31
  by_cases hc : (i 1).val < 128
  · rw [concatenate_pair_apply_left (1 : Fin 4) (val_main_v30 (F := Ideal)) (val_main_v25 (F := Ideal) x0) _ i rfl
      (ix4 ⟨(i 0).val, h0⟩ ⟨(i 1).val, hc⟩ ⟨(i 2).val, h2⟩ ⟨(i 3).val, h3⟩) (fun b => by
        match b with
        | ⟨0, _⟩ => rfl
        | ⟨1, _⟩ => rfl
        | ⟨2, _⟩ => rfl
        | ⟨3, _⟩ => rfl), if_pos hc, val_main_v30_apply]
    exact zero_word
  · rw [concatenate_pair_apply_right (1 : Fin 4) (val_main_v30 (F := Ideal)) (val_main_v25 (F := Ideal) x0) _ i rfl rfl
      (ix4 ⟨(i 0).val, h0⟩ ⟨(i 1).val - 128, by omega⟩ ⟨(i 2).val, h2⟩ ⟨(i 3).val, h3⟩) (fun b hb => by
        match b, hb with
        | ⟨0, _⟩, _ => rfl
        | ⟨1, _⟩, hb => exact absurd rfl hb
        | ⟨2, _⟩, _ => rfl
        | ⟨3, _⟩, _ => rfl) (by show (i 1).val - 128 + 128 = (i 1).val; omega), if_neg hc, r25 hX]
    rfl

theorem r38 (i : S1x4224x12x64.Idx) : val_main_v38 (F := Ideal) x0 i
    = (((if (i 1).val < 128 then 0 else X ((i 1).val - 128) (1536 + (64 * (i 2).val + (i 3).val)) : ℝ)) : EReal) := by
  obtain ⟨h0, h1, h2, h3⟩ := bndC i
  unfold val_main_v38
  by_cases hc : (i 1).val < 128
  · rw [concatenate_pair_apply_left (1 : Fin 4) (val_main_v37 (F := Ideal)) (val_main_v28 (F := Ideal) x0) _ i rfl
      (ix4 ⟨(i 0).val, h0⟩ ⟨(i 1).val, hc⟩ ⟨(i 2).val, h2⟩ ⟨(i 3).val, h3⟩) (fun b => by
        match b with
        | ⟨0, _⟩ => rfl
        | ⟨1, _⟩ => rfl
        | ⟨2, _⟩ => rfl
        | ⟨3, _⟩ => rfl), if_pos hc, val_main_v37_apply]
    exact zero_word
  · rw [concatenate_pair_apply_right (1 : Fin 4) (val_main_v37 (F := Ideal)) (val_main_v28 (F := Ideal) x0) _ i rfl rfl
      (ix4 ⟨(i 0).val, h0⟩ ⟨(i 1).val - 128, by omega⟩ ⟨(i 2).val, h2⟩ ⟨(i 3).val, h3⟩) (fun b hb => by
        match b, hb with
        | ⟨0, _⟩, _ => rfl
        | ⟨1, _⟩, hb => exact absurd rfl hb
        | ⟨2, _⟩, _ => rfl
        | ⟨3, _⟩, _ => rfl) (by show (i 1).val - 128 + 128 = (i 1).val; omega), if_neg hc, r28 hX]
    rfl

/-- The band of keys of every block. -/
theorem r36 (i : S1x32x256x12x64.Idx) :
    val_main_v36 (F := Ideal) x0 i = ((kb X (i 1).val (i 3).val (i 2).val (i 4).val : ℝ) : EReal) := by
  obtain ⟨h0, h1, h2, h3, h4⟩ := bndK i
  unfold val_main_v36 kb
  by_cases hc : (i 2).val < 128
  · rw [concatenate_pair_apply_left (2 : Fin 5) (val_main_v34 (F := Ideal) x0) (val_main_v35 (F := Ideal) x0) _ i rfl
      (ix5 ⟨(i 0).val, h0⟩ ⟨(i 1).val, h1⟩ ⟨(i 2).val, hc⟩ ⟨(i 3).val, h3⟩ ⟨(i 4).val, h4⟩) (fun b => by
        match b with
        | ⟨0, _⟩ => rfl
        | ⟨1, _⟩ => rfl
        | ⟨2, _⟩ => rfl
        | ⟨3, _⟩ => rfl
        | ⟨4, _⟩ => rfl), val_main_v34_apply, val_main_v33_apply, r31 hX]
    dsimp only [idx_main_v34, idx_main_v33, ix5]
    refine c2 (fun a b => if a < 128 then 0 else X (a - 128) b) (a := _) (a' := 128 * (i 1).val + (i 2).val) (b := _)
      (b' := 768 + (64 * (i 3).val + (i 4).val)) ?_ ?_ <;> omega
  · rw [concatenate_pair_apply_right (2 : Fin 5) (val_main_v34 (F := Ideal) x0) (val_main_v35 (F := Ideal) x0) _ i rfl rfl
      (ix5 ⟨(i 0).val, h0⟩ ⟨(i 1).val, h1⟩ ⟨(i 2).val - 128, by omega⟩ ⟨(i 3).val, h3⟩ ⟨(i 4).val, h4⟩) (fun b hb => by
        match b, hb with
        | ⟨0, _⟩, _ => rfl
        | ⟨1, _⟩, _ => rfl
        | ⟨2, _⟩, hb => exact absurd rfl hb
        | ⟨3, _⟩, _ => rfl
        | ⟨4, _⟩, _ => rfl) (by show (i 2).val - 128 + 128 = (i 2).val; omega), val_main_v35_apply, r25 hX,
      if_neg (by omega)]
    dsimp only [idx_main_v35, ix5]
    refine c2 X ?_ ?_ <;> omega

/-- The band of values of every block. -/
theorem r43 (i : S1x32x256x12x64.Idx) :
    val_main_v43 (F := Ideal) x0 i = ((vb X (i 1).val (i 3).val (i 2).val (i 4).val : ℝ) : EReal) := by
  obtain ⟨h0, h1, h2, h3, h4⟩ := bndK i
  unfold val_main_v43 vb
  by_cases hc : (i 2).val < 128
  · rw [concatenate_pair_apply_left (2 : Fin 5) (val_main_v41 (F := Ideal) x0) (val_main_v42 (F := Ideal) x0) _ i rfl
      (ix5 ⟨(i 0).val, h0⟩ ⟨(i 1).val, h1⟩ ⟨(i 2).val, hc⟩ ⟨(i 3).val, h3⟩ ⟨(i 4).val, h4⟩) (fun b => by
        match b with
        | ⟨0, _⟩ => rfl
        | ⟨1, _⟩ => rfl
        | ⟨2, _⟩ => rfl
        | ⟨3, _⟩ => rfl
        | ⟨4, _⟩ => rfl), val_main_v41_apply, val_main_v40_apply, r38 hX]
    dsimp only [idx_main_v41, idx_main_v40, ix5]
    refine c2 (fun a b => if a < 128 then 0 else X (a - 128) b) (a := _) (a' := 128 * (i 1).val + (i 2).val) (b := _)
      (b' := 1536 + (64 * (i 3).val + (i 4).val)) ?_ ?_ <;> omega
  · rw [concatenate_pair_apply_right (2 : Fin 5) (val_main_v41 (F := Ideal) x0) (val_main_v42 (F := Ideal) x0) _ i rfl rfl
      (ix5 ⟨(i 0).val, h0⟩ ⟨(i 1).val, h1⟩ ⟨(i 2).val - 128, by omega⟩ ⟨(i 3).val, h3⟩ ⟨(i 4).val, h4⟩) (fun b hb => by
        match b, hb with
        | ⟨0, _⟩, _ => rfl
        | ⟨1, _⟩, _ => rfl
        | ⟨2, _⟩, hb => exact absurd rfl hb
        | ⟨3, _⟩, _ => rfl
        | ⟨4, _⟩, _ => rfl) (by show (i 2).val - 128 + 128 = (i 2).val; omega), val_main_v42_apply, r28 hX,
      if_neg (by omega)]
    dsimp only [idx_main_v42, ix5]
    refine c2 X ?_ ?_ <;> omega

end Fwd

end Cert.Da
-- ==== Proof.RefMask.lean ====
/- The reference's mask, scores, row maxima and weights over the real numbers. -/
module

public import proofs.«01_k».proof.Proof.RefFwd

@[expose] public section

set_option maxRecDepth 16384

noncomputable section

namespace Cert.Da

open Idealize.ShloMosaic Cert.ReferenceIdeal Cert.ReferenceIdeal.Gen Cert.ReferenceIdeal.Read

/-! ## The mask -/

theorem dist_word (a b : ℕ) : BitVec.ofNat 32 a + 128#32 - BitVec.ofNat 32 b = BitVec.ofInt 32 ((a : ℤ) + 128 - b) := by
  rw [sub_eq_add_neg ((_ : ℤ) + _), BitVec.ofInt_add, BitVec.ofInt_neg, ← BitVec.sub_eq_add_neg, BitVec.ofInt_add, BitVec.ofInt_natCast, BitVec.ofInt_natCast]
  rfl

theorem pos_word (n k : ℕ) : BitVec.ofNat 32 n * 128#32 + BitVec.ofNat 32 k - 128#32 = BitVec.ofInt 32 ((n : ℤ) * 128 + k - 128) := by
  rw [sub_eq_add_neg ((_ : ℤ) + _), BitVec.ofInt_add, BitVec.ofInt_neg, ← BitVec.sub_eq_add_neg, BitVec.ofInt_add, BitVec.ofInt_mul, BitVec.ofInt_natCast, BitVec.ofInt_natCast]
  rfl

theorem toInt_small (z : ℤ) (h1 : -100000 ≤ z) (h2 : z ≤ 100000) : (BitVec.ofInt 32 z).toInt = z := by
  rw [BitVec.toInt_ofInt]
  exact Int.bmod_eq_of_le (by norm_num; omega) (by norm_num; omega)

theorem r55 (i : S128x256.Idx) :
    val_main_v55 (F := Ideal) i = BitVec.ofInt 32 (((i 0).val : ℤ) + 128 - (i 1).val) := by
  rw [val_main_v55_apply, val_main_v53_apply, val_main_v52_apply, val_main_v48_apply, val_main_v47_apply, val_main_v51_apply,
    val_main_v54_apply, val_main_v50_apply, val_main_v49_apply]
  exact dist_word _ _

theorem r65 (i : S32x1x256.Idx) :
    val_main_v65 (F := Ideal) i = BitVec.ofInt 32 (((i 0).val : ℤ) * 128 + (i 2).val - 128) := by
  rw [val_main_v65_apply, val_main_v63_apply, val_main_v61_apply, val_main_v59_apply, val_main_v57_apply, val_main_v56_apply,
    val_main_v58_apply, val_main_v62_apply, val_main_v60_apply, val_main_v50_apply, val_main_v49_apply, val_main_v64_apply]
  exact pos_word _ _

theorem r77 (i : S32x128x256.Idx) :
    val_main_v77 (F := Ideal) i = BitVec.ofBool (decide (ok (i 0).val (i 1).val (i 2).val)) := by
  have h0 : (i 0).val < 32 := (i 0).isLt
  have h1 : (i 1).val < 128 := (i 1).isLt
  have h2 : (i 2).val < 256 := (i 2).isLt
  rw [val_main_v77_apply, val_main_v75_apply, val_main_v72_apply, val_main_v68_apply, val_main_v66_apply, r55, val_main_v67_apply,
    val_main_v71_apply, val_main_v69_apply, r55, val_main_v70_apply, val_main_v76_apply, val_main_v74_apply, r65, val_main_v73_apply]
  have e1 : IntOp.cmpi .sge (BitVec.ofInt 32 (((i 1).val : ℤ) + 128 - (i 2).val)) 0#32 = BitVec.ofBool (decide ((i 2).val ≤ (i 1).val + 128)) := by
    unfold IntOp.cmpi
    refine congrArg BitVec.ofBool ?_
    show BitVec.sle _ _ = _
    rw [BitVec.sle_eq_decide, toInt_small _ (by omega) (by omega)]
    refine decide_eq_decide.mpr ?_
    show (0 : ℤ) ≤ _ ↔ _
    omega
  have e2 : IntOp.cmpi .sle (BitVec.ofInt 32 (((i 1).val : ℤ) + 128 - (i 2).val)) 128#32 = BitVec.ofBool (decide ((i 1).val ≤ (i 2).val)) := by
    unfold IntOp.cmpi
    refine congrArg BitVec.ofBool ?_
    show BitVec.sle _ _ = _
    rw [BitVec.sle_eq_decide, toInt_small _ (by omega) (by omega)]
    refine decide_eq_decide.mpr ?_
    show _ ≤ (128 : ℤ) ↔ _
    omega
  have e3 : IntOp.cmpi .sge (BitVec.ofInt 32 (((i 0).val : ℤ) * 128 + (i 2).val - 128)) 0#32
      = BitVec.ofBool (decide (128 ≤ 128 * (i 0).val + (i 2).val)) := by
    unfold IntOp.cmpi
    refine congrArg BitVec.ofBool ?_
    show BitVec.sle _ _ = _
    rw [BitVec.sle_eq_decide, toInt_small _ (by omega) (by omega)]
    refine decide_eq_decide.mpr ?_
    show (0 : ℤ) ≤ _ ↔ _
    omega
  refine (congrArg₂ IntOp.andi (congrArg₂ IntOp.andi e1 e2) e3).trans ?_
  unfold ok
  by_cases p1 : (i 2).val ≤ (i 1).val + 128 <;> by_cases p2 : (i 1).val ≤ (i 2).val <;> by_cases p3 : 128 ≤ 128 * (i 0).val + (i 2).val <;>
    simp only [p1, p2, p3, and_true, true_and, and_false, false_and, and_self, decide_true, decide_false] <;> rfl

theorem r91m (i : S1x32x12x128x256.Idx) :
    val_main_v91_1 (F := Ideal) i = BitVec.ofBool (decide (ok (i 1).val (i 3).val (i 4).val)) := by
  rw [val_main_v91_1_apply, val_main_v87_apply, r77]

/-! ## The distance penalty -/

theorem slope_piece (h : ℕ) (hh : h < 12) :
    val_main_v19 (F := Ideal) (ix1 ⟨h, hh⟩) = Ideal.ofBits .f32 (Cert.KernelIdeal.Da.slopeW h) := by
  interval_cases h <;> rfl

theorem r79 (i : S12x1x1.Idx) : val_main_v79 (F := Ideal) i = ((-slope (i 0).val : ℝ) : EReal) := by
  have h0 : (i 0).val < 12 := (i 0).isLt
  rw [val_main_v79_apply, val_main_v78_apply,
    show idx_main_v78 i = ix1 ⟨(i 0).val, h0⟩ from funext fun a => by match a with | ⟨0, _⟩ => rfl, slope_piece, slope_word]
  simp only [Ideal.hostNegf_def, Ideal.negf_def, EReal.coe_neg]

theorem r82 (i : S128x256.Idx) : val_main_v82 (F := Ideal) i = (((((i 0).val : ℕ) : ℝ) + 128 - ((i 1).val : ℕ) : ℝ) : EReal) := by
  have h0 : (i 0).val < 128 := (i 0).isLt
  have h1 : (i 1).val < 256 := (i 1).isLt
  rw [val_main_v82_apply, val_main_v81_apply, r55, val_main_v80_apply]
  have e : IntOp.muli (BitVec.ofInt 32 (((i 0).val : ℤ) + 128 - (i 1).val)) 1#32 = BitVec.ofInt 32 (((i 0).val : ℤ) + 128 - (i 1).val) :=
    BitVec.mul_one _
  refine (congrArg (fun b : BitVec 32 => ((b.toInt : ℝ) : EReal)) e).trans ?_
  dsimp only
  rw [toInt_small _ (by omega) (by omega)]
  push_cast
  rfl

theorem r89 (i : S1x32x12x128x256.Idx) : val_main_v89 (F := Ideal) i
    = ((-slope (i 2).val * ((((i 3).val : ℕ) : ℝ) + 128 - ((i 4).val : ℕ)) : ℝ) : EReal) := by
  rw [val_main_v89_apply, val_main_v88_apply, val_main_v86_apply, val_main_v84_apply, r79, val_main_v85_apply, val_main_v83_apply, r82,
    Ideal.mulf_def, ← EReal.coe_mul]

/-! ## A maximum over one axis, below it −∞ -/

theorem host_max {s t u : Shape} {axes : List (Fin s.rank)} (f : FVec Ideal s .f32) (z : FVec Ideal u .f32)
    (h : s.ReducesTo axes t) (hu : 0 < u.numel) (hz : ∀ k, z k = (⊥ : EReal)) (i : t.Idx) :
    (∀ j, h.drop j = i → f j ≤ Host.reduce (FloatOps.maximumf (F := Ideal) (φ := .f32)) f z h hu i)
      ∧ (Host.reduce (FloatOps.maximumf (F := Ideal) (φ := .f32)) f z h hu i = (⊥ : EReal)
          ∨ ∃ j, h.drop j = i ∧ Host.reduce (FloatOps.maximumf (F := Ideal) (φ := .f32)) f z h hu i = f j) := by
  unfold Host.reduce
  rw [hz]
  obtain ⟨h1, -, h3⟩ := foldl_max ((List.finRange s.numel).filter fun n => h.drop (s.rowMajor.symm n) = i)
    (fun n => f (s.rowMajor.symm n)) ⊥
  refine ⟨fun j hj => ?_, ?_⟩
  · have := h1 (s.rowMajor j) (List.mem_filter.mpr ⟨List.mem_finRange _, by simpa using hj⟩)
    rw [Equiv.symm_apply_apply] at this
    exact this
  · rcases h3 with h3 | ⟨n, hn, h3⟩
    · exact .inl h3
    · exact .inr ⟨_, by simpa using (List.mem_filter.mp hn).2, h3⟩

section Fwd

variable {x0 : (⟨S4096x2304, .bf16⟩ : BufTy).Contents (Elt Ideal)} {X : ℕ → ℕ → ℝ}
  (hX : ∀ j, x0 j = ((X (j 0).val (j 1).val : ℝ) : EReal))
include hX

/-! ## Scores -/

theorem r90 (i : S1x32x12x128x256.Idx) :
    val_main_v90 (F := Ideal) x0 i = ((sc X (i 1).val (i 2).val (i 3).val (i 4).val : ℝ) : EReal) := by
  rw [val_main_v90_apply, r89, val_main_v46_apply, val_main_v44_apply, val_main_v45_apply]
  simp only [r29 hX, r36 hX, ← EReal.coe_mul, ← coe_sum]
  rw [show val_main_cst_15 (F := Ideal) (idx_main_v45 i) = ((1 / 8 : ℝ) : EReal) from eighth_word,
    Ideal.mulf_def, Ideal.addf_def, ← EReal.coe_mul, ← EReal.coe_add]
  rfl

theorem r91 (i : S1x32x12x128x256.Idx) : val_main_v91_0 (F := Ideal) x0 i
    = if ok (i 1).val (i 3).val (i 4).val then ((sc X (i 1).val (i 2).val (i 3).val (i 4).val : ℝ) : EReal) else ⊥ := by
  rw [val_main_v91_0_apply, r91m, r90 hX, val_main_call0_v2_apply, val_main_call0_v0_apply]
  unfold Scalar.select
  by_cases p : ok (i 1).val (i 3).val (i 4).val
  · rw [if_pos p, decide_eq_true p]; exact if_pos rfl
  · rw [if_neg p, decide_eq_false p]; exact (if_neg (by decide)).trans negInf_word

/-! ## Row maxima -/

theorem r92 : ∃ M : ℕ → ℕ → ℕ → ℝ, ∀ i : S1x32x12x128.Idx,
    val_main_v92 (F := Ideal) x0 i = ((M (i 1).val (i 2).val (i 3).val : ℝ) : EReal)
      ∧ ∃ κ : Fin 256, ok (i 1).val (i 3).val κ.val ∧ sc X (i 1).val (i 2).val (i 3).val κ.val = M (i 1).val (i 2).val (i 3).val := by
  have key : ∀ i : S1x32x12x128.Idx, ∃ κ : Fin 256, ok (i 1).val (i 3).val κ.val
      ∧ val_main_v92 (F := Ideal) x0 i = ((sc X (i 1).val (i 2).val (i 3).val κ.val : ℝ) : EReal) := by
    intro i
    obtain ⟨h0, h1, h2, h3⟩ := bndR i
    obtain ⟨m1, m2⟩ := host_max (val_main_v91_0 (F := Ideal) x0) (val_main_cst_23 (F := Ideal))
      reducesTo_S1x32x12x128x256_S1x32x12x128_d4 h_S_ (fun _ => negInf_word) i
    have ge := m1 (ix5 ⟨(i 0).val, h0⟩ ⟨(i 1).val, h1⟩ ⟨(i 2).val, h2⟩ ⟨(i 3).val, h3⟩ ⟨(i 3).val + 128, by omega⟩)
      (funext fun a => by match a with
        | ⟨0, _⟩ => rfl
        | ⟨1, _⟩ => rfl
        | ⟨2, _⟩ => rfl
        | ⟨3, _⟩ => rfl)
    rw [r91 hX] at ge
    change (if ok (i 1).val (i 3).val ((i 3).val + 128) then ((sc X (i 1).val (i 2).val (i 3).val ((i 3).val + 128) : ℝ) : EReal) else ⊥) ≤ _ at ge
    rw [if_pos (show ok (i 1).val (i 3).val ((i 3).val + 128) from ⟨⟨by omega, by omega⟩, by omega⟩)] at ge
    rcases m2 with m2 | ⟨j, hj, m2⟩
    · rw [m2] at ge
      exact absurd (le_bot_iff.mp ge) (EReal.coe_ne_bot _)
    · have e1 : (j 1).val = (i 1).val := congrArg Fin.val (congrFun hj 1)
      have e2 : (j 2).val = (i 2).val := congrArg Fin.val (congrFun hj 2)
      have e3 : (j 3).val = (i 3).val := congrArg Fin.val (congrFun hj 3)
      rw [r91 hX, e1, e2, e3] at m2
      by_cases p : ok (i 1).val (i 3).val (j 4).val
      · rw [if_pos p] at m2
        exact ⟨j 4, p, m2⟩
      · rw [if_neg p] at m2
        rw [m2] at ge
        exact absurd (le_bot_iff.mp ge) (EReal.coe_ne_bot _)
  choose K hK hv using key
  refine ⟨fun n h r => if hb : n < 32 ∧ h < 12 ∧ r < 128 then
    sc X n h r (K (ix4 ⟨0, Nat.one_pos⟩ ⟨n, hb.1⟩ ⟨h, hb.2.1⟩ ⟨r, hb.2.2⟩)).val else 0, fun i => ?_⟩
  obtain ⟨h0, h1, h2, h3⟩ := bndR i
  dsimp only
  rw [dif_pos ⟨h1, h2, h3⟩]
  have e : ix4 (⟨0, Nat.one_pos⟩ : Fin 1) ⟨(i 1).val, h1⟩ ⟨(i 2).val, h2⟩ ⟨(i 3).val, h3⟩ = i := funext fun a => by
    match a with
    | ⟨0, _⟩ => exact Fin.ext (show 0 = (i 0).val by omega)
    | ⟨1, _⟩ => rfl
    | ⟨2, _⟩ => rfl
    | ⟨3, _⟩ => rfl
  rw [e]
  exact ⟨hv i, K i, hK i, rfl⟩

variable {M : ℕ → ℕ → ℕ → ℝ} (hM : ∀ i : S1x32x12x128.Idx,
    val_main_v92 (F := Ideal) x0 i = ((M (i 1).val (i 2).val (i 3).val : ℝ) : EReal)
      ∧ ∃ κ : Fin 256, ok (i 1).val (i 3).val κ.val ∧ sc X (i 1).val (i 2).val (i 3).val κ.val = M (i 1).val (i 2).val (i 3).val)
include hM

theorem r94 (i : S1x32x12x128x256.Idx) : val_main_v94 (F := Ideal) x0 i = ((M (i 1).val (i 2).val (i 3).val : ℝ) : EReal) := by
  obtain ⟨h0, h1, h2, h3, h4⟩ := bndS i
  rw [val_main_v94_apply, val_main_v93_apply, (hM _).1]
  refine c3 M ?_ ?_ ?_ <;> dsimp only [idx_main_v93, idx_main_v94] <;> omega

theorem r98 (i : S1x32x12x128x1.Idx) : val_main_v98 (F := Ideal) x0 i = ((M (i 1).val (i 2).val (i 3).val : ℝ) : EReal) := by
  rw [val_main_v98_apply, (hM _).1]

theorem r99 (i : S1x32x12x128x256.Idx) : val_main_v99 (F := Ideal) x0 i = ((M (i 1).val (i 2).val (i 3).val : ℝ) : EReal) := by
  rw [val_main_v99_apply, r98 hX hM]

/-- How many scores reach the row's maximum: a positive number. -/
theorem r97 (i : S1x32x12x128.Idx) : ∃ c : ℝ, c ≠ 0 ∧ val_main_v97 (F := Ideal) x0 i = (c : EReal) := by
  obtain ⟨κ, hκ, hm⟩ := (hM i).2
  refine ⟨∑ k : Fin 256, if (val_main_v91_0 (F := Ideal) x0 (idx_main_v97 i k) = ((M (i 1).val (i 2).val (i 3).val : ℝ) : EReal)) then 1 else 0, ?_, ?_⟩
  · refine (Finset.sum_pos' (fun k _ => by split <;> norm_num) ⟨κ, Finset.mem_univ _, ?_⟩).ne'
    rw [r91 hX, if_pos]
    · norm_num
    · rw [if_pos (show ok _ _ _ from hκ)]
      exact congrArg _ hm
  · rw [val_main_v97_apply, show val_main_cst_24 (F := Ideal) (Shape.Idx.first h_S_) = ((0 : ℝ) : EReal) from zero_word, EReal.coe_zero, zero_add, coe_sum]
    refine Finset.sum_congr rfl fun k _ => ?_
    rw [val_main_v96_apply, val_main_v95_apply, r94 hX hM, Ideal.cmpf_def]
    unfold Ideal.cmp
    show (((BitVec.ofBool (decide _)).toNat : ℝ) : EReal) = _
    by_cases p : val_main_v91_0 (F := Ideal) x0 (idx_main_v97 i k) = ((M (i 1).val (i 2).val (i 3).val : ℝ) : EReal)
    · rw [if_pos p, decide_eq_true (show _ = _ from p)]; norm_num; rfl
    · rw [if_neg p, decide_eq_false (show ¬ _ = _ from p)]; norm_num

/-! ## Weights -/

theorem r101 (i : S1x32x12x128x256.Idx) :
    val_main_v101 (F := Ideal) x0 i = ((ew X M (i 1).val (i 2).val (i 3).val (i 4).val : ℝ) : EReal) := by
  rw [val_main_v101_apply, val_main_v100_apply, r91 hX, r99 hX hM, Ideal.hostUnary_exp_def, Ideal.subf_def]
  unfold ew
  split
  · rw [← EReal.coe_sub, Ideal.exp_coe]
  · rw [EReal.bot_sub, Ideal.exp_bot, EReal.coe_zero]

theorem r102 (i : S1x32x12x128.Idx) :
    val_main_v102 (F := Ideal) x0 i = ((den X M (i 1).val (i 2).val (i 3).val : ℝ) : EReal) := by
  rw [val_main_v102_apply, show val_main_cst_25 (F := Ideal) (Shape.Idx.first h_S_) = ((0 : ℝ) : EReal) from zero_word, EReal.coe_zero, zero_add]
  simp only [r101 hX hM, ← coe_sum]
  rfl

theorem r103 (i : S1x32x12x128x1.Idx) :
    val_main_v103 (F := Ideal) x0 i = ((den X M (i 1).val (i 2).val (i 3).val : ℝ) : EReal) := by
  rw [val_main_v103_apply, r102 hX hM]

theorem r105 (i : S1x32x12x128x256.Idx) :
    val_main_v105 (F := Ideal) x0 i = ((wt X M (i 1).val (i 2).val (i 3).val (i 4).val : ℝ) : EReal) := by
  obtain ⟨h0, h1, h2, h3, h4⟩ := bndS i
  rw [val_main_v105_apply, val_main_v104_apply, r101 hX hM, r103 hX hM, Ideal.hostDivf_def]
  exact div_real (den_pos X M _ _ _ h3).ne' _

theorem r108 (i : S1x32x12x128x1.Idx) : val_main_v108 (F := Ideal) x0 i
    = ((1 / (den X M (i 1).val (i 2).val (i 3).val * den X M (i 1).val (i 2).val (i 3).val) : ℝ) : EReal) := by
  obtain ⟨h0, h1, h2, h3, h4⟩ := bndR1 i
  rw [val_main_v108_apply, val_main_v107_apply, val_main_v106_apply, r103 hX hM, Ideal.hostDivf_def, Ideal.mulf_def, ← EReal.coe_mul,
    show val_main_cst_26 (F := Ideal) (idx_main_v107 i) = ((1 : ℝ) : EReal) from one_word]
  exact div_real (mul_self_ne_zero.mpr (den_pos X M _ _ _ h3).ne') _

/-! ## The branch's output and log-denominator -/

theorem r110 (i : S1x32x128x12x64.Idx) :
    val_main_v110 (F := Ideal) x0 i = ((out X M (i 1).val (i 3).val (i 2).val (i 4).val : ℝ) : EReal) := by
  rw [val_main_v110_apply, val_main_v109_apply]
  simp only [r43 hX, r105 hX hM, ← EReal.coe_mul, ← coe_sum]
  rfl

theorem r117 (i : S1x4096x12x64.Idx) :
    val_main_v117 (F := Ideal) x0 i = ((o1 X M (i 1).val (i 2).val (i 3).val : ℝ) : EReal) := by
  obtain ⟨h0, h1, h2, h3⟩ := bnd4 i
  rw [val_main_v117_apply, val_main_v116_apply, val_main_v115_apply, val_main_v114_apply, r110 hX hM]
  unfold o1
  refine c4 (out X M) ?_ ?_ ?_ ?_ <;> dsimp only [idx_main_v117, idx_main_v116, idx_main_v115, idx_main_v114] <;> omega

theorem r113 (i : S1x32x12x128.Idx) : val_main_v113 (F := Ideal) x0 i
    = ((M (i 1).val (i 2).val (i 3).val + Real.log (den X M (i 1).val (i 2).val (i 3).val) : ℝ) : EReal) := by
  obtain ⟨h0, h1, h2, h3⟩ := bndR i
  rw [val_main_v113_apply, val_main_v112_apply, val_main_v111_apply, r98 hX hM, r103 hX hM, Ideal.hostUnary_log_def,
    log_real (den_pos X M _ _ _ (idx_main_v113 i 3).isLt), Ideal.addf_def, ← EReal.coe_add]
  refine c3 (fun a b c => M a b c + Real.log (den X M a b c)) ?_ ?_ ?_ <;> dsimp only [idx_main_v113] <;> omega

theorem r122 (i : S1x4096x12.Idx) : val_main_v122 (F := Ideal) x0 i = ((l1 X M (i 1).val (i 2).val : ℝ) : EReal) := by
  obtain ⟨h0, h1, h2⟩ := bndL i
  rw [val_main_v122_apply, val_main_v121_apply, val_main_v120_apply, val_main_v119_apply, val_main_v118_apply, r113 hX hM]
  unfold l1
  refine c3 (fun a b c => M a b c + Real.log (den X M a b c)) ?_ ?_ ?_ <;>
    dsimp only [idx_main_v122, idx_main_v121, idx_main_v120, idx_main_v119, idx_main_v118] <;> omega

end Fwd

end Cert.Da
-- ==== Proof.RefMix.lean ====
/- The reference's mixture of the three branches and its transpose over the real numbers, up to the cotangents of the first branch's output
   and log-denominator. -/
module

public import proofs.«01_k».proof.Proof.RefMask

@[expose] public section

set_option maxRecDepth 16384

noncomputable section

namespace Cert.Da

open Idealize.ShloMosaic Cert.ReferenceIdeal Cert.ReferenceIdeal.Gen Cert.ReferenceIdeal.Read

/-- The arguments hold real numbers, and the row maxima with them. -/
structure Ins (x0 : (⟨S4096x2304, .bf16⟩ : BufTy).Contents (Elt Ideal)) (x1 : (⟨S4096x768, .bf16⟩ : BufTy).Contents (Elt Ideal))
    (x2 : (⟨S1x4096x12x64, .f32⟩ : BufTy).Contents (Elt Ideal)) (x3 : (⟨S1x4096x12, .f32⟩ : BufTy).Contents (Elt Ideal))
    (x4 : (⟨S1x4096x12x64, .f32⟩ : BufTy).Contents (Elt Ideal)) (x5 : (⟨S1x4096x12, .f32⟩ : BufTy).Contents (Elt Ideal))
    (X : ℕ → ℕ → ℝ) (M : ℕ → ℕ → ℕ → ℝ) (G : ℕ → ℕ → ℝ) (L2 L3 : ℕ → ℕ → ℝ) (O2 O3 : ℕ → ℕ → ℕ → ℝ) : Prop where
  x : ∀ j, x0 j = ((X (j 0).val (j 1).val : ℝ) : EReal)
  g : ∀ j, x1 j = ((G (j 0).val (j 1).val : ℝ) : EReal)
  o2 : ∀ j, x2 j = ((O2 (j 1).val (j 2).val (j 3).val : ℝ) : EReal)
  l2 : ∀ j, x3 j = ((L2 (j 1).val (j 2).val : ℝ) : EReal)
  o3 : ∀ j, x4 j = ((O3 (j 1).val (j 2).val (j 3).val : ℝ) : EReal)
  l3 : ∀ j, x5 j = ((L3 (j 1).val (j 2).val : ℝ) : EReal)
  m : ∀ i : S1x32x12x128.Idx, val_main_v92 (F := Ideal) x0 i = ((M (i 1).val (i 2).val (i 3).val : ℝ) : EReal)
      ∧ ∃ κ : Fin 256, ok (i 1).val (i 3).val κ.val ∧ sc X (i 1).val (i 2).val (i 3).val κ.val = M (i 1).val (i 2).val (i 3).val

theorem bndJ (i : S3x1x4096x12.Idx) : (i 0).val < 3 ∧ (i 1).val < 1 ∧ (i 2).val < 4096 ∧ (i 3).val < 12 :=
  ⟨(i 0).isLt, (i 1).isLt, (i 2).isLt, (i 3).isLt⟩
theorem bndJ5 (i : S3x1x4096x12x64.Idx) : (i 0).val < 3 ∧ (i 1).val < 1 ∧ (i 2).val < 4096 ∧ (i 3).val < 12 ∧ (i 4).val < 64 :=
  ⟨(i 0).isLt, (i 1).isLt, (i 2).isLt, (i 3).isLt, (i 4).isLt⟩
theorem bndJ1 (i : S1x1x4096x12.Idx) : (i 0).val < 1 ∧ (i 1).val < 1 ∧ (i 2).val < 4096 ∧ (i 3).val < 12 :=
  ⟨(i 0).isLt, (i 1).isLt, (i 2).isLt, (i 3).isLt⟩

/-- A sum whose entries of one result are one entry. -/
theorem host_one {s t u : Shape} {axes : List (Fin s.rank)} (f : FVec Ideal s .f32) (z : FVec Ideal u .f32)
    (h : s.ReducesTo axes t) (hu : 0 < u.numel) (hz : ∀ k, z k = ((0 : ℝ) : EReal)) (i : t.Idx) (j : s.Idx)
    (hj : ∀ k, h.drop k = i ↔ k = j) : Host.reduceAdd f z h hu i = f j := by
  unfold Host.reduceAdd
  rw [Ideal.hostReduceAdd_def]
  unfold Ideal.hostReduceAdd
  rw [hz, EReal.coe_zero, zero_add, Finset.filter_congr (q := fun k => k = j) (fun k _ => hj k), Finset.filter_eq', if_pos (Finset.mem_univ _),
    Finset.sum_singleton]

section Mix

variable {x0 : (⟨S4096x2304, .bf16⟩ : BufTy).Contents (Elt Ideal)} {x1 : (⟨S4096x768, .bf16⟩ : BufTy).Contents (Elt Ideal)}
  {x2 : (⟨S1x4096x12x64, .f32⟩ : BufTy).Contents (Elt Ideal)} {x3 : (⟨S1x4096x12, .f32⟩ : BufTy).Contents (Elt Ideal)}
  {x4 : (⟨S1x4096x12x64, .f32⟩ : BufTy).Contents (Elt Ideal)} {x5 : (⟨S1x4096x12, .f32⟩ : BufTy).Contents (Elt Ideal)}
  {X : ℕ → ℕ → ℝ} {M : ℕ → ℕ → ℕ → ℝ} {G : ℕ → ℕ → ℝ} {L2 L3 : ℕ → ℕ → ℝ} {O2 O3 : ℕ → ℕ → ℕ → ℝ}
  (H : Ins x0 x1 x2 x3 x4 x5 X M G L2 L3 O2 O3)
include H

/-! ## The log-denominators side by side, and their maximum -/

theorem b126 (i : S3x1x4096x12.Idx) :
    val_main_v126 (F := Ideal) x0 x3 x5 i = ((lj X M L2 L3 (i 0).val (i 2).val (i 3).val : ℝ) : EReal) := by
  obtain ⟨h0, h1, h2, h3⟩ := bndJ i
  unfold val_main_v126 lj
  rcases (show (i 0).val = 0 ∨ (i 0).val = 1 ∨ (i 0).val = 2 by omega) with e | e | e
  · rw [concatenate_apply_piece (0 : Fin 4) _ _ i 0 (by show 0 < 3; decide) S1x1x4096x12 (val_main_v123 (F := Ideal) x0) rfl rfl 0 rfl
      (ix4 ⟨0, Nat.one_pos⟩ ⟨(i 1).val, h1⟩ ⟨(i 2).val, h2⟩ ⟨(i 3).val, h3⟩) (fun b hb => by
        match b, hb with
        | ⟨0, _⟩, hb => exact absurd rfl hb
        | ⟨1, _⟩, _ => rfl
        | ⟨2, _⟩, _ => rfl
        | ⟨3, _⟩, _ => rfl) (by show 0 + 0 = (i 0).val; omega), val_main_v123_apply, r122 H.x H.m, if_pos e]
    rfl
  · rw [concatenate_apply_piece (0 : Fin 4) _ _ i 1 (by show 1 < 3; decide) S1x1x4096x12 (val_main_v124 (F := Ideal) x3) rfl rfl 1 rfl
      (ix4 ⟨0, Nat.one_pos⟩ ⟨(i 1).val, h1⟩ ⟨(i 2).val, h2⟩ ⟨(i 3).val, h3⟩) (fun b hb => by
        match b, hb with
        | ⟨0, _⟩, hb => exact absurd rfl hb
        | ⟨1, _⟩, _ => rfl
        | ⟨2, _⟩, _ => rfl
        | ⟨3, _⟩, _ => rfl) (by show 1 + 0 = (i 0).val; omega), val_main_v124_apply, H.l2, if_neg (by omega), if_pos e]
    rfl
  · rw [concatenate_apply_piece (0 : Fin 4) _ _ i 2 (by show 2 < 3; decide) S1x1x4096x12 (val_main_v125 (F := Ideal) x5) rfl rfl 2 rfl
      (ix4 ⟨0, Nat.one_pos⟩ ⟨(i 1).val, h1⟩ ⟨(i 2).val, h2⟩ ⟨(i 3).val, h3⟩) (fun b hb => by
        match b, hb with
        | ⟨0, _⟩, hb => exact absurd rfl hb
        | ⟨1, _⟩, _ => rfl
        | ⟨2, _⟩, _ => rfl
        | ⟨3, _⟩, _ => rfl) (by show 2 + 0 = (i 0).val; omega), val_main_v125_apply, H.l3, if_neg (by omega), if_neg (by omega)]
    rfl

theorem b161 (i : S3x1x4096x12x64.Idx) :
    val_main_v161 (F := Ideal) x0 x2 x4 i = ((oj X M O2 O3 (i 0).val (i 2).val (i 3).val (i 4).val : ℝ) : EReal) := by
  obtain ⟨h0, h1, h2, h3, h4⟩ := bndJ5 i
  unfold val_main_v161 oj
  rcases (show (i 0).val = 0 ∨ (i 0).val = 1 ∨ (i 0).val = 2 by omega) with e | e | e
  · rw [concatenate_apply_piece (0 : Fin 5) _ _ i 0 (by show 0 < 3; decide) S1x1x4096x12x64 (val_main_v158 (F := Ideal) x0) rfl rfl 0 rfl
      (ix5 ⟨0, Nat.one_pos⟩ ⟨(i 1).val, h1⟩ ⟨(i 2).val, h2⟩ ⟨(i 3).val, h3⟩ ⟨(i 4).val, h4⟩) (fun b hb => by
        match b, hb with
        | ⟨0, _⟩, hb => exact absurd rfl hb
        | ⟨1, _⟩, _ => rfl
        | ⟨2, _⟩, _ => rfl
        | ⟨3, _⟩, _ => rfl
        | ⟨4, _⟩, _ => rfl) (by show 0 + 0 = (i 0).val; omega), val_main_v158_apply, r117 H.x H.m, if_pos e]
    rfl
  · rw [concatenate_apply_piece (0 : Fin 5) _ _ i 1 (by show 1 < 3; decide) S1x1x4096x12x64 (val_main_v159 (F := Ideal) x2) rfl rfl 1 rfl
      (ix5 ⟨0, Nat.one_pos⟩ ⟨(i 1).val, h1⟩ ⟨(i 2).val, h2⟩ ⟨(i 3).val, h3⟩ ⟨(i 4).val, h4⟩) (fun b hb => by
        match b, hb with
        | ⟨0, _⟩, hb => exact absurd rfl hb
        | ⟨1, _⟩, _ => rfl
        | ⟨2, _⟩, _ => rfl
        | ⟨3, _⟩, _ => rfl
        | ⟨4, _⟩, _ => rfl) (by show 1 + 0 = (i 0).val; omega), val_main_v159_apply, H.o2, if_neg (by omega), if_pos e]
    rfl
  · rw [concatenate_apply_piece (0 : Fin 5) _ _ i 2 (by show 2 < 3; decide) S1x1x4096x12x64 (val_main_v160 (F := Ideal) x4) rfl rfl 2 rfl
      (ix5 ⟨0, Nat.one_pos⟩ ⟨(i 1).val, h1⟩ ⟨(i 2).val, h2⟩ ⟨(i 3).val, h3⟩ ⟨(i 4).val, h4⟩) (fun b hb => by
        match b, hb with
        | ⟨0, _⟩, hb => exact absurd rfl hb
        | ⟨1, _⟩, _ => rfl
        | ⟨2, _⟩, _ => rfl
        | ⟨3, _⟩, _ => rfl
        | ⟨4, _⟩, _ => rfl) (by show 2 + 0 = (i 0).val; omega), val_main_v160_apply, H.o3, if_neg (by omega), if_neg (by omega)]
    rfl

theorem b129 : ∃ m : ℕ → ℕ → ℝ, ∀ i : S1x4096x12.Idx, val_main_v129 (F := Ideal) x0 x3 x5 i = ((m (i 1).val (i 2).val : ℝ) : EReal) := by
  have key : ∀ i : S1x4096x12.Idx, ∃ r : ℝ, val_main_v129 (F := Ideal) x0 x3 x5 i = (r : EReal) := by
    intro i
    obtain ⟨h0, h1, h2⟩ := bndL i
    obtain ⟨m1, m2⟩ := host_max (val_main_v126 (F := Ideal) x0 x3 x5) (val_main_cst_29 (F := Ideal))
      reducesTo_S3x1x4096x12_S1x4096x12_d0 h_S_ (fun _ => negInf_word) i
    have ge := m1 (ix4 ⟨0, by decide⟩ ⟨(i 0).val, h0⟩ ⟨(i 1).val, h1⟩ ⟨(i 2).val, h2⟩)
      (funext fun a => by match a with
        | ⟨0, _⟩ => rfl
        | ⟨1, _⟩ => rfl
        | ⟨2, _⟩ => rfl)
    rcases m2 with m2 | ⟨j, -, m2⟩
    · rw [m2, b126 H] at ge
      exact absurd (le_bot_iff.mp ge) (EReal.coe_ne_bot _)
    · exact ⟨_, m2.trans (b126 H j)⟩
  choose R hR using key
  refine ⟨fun t h => if hb : t < 4096 ∧ h < 12 then R (ix3 ⟨0, Nat.one_pos⟩ ⟨t, hb.1⟩ ⟨h, hb.2⟩) else 0, fun i => ?_⟩
  obtain ⟨h0, h1, h2⟩ := bndL i
  dsimp only
  rw [dif_pos ⟨h1, h2⟩]
  have e : ix3 (⟨0, Nat.one_pos⟩ : Fin 1) ⟨(i 1).val, h1⟩ ⟨(i 2).val, h2⟩ = i := funext fun a => by
    match a with
    | ⟨0, _⟩ => exact Fin.ext (show 0 = (i 0).val by omega)
    | ⟨1, _⟩ => rfl
    | ⟨2, _⟩ => rfl
  rw [e]
  exact hR i

/-! ## The mixture's weights -/

variable {m : ℕ → ℕ → ℝ} (hm : ∀ i : S1x4096x12.Idx, val_main_v129 (F := Ideal) x0 x3 x5 i = ((m (i 1).val (i 2).val : ℝ) : EReal))
include hm

theorem b149 (i : S3x1x4096x12.Idx) : val_main_v149 (F := Ideal) x0 x3 x5 i
    = ((Real.exp (lj X M L2 L3 (i 0).val (i 2).val (i 3).val - m (i 2).val (i 3).val) : ℝ) : EReal) := by
  rw [val_main_v149_apply, val_main_v148_apply, val_main_v147_apply, val_main_v146_apply, val_main_v136_apply, val_main_v135_apply, hm, b126 H,
    show val_main_cst_31 (F := Ideal) _ = (⊥ : EReal) from negInf_word, Ideal.hostUnary_exp_def, Ideal.subf_def, Ideal.maximumf_def,
    max_eq_right bot_le, ← EReal.coe_sub, Ideal.exp_coe]

theorem b150 (i : S1x4096x12.Idx) : val_main_v150 (F := Ideal) x0 x3 x5 i
    = ((∑ j : Fin 3, Real.exp (lj X M L2 L3 j.val (i 1).val (i 2).val - m (i 1).val (i 2).val) : ℝ) : EReal) := by
  rw [val_main_v150_apply, show val_main_cst_37 (F := Ideal) (Shape.Idx.first h_S_) = ((0 : ℝ) : EReal) from zero_word, EReal.coe_zero, zero_add]
  simp only [b149 H hm, ← coe_sum]

theorem tot_pos (t h : ℕ) : 0 < ∑ j : Fin 3, Real.exp (lj X M L2 L3 j.val t h - m t h) := by
  rw [Fin.sum_univ_three]; positivity

theorem b151 (i : S1x1x4096x12.Idx) : val_main_v151 (F := Ideal) x0 x3 x5 i
    = ((∑ j : Fin 3, Real.exp (lj X M L2 L3 j.val (i 2).val (i 3).val - m (i 2).val (i 3).val) : ℝ) : EReal) := by
  rw [val_main_v151_apply, b150 H hm]

theorem b153 (i : S3x1x4096x12.Idx) :
    val_main_v153 (F := Ideal) x0 x3 x5 i = ((wj X M L2 L3 (i 0).val (i 2).val (i 3).val : ℝ) : EReal) := by
  rw [val_main_v153_apply, val_main_v152_apply, b151 H hm, b149 H hm, Ideal.hostDivf_def, ← share X M L2 L3 (m (i 2).val (i 3).val)]
  exact div_real (tot_pos H hm _ _).ne' _

theorem b156 (i : S1x1x4096x12.Idx) : val_main_v156 (F := Ideal) x0 x3 x5 i
    = ((1 / ((∑ j : Fin 3, Real.exp (lj X M L2 L3 j.val (i 2).val (i 3).val - m (i 2).val (i 3).val))
        * (∑ j : Fin 3, Real.exp (lj X M L2 L3 j.val (i 2).val (i 3).val - m (i 2).val (i 3).val))) : ℝ) : EReal) := by
  rw [val_main_v156_apply, val_main_v155_apply, val_main_v154_apply, b151 H hm, Ideal.hostDivf_def, Ideal.mulf_def, ← EReal.coe_mul,
    show val_main_cst_38 (F := Ideal) _ = ((1 : ℝ) : EReal) from one_word]
  exact div_real (mul_self_ne_zero.mpr (tot_pos H hm _ _).ne') _

/-! ## The cotangents of the branches -/

omit hm in
theorem b170 (i : S3x1x4096x12x64.Idx) :
    val_main_v170 (F := Ideal) x1 i = ((gv G (i 2).val (i 3).val (i 4).val : ℝ) : EReal) := by
  obtain ⟨h0, h1, h2, h3, h4⟩ := bndJ5 i
  rw [val_main_v170_apply, val_main_v169_apply, val_main_v168_apply]
  simp only [Ideal.extf_def, H.g]
  unfold gv
  refine c2 G ?_ ?_ <;> (try dsimp only [idx_main_v170, idx_main_v168]) <;> omega

theorem b172 (i : S3x1x4096x12x64.Idx) : val_main_v172 (F := Ideal) x0 x1 x3 x5 i
    = ((wj X M L2 L3 (i 0).val (i 2).val (i 3).val * gv G (i 2).val (i 3).val (i 4).val : ℝ) : EReal) := by
  rw [val_main_v172_apply, val_main_v171_apply, val_main_v157_apply, b153 H hm, b170 H, Ideal.mulf_def, ← EReal.coe_mul]

omit hm in
theorem b174 (i : S3x1x4096x12.Idx) :
    val_main_v174 (F := Ideal) x0 x1 x2 x4 i = ((dj X M G O2 O3 (i 0).val (i 2).val (i 3).val : ℝ) : EReal) := by
  rw [val_main_v174_apply, show val_main_cst_42 (F := Ideal) (Shape.Idx.first h_S_) = ((0 : ℝ) : EReal) from zero_word, EReal.coe_zero, zero_add]
  simp only [val_main_v173_apply, b170 H, b161 H, Ideal.mulf_def, ← EReal.coe_mul, ← coe_sum]
  rfl

omit hm in
theorem b183 (i : S3x1x4096x12.Idx) :
    val_main_v183 (F := Ideal) x0 x1 x2 x4 i = ((dj X M G O2 O3 (i 0).val (i 2).val (i 3).val : ℝ) : EReal) := by
  obtain ⟨h0, h1, h2, h3⟩ := bndJ i
  rw [val_main_v183_apply]
  unfold val_main_v182
  rw [host_one _ (val_main_cst_43 (F := Ideal)) _ _ (fun _ => zero_word) _ (ix5 ⟨(i 0).val, h0⟩ ⟨0, Nat.one_pos⟩ ⟨(i 2).val, h2⟩ ⟨(i 3).val, h3⟩ ⟨0, Nat.one_pos⟩)
    (fun k => ⟨fun e => funext fun a => by
      match a with
      | ⟨0, _⟩ => exact Fin.ext (congrArg Fin.val (congrFun e 0) : (k 0).val = (i 0).val)
      | ⟨1, _⟩ => exact Fin.ext (show (k 1).val = 0 from Nat.lt_one_iff.mp (k 1).isLt)
      | ⟨2, _⟩ => exact Fin.ext (congrArg Fin.val (congrFun e 1) : (k 2).val = (i 2).val)
      | ⟨3, _⟩ => exact Fin.ext (congrArg Fin.val (congrFun e 2) : (k 3).val = (i 3).val)
      | ⟨4, _⟩ => exact Fin.ext (show (k 4).val = 0 from Nat.lt_one_iff.mp (k 4).isLt),
      fun e => by
        subst e
        exact funext fun a => by
          match a with
          | ⟨0, _⟩ => rfl
          | ⟨1, _⟩ => rfl
          | ⟨2, _⟩ => rfl⟩), val_main_v175_apply, b174 H]
  refine c3 (dj X M G O2 O3) ?_ ?_ ?_ <;> dsimp only [idx_main_v175, ix5] <;> omega

theorem b187 (i : S1x4096x12.Idx) : val_main_v187 (F := Ideal) x0 x1 x2 x3 x4 x5 i
    = ((∑ k : Fin 3, dj X M G O2 O3 k.val (i 1).val (i 2).val * (1 / ((∑ j : Fin 3, Real.exp (lj X M L2 L3 j.val (i 1).val (i 2).val - m (i 1).val (i 2).val))
        * (∑ j : Fin 3, Real.exp (lj X M L2 L3 j.val (i 1).val (i 2).val - m (i 1).val (i 2).val))))
        * Real.exp (lj X M L2 L3 k.val (i 1).val (i 2).val - m (i 1).val (i 2).val) : ℝ) : EReal) := by
  rw [val_main_v187_apply, show val_main_cst_44 (F := Ideal) (Shape.Idx.first h_S_) = ((0 : ℝ) : EReal) from zero_word, EReal.coe_zero, zero_add]
  simp only [val_main_v186_apply, val_main_v185_apply, val_main_v184_apply, b183 H, b156 H hm, b149 H hm, Ideal.mulf_def, ← EReal.coe_mul, ← coe_sum]

theorem b193 (i : S1x4096x12.Idx) : val_main_v193 (F := Ideal) x0 x1 x2 x3 x4 x5 i
    = ((-(∑ k : Fin 3, dj X M G O2 O3 k.val (i 1).val (i 2).val * (1 / ((∑ j : Fin 3, Real.exp (lj X M L2 L3 j.val (i 1).val (i 2).val - m (i 1).val (i 2).val))
        * (∑ j : Fin 3, Real.exp (lj X M L2 L3 j.val (i 1).val (i 2).val - m (i 1).val (i 2).val))))
        * Real.exp (lj X M L2 L3 k.val (i 1).val (i 2).val - m (i 1).val (i 2).val)) : ℝ) : EReal) := by
  obtain ⟨h0, h1, h2⟩ := bndL i
  rw [val_main_v193_apply]
  unfold val_main_v192
  rw [host_one _ (val_main_cst_45 (F := Ideal)) _ _ (fun _ => zero_word) _ (ix4 ⟨0, Nat.one_pos⟩ ⟨0, Nat.one_pos⟩ ⟨(i 1).val, h1⟩ ⟨(i 2).val, h2⟩)
    (fun k => ⟨fun e => funext fun a => by
      match a with
      | ⟨0, _⟩ => exact Fin.ext (show (k 0).val = 0 from Nat.lt_one_iff.mp (k 0).isLt)
      | ⟨1, _⟩ => exact Fin.ext (show (k 1).val = 0 from Nat.lt_one_iff.mp (k 1).isLt)
      | ⟨2, _⟩ => exact Fin.ext (congrArg Fin.val (congrFun e 0) : (k 2).val = (i 1).val)
      | ⟨3, _⟩ => exact Fin.ext (congrArg Fin.val (congrFun e 1) : (k 3).val = (i 2).val),
      fun e => by
        subst e
        exact funext fun a => by
          match a with
          | ⟨0, _⟩ => rfl
          | ⟨1, _⟩ => rfl⟩), val_main_v189_apply, val_main_v188_apply, b187 H hm, Ideal.hostNegf_def, Ideal.negf_def, ← EReal.coe_neg]
  refine c2 (fun a b => -(∑ k : Fin 3, dj X M G O2 O3 k.val a b * (1 / ((∑ j : Fin 3, Real.exp (lj X M L2 L3 j.val a b - m a b))
        * (∑ j : Fin 3, Real.exp (lj X M L2 L3 j.val a b - m a b)))) * Real.exp (lj X M L2 L3 k.val a b - m a b))) ?_ ?_ <;>
    dsimp only [idx_main_v188, ix4] <;> omega

/-- The cotangent of the first branch's log-denominator. -/
theorem b198 (i : S1x4096x12.Idx) : val_main_v198 (F := Ideal) x0 x1 x2 x3 x4 x5 i
    = ((wj X M L2 L3 0 (i 1).val (i 2).val * (dj X M G O2 O3 0 (i 1).val (i 2).val - del X M G L2 L3 O2 O3 (i 1).val (i 2).val) : ℝ) : EReal) := by
  obtain ⟨h0, h1, h2⟩ := bndL i
  rw [val_main_v198_apply, val_main_v197_apply, val_main_v196_apply, val_main_v195_apply, val_main_v191_apply, val_main_v194_apply, b183 H,
    val_main_v190_apply, b151 H hm, b193 H hm, b149 H hm, Ideal.hostDivf_def, div_real (tot_pos H hm _ _).ne', Ideal.addf_def, Ideal.mulf_def, ← EReal.coe_add,
    ← EReal.coe_mul]
  refine (c3 (fun j a b => (dj X M G O2 O3 j a b / (∑ j : Fin 3, Real.exp (lj X M L2 L3 j.val a b - m a b))
      + -(∑ k : Fin 3, dj X M G O2 O3 k.val a b * (1 / ((∑ j : Fin 3, Real.exp (lj X M L2 L3 j.val a b - m a b))
        * (∑ j : Fin 3, Real.exp (lj X M L2 L3 j.val a b - m a b)))) * Real.exp (lj X M L2 L3 k.val a b - m a b)))
        * Real.exp (lj X M L2 L3 j a b - m a b)) (a' := 0) (b' := (i 1).val) (c' := (i 2).val) ?_ ?_ ?_).trans
    (congrArg _ (grad_lse X M L2 L3 (m (i 1).val (i 2).val) (i 1).val (i 2).val _ rfl (fun j => dj X M G O2 O3 j (i 1).val (i 2).val))) <;>
    dsimp only [idx_main_v198, idx_main_v197, idx_main_v190, idx_main_v194] <;> omega

theorem b207 (i : S1x32x12x128.Idx) : val_main_v207 (F := Ideal) x0 x1 x2 x3 x4 x5 i
    = ((wj X M L2 L3 0 (128 * (i 1).val + (i 3).val) (i 2).val * (dj X M G O2 O3 0 (128 * (i 1).val + (i 3).val) (i 2).val
        - del X M G L2 L3 O2 O3 (128 * (i 1).val + (i 3).val) (i 2).val) : ℝ) : EReal) := by
  obtain ⟨h0, h1, h2, h3⟩ := bndR i
  rw [val_main_v207_apply, val_main_v206_apply, val_main_v205_apply, val_main_v204_apply, val_main_v203_apply, b198 H hm]
  refine c2 (fun a b => wj X M L2 L3 0 a b * (dj X M G O2 O3 0 a b - del X M G L2 L3 O2 O3 a b)) ?_ ?_ <;>
    dsimp only [idx_main_v207, idx_main_v206, idx_main_v205, idx_main_v204, idx_main_v203] <;> omega

/-- The cotangent of the first branch's output. -/
theorem b210 (i : S1x4096x12x64.Idx) : val_main_v210 (F := Ideal) x0 x1 x3 x5 i
    = ((wj X M L2 L3 0 (i 1).val (i 2).val * gv G (i 1).val (i 2).val (i 3).val : ℝ) : EReal) := by
  obtain ⟨h0, h1, h2, h3⟩ := bnd4 i
  rw [val_main_v210_apply, val_main_v209_apply, val_main_v208_apply, val_main_v177_apply, val_main_v176_apply, b172 H hm]
  refine c4 (fun j a b c => wj X M L2 L3 j a b * gv G a b c) ?_ ?_ ?_ ?_ <;>
    dsimp only [idx_main_v210, idx_main_v209, idx_main_v208, idx_main_v177, idx_main_v176] <;> omega

theorem b214 (i : S1x32x12x64x128.Idx) : val_main_v214 (F := Ideal) x0 x1 x3 x5 i
    = ((wj X M L2 L3 0 (128 * (i 1).val + (i 4).val) (i 2).val * gv G (128 * (i 1).val + (i 4).val) (i 2).val (i 3).val : ℝ) : EReal) := by
  have h0 : (i 0).val < 1 := (i 0).isLt
  have h1 : (i 1).val < 32 := (i 1).isLt
  have h2 : (i 2).val < 12 := (i 2).isLt
  have h3 : (i 3).val < 64 := (i 3).isLt
  have h4 : (i 4).val < 128 := (i 4).isLt
  rw [val_main_v214_apply, val_main_v211_apply, b210 H hm]
  refine c3 (fun a b c => wj X M L2 L3 0 a b * gv G a b c) ?_ ?_ ?_ <;> dsimp only [idx_main_v214, idx_main_v211] <;> omega

end Mix

end Cert.Da
-- ==== Proof.Lanes.lean ====
/- The two arrays of lanes that the kernel reads, over the real numbers: the mixture's log-denominator, and the cotangent against the mixture's
   output. -/
module

public import proofs.«01_k».proof.Proof.Host
public import proofs.«01_k».proof.Proof.RefMix
public import Idealize.ShloMosaic.Lib.KernelVsHost

@[expose] public section

set_option maxRecDepth 16384

noncomputable section

namespace Cert.Da

open Idealize.ShloMosaic Idealize.ShloMosaic.TcCoe
open Cert.KernelIdeal Cert.KernelIdeal.Gen Cert.KernelIdeal.Da Cert.ReferenceIdeal.Read

variable {a b c : Vec Ideal Cert.KernelIdeal.S1x4096x12 .f32} {A B C : ℕ → ℕ → ℝ}

/-- The largest of the three log-denominators, and the sum of their exponentials below it. -/
def three (A B C : ℕ → ℕ → ℝ) (t h : ℕ) : ℝ := max (max (A t h) (B t h)) (C t h)
def expsum (A B C : ℕ → ℕ → ℝ) (t h : ℕ) : ℝ :=
  Real.exp (A t h - three A B C t h) + Real.exp (B t h - three A B C t h) + Real.exp (C t h - three A B C t h)

theorem expsum_pos (t h : ℕ) : 0 < expsum A B C t h := by unfold expsum; positivity

section Mix

variable (ha : ∀ i, a i = ((A (i 1).val (i 2).val : ℝ) : EReal)) (hb : ∀ i, b i = ((B (i 1).val (i 2).val : ℝ) : EReal))
  (hc : ∀ i, c i = ((C (i 1).val (i 2).val : ℝ) : EReal))
include ha hb hc

theorem mixMax_val (i : Cert.KernelIdeal.S1x4096x12.Idx) : mixMax (F := Ideal) a b c i = ((three A B C (i 1).val (i 2).val : ℝ) : EReal) := by
  show max (max (a i) (b i)) (c i) = _
  rw [ha, hb, hc]
  unfold three
  exact ((EReal.coe_strictMono.monotone.map_max).trans (congrArg (max · _) EReal.coe_strictMono.monotone.map_max)).symm

theorem mixExp_val {l : Vec Ideal Cert.KernelIdeal.S1x4096x12 .f32} {L : ℕ → ℕ → ℝ} (hl : ∀ i, l i = ((L (i 1).val (i 2).val : ℝ) : EReal))
    (i : Cert.KernelIdeal.S1x4096x12.Idx) :
    mixExp (F := Ideal) (mixMax (F := Ideal) a b c) l i = ((Real.exp (L (i 1).val (i 2).val - three A B C (i 1).val (i 2).val) : ℝ) : EReal) := by
  show Ideal.exp (l i - mixMax (F := Ideal) a b c i) = _
  rw [mixMax_val ha hb hc, hl, ← EReal.coe_sub, Ideal.exp_coe]

theorem mixSum_val (i : Cert.KernelIdeal.S1x4096x12.Idx) : mixSum (F := Ideal) a b c i = ((expsum A B C (i 1).val (i 2).val : ℝ) : EReal) := by
  show mixExp (F := Ideal) (mixMax (F := Ideal) a b c) a i + mixExp (F := Ideal) (mixMax (F := Ideal) a b c) b i
    + mixExp (F := Ideal) (mixMax (F := Ideal) a b c) c i = _
  rw [mixExp_val ha hb hc ha, mixExp_val ha hb hc hb, mixExp_val ha hb hc hc, ← EReal.coe_add, ← EReal.coe_add]
  rfl

theorem mixLse_val (i : Cert.KernelIdeal.S1x4096x12.Idx) : mixLse (F := Ideal) a b c i
    = ((three A B C (i 1).val (i 2).val + Real.log (expsum A B C (i 1).val (i 2).val) : ℝ) : EReal) := by
  show mixMax (F := Ideal) a b c i + Ideal.log (mixSum (F := Ideal) a b c i) = _
  rw [mixMax_val ha hb hc, mixSum_val ha hb hc, log_real (expsum_pos _ _), ← EReal.coe_add]

theorem mixTerm_val {l : Vec Ideal Cert.KernelIdeal.S1x4096x12 .f32} {L : ℕ → ℕ → ℝ} (hl : ∀ i, l i = ((L (i 1).val (i 2).val : ℝ) : EReal))
    {o : Vec Ideal Cert.KernelIdeal.S1x4096x12x64 .f32} {O : ℕ → ℕ → ℕ → ℝ} (ho : ∀ i, o i = ((O (i 1).val (i 2).val (i 3).val : ℝ) : EReal))
    (i : Cert.KernelIdeal.S1x4096x12x64.Idx) :
    mixTerm (F := Ideal) a b c l o i = ((Real.exp (L (i 1).val (i 2).val - three A B C (i 1).val (i 2).val) / expsum A B C (i 1).val (i 2).val
      * O (i 1).val (i 2).val (i 3).val : ℝ) : EReal) := by
  have e : mixTerm (F := Ideal) a b c l o i
      = Ideal.div (mixExp (F := Ideal) (mixMax (F := Ideal) a b c) l (ix3 (i 0) (i 1) (i 2))) (mixSum (F := Ideal) a b c (ix3 (i 0) (i 1) (i 2))) * o i := by
    refine congrArg (fun t => t * o i) ?_
    refine (broadcastInDim_apply _ _ _ i (ix4 (i 0) (i 1) (i 2) (0 : Fin 1)) fun a => ?_).trans ((broadcastInDim_apply _ _ _ _ (ix3 (i 0) (i 1) (i 2)) fun a => ?_).trans rfl)
    · match a with
      | ⟨0, _⟩ => have : (i 0).val < 1 := (i 0).isLt; show (i 0).val = if 1 = 1 then 0 else _; simp; omega
      | ⟨1, _⟩ => rfl
      | ⟨2, _⟩ => rfl
      | ⟨3, _⟩ => rfl
    · match a with
      | ⟨0, _⟩ => have : (i 0).val < 1 := (i 0).isLt; show (i 0).val = if 1 = 1 then 0 else _; simp; omega
      | ⟨1, _⟩ => rfl
      | ⟨2, _⟩ => rfl
  rw [e, mixExp_val ha hb hc hl, mixSum_val ha hb hc, div_real (expsum_pos _ _).ne', ho, ← EReal.coe_mul]
  rfl

theorem mixOut_real {o o2 o3 : Vec Ideal Cert.KernelIdeal.S1x4096x12x64 .f32} {O O2 O3 : ℕ → ℕ → ℕ → ℝ}
    (ho : ∀ i, o i = ((O (i 1).val (i 2).val (i 3).val : ℝ) : EReal)) (ho2 : ∀ i, o2 i = ((O2 (i 1).val (i 2).val (i 3).val : ℝ) : EReal))
    (ho3 : ∀ i, o3 i = ((O3 (i 1).val (i 2).val (i 3).val : ℝ) : EReal)) (i : Cert.KernelIdeal.S1x4096x12x64.Idx) :
    mixOut (F := Ideal) a b c o o2 o3 i
      = ((Real.exp (A (i 1).val (i 2).val - three A B C (i 1).val (i 2).val) / expsum A B C (i 1).val (i 2).val * O (i 1).val (i 2).val (i 3).val
          + Real.exp (B (i 1).val (i 2).val - three A B C (i 1).val (i 2).val) / expsum A B C (i 1).val (i 2).val * O2 (i 1).val (i 2).val (i 3).val
          + Real.exp (C (i 1).val (i 2).val - three A B C (i 1).val (i 2).val) / expsum A B C (i 1).val (i 2).val * O3 (i 1).val (i 2).val (i 3).val : ℝ) : EReal) := by
  show mixTerm (F := Ideal) a b c a o i + mixTerm (F := Ideal) a b c b o2 i + mixTerm (F := Ideal) a b c c o3 i = _
  rw [mixTerm_val ha hb hc ha ho, mixTerm_val ha hb hc hb ho2, mixTerm_val ha hb hc hc ho3, ← EReal.coe_add, ← EReal.coe_add]

end Mix

/-- The lanes of an array of twelve columns. -/
theorem lanesV_val (x : Vec Ideal Cert.KernelIdeal.S1x4096x12 .f32) (L : ℕ → ℕ → ℝ) (hx : ∀ i, x i = ((L (i 1).val (i 2).val : ℝ) : EReal))
    (i : Cert.KernelIdeal.S4096x128.Idx) (hi : (i 1).val < 12) : lanesV (F := Ideal) x i = ((L (i 0).val (i 1).val : ℝ) : EReal) := by
  have h0 : (i 0).val < 4096 := (i 0).isLt
  refine (pad_apply_of_inside _ _ _ _ _ _ _ i (ix2 (⟨(i 0).val, h0⟩ : Fin 4096) (⟨(i 1).val, hi⟩ : Fin 12)) fun a => ?_).trans ?_
  · match a with
    | ⟨0, _⟩ => show (i 0).val = 0 + (i 0).val * (0 + 1); omega
    | ⟨1, _⟩ => show (i 1).val = 0 + (i 1).val * (0 + 1); omega
  · refine (shapeCast_apply _ _ _ (ix3 (0 : Fin 1) (⟨(i 0).val, h0⟩ : Fin 4096) (⟨(i 1).val, hi⟩ : Fin 12)) ?_).trans (hx _)
    simp [Shape.rowMajor_val_three, Shape.rowMajor_val_two]

/-- The rows' sums of cotangent times output. -/
theorem mixDelta_real {g : Vec Ideal Cert.KernelIdeal.S4096x768 .bf16} {a b c : Vec Ideal Cert.KernelIdeal.S1x4096x12 .f32}
    {o o2 o3 : Vec Ideal Cert.KernelIdeal.S1x4096x12x64 .f32} {G : ℕ → ℕ → ℝ} {R : ℕ → ℕ → ℕ → ℝ}
    (hg : ∀ j, g j = ((G (j 0).val (j 1).val : ℝ) : EReal))
    (hR : ∀ i, mixOut (F := Ideal) a b c o o2 o3 i = ((R (i 1).val (i 2).val (i 3).val : ℝ) : EReal)) (j : Cert.KernelIdeal.S1x4096x12.Idx) :
    mixDelta (F := Ideal) g a b c o o2 o3 j = ((∑ d : Fin 64, gv G (j 1).val (j 2).val d.val * R (j 1).val (j 2).val d.val : ℝ) : EReal) := by
  have h1 : (j 1).val < 4096 := (j 1).isLt
  have h2 : (j 2).val < 12 := (j 2).isLt
  have h0 : (j 0).val < 1 := (j 0).isLt
  unfold mixDelta Host.reduceAdd
  generalize mixOut (F := Ideal) a b c o o2 o3 = w at hR
  have hred : Cert.KernelIdeal.S1x4096x12x64.Reduces [(3 : Fin 4)] Cert.KernelIdeal.S1x4096x12 := by decide
  rw [Ideal.hostReduceAdd_def, Ideal.hostReduceAdd_single reducesTo_S1x4096x12x64_S1x4096x12_d3 hred]
  have hz : constant (F := Ideal) S_ .f32 0x00000000#32 (Shape.Idx.first h_S_) = ((0 : ℝ) : EReal) := zero_word
  rw [hz, EReal.coe_zero, zero_add, coe_sum]
  refine Finset.sum_congr rfl fun (d : Fin 64) _ => ?_
  have hd : d.val < 64 := d.isLt
  have eg : shapeCast Cert.KernelIdeal.S1x4096x12x64 (extf (F := Ideal) .f32 g bitsLt_bf16_f32) shapeCasts_S4096x768_S1x4096x12x64
      (ix4 (j 0) (j 1) (j 2) d) = ((gv G (j 1).val (j 2).val d.val : ℝ) : EReal) := by
    refine (shapeCast_apply _ _ _ (ix2 (⟨(j 1).val, h1⟩ : Fin 4096) (⟨64 * (j 2).val + d.val, by omega⟩ : Fin 768)) ?_).trans (hg _)
    simp only [Shape.rowMajor_val_four, Shape.rowMajor_val_two]
    show (j 1).val * 768 + (64 * (j 2).val + d.val) = (((j 0).val * 4096 + (j 1).val) * 12 + (j 2).val) * 64 + d.val
    omega
  have e : hred.lift j d = ix4 (j 0) (j 1) (j 2) d :=
    funext fun a => Fin.ext (by match a with | ⟨0, _⟩ => rfl | ⟨1, _⟩ => rfl | ⟨2, _⟩ => rfl | ⟨3, _⟩ => rfl)
  rw [e]
  exact (congrArg₂ (· * ·) eg (hR _)).trans (EReal.coe_mul _ _).symm

section Rows

variable {x0 : (⟨Cert.ReferenceIdeal.S4096x2304, .bf16⟩ : BufTy).Contents (Elt Ideal)} {x1 : (⟨Cert.ReferenceIdeal.S4096x768, .bf16⟩ : BufTy).Contents (Elt Ideal)}
  {x2 : (⟨Cert.ReferenceIdeal.S1x4096x12x64, .f32⟩ : BufTy).Contents (Elt Ideal)} {x3 : (⟨Cert.ReferenceIdeal.S1x4096x12, .f32⟩ : BufTy).Contents (Elt Ideal)}
  {x4 : (⟨Cert.ReferenceIdeal.S1x4096x12x64, .f32⟩ : BufTy).Contents (Elt Ideal)} {x5 : (⟨Cert.ReferenceIdeal.S1x4096x12, .f32⟩ : BufTy).Contents (Elt Ideal)}
  {X : ℕ → ℕ → ℝ} {M : ℕ → ℕ → ℕ → ℝ} {G : ℕ → ℕ → ℝ} {L2 L3 : ℕ → ℕ → ℝ} {O2 O3 : ℕ → ℕ → ℕ → ℝ}
  (H : Ins x0 x1 x2 x3 x4 x5 X M G L2 L3 O2 O3)

/-- The sum of the three exponentials below the maximum. -/
theorem expsum_eq (t h : ℕ) : expsum (l1 X M) L2 L3 t h = ∑ i : Fin 3, Real.exp (lj X M L2 L3 i t h - three (l1 X M) L2 L3 t h) := by
  rw [Fin.sum_univ_three]; rfl

theorem lse_eq (t h : ℕ) : three (l1 X M) L2 L3 t h + Real.log (expsum (l1 X M) L2 L3 t h) = Real.log (Z X M L2 L3 t h) := by
  have e : expsum (l1 X M) L2 L3 t h = Z X M L2 L3 t h / Real.exp (three (l1 X M) L2 L3 t h) := by
    unfold expsum Z
    rw [Real.exp_sub, Real.exp_sub, Real.exp_sub, add_div, add_div]
  rw [e, Real.log_div (Z_pos X M L2 L3 t h).ne' (Real.exp_pos _).ne', Real.log_exp]
  ring

include H

/-- The lanes of the log-denominator. -/
theorem lse_lanes (i : Cert.KernelIdeal.S4096x128.Idx) (hi : (i 1).val < 12) :
    lanesV (F := Ideal) (mixLse (F := Ideal) (val_main_v122 (F := Ideal) x0) x3 x5) i = ((Real.log (Z X M L2 L3 (i 0).val (i 1).val) : ℝ) : EReal) := by
  refine lanesV_val _ (fun t h => Real.log (Z X M L2 L3 t h)) (fun j => ?_) i hi
  rw [mixLse_val (r122 H.x H.m) H.l2 H.l3, lse_eq]

/-- The mixture's output. -/
theorem mixOut_val (i : Cert.KernelIdeal.S1x4096x12x64.Idx) :
    mixOut (F := Ideal) (val_main_v122 (F := Ideal) x0) x3 x5 (val_main_v117 (F := Ideal) x0) x2 x4 i
      = ((wj X M L2 L3 0 (i 1).val (i 2).val * o1 X M (i 1).val (i 2).val (i 3).val + wj X M L2 L3 1 (i 1).val (i 2).val * O2 (i 1).val (i 2).val (i 3).val
          + wj X M L2 L3 2 (i 1).val (i 2).val * O3 (i 1).val (i 2).val (i 3).val : ℝ) : EReal) := by
  rw [mixOut_real (r122 H.x H.m) H.l2 H.l3 (r117 H.x H.m) H.o2 H.o3, expsum_eq,
    ← share X M L2 L3 (three (l1 X M) L2 L3 (i 1).val (i 2).val) 0, ← share X M L2 L3 (three (l1 X M) L2 L3 (i 1).val (i 2).val) 1,
    ← share X M L2 L3 (three (l1 X M) L2 L3 (i 1).val (i 2).val) 2]
  simp only [lj, if_true, one_ne_zero, if_false, OfNat.ofNat_ne_zero, OfNat.ofNat_ne_one]

/-- The lanes of the cotangent against the mixture's output. -/
theorem delta_lanes (i : Cert.KernelIdeal.S4096x128.Idx) (hi : (i 1).val < 12) :
    lanesV (F := Ideal) (mixDelta (F := Ideal) x1 (val_main_v122 (F := Ideal) x0) x3 x5 (val_main_v117 (F := Ideal) x0) x2 x4) i
      = ((del X M G L2 L3 O2 O3 (i 0).val (i 1).val : ℝ) : EReal) := by
  refine lanesV_val _ (fun t h => del X M G L2 L3 O2 O3 t h) (fun j => ?_) i hi
  rw [mixDelta_real (R := fun t h d => wj X M L2 L3 0 t h * o1 X M t h d + wj X M L2 L3 1 t h * O2 t h d + wj X M L2 L3 2 t h * O3 t h d) H.g (mixOut_val H),
    del_eq]

end Rows

end Cert.Da

end
-- ==== Proof.KernelReal.lean ====
/- The three arrays the kernel leaves, over the real numbers. -/
module

public import proofs.«01_k».proof.Proof.Launch
public import proofs.«01_k».proof.Proof.Lanes
public import Idealize.ShloMosaic.Lib.Pipeline.ValueKit

@[expose] public section

set_option maxRecDepth 16384

noncomputable section

namespace Cert.Da

open Idealize.ShloMosaic Idealize.ShloMosaic.TcCoe
open Cert.KernelIdeal Cert.KernelIdeal.Gen Cert.KernelIdeal.Da Cert.ReferenceIdeal.Read

/-! ## The windows' blocks -/

theorem coord_val : ∀ t : Fin cfg0.N, (grid0.coords t 1).val = t.val := by decide +kernel
theorem e0 : ∀ t : Fin cfg0.N, win0_0.index t = ![min t.val 31, 0] := by decide +kernel
theorem e1 : ∀ t : Fin cfg0.N, win0_1.index t = ![min t.val 31, 1] := by decide +kernel
theorem e2 : ∀ t : Fin cfg0.N, win0_2.index t = ![min t.val 31 - 1, 1] := by decide +kernel
theorem e3 : ∀ t : Fin cfg0.N, win0_3.index t = ![min t.val 31, 2] := by decide +kernel
theorem e4 : ∀ t : Fin cfg0.N, win0_4.index t = ![min t.val 31 - 1, 2] := by decide +kernel
theorem e5 : ∀ t : Fin cfg0.N, win0_5.index t = ![min t.val 31, 0] := by decide +kernel
theorem e6 : ∀ t : Fin cfg0.N, win0_6.index t = ![min t.val 31, 0] := by decide +kernel
theorem e7 : ∀ t : Fin cfg0.N, win0_7.index t = ![min t.val 31, 0] := by decide +kernel
theorem e8 : ∀ t : Fin cfg0.N, win0_8.index t = ![min t.val 31, 0] := by decide +kernel
theorem e9 : ∀ t : Fin cfg0.N, win0_9.index t = ![t.val - 1, 0] := by decide +kernel
theorem e10 : ∀ t : Fin cfg0.N, win0_10.index t = ![t.val - 1, 0] := by decide +kernel
/-- The late outputs are written back from the second point on. -/
theorem late9 : ∀ t : Fin cfg0.N, (cfg0.win 9).flush t = true → 1 ≤ t.val := by decide +kernel
theorem late10 : ∀ t : Fin cfg0.N, (cfg0.win 10).flush t = true → 1 ≤ t.val := by decide +kernel

section Blocks

variable (m : (ℓ : Loc nD τ sig) → Buf (Elt Ideal) ℓ) (c : Dev nD)
  {X : ℕ → ℕ → ℝ} {M : ℕ → ℕ → ℕ → ℝ} {G : ℕ → ℕ → ℝ} {L2 L3 : ℕ → ℕ → ℝ} {O2 O3 : ℕ → ℕ → ℕ → ℝ}
  (H : Ins (a0 m c) (a1 m c) (a2 m c) (a3 m c) (a4 m c) (a5 m c) X M G L2 L3 O2 O3)
include H

theorem blk0 (t : Fin cfg0.N) (h : t.val < 32) (y : S128x768.Idx) :
    iblk (F := Ideal) m c 0 t y = ((X (128 * t.val + (y 0).val) (0 + (y 1).val) : ℝ) : EReal) := by
  blk_simp [iblk, V_main_arg0]
  refine (H.x _).trans (congrArg Real.toEReal (congrArg₂ X ?_ ?_)) <;> blk_simp [e0] <;> dsimp <;> omega

theorem blk1 (t : Fin cfg0.N) (h : t.val < 32) (y : S128x768.Idx) :
    iblk (F := Ideal) m c 1 t y = ((X (128 * t.val + (y 0).val) (768 + (y 1).val) : ℝ) : EReal) := by
  blk_simp [iblk, V_main_arg0]
  refine (H.x _).trans (congrArg Real.toEReal (congrArg₂ X ?_ ?_)) <;> blk_simp [e1] <;> dsimp <;> omega

theorem blk2 (t : Fin cfg0.N) (h : t.val < 32) (y : S128x768.Idx) :
    iblk (F := Ideal) m c 2 t y = ((X (128 * (t.val - 1) + (y 0).val) (768 + (y 1).val) : ℝ) : EReal) := by
  blk_simp [iblk, V_main_arg0]
  refine (H.x _).trans (congrArg Real.toEReal (congrArg₂ X ?_ ?_)) <;> blk_simp [e2] <;> dsimp <;> omega

theorem blk3 (t : Fin cfg0.N) (h : t.val < 32) (y : S128x768.Idx) :
    iblk (F := Ideal) m c 3 t y = ((X (128 * t.val + (y 0).val) (1536 + (y 1).val) : ℝ) : EReal) := by
  blk_simp [iblk, V_main_arg0]
  refine (H.x _).trans (congrArg Real.toEReal (congrArg₂ X ?_ ?_)) <;> blk_simp [e3] <;> dsimp <;> omega

theorem blk4 (t : Fin cfg0.N) (h : t.val < 32) (y : S128x768.Idx) :
    iblk (F := Ideal) m c 4 t y = ((X (128 * (t.val - 1) + (y 0).val) (1536 + (y 1).val) : ℝ) : EReal) := by
  blk_simp [iblk, V_main_arg0]
  refine (H.x _).trans (congrArg Real.toEReal (congrArg₂ X ?_ ?_)) <;> blk_simp [e4] <;> dsimp <;> omega

theorem blk5 (t : Fin cfg0.N) (h : t.val < 32) (y : S128x768.Idx) :
    iblk (F := Ideal) m c 5 t y = ((G (128 * t.val + (y 0).val) (0 + (y 1).val) : ℝ) : EReal) := by
  blk_simp [iblk, V_main_arg1]
  refine (H.g _).trans (congrArg Real.toEReal (congrArg₂ G ?_ ?_)) <;> blk_simp [e5] <;> dsimp <;> omega

theorem blk6 (t : Fin cfg0.N) (h : t.val < 32) (y : S128x128.Idx) (hy : (y 1).val < 12) :
    iblk (F := Ideal) m c 6 t y = ((Real.log (Z X M L2 L3 (128 * t.val + (y 0).val) (y 1).val) : ℝ) : EReal) := by
  blk_simp [iblk, (V_lanes m c).1]
  refine (lse_lanes H _ ?_).trans (congrArg Real.toEReal (congrArg₂ (fun t h => Real.log (Z X M L2 L3 t h)) ?_ ?_)) <;> blk_simp [e6] <;> dsimp <;> omega

theorem blk7 (t : Fin cfg0.N) (h : t.val < 32) (y : S128x128.Idx) (hy : (y 1).val < 12) :
    iblk (F := Ideal) m c 7 t y = ((del X M G L2 L3 O2 O3 (128 * t.val + (y 0).val) (y 1).val : ℝ) : EReal) := by
  blk_simp [iblk, (V_lanes m c).2]
  refine (delta_lanes H _ ?_).trans (congrArg Real.toEReal (congrArg₂ (del X M G L2 L3 O2 O3) ?_ ?_)) <;> blk_simp [e7] <;> dsimp <;> omega

end Blocks

end Cert.Da

end
-- ==== Proof.TileReal.lean ====
/- The pieces of a step over the real numbers: the mask, one head's half of a block, one lane as a column, the band of two blocks, and the
   three contractions. -/
module

public import proofs.«01_k».proof.Proof.Tile
public import proofs.«01_k».proof.Proof.RefMask

@[expose] public section

set_option maxRecDepth 16384

noncomputable section

namespace Cert.Da

open Idealize.ShloMosaic Idealize.ShloMosaic.TcCoe
open Cert.KernelIdeal Cert.KernelIdeal.Gen Cert.KernelIdeal.Da

/-! ## The contractions -/

/-- Rows against rows, over 128 lanes. -/
theorem mm_rows (x : FVec Ideal S128x128 .bf16) (y : FVec Ideal S256x128 .bf16) (i : S128x256.Idx) :
    matmul dot_S128x128_S256x128_S128x256_1_1_0_0_n_n none x y (constant S128x256 .f32 0x00000000#32) i
      = ∑ k : Fin 128, x (ix2 (i 0) k) * y (ix2 (i 1) k) := by
  show FloatOps.matmul _ _ _ _ (constant S128x256 .f32 0x00000000#32) i = _
  rw [Ideal.matmul_constant_zero_apply,
    ← Equiv.sum_comp (ValueIdx.contrEquiv1 dot_S128x128_S256x128_S128x256_1_1_0_0_n_n 128 rfl rfl).symm]
  refine Finset.sum_congr rfl fun k _ => ?_
  have hk := ValueIdx.contrEquiv1_symm_val dot_S128x128_S256x128_S128x256_1_1_0_0_n_n 128 rfl rfl k
  congr 2
  · funext b; apply Fin.ext
    match b with
    | ⟨0, _⟩ => rfl
    | ⟨1, _⟩ => exact hk
  · funext b; apply Fin.ext
    match b with
    | ⟨0, _⟩ => rfl
    | ⟨1, _⟩ => exact hk

/-- Rows against columns, over 256 keys. -/
theorem mm_plain (x : FVec Ideal S128x256 .bf16) (y : FVec Ideal S256x128 .bf16) (i : S128x128.Idx) :
    matmul dot_S128x256_S256x128_S128x128_1_0_0_1_n_n none x y (constant S128x128 .f32 0x00000000#32) i
      = ∑ k : Fin 256, x (ix2 (i 0) k) * y (ix2 k (i 1)) := by
  show FloatOps.matmul _ _ _ _ (constant S128x128 .f32 0x00000000#32) i = _
  rw [Ideal.matmul_constant_zero_apply,
    ← Equiv.sum_comp (ValueIdx.contrEquiv1 dot_S128x256_S256x128_S128x128_1_0_0_1_n_n 256 rfl rfl).symm]
  refine Finset.sum_congr rfl fun k _ => ?_
  have hk := ValueIdx.contrEquiv1_symm_val dot_S128x256_S256x128_S128x128_1_0_0_1_n_n 256 rfl rfl k
  congr 2
  · funext b; apply Fin.ext
    match b with
    | ⟨0, _⟩ => rfl
    | ⟨1, _⟩ => exact hk
  · funext b; apply Fin.ext
    match b with
    | ⟨0, _⟩ => exact hk
    | ⟨1, _⟩ => rfl

/-- Columns against columns, over 128 rows. -/
theorem mm_cols (x : FVec Ideal S128x256 .bf16) (y : FVec Ideal S128x128 .bf16) (i : S256x128.Idx) :
    matmul dot_S128x256_S128x128_S256x128_0_0_1_1_n_n none x y (constant S256x128 .f32 0x00000000#32) i
      = ∑ k : Fin 128, x (ix2 k (i 0)) * y (ix2 k (i 1)) := by
  show FloatOps.matmul _ _ _ _ (constant S256x128 .f32 0x00000000#32) i = _
  rw [Ideal.matmul_constant_zero_apply,
    ← Equiv.sum_comp (ValueIdx.contrEquiv1 dot_S128x256_S128x128_S256x128_0_0_1_1_n_n 128 rfl rfl).symm]
  refine Finset.sum_congr rfl fun k _ => ?_
  have hk := ValueIdx.contrEquiv1_symm_val dot_S128x256_S128x128_S256x128_0_0_1_1_n_n 128 rfl rfl k
  congr 2
  · funext b; apply Fin.ext
    match b with
    | ⟨0, _⟩ => exact hk
    | ⟨1, _⟩ => rfl
  · funext b; apply Fin.ext
    match b with
    | ⟨0, _⟩ => exact hk
    | ⟨1, _⟩ => rfl

/-! ## The mask -/

theorem iota128_val (z : S128x128.Idx) : iota .tc S128x128 32 [1] iota_S128x128_d1_w32 z = BitVec.ofNat 32 (z 1).val :=
  iota_single_apply ..
theorem iota256_val (z : S128x256.Idx) : iota .tc S128x256 32 [1] iota_S128x256_d1_w32 z = BitVec.ofNat 32 (z 1).val :=
  iota_single_apply ..
theorem iotaRow_val (z : S128x256.Idx) : iota .tc S128x256 32 [0] iota_S128x256_d0_w32 z = BitVec.ofNat 32 (z 0).val :=
  iota_single_apply ..

theorem pay6_val (i : S128x256.Idx) : (k0_pay6 i).toInt = ((i 0).val : ℤ) + 128 - (i 1).val := by
  have h0 : (i 0).val < 128 := (i 0).isLt
  have h1 : (i 1).val < 256 := (i 1).isLt
  have e : k0_pay6 i = BitVec.ofInt 32 (((i 0).val : ℤ) + 128 - (i 1).val) := by
    show iota .tc S128x256 32 [0] iota_S128x256_d0_w32 i + 128#32 - iota .tc S128x256 32 [1] iota_S128x256_d1_w32 i = _
    rw [iotaRow_val, iota256_val, sub_eq_add_neg, BitVec.ofInt_add, BitVec.ofInt_add, BitVec.ofInt_neg, ← BitVec.sub_eq_add_neg]
    rfl
  rw [e, toInt_small _ (by omega) (by omega)]

theorem pay8_val (i : S128x256.Idx) : k0_pay8 (F := Ideal) i = (((i 0).val + 128 - (i 1).val : ℝ) : EReal) := by
  have e : k0_pay8 (F := Ideal) i = (((k0_pay6 i * 1#32).toInt : ℝ) : EReal) := rfl
  rw [e, BitVec.mul_one, pay6_val]
  push_cast
  rfl

theorem ofBool_and (a b : Bool) : BitVec.ofBool a &&& BitVec.ofBool b = BitVec.ofBool (a && b) := by cases a <;> cases b <;> rfl
theorem ofBool_or (a b : Bool) : BitVec.ofBool a ||| BitVec.ofBool b = BitVec.ofBool (a || b) := by cases a <;> cases b <;> rfl

theorem nat_toInt (n : ℕ) (hn : n < 100000) : (BitVec.ofNat 32 n).toInt = n :=
  toInt_small (n : ℤ) (by omega) (by omega)

theorem pay7_val (n : ℕ) (hn : n < 32) (i : S128x256.Idx) :
    k0_pay7 (BitVec.ofNat 32 n) i = BitVec.ofBool (decide (ok n (i 0).val (i 1).val)) := by
  have h0 : (i 0).val < 128 := (i 0).isLt
  have h1 : (i 1).val < 256 := (i 1).isLt
  have e : k0_pay7 (BitVec.ofNat 32 n) i
      = (BitVec.ofBool ((0#32).sle (k0_pay6 i)) &&& BitVec.ofBool ((k0_pay6 i).sle 128#32))
        &&& (BitVec.ofBool ((128#32).sle (BitVec.ofNat 32 (i 1).val)) ||| BitVec.ofBool ((0#32).slt (BitVec.ofNat 32 n))) := by
    rw [← iota256_val]; rfl
  have z0 : (0#32).toInt = 0 := by decide
  have z1 : (128#32).toInt = 128 := by decide
  have b1 : (0#32).sle (k0_pay6 i) = decide ((i 1).val ≤ (i 0).val + 128) := by
    rw [BitVec.sle, pay6_val, z0]; exact decide_eq_decide.mpr (by omega)
  have b2 : (k0_pay6 i).sle 128#32 = decide ((i 0).val ≤ (i 1).val) := by
    rw [BitVec.sle, pay6_val, z1]; exact decide_eq_decide.mpr (by omega)
  have b3 : (128#32).sle (BitVec.ofNat 32 (i 1).val) = decide (128 ≤ (i 1).val) := by
    rw [BitVec.sle, nat_toInt (i 1).val (by omega), z1]; exact decide_eq_decide.mpr (by omega)
  have b4 : (0#32).slt (BitVec.ofNat 32 n) = decide (0 < n) := by
    rw [BitVec.slt, nat_toInt n (by omega), z0]; exact decide_eq_decide.mpr (by omega)
  rw [e, b1, b2, b3, b4, ofBool_and, ofBool_or, ofBool_and, ← Bool.decide_and, ← Bool.decide_or, ← Bool.decide_and]
  refine congrArg BitVec.ofBool (decide_eq_decide.mpr ?_)
  unfold ok
  omega

/-! ## One head's half of a block, one lane of a block, the band -/

/-- Lane `l` belongs to the even head (`o = 0`) or to the odd one (`o = 1`). -/
def mine (odd : Bool) (l : ℕ) : Prop := if odd then 64 ≤ l else l < 64

instance (odd : Bool) (l : ℕ) : Decidable (mine odd l) := by unfold mine; infer_instance

theorem halfMask_val (odd : Bool) (z : S128x128.Idx) : halfMask odd z = BitVec.ofBool (decide (mine odd (z 1).val)) := by
  have h1 : (z 1).val < 128 := (z 1).isLt
  have z1 : (64#32).toInt = 64 := by decide
  cases odd with
  | false =>
    show BitVec.ofBool ((iota .tc S128x128 32 [1] iota_S128x128_d1_w32 z).slt 64#32) = _
    rw [iota128_val, BitVec.slt, nat_toInt _ (by omega), z1]
    exact congrArg _ (decide_eq_decide.mpr (by simp only [mine, Bool.false_eq_true, if_false]; omega))
  | true =>
    show BitVec.ofBool ((64#32).sle (iota .tc S128x128 32 [1] iota_S128x128_d1_w32 z)) = _
    rw [iota128_val, BitVec.sle, nat_toInt (z 1).val (by omega), z1]
    exact congrArg _ (decide_eq_decide.mpr (by simp only [mine, if_true]; omega))

theorem select_ofBool {α : Type} (p : Prop) [Decidable p] (x y : α) : Scalar.select (BitVec.ofBool (decide p)) x y = if p then x else y := by
  unfold Scalar.select
  by_cases h : p <;> simp [h]

theorem halfOf_val (odd : Bool) (x : Vec Ideal S128x128 .bf16) (z : S128x128.Idx) :
    halfOf (F := Ideal) odd x z = if mine odd (z 1).val then x z else ((0 : ℝ) : EReal) := by
  show Scalar.select (halfMask odd z) (x z) (Ideal.ofBits .f32 0x00000000#32) = _
  rw [halfMask_val, select_ofBool, zero_word]

theorem laneCol_val (l : ℕ) (hl : l < 128) (x : Vec Ideal S128x128 .f32) (i : S128x256.Idx) :
    laneCol (F := Ideal) (BitVec.ofNat 32 l) x i = x (ix2 (i 0) ⟨l, hl⟩) := by
  have h0 : (i 0).val < 128 := (i 0).isLt
  refine (broadcastTo_apply _ _ i (ix2 (⟨(i 0).val, h0⟩ : Fin 128) (0 : Fin 1)) (fun a => by match a with | ⟨0, _⟩ => rfl | ⟨1, _⟩ => rfl)).trans ?_
  refine (shapeCast_apply _ _ _ (ix1 (⟨(i 0).val, h0⟩ : Fin 128)) ?_).trans ?_
  · simp [Shape.rowMajor_val_one, Shape.rowMajor_val_two]
  refine (Ideal.multiReduction_add_single _ _ _ _ _ _).trans ?_
  refine (Finset.sum_eq_single (⟨l, hl⟩ : Fin 128) ?_ ?_).trans ?_
  · intro k _ hk
    show Scalar.select (IntOp.cmpi .eq (iota .tc S128x128 32 [1] iota_S128x128_d1_w32 _) (BitVec.ofNat 32 l)) _ (Ideal.ofBits .f32 0x00000000#32) = (0 : EReal)
    rw [iota128_val, zero_word]
    have hne : BitVec.ofNat 32 k.val ≠ BitVec.ofNat 32 l := fun e => hk (Fin.ext (by
      have e' := congrArg BitVec.toNat e
      simp only [BitVec.toNat_ofNat] at e'
      have := k.isLt
      show k.val = l
      omega))
    show (if BitVec.ofBool (BitVec.ofNat 32 k.val == BitVec.ofNat 32 l) = 1 then _ else ((0 : ℝ) : EReal)) = 0
    rw [beq_false_of_ne hne]
    rfl
  · intro h; exact absurd (Finset.mem_univ _) h
  · show Scalar.select (IntOp.cmpi .eq (iota .tc S128x128 32 [1] iota_S128x128_d1_w32 _) (BitVec.ofNat 32 l)) _ _ = _
    rw [iota128_val]
    show (if BitVec.ofBool (BitVec.ofNat 32 l == BitVec.ofNat 32 l) = 1 then _ else _) = _
    rw [beq_self_eq_true]
    refine (if_pos rfl).trans ?_
    rw [shapeCast_self]
    refine congrArg x (funext fun a => Fin.ext ?_)
    match a with
    | ⟨0, _⟩ => rfl
    | ⟨1, _⟩ => rfl

/-- Two blocks of real numbers, one after the other. -/
def band (P C : ℕ → ℕ → ℝ) (κ l : ℕ) : ℝ := if κ < 128 then P κ l else C (κ - 128) l

theorem both_val (p c : Vec Ideal S128x128 .bf16) (P C : ℕ → ℕ → ℝ) (hp : ∀ z, p z = ((P (z 0).val (z 1).val : ℝ) : EReal))
    (hc : ∀ z, c z = ((C (z 0).val (z 1).val : ℝ) : EReal)) (i : S256x128.Idx) :
    both (F := Ideal) p c i = ((band P C (i 0).val (i 1).val : ℝ) : EReal) := by
  have h0 : (i 0).val < 256 := (i 0).isLt
  have h1 : (i 1).val < 128 := (i 1).isLt
  unfold both band
  by_cases h : (i 0).val < 128
  · rw [if_pos h]
    refine (concatenate_pair_apply_left (t := S256x128) (0 : Fin 2) p c concatenates_S128x128_S128x128_S256x128_d0 i rfl
      (ix2 (⟨(i 0).val, h⟩ : Fin 128) (⟨(i 1).val, h1⟩ : Fin 128)) ?_).trans (hp _)
    intro a
    match a with
    | ⟨0, _⟩ => rfl
    | ⟨1, _⟩ => rfl
  · rw [if_neg h]
    refine (concatenate_pair_apply_right (t := S256x128) (0 : Fin 2) p c concatenates_S128x128_S128x128_S256x128_d0 i rfl rfl
      (ix2 (⟨(i 0).val - 128, by omega⟩ : Fin 128) (⟨(i 1).val, h1⟩ : Fin 128)) ?_ ?_).trans (hc _)
    · intro a ha
      match a, ha with
      | ⟨0, _⟩, ha => exact absurd rfl ha
      | ⟨1, _⟩, _ => rfl
    · show (i 0).val - 128 + 128 = (i 0).val
      omega

/-- A sum over 128 lanes of one head's half is a sum over 64. -/
theorem sum_mine (odd : Bool) (f : ℕ → ℝ) :
    ∑ k : Fin 128, (if mine odd k.val then f k.val else 0) = ∑ d : Fin 64, f (64 * odd.toNat + d.val) := by
  rw [show (∑ k : Fin 128, (if mine odd k.val then f k.val else 0)) = ∑ k : Fin (64 + 64), (if mine odd k.val then f k.val else 0) from rfl,
    Fin.sum_univ_add]
  cases odd with
  | false =>
    rw [Finset.sum_congr rfl (fun k _ => if_pos (show mine false (Fin.castAdd 64 k).val from k.isLt)),
      Finset.sum_congr rfl (fun k _ => if_neg (show ¬mine false (Fin.natAdd 64 k).val from by
        simp only [mine, Fin.val_natAdd, Bool.false_eq_true, if_false]; omega))]
    simp
  | true =>
    rw [Finset.sum_congr rfl (fun k _ => if_neg (show ¬mine true (Fin.castAdd 64 k).val from by
        have := k.isLt; simp only [mine, Fin.val_castAdd, if_true]; omega)),
      Finset.sum_congr rfl (fun k _ => if_pos (show mine true (Fin.natAdd 64 k).val from by
        simp only [mine, Fin.val_natAdd, if_true]; omega))]
    simp
    exact Finset.sum_congr rfl fun k _ => by rw [Nat.add_comm]

/-- One head's half against the band. -/
theorem mm_half (odd : Bool) (x p c : Vec Ideal S128x128 .bf16) (A P C : ℕ → ℕ → ℝ) (hx : ∀ z, x z = ((A (z 0).val (z 1).val : ℝ) : EReal))
    (hp : ∀ z, p z = ((P (z 0).val (z 1).val : ℝ) : EReal)) (hc : ∀ z, c z = ((C (z 0).val (z 1).val : ℝ) : EReal)) (i : S128x256.Idx) :
    matmul dot_S128x128_S256x128_S128x256_1_1_0_0_n_n none (halfOf (F := Ideal) odd x) (both (F := Ideal) p c) (constant S128x256 .f32 0x00000000#32) i
      = ((∑ d : Fin 64, A (i 0).val (64 * odd.toNat + d.val) * band P C (i 1).val (64 * odd.toNat + d.val) : ℝ) : EReal) := by
  rw [mm_rows, ← sum_mine odd (fun l => A (i 0).val l * band P C (i 1).val l), coe_sum]
  refine Finset.sum_congr rfl fun k _ => ?_
  rw [both_val p c P C hp hc]
  by_cases h : mine odd k.val
  · have e : halfOf (F := Ideal) odd x (ix2 (i 0) k) = x (ix2 (i 0) k) := (halfOf_val odd x _).trans (if_pos h)
    rw [e, hx, if_pos h, EReal.coe_mul]; rfl
  · have e : halfOf (F := Ideal) odd x (ix2 (i 0) k) = ((0 : ℝ) : EReal) := (halfOf_val odd x _).trans (if_neg h)
    rw [e, if_neg h, ← EReal.coe_mul, zero_mul]

/-- One head's columns: a sum over rows of a column of weights against its half of a block. -/
theorem col_head (odd : Bool) (w : FVec Ideal S128x256 .bf16) (W : ℕ → ℕ → ℝ) (hw : ∀ i, w i = ((W (i 0).val (i 1).val : ℝ) : EReal))
    (x : Vec Ideal S128x128 .bf16) (A : ℕ → ℕ → ℝ) (hx : ∀ z, x z = ((A (z 0).val (z 1).val : ℝ) : EReal)) (i : S256x128.Idx) :
    matmul dot_S128x256_S128x128_S256x128_0_0_1_1_n_n none w (halfOf (F := Ideal) odd x) (constant S256x128 .f32 0x00000000#32) i
      = ((if mine odd (i 1).val then ∑ r : Fin 128, W r.val (i 0).val * A r.val (i 1).val else 0 : ℝ) : EReal) := by
  rw [mm_cols]
  by_cases h : mine odd (i 1).val
  · rw [if_pos h, coe_sum]
    refine Finset.sum_congr rfl fun k _ => ?_
    have e : halfOf (F := Ideal) odd x (ix2 k (i 1)) = x (ix2 k (i 1)) := (halfOf_val odd x _).trans (if_pos h)
    rw [e, hw, hx, EReal.coe_mul]; rfl
  · rw [if_neg h]
    refine (Finset.sum_eq_zero fun k _ => ?_)
    have e : halfOf (F := Ideal) odd x (ix2 k (i 1)) = ((0 : ℝ) : EReal) := (halfOf_val odd x _).trans (if_neg h)
    rw [e, hw, ← EReal.coe_mul, mul_zero]; rfl

/-- Both heads' columns together. -/
theorem col_pair (hp : ℕ) (f : ℕ → ℕ → ℝ) (i : S256x128.Idx) (A : ℝ) (B : ℝ)
    (hA : A = if mine false (i 1).val then f (2 * hp + 0) (i 1).val else 0)
    (hB : B = if mine true (i 1).val then f (2 * hp + 1) ((i 1).val - 64) else 0) :
    Ideal.ofBits .f32 0x00000000#32 + ((A : ℝ) : EReal) + ((B : ℝ) : EReal) = ((f (2 * hp + (i 1).val / 64) ((i 1).val % 64) : ℝ) : EReal) := by
  have h1 : (i 1).val < 128 := (i 1).isLt
  rw [zero_word, ← EReal.coe_add, ← EReal.coe_add, hA, hB]
  refine congrArg _ ?_
  by_cases h : (i 1).val < 64
  · rw [if_pos (show mine false (i 1).val from h), if_neg (show ¬mine true (i 1).val from Nat.not_le.mpr h),
      Nat.div_eq_of_lt h, Nat.mod_eq_of_lt h, zero_add, add_zero]
  · rw [if_neg (show ¬mine false (i 1).val from h), if_pos (show mine true (i 1).val from Nat.not_lt.mp h),
      show (i 1).val / 64 = 1 by omega, show (i 1).val % 64 = (i 1).val - 64 by omega, zero_add, zero_add]

/-! ## One step of one pair of heads -/

variable {X : ℕ → ℕ → ℝ} {M : ℕ → ℕ → ℕ → ℝ} {G L2 L3 : ℕ → ℕ → ℝ} {O2 O3 : ℕ → ℕ → ℕ → ℝ}

/-- The lanes of pair `hp` in block `n` of the queries (`off = 0`), the keys (`off = 768`), the values (`off = 1536`). -/
def lanesF (X : ℕ → ℕ → ℝ) (off n hp r l : ℕ) : ℝ := X (128 * n + r) (off + (128 * hp + l))

/-- What a step reads for pair `hp` at block `n`. -/
structure Step (n hp : ℕ) (q kp kc vp vc g : Vec Ideal S128x128 .bf16) (ls dl : Vec Ideal S128x128 .f32)
    (X : ℕ → ℕ → ℝ) (M : ℕ → ℕ → ℕ → ℝ) (G L2 L3 : ℕ → ℕ → ℝ) (O2 O3 : ℕ → ℕ → ℕ → ℝ) : Prop where
  lt : n < 32
  pair : hp < 6
  q : ∀ z, q z = ((lanesF X 0 n hp (z 0).val (z 1).val : ℝ) : EReal)
  kp : ∀ z, kp z = ((lanesF X 768 (n - 1) hp (z 0).val (z 1).val : ℝ) : EReal)
  kc : ∀ z, kc z = ((lanesF X 768 n hp (z 0).val (z 1).val : ℝ) : EReal)
  vp : ∀ z, vp z = ((lanesF X 1536 (n - 1) hp (z 0).val (z 1).val : ℝ) : EReal)
  vc : ∀ z, vc z = ((lanesF X 1536 n hp (z 0).val (z 1).val : ℝ) : EReal)
  g : ∀ z, g z = ((lanesF G 0 n hp (z 0).val (z 1).val : ℝ) : EReal)
  ls : ∀ z, (z 1).val < 12 → ls z = ((Real.log (Z X M L2 L3 (128 * n + (z 0).val) (z 1).val) : ℝ) : EReal)
  dl : ∀ z, (z 1).val < 12 → dl z = ((del X M G L2 L3 O2 O3 (128 * n + (z 0).val) (z 1).val : ℝ) : EReal)

/-- The keys' and the values' band of pair `hp`. -/
def kband (X : ℕ → ℕ → ℝ) (n hp : ℕ) : ℕ → ℕ → ℝ :=
  band (lanesF X 768 (n - 1) hp) (lanesF X 768 n hp)
def vband (X : ℕ → ℕ → ℝ) (n hp : ℕ) : ℕ → ℕ → ℝ :=
  band (lanesF X 1536 (n - 1) hp) (lanesF X 1536 n hp)

theorem kband_eq (n hp o d κ : ℕ) (hk : 128 ≤ 128 * n + κ) : kband X n hp κ (64 * o + d) = kb X n (2 * hp + o) κ d := by
  unfold kband band lanesF kb
  rw [if_neg (show ¬128 * n + κ < 128 by omega)]
  split
  · rw [show 128 * (n - 1) + κ = 128 * n + κ - 128 by omega, show 768 + (128 * hp + (64 * o + d)) = 768 + (64 * (2 * hp + o) + d) by omega]
  · rw [show 128 * n + (κ - 128) = 128 * n + κ - 128 by omega, show 768 + (128 * hp + (64 * o + d)) = 768 + (64 * (2 * hp + o) + d) by omega]

theorem vband_eq (n hp o d κ : ℕ) (hk : 128 ≤ 128 * n + κ) : vband X n hp κ (64 * o + d) = vb X n (2 * hp + o) κ d := by
  unfold vband band lanesF vb
  rw [if_neg (show ¬128 * n + κ < 128 by omega)]
  split
  · rw [show 128 * (n - 1) + κ = 128 * n + κ - 128 by omega, show 1536 + (128 * hp + (64 * o + d)) = 1536 + (64 * (2 * hp + o) + d) by omega]
  · rw [show 128 * n + (κ - 128) = 128 * n + κ - 128 by omega, show 1536 + (128 * hp + (64 * o + d)) = 1536 + (64 * (2 * hp + o) + d) by omega]

section Heads

variable {n hp : ℕ} {q kp kc vp vc g : Vec Ideal S128x128 .bf16} {ls dl : Vec Ideal S128x128 .f32}
  (H : Step n hp q kp kc vp vc g ls dl X M G L2 L3 O2 O3)
include H

theorem scores_val (odd : Bool) (i : S128x256.Idx) :
    scores (F := Ideal) (BitVec.ofNat 32 n) odd (slopeW (2 * hp + odd.toNat)) q kp kc i
      = if ok n (i 0).val (i 1).val then ((sc X n (2 * hp + odd.toNat) (i 0).val (i 1).val : ℝ) : EReal) else ⊥ := by
  show Scalar.select (k0_pay7 (BitVec.ofNat 32 n) i)
    (matmul dot_S128x128_S256x128_S128x256_1_1_0_0_n_n none (halfOf (F := Ideal) odd q) (both (F := Ideal) kp kc) (constant S128x256 .f32 0x00000000#32) i
      * Ideal.ofBits .f32 0x3E000000#32 - Ideal.ofBits .f32 (slopeW (2 * hp + odd.toNat)) * k0_pay8 (F := Ideal) i)
    (Named.named (F := Ideal) κ "mask" 0xF149F2CA#32) = _
  rw [pay7_val n H.lt, select_ofBool]
  refine ite_congr rfl (fun hk => ?_) (fun _ => IdealRules.named_const.ideal_named_scalar _ _ _ _ rfl)
  rw [mm_half odd q kp kc _ _ _ H.q H.kp H.kc, eighth_word, slope_word, pay8_val, ← EReal.coe_mul, ← EReal.coe_mul, ← EReal.coe_sub]
  refine congrArg _ ?_
  unfold sc
  rw [sub_eq_add_neg, ← neg_mul]
  refine congrArg (fun t => t * (1 / 8) + _) (Finset.sum_congr rfl fun d _ => ?_)
  have e := kband_eq (X := X) n hp odd.toNat d.val (i 1).val hk.2
  unfold kband at e
  rw [e, qv, lanesF, Nat.zero_add, show 128 * hp + (64 * odd.toNat + d.val) = 64 * (2 * hp + odd.toNat) + d.val by omega]

theorem head_lt (odd : Bool) : 2 * hp + odd.toNat < 12 := by
  have := H.pair; cases odd <;> simp <;> omega

theorem weights_val (odd : Bool) (i : S128x256.Idx) :
    weights (F := Ideal) (BitVec.ofNat 32 n) odd (slopeW (2 * hp + odd.toNat)) (BitVec.ofNat 32 (2 * hp + odd.toNat)) q kp kc ls i
      = ((pt X M L2 L3 n (2 * hp + odd.toNat) (i 0).val (i 1).val : ℝ) : EReal) := by
  have hl := head_lt H odd
  show Ideal.exp (scores (F := Ideal) (BitVec.ofNat 32 n) odd (slopeW (2 * hp + odd.toNat)) q kp kc i
    - laneCol (F := Ideal) (BitVec.ofNat 32 (2 * hp + odd.toNat)) ls i) = _
  rw [scores_val H, laneCol_val _ (by omega), H.ls _ hl]
  unfold pt
  split
  · rw [← EReal.coe_sub, Ideal.exp_coe]; rfl
  · rw [EReal.bot_sub, Ideal.exp_bot]; rfl

theorem dscores_val (odd : Bool) (i : S128x256.Idx) :
    dscores (F := Ideal) (BitVec.ofNat 32 n) odd (slopeW (2 * hp + odd.toNat)) (BitVec.ofNat 32 (2 * hp + odd.toNat)) q kp kc vp vc g ls dl i
      = ((DS X M G L2 L3 O2 O3 n (2 * hp + odd.toNat) (i 0).val (i 1).val : ℝ) : EReal) := by
  have hl := head_lt H odd
  show weights (F := Ideal) (BitVec.ofNat 32 n) odd (slopeW (2 * hp + odd.toNat)) (BitVec.ofNat 32 (2 * hp + odd.toNat)) q kp kc ls i
    * (matmul dot_S128x128_S256x128_S128x256_1_1_0_0_n_n none (halfOf (F := Ideal) odd g) (both (F := Ideal) vp vc) (constant S128x256 .f32 0x00000000#32) i
      - laneCol (F := Ideal) (BitVec.ofNat 32 (2 * hp + odd.toNat)) dl i) * Ideal.ofBits .f32 0x3E000000#32 = _
  rw [weights_val H, laneCol_val _ (by omega), H.dl _ hl, mm_half odd g vp vc _ _ _ H.g H.vp H.vc, eighth_word, ← EReal.coe_sub, ← EReal.coe_mul, ← EReal.coe_mul]
  refine congrArg _ ?_
  by_cases hk : ok n (i 0).val (i 1).val
  · unfold DS dp
    refine congrArg (fun t => _ * (t - _) * (1 / 8)) (Finset.sum_congr rfl fun d _ => ?_)
    have e := vband_eq (X := X) n hp odd.toNat d.val (i 1).val hk.2
    unfold vband at e
    rw [e, gv, lanesF, Nat.zero_add, show 128 * hp + (64 * odd.toNat + d.val) = 64 * (2 * hp + odd.toNat) + d.val by omega]
  · rw [DS_of_not_ok _ _ _ _ _ _ _ _ _ _ _ hk, pt_of_not_ok _ _ _ _ _ _ _ _ hk, zero_mul, zero_mul]

/-- One head's score gradients against the band of keys. -/
theorem dq_head (odd : Bool) (z : S128x128.Idx) (d : ℕ) (hd : (z 1).val = 64 * odd.toNat + d) :
    matmul dot_S128x256_S256x128_S128x128_1_0_0_1_n_n none
        (dscores (F := Ideal) (BitVec.ofNat 32 n) odd (slopeW (2 * hp + odd.toNat)) (BitVec.ofNat 32 (2 * hp + odd.toNat)) q kp kc vp vc g ls dl)
        (both (F := Ideal) kp kc) (constant S128x128 .f32 0x00000000#32) z
      = ((∑ κ : Fin 256, DS X M G L2 L3 O2 O3 n (2 * hp + odd.toNat) (z 0).val κ * kb X n (2 * hp + odd.toNat) κ d : ℝ) : EReal) := by
  rw [mm_plain, coe_sum]
  refine Finset.sum_congr rfl fun k _ => ?_
  rw [dscores_val H, both_val kp kc _ _ H.kp H.kc, ← EReal.coe_mul]
  refine congrArg _ ?_
  show DS X M G L2 L3 O2 O3 n (2 * hp + odd.toNat) (z 0).val k.val * kband X n hp k.val (z 1).val = _
  by_cases hk : ok n (z 0).val k.val
  · rw [hd, kband_eq n hp odd.toNat d k.val hk.2]
  · rw [DS_of_not_ok _ _ _ _ _ _ _ _ _ _ _ hk, zero_mul, zero_mul]

theorem dqT_val (z : S128x128.Idx) :
    dqT (F := Ideal) (BitVec.ofNat 32 n) hp q kp kc vp vc g ls dl z
      = ((∑ κ : Fin 256, DS X M G L2 L3 O2 O3 n (2 * hp + (z 1).val / 64) (z 0).val κ * kb X n (2 * hp + (z 1).val / 64) κ ((z 1).val % 64) : ℝ) : EReal) := by
  have h1 : (z 1).val < 128 := (z 1).isLt
  show (Ideal.ofBits .f32 0x00000000#32 + Scalar.select (halfMask false z) (matmul dot_S128x256_S256x128_S128x128_1_0_0_1_n_n none
      (dscores (F := Ideal) (BitVec.ofNat 32 n) false (slopeW (2 * hp + false.toNat)) (BitVec.ofNat 32 (2 * hp + false.toNat)) q kp kc vp vc g ls dl)
        (both (F := Ideal) kp kc) (constant S128x128 .f32 0x00000000#32) z) (Ideal.ofBits .f32 0x00000000#32))
    + Scalar.select (halfMask true z) (matmul dot_S128x256_S256x128_S128x128_1_0_0_1_n_n none
      (dscores (F := Ideal) (BitVec.ofNat 32 n) true (slopeW (2 * hp + true.toNat)) (BitVec.ofNat 32 (2 * hp + true.toNat)) q kp kc vp vc g ls dl)
        (both (F := Ideal) kp kc) (constant S128x128 .f32 0x00000000#32) z) (Ideal.ofBits .f32 0x00000000#32) = _
  rw [halfMask_val, halfMask_val, select_ofBool, select_ofBool, zero_word]
  by_cases h : (z 1).val < 64
  · rw [if_pos (show mine false (z 1).val from h), if_neg (show ¬mine true (z 1).val from Nat.not_le.mpr h),
      dq_head H false z (z 1).val (by simp), ← EReal.coe_add, ← EReal.coe_add, zero_add, add_zero,
      Nat.div_eq_of_lt h, Nat.mod_eq_of_lt h]
    rfl
  · rw [if_neg (show ¬mine false (z 1).val from h), if_pos (show mine true (z 1).val from Nat.not_lt.mp h),
      dq_head H true z ((z 1).val % 64) (by show _ = 64 * 1 + _; omega), ← EReal.coe_add, ← EReal.coe_add, zero_add, zero_add,
      show (z 1).val / 64 = 1 by omega]
    rfl

theorem dk2T_val (i : S256x128.Idx) :
    dk2T (F := Ideal) (BitVec.ofNat 32 n) hp q kp kc vp vc g ls dl i
      = ((dk2 X M G L2 L3 O2 O3 n (2 * hp + (i 1).val / 64) (i 0).val ((i 1).val % 64) : ℝ) : EReal) := by
  have h1 : (i 1).val < 128 := (i 1).isLt
  show Ideal.ofBits .f32 0x00000000#32 + matmul dot_S128x256_S128x128_S256x128_0_0_1_1_n_n none
      (dscores (F := Ideal) (BitVec.ofNat 32 n) false (slopeW (2 * hp + false.toNat)) (BitVec.ofNat 32 (2 * hp + false.toNat)) q kp kc vp vc g ls dl)
      (halfOf (F := Ideal) false q) (constant S256x128 .f32 0x00000000#32) i
    + matmul dot_S128x256_S128x128_S256x128_0_0_1_1_n_n none
      (dscores (F := Ideal) (BitVec.ofNat 32 n) true (slopeW (2 * hp + true.toNat)) (BitVec.ofNat 32 (2 * hp + true.toNat)) q kp kc vp vc g ls dl)
      (halfOf (F := Ideal) true q) (constant S256x128 .f32 0x00000000#32) i = _
  rw [col_head false _ _ (dscores_val H false) q _ H.q i, col_head true _ _ (dscores_val H true) q _ H.q i]
  refine col_pair hp (fun h d => dk2 X M G L2 L3 O2 O3 n h (i 0).val d) i _ _ ?_ ?_
  · refine ite_congr rfl (fun h => Finset.sum_congr rfl fun r _ => ?_) (fun _ => rfl)
    rw [qv, lanesF, Nat.zero_add, show 64 * (2 * hp + 0) + (i 1).val = 128 * hp + (i 1).val by omega]; rfl
  · refine ite_congr rfl (fun h => Finset.sum_congr rfl fun r _ => ?_) (fun _ => rfl)
    have h : 64 ≤ (i 1).val := h
    rw [qv, lanesF, Nat.zero_add, show 64 * (2 * hp + 1) + ((i 1).val - 64) = 128 * hp + (i 1).val by omega]; rfl

theorem dv2T_val (i : S256x128.Idx) :
    dv2T (F := Ideal) (BitVec.ofNat 32 n) hp q kp kc g ls i
      = ((dv2 X M G L2 L3 n (2 * hp + (i 1).val / 64) (i 0).val ((i 1).val % 64) : ℝ) : EReal) := by
  have h1 : (i 1).val < 128 := (i 1).isLt
  show Ideal.ofBits .f32 0x00000000#32 + matmul dot_S128x256_S128x128_S256x128_0_0_1_1_n_n none
      (truncf .bf16 (weights (F := Ideal) (BitVec.ofNat 32 n) false (slopeW (2 * hp + false.toNat)) (BitVec.ofNat 32 (2 * hp + false.toNat)) q kp kc ls) bitsLt_bf16_f32)
      (halfOf (F := Ideal) false g) (constant S256x128 .f32 0x00000000#32) i
    + matmul dot_S128x256_S128x128_S256x128_0_0_1_1_n_n none
      (truncf .bf16 (weights (F := Ideal) (BitVec.ofNat 32 n) true (slopeW (2 * hp + true.toNat)) (BitVec.ofNat 32 (2 * hp + true.toNat)) q kp kc ls) bitsLt_bf16_f32)
      (halfOf (F := Ideal) true g) (constant S256x128 .f32 0x00000000#32) i = _
  rw [col_head false (truncf .bf16 (weights (F := Ideal) (BitVec.ofNat 32 n) false (slopeW (2 * hp + false.toNat)) (BitVec.ofNat 32 (2 * hp + false.toNat)) q kp kc ls) bitsLt_bf16_f32) _
      (fun j => weights_val H false j) g _ H.g i, col_head true (truncf .bf16 (weights (F := Ideal) (BitVec.ofNat 32 n) true (slopeW (2 * hp + true.toNat)) (BitVec.ofNat 32 (2 * hp + true.toNat)) q kp kc ls) bitsLt_bf16_f32) _
      (fun j => weights_val H true j) g _ H.g i]
  refine col_pair hp (fun h d => dv2 X M G L2 L3 n h (i 0).val d) i _ _ ?_ ?_
  · refine ite_congr rfl (fun h => Finset.sum_congr rfl fun r _ => ?_) (fun _ => rfl)
    rw [gv, lanesF, Nat.zero_add, show 64 * (2 * hp + 0) + (i 1).val = 128 * hp + (i 1).val by omega]; rfl
  · refine ite_congr rfl (fun h => Finset.sum_congr rfl fun r _ => ?_) (fun _ => rfl)
    have h : 64 ≤ (i 1).val := h
    rw [gv, lanesF, Nat.zero_add, show 64 * (2 * hp + 1) + ((i 1).val - 64) = 128 * hp + (i 1).val by omega]; rfl

end Heads

end Cert.Da

end
-- ==== Proof.KernelOut.lean ====
/- The three arrays the kernel leaves, over the real numbers: every step's blocks, and the arrays they fill. -/
module

public import proofs.«01_k».proof.Proof.KernelReal
public import proofs.«01_k».proof.Proof.TileReal

@[expose] public section

set_option maxRecDepth 16384

noncomputable section

namespace Cert.Da

open Idealize.ShloMosaic Idealize.ShloMosaic.TcCoe
open Cert.KernelIdeal Cert.KernelIdeal.Gen Cert.KernelIdeal.Da Cert.ReferenceIdeal.Read

variable {X : ℕ → ℕ → ℝ} {M : ℕ → ℕ → ℕ → ℝ} {G : ℕ → ℕ → ℝ} {L2 L3 : ℕ → ℕ → ℝ} {O2 O3 : ℕ → ℕ → ℕ → ℝ}

/-! ## Lanes among 768 -/

theorem pair_head (l : ℕ) : 2 * (l / 128) + l % 128 / 64 = l / 64 := by omega
theorem pair_lane (l : ℕ) : l % 128 % 64 = l % 64 := by omega
theorem block_row {t r : ℕ} (h : r < 128) : (128 * t + r) / 128 = t := by omega
theorem row_in {t r : ℕ} (h : r < 128) : (128 * t + r) % 128 = r := by omega

theorem late_val (acc : Vec Ideal S128x128 .f32) (d2 : FVec Ideal S256x128 .f32) (z : S128x128.Idx) (r : Fin 256) (hr : r.val = (z 0).val) :
    lateT (F := Ideal) acc d2 z = acc z + d2 (ix2 r (z 1)) := by
  refine congrArg (acc z + ·) (extractStridedSlice_apply _ _ _ _ _ fun a => ?_)
  match a with
  | ⟨0, _⟩ => show r.val = 0 + (z 0).val; omega
  | ⟨1, _⟩ => show (z 1).val = 0 + (z 1).val; omega

theorem carry_val (d2 : FVec Ideal S256x128 .f32) (z : S128x128.Idx) (r : Fin 256) (hr : r.val = 128 + (z 0).val) :
    carryT (F := Ideal) d2 z = d2 (ix2 r (z 1)) := by
  unfold carryT
  rw [shapeCast_self]
  refine extractStridedSlice_apply _ _ _ _ _ fun a => ?_
  match a with
  | ⟨0, _⟩ => show r.val = 128 + (z 0).val; omega
  | ⟨1, _⟩ => show (z 1).val = 0 + (z 1).val; omega

variable (m : (ℓ : Loc nD τ sig) → Buf (Elt Ideal) ℓ) (c : Dev nD)
  (H : Ins (a0 m c) (a1 m c) (a2 m c) (a3 m c) (a4 m c) (a5 m c) X M G L2 L3 O2 O3)
include H

/-- What a step reads for a pair of heads. -/
theorem step (t : Fin cfg0.N) (ht : t.val < 32) (h : Fin 6) :
    Step t.val h.val (lanesOf (iblk (F := Ideal) m c 0 t) h) (lanesOf (iblk (F := Ideal) m c 2 t) h) (lanesOf (iblk (F := Ideal) m c 1 t) h)
      (lanesOf (iblk (F := Ideal) m c 4 t) h) (lanesOf (iblk (F := Ideal) m c 3 t) h) (lanesOf (iblk (F := Ideal) m c 5 t) h)
      (iblk (F := Ideal) m c 6 t) (iblk (F := Ideal) m c 7 t) X M G L2 L3 O2 O3 where
  lt := ht
  pair := h.isLt
  q := fun z => blk0 m c H t ht _
  kp := fun z => blk2 m c H t ht _
  kc := fun z => blk1 m c H t ht _
  vp := fun z => blk4 m c H t ht _
  vc := fun z => blk3 m c H t ht _
  g := fun z => blk5 m c H t ht _
  ls := fun z hz => blk6 m c H t ht z hz
  dl := fun z hz => blk7 m c H t ht z hz

theorem dq_step (t : Fin cfg0.N) (ht : t.val < 32) (y : S128x768.Idx) :
    dqOf (F := Ideal) m c t y = ((dqR X M G L2 L3 O2 O3 (128 * t.val + (y 0).val) (y 1).val : ℝ) : EReal) := by
  have h0 : (y 0).val < 128 := (y 0).isLt
  unfold dqOf dqB sideBySide word
  rw [coord_val]
  refine (dqT_val (step m c H t ht _) _).trans (congrArg Real.toEReal ?_)
  show (∑ κ : Fin 256, DS X M G L2 L3 O2 O3 t.val (2 * ((y 1).val / 128) + (y 1).val % 128 / 64) (y 0).val κ
    * kb X t.val (2 * ((y 1).val / 128) + (y 1).val % 128 / 64) κ ((y 1).val % 128 % 64)) = _
  unfold dqR
  rw [pair_head, pair_lane, block_row h0, row_in h0]

theorem dk2_step (t : Fin cfg0.N) (ht : t.val < 32) (h : Fin 6) (i : S256x128.Idx) :
    dk2B (F := Ideal) (word t) (iblk m c 0 t) (iblk m c 1 t) (iblk m c 2 t) (iblk m c 3 t) (iblk m c 4 t) (iblk m c 5 t) (iblk m c 6 t) (iblk m c 7 t) h i
      = ((dk2 X M G L2 L3 O2 O3 t.val (2 * h.val + (i 1).val / 64) (i 0).val ((i 1).val % 64) : ℝ) : EReal) := by
  unfold dk2B word
  rw [coord_val]
  exact dk2T_val (step m c H t ht h) i

theorem dv2_step (t : Fin cfg0.N) (ht : t.val < 32) (h : Fin 6) (i : S256x128.Idx) :
    dv2B (F := Ideal) (word t) (iblk m c 0 t) (iblk m c 1 t) (iblk m c 2 t) (iblk m c 5 t) (iblk m c 6 t) h i
      = ((dv2 X M G L2 L3 t.val (2 * h.val + (i 1).val / 64) (i 0).val ((i 1).val % 64) : ℝ) : EReal) := by
  unfold dv2B word
  rw [coord_val]
  exact dv2T_val (step m c H t ht h) i

theorem ck_step (t : Fin cfg0.N) (ht : t.val < 32) (y : S128x768.Idx) :
    ckOf (F := Ideal) m c (t.val + 1) y = ((dk2 X M G L2 L3 O2 O3 t.val ((y 1).val / 64) (128 + (y 0).val) ((y 1).val % 64) : ℝ) : EReal) := by
  have h0 : (y 0).val < 128 := (y 0).isLt
  rw [ckOf_work m c t ht]
  unfold ckB sideBySide
  refine (carry_val _ _ ⟨128 + (y 0).val, by omega⟩ rfl).trans ((dk2_step m c H t ht _ _).trans (congrArg Real.toEReal ?_))
  show dk2 X M G L2 L3 O2 O3 t.val (2 * ((y 1).val / 128) + (y 1).val % 128 / 64) (128 + (y 0).val) ((y 1).val % 128 % 64) = _
  rw [pair_head, pair_lane]

theorem cv_step (t : Fin cfg0.N) (ht : t.val < 32) (y : S128x768.Idx) :
    cvOf (F := Ideal) m c (t.val + 1) y = ((dv2 X M G L2 L3 t.val ((y 1).val / 64) (128 + (y 0).val) ((y 1).val % 64) : ℝ) : EReal) := by
  have h0 : (y 0).val < 128 := (y 0).isLt
  rw [cvOf_work m c t ht]
  unfold cvB sideBySide
  refine (carry_val _ _ ⟨128 + (y 0).val, by omega⟩ rfl).trans ((dv2_step m c H t ht _ _).trans (congrArg Real.toEReal ?_))
  show dv2 X M G L2 L3 t.val (2 * ((y 1).val / 128) + (y 1).val % 128 / 64) (128 + (y 0).val) ((y 1).val % 128 % 64) = _
  rw [pair_head, pair_lane]

/-- What was carried into point `n`. -/
theorem ck_before (t : Fin cfg0.N) (h1 : 1 ≤ t.val) (y : S128x768.Idx) :
    ckOf (F := Ideal) m c t.val y = ((dk2 X M G L2 L3 O2 O3 (t.val - 1) ((y 1).val / 64) (128 + (y 0).val) ((y 1).val % 64) : ℝ) : EReal) := by
  have hN : t.val < 33 := lt_of_lt_of_eq t.isLt (by decide +kernel)
  have e := ck_step m c H ⟨t.val - 1, by omega⟩ (show t.val - 1 < 32 by omega) y
  rwa [show t.val - 1 + 1 = t.val by omega] at e

theorem cv_before (t : Fin cfg0.N) (h1 : 1 ≤ t.val) (y : S128x768.Idx) :
    cvOf (F := Ideal) m c t.val y = ((dv2 X M G L2 L3 (t.val - 1) ((y 1).val / 64) (128 + (y 0).val) ((y 1).val % 64) : ℝ) : EReal) := by
  have hN : t.val < 33 := lt_of_lt_of_eq t.isLt (by decide +kernel)
  have e := cv_step m c H ⟨t.val - 1, by omega⟩ (show t.val - 1 < 32 by omega) y
  rwa [show t.val - 1 + 1 = t.val by omega] at e

theorem dk_step (t : Fin cfg0.N) (h1 : 1 ≤ t.val) (y : S128x768.Idx) :
    dkOf (F := Ideal) m c t y = ((dkR X M G L2 L3 O2 O3 (128 * (t.val - 1) + (y 0).val) (y 1).val : ℝ) : EReal) := by
  have h0 : (y 0).val < 128 := (y 0).isLt
  unfold dkOf dkR
  rw [block_row h0, row_in h0]
  by_cases ht : t.val < 32
  · rw [if_pos ht, if_pos (show t.val - 1 < 31 by omega), show t.val - 1 + 1 = t.val by omega, EReal.coe_add, ← ck_before m c H t h1 y]
    unfold dkB sideBySide
    refine (late_val _ _ _ ⟨(y 0).val, by omega⟩ rfl).trans (congrArg₂ (· + ·) ?_ ?_)
    · refine congrArg (ckOf m c t.val) (funext fun a => Fin.ext ?_)
      match a with
      | ⟨0, _⟩ => rfl
      | ⟨1, _⟩ => show 128 * ((y 1).val / 128) + (y 1).val % 128 = (y 1).val; omega
    · refine (dk2_step m c H t ht _ _).trans (congrArg Real.toEReal ?_)
      show dk2 X M G L2 L3 O2 O3 t.val (2 * ((y 1).val / 128) + (y 1).val % 128 / 64) (y 0).val ((y 1).val % 128 % 64) = _
      rw [pair_head, pair_lane]
  · rw [if_neg ht, if_neg (show ¬t.val - 1 < 31 by omega), add_zero]
    exact ck_before m c H t h1 y

theorem dv_step (t : Fin cfg0.N) (h1 : 1 ≤ t.val) (y : S128x768.Idx) :
    dvOf (F := Ideal) m c t y = ((dvR X M G L2 L3 (128 * (t.val - 1) + (y 0).val) (y 1).val : ℝ) : EReal) := by
  have h0 : (y 0).val < 128 := (y 0).isLt
  unfold dvOf dvR
  rw [block_row h0, row_in h0]
  by_cases ht : t.val < 32
  · rw [if_pos ht, if_pos (show t.val - 1 < 31 by omega), show t.val - 1 + 1 = t.val by omega, EReal.coe_add, ← cv_before m c H t h1 y]
    unfold dvB sideBySide
    refine (late_val _ _ _ ⟨(y 0).val, by omega⟩ rfl).trans (congrArg₂ (· + ·) ?_ ?_)
    · refine congrArg (cvOf m c t.val) (funext fun a => Fin.ext ?_)
      match a with
      | ⟨0, _⟩ => rfl
      | ⟨1, _⟩ => show 128 * ((y 1).val / 128) + (y 1).val % 128 = (y 1).val; omega
    · refine (dv2_step m c H t ht _ _).trans (congrArg Real.toEReal ?_)
      show dv2 X M G L2 L3 t.val (2 * ((y 1).val / 128) + (y 1).val % 128 / 64) (y 0).val ((y 1).val % 128 % 64) = _
      rw [pair_head, pair_lane]
  · rw [if_neg ht, if_neg (show ¬t.val - 1 < 31 by omega), add_zero]
    exact cv_before m c H t h1 y

/-! ## The arrays -/

theorem final_dq : (dats (F := Ideal) m 0 c).arrAt 8 cfg0.N
    = fun i : S4096x768.Idx => ((dqR X M G L2 L3 O2 O3 (i 0).val (i 1).val : ℝ) : EReal) := by
  refine (dats m 0 c).arrAt_eq_of_covers 8 _ (by decide +kernel) fun t hf y => ?_
  have hu : (upTo t).val = min t.val 31 := rfl
  blk_simp [e8]
  refine (dq_step m c H (upTo t) (show min t.val 31 < 32 by omega) _).trans ?_
  refine congrArg Real.toEReal (congrArg₂ (dqR X M G L2 L3 O2 O3) ?_ ?_) <;> omega

theorem final_dk : (dats (F := Ideal) m 0 c).arrAt 9 cfg0.N
    = fun i : S4096x768.Idx => ((dkR X M G L2 L3 O2 O3 (i 0).val (i 1).val : ℝ) : EReal) := by
  refine (dats m 0 c).arrAt_eq_of_covers 9 _ (by decide +kernel) fun t hf y => ?_
  have h1 := late9 t hf
  blk_simp [e9]
  refine (dk_step m c H t h1 _).trans ?_
  refine congrArg Real.toEReal (congrArg₂ (dkR X M G L2 L3 O2 O3) ?_ ?_) <;> omega

theorem final_dv : (dats (F := Ideal) m 0 c).arrAt 10 cfg0.N
    = fun i : S4096x768.Idx => ((dvR X M G L2 L3 (i 0).val (i 1).val : ℝ) : EReal) := by
  refine (dats m 0 c).arrAt_eq_of_covers 10 _ (by decide +kernel) fun t hf y => ?_
  have h1 := late10 t hf
  blk_simp [e10]
  refine (dv_step m c H t h1 _).trans ?_
  refine congrArg Real.toEReal (congrArg₂ (dvR X M G L2 L3) ?_ ?_) <;> omega

end Cert.Da

end
-- ==== Proof.RefBwd.lean ====
/- The reference's three gradients over the real numbers: the transpose of the softmax with its log-denominator, the gradients of queries,
   and of keys and values added up over the two blocks that see them. -/
module

public import proofs.«01_k».proof.Proof.RefMix
public import Idealize.ShloMosaic.Lib.KernelVsHost

@[expose] public section

set_option maxRecDepth 16384

noncomputable section

namespace Cert.Da

open Idealize.ShloMosaic Cert.ReferenceIdeal Cert.ReferenceIdeal.Gen Cert.ReferenceIdeal.Read

section Bwd

variable {x0 : (⟨S4096x2304, .bf16⟩ : BufTy).Contents (Elt Ideal)} {x1 : (⟨S4096x768, .bf16⟩ : BufTy).Contents (Elt Ideal)}
  {x2 : (⟨S1x4096x12x64, .f32⟩ : BufTy).Contents (Elt Ideal)} {x3 : (⟨S1x4096x12, .f32⟩ : BufTy).Contents (Elt Ideal)}
  {x4 : (⟨S1x4096x12x64, .f32⟩ : BufTy).Contents (Elt Ideal)} {x5 : (⟨S1x4096x12, .f32⟩ : BufTy).Contents (Elt Ideal)}
  {X : ℕ → ℕ → ℝ} {M : ℕ → ℕ → ℕ → ℝ} {G : ℕ → ℕ → ℝ} {L2 L3 : ℕ → ℕ → ℝ} {O2 O3 : ℕ → ℕ → ℕ → ℝ}
  (H : Ins x0 x1 x2 x3 x4 x5 X M G L2 L3 O2 O3)
  {m : ℕ → ℕ → ℝ} (hm : ∀ i : S1x4096x12.Idx, val_main_v129 (F := Ideal) x0 x3 x5 i = ((m (i 1).val (i 2).val : ℝ) : EReal))
include H hm

/-! ## The transpose of the softmax -/

theorem b212 (i : S1x32x12x128x1.Idx) : val_main_v212 (F := Ideal) x0 x1 x2 x3 x4 x5 i
    = ((wj X M L2 L3 0 (128 * (i 1).val + (i 3).val) (i 2).val * (dj X M G O2 O3 0 (128 * (i 1).val + (i 3).val) (i 2).val
        - del X M G L2 L3 O2 O3 (128 * (i 1).val + (i 3).val) (i 2).val) : ℝ) : EReal) := by
  rw [val_main_v212_apply, b207 H hm]

theorem b215 (i : S1x32x12x128x256.Idx) : val_main_v215 (F := Ideal) x0 x1 x3 x5 i
    = ((wj X M L2 L3 0 (128 * (i 1).val + (i 3).val) (i 2).val * dp X G (i 1).val (i 2).val (i 3).val (i 4).val : ℝ) : EReal) := by
  rw [val_main_v215_apply]
  simp only [b214 H hm, r43 H.x, ← EReal.coe_mul, ← coe_sum]
  refine congrArg _ ?_
  unfold dp
  rw [Finset.mul_sum]
  exact Finset.sum_congr rfl fun d _ => mul_assoc _ _ _

theorem b217 (i : S1x32x256x12x64.Idx) : val_main_v217 (F := Ideal) x0 x1 x3 x5 i
    = ((dv2 X M G L2 L3 (i 1).val (i 3).val (i 2).val (i 4).val : ℝ) : EReal) := by
  rw [val_main_v217_apply, val_main_v216_apply]
  simp only [b214 H hm, r105 H.x H.m, ← EReal.coe_mul, ← coe_sum]
  refine congrArg _ ?_
  unfold dv2
  refine Finset.sum_congr rfl fun r _ => ?_
  rw [pt_eq X M L2 L3 _ _ _ _ r.isLt]
  show wj X M L2 L3 0 (128 * (i 1).val + r.val) (i 3).val * gv G (128 * (i 1).val + r.val) (i 3).val (i 4).val
    * wt X M (i 1).val (i 3).val r.val (i 2).val = _
  ring

/-- What the rows' weights spend of their cotangents. -/
def spent (X : ℕ → ℕ → ℝ) (M : ℕ → ℕ → ℕ → ℝ) (G : ℕ → ℕ → ℝ) (L2 L3 : ℕ → ℕ → ℝ) (n h r : ℕ) : ℝ :=
  ∑ k : Fin 256, (wj X M L2 L3 0 (128 * n + r) h * dp X G n h r k.val) * (1 / (den X M n h r * den X M n h r)) * ew X M n h r k.val

theorem b221 (i : S1x32x12x128.Idx) : val_main_v221 (F := Ideal) x0 x1 x3 x5 i
    = ((spent X M G L2 L3 (i 1).val (i 2).val (i 3).val : ℝ) : EReal) := by
  rw [val_main_v221_apply, show val_main_cst_46 (F := Ideal) (Shape.Idx.first h_S_) = ((0 : ℝ) : EReal) from zero_word, EReal.coe_zero, zero_add]
  unfold spent
  rw [coe_sum]
  refine Finset.sum_congr rfl fun k _ => ?_
  rw [val_main_v220_apply, val_main_v219_apply, val_main_v218_apply, b215 H hm, r108 H.x H.m, r101 H.x H.m, Ideal.mulf_def, Ideal.mulf_def,
    ← EReal.coe_mul, ← EReal.coe_mul]

theorem b222 (i : S1x32x12x128x1.Idx) : val_main_v222 (F := Ideal) x0 x1 x3 x5 i
    = ((spent X M G L2 L3 (i 1).val (i 2).val (i 3).val : ℝ) : EReal) := by
  obtain ⟨h0, h1, h2, h3, h4⟩ := bndR1 i
  rw [val_main_v222_apply, b221 H hm]
  refine c3 (spent X M G L2 L3) ?_ ?_ ?_ <;> dsimp only [idx_main_v222] <;> omega

theorem b224 (i : S1x32x12x128x1.Idx) : val_main_v224 (F := Ideal) x0 x1 x2 x3 x4 x5 i
    = ((wj X M L2 L3 0 (128 * (i 1).val + (i 3).val) (i 2).val * (dj X M G O2 O3 0 (128 * (i 1).val + (i 3).val) (i 2).val
        - del X M G L2 L3 O2 O3 (128 * (i 1).val + (i 3).val) (i 2).val) / den X M (i 1).val (i 2).val (i 3).val
      + -spent X M G L2 L3 (i 1).val (i 2).val (i 3).val : ℝ) : EReal) := by
  obtain ⟨h0, h1, h2, h3, h4⟩ := bndR1 i
  rw [val_main_v224_apply, val_main_v213_apply, b212 H hm, r103 H.x H.m, val_main_v223_apply, b222 H hm,
    Ideal.hostDivf_def, div_real (den_pos X M _ _ _ h3).ne', Ideal.hostNegf_def, Ideal.negf_def, Ideal.addf_def, ← EReal.coe_neg, ← EReal.coe_add]

theorem b228 (i : S1x32x12x128.Idx) : val_main_v228 (F := Ideal) x0 x1 x2 x3 x4 x5 i
    = ((wj X M L2 L3 0 (128 * (i 1).val + (i 3).val) (i 2).val * (dj X M G O2 O3 0 (128 * (i 1).val + (i 3).val) (i 2).val
        - del X M G L2 L3 O2 O3 (128 * (i 1).val + (i 3).val) (i 2).val) / den X M (i 1).val (i 2).val (i 3).val
      + -spent X M G L2 L3 (i 1).val (i 2).val (i 3).val : ℝ) : EReal) := by
  obtain ⟨h0, h1, h2, h3⟩ := bndR i
  rw [val_main_v228_apply]
  unfold val_main_v227
  rw [host_one _ (val_main_cst_47 (F := Ideal)) _ _ (fun _ => zero_word) _
    (ix5 ⟨0, Nat.one_pos⟩ ⟨(i 1).val, h1⟩ ⟨(i 2).val, h2⟩ ⟨(i 3).val, h3⟩ ⟨0, Nat.one_pos⟩)
    (fun k => ⟨fun e => funext fun a => by
      match a with
      | ⟨0, _⟩ => exact Fin.ext (show (k 0).val = 0 from Nat.lt_one_iff.mp (k 0).isLt)
      | ⟨1, _⟩ => exact Fin.ext (congrArg Fin.val (congrFun e 0) : (k 1).val = (i 1).val)
      | ⟨2, _⟩ => exact Fin.ext (congrArg Fin.val (congrFun e 1) : (k 2).val = (i 2).val)
      | ⟨3, _⟩ => exact Fin.ext (congrArg Fin.val (congrFun e 2) : (k 3).val = (i 3).val)
      | ⟨4, _⟩ => exact Fin.ext (show (k 4).val = 0 from Nat.lt_one_iff.mp (k 4).isLt),
      fun e => by
        subst e
        exact funext fun a => by
          match a with
          | ⟨0, _⟩ => rfl
          | ⟨1, _⟩ => rfl
          | ⟨2, _⟩ => rfl⟩), b224 H hm]
  rfl

/-- The gradient of a score before its scale. -/
theorem b231 (i : S1x32x12x128x256.Idx) : val_main_v231 (F := Ideal) x0 x1 x2 x3 x4 x5 i
    = ((pt X M L2 L3 (i 1).val (i 2).val (i 3).val (i 4).val * (dp X G (i 1).val (i 2).val (i 3).val (i 4).val
        - del X M G L2 L3 O2 O3 (128 * (i 1).val + (i 3).val) (i 2).val) : ℝ) : EReal) := by
  obtain ⟨h0, h1, h2, h3, h4⟩ := bndS i
  rw [val_main_v231_apply, val_main_v230_apply, val_main_v226_apply, val_main_v225_apply, b215 H hm, r103 H.x H.m, val_main_v229_apply, b228 H hm, r101 H.x H.m,
    Ideal.hostDivf_def, div_real (den_pos X M _ _ _ h3).ne', Ideal.addf_def, Ideal.mulf_def, ← EReal.coe_add, ← EReal.coe_mul]
  exact congrArg _ (grad_score X M G L2 L3 O2 O3 (i 1).val (i 2).val (i 3).val (i 4).val h3 _ _
    (fun k => wj X M L2 L3 0 (128 * (i 1).val + (i 3).val) (i 2).val * dp X G (i 1).val (i 2).val (i 3).val k) rfl (fun _ => rfl) rfl)

theorem b233 (i : S1x32x12x128.Idx) : val_main_v233 (F := Ideal) x0 x1 x2 x3 x4 x5 i
    = ((∑ k : Fin 256, -(pt X M L2 L3 (i 1).val (i 2).val (i 3).val k.val * (dp X G (i 1).val (i 2).val (i 3).val k.val
        - del X M G L2 L3 O2 O3 (128 * (i 1).val + (i 3).val) (i 2).val)) : ℝ) : EReal) := by
  rw [val_main_v233_apply, show val_main_cst_48 (F := Ideal) (Shape.Idx.first h_S_) = ((0 : ℝ) : EReal) from zero_word, EReal.coe_zero, zero_add, coe_sum]
  refine Finset.sum_congr rfl fun k _ => ?_
  rw [val_main_v232_apply, b231 H hm, Ideal.hostNegf_def, Ideal.negf_def, ← EReal.coe_neg]

theorem b234 (i : S1x32x12x128x1.Idx) : val_main_v234 (F := Ideal) x0 x1 x2 x3 x4 x5 i
    = ((∑ k : Fin 256, -(pt X M L2 L3 (i 1).val (i 2).val (i 3).val k.val * (dp X G (i 1).val (i 2).val (i 3).val k.val
        - del X M G L2 L3 O2 O3 (128 * (i 1).val + (i 3).val) (i 2).val)) : ℝ) : EReal) := by
  obtain ⟨h0, h1, h2, h3, h4⟩ := bndR1 i
  rw [val_main_v234_apply, b233 H hm]
  refine c3 (fun n h r => ∑ k : Fin 256, -(pt X M L2 L3 n h r k.val * (dp X G n h r k.val - del X M G L2 L3 O2 O3 (128 * n + r) h))) ?_ ?_ ?_ <;>
    dsimp only [idx_main_v234] <;> omega

theorem b235 (i : S1x32x12x128x1.Idx) : val_main_v235 (F := Ideal) x0 x1 x2 x3 x4 x5 i = ((0 : ℝ) : EReal) := by
  obtain ⟨h0, h1, h2, h3, h4⟩ := bndR1 i
  rw [val_main_v235_apply, b212 H hm, b234 H hm, Ideal.addf_def, ← EReal.coe_add]
  exact congrArg _ (grad_rest X M G L2 L3 O2 O3 (i 1).val (i 2).val (i 3).val h3 _ rfl)

theorem b238 (i : S1x32x12x128.Idx) : val_main_v238 (F := Ideal) x0 x1 x2 x3 x4 x5 i = (0 : EReal) := by
  obtain ⟨h0, h1, h2, h3⟩ := bndR i
  obtain ⟨c, hc, ec⟩ := r97 H.x H.m i
  rw [val_main_v238_apply, ec, val_main_v237_apply]
  unfold val_main_v236
  rw [host_one _ (val_main_cst_49 (F := Ideal)) _ _ (fun _ => zero_word) _
    (ix5 ⟨0, Nat.one_pos⟩ ⟨(i 1).val, h1⟩ ⟨(i 2).val, h2⟩ ⟨(i 3).val, h3⟩ ⟨0, Nat.one_pos⟩)
    (fun k => ⟨fun e => funext fun a => by
      match a with
      | ⟨0, _⟩ => exact Fin.ext (show (k 0).val = 0 from Nat.lt_one_iff.mp (k 0).isLt)
      | ⟨1, _⟩ => exact Fin.ext (congrArg Fin.val (congrFun e 0) : (k 1).val = (i 1).val)
      | ⟨2, _⟩ => exact Fin.ext (congrArg Fin.val (congrFun e 1) : (k 2).val = (i 2).val)
      | ⟨3, _⟩ => exact Fin.ext (congrArg Fin.val (congrFun e 2) : (k 3).val = (i 3).val)
      | ⟨4, _⟩ => exact Fin.ext (show (k 4).val = 0 from Nat.lt_one_iff.mp (k 4).isLt),
      fun e => by
        subst e
        exact funext fun a => by
          match a with
          | ⟨0, _⟩ => rfl
          | ⟨1, _⟩ => rfl
          | ⟨2, _⟩ => rfl⟩), b235 H hm, Ideal.hostDivf_def, div_real hc, zero_div, EReal.coe_zero]

theorem b244 (i : S1x32x12x128x256.Idx) : val_main_v244 (F := Ideal) x0 x1 x2 x3 x4 x5 i
    = ((DS X M G L2 L3 O2 O3 (i 1).val (i 2).val (i 3).val (i 4).val : ℝ) : EReal) := by
  rw [val_main_v244_apply, val_main_v242_apply, r91m, val_main_v241_apply, b231 H hm, val_main_v240_apply, val_main_v239_apply, b238 H hm,
    val_main_v243_apply, show val_main_cst_50 (F := Ideal) _ = ((1 / 8 : ℝ) : EReal) from eighth_word, val_main_call1_v0_apply,
    show val_main_call1_cst (F := Ideal) _ = ((0 : ℝ) : EReal) from zero_word, Ideal.addf_def, Ideal.mulf_def, Ideal.mulf_def, zero_mul, add_zero]
  unfold Scalar.select
  by_cases p : ok (i 1).val (i 3).val (i 4).val
  · rw [decide_eq_true p, if_pos (show BitVec.ofBool true = 1 from rfl), ← EReal.coe_mul]
    rfl
  · rw [decide_eq_false p, if_neg (show ¬ BitVec.ofBool false = 1 by decide), ← EReal.coe_mul, DS_of_not_ok X M G L2 L3 O2 O3 _ _ _ _ p, zero_mul]

/-! ## The gradients -/

theorem b246 (i : S1x32x256x12x64.Idx) : val_main_v246 (F := Ideal) x0 x1 x2 x3 x4 x5 i
    = ((dk2 X M G L2 L3 O2 O3 (i 1).val (i 3).val (i 2).val (i 4).val : ℝ) : EReal) := by
  rw [val_main_v246_apply, val_main_v245_apply]
  simp only [b244 H hm, r29 H.x, ← EReal.coe_mul, ← coe_sum]
  rfl

theorem b276 (i : S4096x768.Idx) : val_main_v276 (F := Ideal) x0 x1 x2 x3 x4 x5 i
    = ((dqR X M G L2 L3 O2 O3 (i 0).val (i 1).val : ℝ) : EReal) := by
  have h0 : (i 0).val < 4096 := (i 0).isLt
  have h1 : (i 1).val < 768 := (i 1).isLt
  have key : ∀ j : S1x32x128x12x64.Idx, val_main_v248 (F := Ideal) x0 x1 x2 x3 x4 x5 j
      = ((∑ κ : Fin 256, DS X M G L2 L3 O2 O3 (j 1).val (j 3).val (j 2).val κ.val * kb X (j 1).val (j 3).val κ.val (j 4).val : ℝ) : EReal) := by
    intro j
    rw [val_main_v248_apply, val_main_v247_apply]
    simp only [b244 H hm, r36 H.x, ← EReal.coe_mul, ← coe_sum]
  rw [val_main_v276_apply, Ideal.truncf_def, val_main_v275_apply, val_main_v274_apply, val_main_v273_apply, val_main_v272_apply, val_main_v265_apply, key]
  unfold dqR
  refine c4 (fun n h r d => ∑ κ : Fin 256, DS X M G L2 L3 O2 O3 n h r κ.val * kb X n h κ.val d) ?_ ?_ ?_ ?_ <;>
    dsimp only [idx_main_v275, idx_main_v274, idx_main_v273, idx_main_v272, idx_main_v265] <;> omega

/-- A block's upper rows with the lower rows of the block after it, at row `t`: what a key or a value receives. -/
theorem b253 (i : S1x4224x12x64.Idx) : val_main_v253 (F := Ideal) x0 x1 x3 x5 i
    = (((if (i 1).val < 4096 then dv2 X M G L2 L3 ((i 1).val / 128) (i 2).val ((i 1).val % 128) (i 3).val else 0 : ℝ)) : EReal) := by
  obtain ⟨h0, h1, h2, h3⟩ := bndC i
  unfold val_main_v253
  by_cases hc : (i 1).val < 4096
  · rw [pad_apply_of_inside _ _ _ _ _ _ _ i (ix4 ⟨(i 0).val, h0⟩ ⟨(i 1).val, hc⟩ ⟨(i 2).val, h2⟩ ⟨(i 3).val, h3⟩) (fun a => by
      match a with
      | ⟨0, _⟩ => show (i 0).val = 0 + (i 0).val * 1; omega
      | ⟨1, _⟩ => show (i 1).val = 0 + (i 1).val * 1; omega
      | ⟨2, _⟩ => show (i 2).val = 0 + (i 2).val * 1; omega
      | ⟨3, _⟩ => show (i 3).val = 0 + (i 3).val * 1; omega), if_pos hc, val_main_v252_apply, val_main_v249_apply, b217 H hm]
    refine c4 (dv2 X M G L2 L3) ?_ ?_ ?_ ?_ <;> dsimp only [idx_main_v252, idx_main_v249, ix4] <;> omega
  · rw [pad_apply_of_not_inside _ _ _ _ _ _ _ i (1 : Fin 4) (by
      rintro ⟨-, -, h⟩
      have : ((i 1).val - 0) / 1 < 4096 := h
      omega), if_neg hc]
    exact zero_word

theorem b261 (i : S1x4224x12x64.Idx) : val_main_v261 (F := Ideal) x0 x1 x2 x3 x4 x5 i
    = (((if (i 1).val < 4096 then dk2 X M G L2 L3 O2 O3 ((i 1).val / 128) (i 2).val ((i 1).val % 128) (i 3).val else 0 : ℝ)) : EReal) := by
  obtain ⟨h0, h1, h2, h3⟩ := bndC i
  unfold val_main_v261
  by_cases hc : (i 1).val < 4096
  · rw [pad_apply_of_inside _ _ _ _ _ _ _ i (ix4 ⟨(i 0).val, h0⟩ ⟨(i 1).val, hc⟩ ⟨(i 2).val, h2⟩ ⟨(i 3).val, h3⟩) (fun a => by
      match a with
      | ⟨0, _⟩ => show (i 0).val = 0 + (i 0).val * 1; omega
      | ⟨1, _⟩ => show (i 1).val = 0 + (i 1).val * 1; omega
      | ⟨2, _⟩ => show (i 2).val = 0 + (i 2).val * 1; omega
      | ⟨3, _⟩ => show (i 3).val = 0 + (i 3).val * 1; omega), if_pos hc, val_main_v260_apply, val_main_v257_apply, b246 H hm]
    refine c4 (dk2 X M G L2 L3 O2 O3) ?_ ?_ ?_ ?_ <;> dsimp only [idx_main_v260, idx_main_v257, ix4] <;> omega
  · rw [pad_apply_of_not_inside _ _ _ _ _ _ _ i (1 : Fin 4) (by
      rintro ⟨-, -, h⟩
      have : ((i 1).val - 0) / 1 < 4096 := h
      omega), if_neg hc]
    exact zero_word

theorem b280 (i : S4096x768.Idx) : val_main_v280 (F := Ideal) x0 x1 x3 x5 i
    = ((dvR X M G L2 L3 (i 0).val (i 1).val : ℝ) : EReal) := by
  have h0 : (i 0).val < 4096 := (i 0).isLt
  have h1 : (i 1).val < 768 := (i 1).isLt
  have key : ∀ j : S1x4096x12x64.Idx, val_main_v256 (F := Ideal) x0 x1 x3 x5 j
      = ((dvR X M G L2 L3 (j 1).val (64 * (j 2).val + (j 3).val) : ℝ) : EReal) := by
    intro j
    obtain ⟨g0, g1, g2, g3⟩ := bnd4 j
    rw [val_main_v256_apply, val_main_v251_apply, val_main_v250_apply, b217 H hm, val_main_v255_apply, b253 H hm, Ideal.addf_def, ← EReal.coe_add]
    unfold dvR
    refine congrArg _ (congrArg₂ (· + ·) ?_ ?_)
    · refine EReal.coe_eq_coe_iff.mp (c4 (dv2 X M G L2 L3) ?_ ?_ ?_ ?_) <;> dsimp only [idx_main_v251, idx_main_v250] <;> omega
    · have e : (idx_main_v255 j 1).val = (j 1).val + 128 := by dsimp only [idx_main_v255]; omega
      by_cases hc : (j 1).val / 128 < 31
      · rw [if_pos hc, if_pos (by omega)]
        refine EReal.coe_eq_coe_iff.mp (c4 (dv2 X M G L2 L3) ?_ ?_ ?_ ?_) <;> dsimp only [idx_main_v255] <;> omega
      · rw [if_neg hc, if_neg (by omega)]
  rw [val_main_v280_apply, Ideal.truncf_def, val_main_v279_apply, val_main_v268_apply, val_main_v267_apply, val_main_v266_apply, key]
  refine c2 (dvR X M G L2 L3) ?_ ?_ <;>
    dsimp only [idx_main_v279, idx_main_v268, idx_main_v267, idx_main_v266] <;> omega

theorem b278 (i : S4096x768.Idx) : val_main_v278 (F := Ideal) x0 x1 x2 x3 x4 x5 i
    = ((dkR X M G L2 L3 O2 O3 (i 0).val (i 1).val : ℝ) : EReal) := by
  have h0 : (i 0).val < 4096 := (i 0).isLt
  have h1 : (i 1).val < 768 := (i 1).isLt
  have key : ∀ j : S1x4096x12x64.Idx, val_main_v264 (F := Ideal) x0 x1 x2 x3 x4 x5 j
      = ((dkR X M G L2 L3 O2 O3 (j 1).val (64 * (j 2).val + (j 3).val) : ℝ) : EReal) := by
    intro j
    obtain ⟨g0, g1, g2, g3⟩ := bnd4 j
    rw [val_main_v264_apply, val_main_v259_apply, val_main_v258_apply, b246 H hm, val_main_v263_apply, b261 H hm, Ideal.addf_def, ← EReal.coe_add]
    unfold dkR
    refine congrArg _ (congrArg₂ (· + ·) ?_ ?_)
    · refine EReal.coe_eq_coe_iff.mp (c4 (dk2 X M G L2 L3 O2 O3) ?_ ?_ ?_ ?_) <;> dsimp only [idx_main_v259, idx_main_v258] <;> omega
    · have e : (idx_main_v263 j 1).val = (j 1).val + 128 := by dsimp only [idx_main_v263]; omega
      by_cases hc : (j 1).val / 128 < 31
      · rw [if_pos hc, if_pos (by omega)]
        refine EReal.coe_eq_coe_iff.mp (c4 (dk2 X M G L2 L3 O2 O3) ?_ ?_ ?_ ?_) <;> dsimp only [idx_main_v263] <;> omega
      · rw [if_neg hc, if_neg (by omega)]
  rw [val_main_v278_apply, Ideal.truncf_def, val_main_v277_apply, val_main_v271_apply, val_main_v270_apply, val_main_v269_apply, key]
  refine c2 (dkR X M G L2 L3 O2 O3) ?_ ?_ <;>
    dsimp only [idx_main_v277, idx_main_v271, idx_main_v270, idx_main_v269] <;> omega

end Bwd

end Cert.Da
-- ==== Proof.Finite.lean ====
/- The precondition says that every element of the six argument arrays is a real number. -/
module

public import proofs.«01_k».proof.Proof.RefMix
public import proofs.«01_k».proof.Proof.Gen.Pre_finite
public import Idealize.ShloMosaic.Lib.ReduceAll
public import Idealize.ShloMosaic.Lib.WordArith

@[expose] public section

set_option maxRecDepth 16384

noncomputable section

namespace Cert.Da

open Idealize.ShloMosaic Idealize.ShloMosaic.TcCoe
open Cert.Pre_finite Cert.Pre_finite.Gen

/-- A number whose absolute value is below infinity is real. -/
theorem real_of_test {x : EReal}
    (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have htop : Ideal.ofBits .f32 0x7F800000#32 = ⊤ := by simp [Ideal.ofBits, Ideal.ieee]
  have h' : BitVec.ofBool (decide (max x (-x) < Ideal.ofBits .f32 0x7F800000#32)) = 1#1 := h
  rw [htop, WordArith.ofBool_eq_one_iff, decide_eq_true_iff] at h'
  refine (EReal.coe_toReal (fun e => ?_) (fun e => ?_)).symm
  · subst e; simp at h'
  · subst e; simp at h'

theorem and_one {a b : BitVec 1} (h : IntOp.andi a b = 1#1) : a = 1#1 ∧ b = 1#1 := by
  revert a b; decide

instance : Subsingleton S_.Idx := ⟨fun a b => funext fun x => x.elim0⟩

/-- Every element of an array whose test is 1 is real. -/
theorem all_real {s : Shape} {axes : List (Fin s.rank)} (y : s.Idx → EReal) (h : s.ReducesTo axes S_) (hb : S_.BroadcastsInDim s ![])
    (e : ∀ j, Host.reduce IntOp.andi (cmpf (F := Ideal) (φ := .f32) .olt (Host.absf (F := Ideal) (φ := .f32) y)
      (broadcastInDim s ![] hb (constant (F := Ideal) S_ .f32 0x7F800000#32))) (constantI S_ 1 1#1) h h_S_ j = 1#1) (i : s.Idx) :
    y i = (((y i).toReal : ℝ) : EReal) :=
  real_of_test (Host.reduce_andi_all _ _ h h_S_ (Shape.Idx.first h_S_) (e _) i)

variable {x0 : FVec Ideal S4096x2304 .bf16} {x1 : FVec Ideal S4096x768 .bf16} {x2 : FVec Ideal S1x4096x12x64 .f32} {x3 : FVec Ideal S1x4096x12 .f32}
  {x4 : FVec Ideal S1x4096x12x64 .f32} {x5 : FVec Ideal S1x4096x12 .f32}

/-- The precondition, read. -/
theorem fn_real (h : fn (F := Ideal) x0 x1 x2 x3 x4 x5 = fun _ => 1#1) :
    (∀ i, x0 i = (((x0 i).toReal : ℝ) : EReal)) ∧ (∀ i, x1 i = (((x1 i).toReal : ℝ) : EReal)) ∧ (∀ i, x2 i = (((x2 i).toReal : ℝ) : EReal))
      ∧ (∀ i, x3 i = (((x3 i).toReal : ℝ) : EReal)) ∧ (∀ i, x4 i = (((x4 i).toReal : ℝ) : EReal)) ∧ (∀ i, x5 i = (((x5 i).toReal : ℝ) : EReal)) := by
  have h30 := fun j => congrFun h j
  unfold fn fn_part1 at h30
  dsimp only at h30
  have h29 := fun j => (and_one (h30 j)).1
  have h28 := fun j => (and_one (h29 j)).1
  have h27 := fun j => (and_one (h28 j)).1
  have h26 := fun j => (and_one (h27 j)).1
  exact ⟨all_real x0 _ _ fun j => (and_one (h26 j)).1, all_real x1 _ _ fun j => (and_one (h26 j)).2, all_real x2 _ _ fun j => (and_one (h27 j)).2,
    all_real x3 _ _ fun j => (and_one (h28 j)).2, all_real x4 _ _ fun j => (and_one (h29 j)).2, all_real x5 _ _ fun j => (and_one (h30 j)).2⟩

/-- A number at coordinates, zero outside the array. -/
def at2 {a b : ℕ} (x : Shape.Idx ⟨2, ![a, b]⟩ → EReal) (t l : ℕ) : ℝ :=
  if h : t < a ∧ l < b then (x (ix2 ⟨t, h.1⟩ ⟨l, h.2⟩)).toReal else 0

/-- The same of an array of three axes, the first of length one. -/
def at3 {a b : ℕ} (x : Shape.Idx ⟨3, ![1, a, b]⟩ → EReal) (t l : ℕ) : ℝ :=
  if h : t < a ∧ l < b then (x (ix3 ⟨0, by decide⟩ ⟨t, h.1⟩ ⟨l, h.2⟩)).toReal else 0

/-- The same of an array of four axes, the first of length one. -/
def at4 {a b d : ℕ} (x : Shape.Idx ⟨4, ![1, a, b, d]⟩ → EReal) (t l e : ℕ) : ℝ :=
  if h : t < a ∧ l < b ∧ e < d then (x (ix4 ⟨0, by decide⟩ ⟨t, h.1⟩ ⟨l, h.2.1⟩ ⟨e, h.2.2⟩)).toReal else 0

theorem at2_val {a b : ℕ} (x : Shape.Idx ⟨2, ![a, b]⟩ → EReal) (h : ∀ i, x i = (((x i).toReal : ℝ) : EReal)) (j : Shape.Idx ⟨2, ![a, b]⟩) :
    x j = ((at2 x (j 0).val (j 1).val : ℝ) : EReal) := by
  have h0 : (j 0).val < a := (j 0).isLt
  have h1 : (j 1).val < b := (j 1).isLt
  rw [at2, dif_pos ⟨h0, h1⟩]
  refine (h j).trans (congrArg (fun i => (((x i).toReal : ℝ) : EReal)) (funext fun k => ?_))
  match k with
  | ⟨0, _⟩ => rfl
  | ⟨1, _⟩ => rfl

theorem at3_val {a b : ℕ} (x : Shape.Idx ⟨3, ![1, a, b]⟩ → EReal) (h : ∀ i, x i = (((x i).toReal : ℝ) : EReal))
    (j : Shape.Idx ⟨3, ![1, a, b]⟩) : x j = ((at3 x (j 1).val (j 2).val : ℝ) : EReal) := by
  have h0 : (j 0).val < 1 := (j 0).isLt
  have h1 : (j 1).val < a := (j 1).isLt
  have h2 : (j 2).val < b := (j 2).isLt
  rw [at3, dif_pos ⟨h1, h2⟩]
  refine (h j).trans (congrArg (fun i => (((x i).toReal : ℝ) : EReal)) (funext fun k => ?_))
  match k with
  | ⟨0, _⟩ => exact Fin.ext (by show (j 0).val = 0; omega)
  | ⟨1, _⟩ => rfl
  | ⟨2, _⟩ => rfl

theorem at4_val {a b d : ℕ} (x : Shape.Idx ⟨4, ![1, a, b, d]⟩ → EReal) (h : ∀ i, x i = (((x i).toReal : ℝ) : EReal))
    (j : Shape.Idx ⟨4, ![1, a, b, d]⟩) : x j = ((at4 x (j 1).val (j 2).val (j 3).val : ℝ) : EReal) := by
  have h0 : (j 0).val < 1 := (j 0).isLt
  have h1 : (j 1).val < a := (j 1).isLt
  have h2 : (j 2).val < b := (j 2).isLt
  have h3 : (j 3).val < d := (j 3).isLt
  rw [at4, dif_pos ⟨h1, h2, h3⟩]
  refine (h j).trans (congrArg (fun i => (((x i).toReal : ℝ) : EReal)) (funext fun k => ?_))
  match k with
  | ⟨0, _⟩ => exact Fin.ext (by show (j 0).val = 0; omega)
  | ⟨1, _⟩ => rfl
  | ⟨2, _⟩ => rfl
  | ⟨3, _⟩ => rfl

/-- Arguments that meet the precondition hold real numbers, and the row maxima with them. -/
theorem ins_of_pre (h : fn (F := Ideal) x0 x1 x2 x3 x4 x5 = fun _ => 1#1) :
    ∃ (X : ℕ → ℕ → ℝ) (M : ℕ → ℕ → ℕ → ℝ) (G : ℕ → ℕ → ℝ) (L2 L3 : ℕ → ℕ → ℝ) (O2 O3 : ℕ → ℕ → ℕ → ℝ), Ins x0 x1 x2 x3 x4 x5 X M G L2 L3 O2 O3 := by
  obtain ⟨f0, f1, f2, f3, f4, f5⟩ := fn_real h
  have hX : ∀ j, x0 j = ((at2 x0 (j 0).val (j 1).val : ℝ) : EReal) := at2_val x0 f0
  obtain ⟨M, hM⟩ := r92 hX
  exact ⟨at2 x0, M, at2 x1, at3 x3, at3 x5, at4 x2, at4 x4, ⟨hX, at2_val x1 f1, at4_val x2 f2, at3_val x3 f3, at4_val x4 f4, at3_val x5 f5, hM⟩⟩

end Cert.Da

end
-- ==== Proof.Values.lean ====
/- The two runs with their results named: the kernel's ends with the three arrays of its proof data, the reference's with its composed values, and
   from equal arguments that hold real numbers the two are the same arrays. -/
module

public import proofs.«01_k».proof.Proof.KernelOut
public import proofs.«01_k».proof.Proof.RefBwd
public import proofs.«01_k».proof.Proof.Finite
public import proofs.«01_k».proof.Proof.Launch
public import proofs.«01_k».proof.Proof.Gen.ReferenceIdeal.Run

@[expose] public section

set_option maxRecDepth 16384

noncomputable section

/-! ## The kernel -/

namespace Cert.KernelIdeal.Da

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The gradients of the queries, the keys and the values, as the kernel leaves them. -/
def outQ : (⟨S4096x768, .bf16⟩ : BufTy).Contents (Elt Ideal) := (dats (F := Ideal) m 0 c).arrAt 8 cfg0.N
def outK : (⟨S4096x768, .bf16⟩ : BufTy).Contents (Elt Ideal) := (dats (F := Ideal) m 0 c).arrAt 9 cfg0.N
def outV : (⟨S4096x768, .bf16⟩ : BufTy).Contents (Elt Ideal) := (dats (F := Ideal) m 0 c).arrAt 10 cfg0.N

/-- The kernel's run ends with them, and with its arguments unchanged. -/
theorem run_out : θ_run defs (onTc (τ := τ) (main (F := Ideal))) ⟨m, fun _ => 0, ρ⟩ (fun r => ∀ c : Dev nD,
      r.2.mem ((c.tc : Thread nD τ).loc main_v149_0) = outQ m c
      ∧ r.2.mem ((c.tc : Thread nD τ).loc main_v149_1) = outK m c
      ∧ r.2.mem ((c.tc : Thread nD τ).loc main_v149_2) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 8, (h.1 c).1 9, (h.1 c).1 10, h.2.1 c⟩) (θ_run_and (run_main m ρ) (frame m ρ))

end Cert.KernelIdeal.Da

/-! ## The reference -/

namespace Cert.ReferenceIdeal.Da

open Idealize.ShloMosaic Idealize.ShloMosaic.TcCoe Idealize.SL.Sem
open Cert.ReferenceIdeal Cert.ReferenceIdeal.Gen Cert.ReferenceIdeal.Read

variable (m : (ℓ : Loc nD τ sig) → Buf (Elt Ideal) ℓ) (ρ : Dev nD → PrngReg) (c : Dev nD)

/-- The arguments as launched. -/
abbrev ref0 : (⟨S4096x2304, .bf16⟩ : BufTy).Contents (Elt Ideal) := m ((c : Thread nD τ).loc main_arg0)
abbrev ref1 : (⟨S4096x768, .bf16⟩ : BufTy).Contents (Elt Ideal) := m ((c : Thread nD τ).loc main_arg1)
abbrev ref2 : (⟨S1x4096x12x64, .f32⟩ : BufTy).Contents (Elt Ideal) := m ((c : Thread nD τ).loc main_arg2)
abbrev ref3 : (⟨S1x4096x12, .f32⟩ : BufTy).Contents (Elt Ideal) := m ((c : Thread nD τ).loc main_arg3)
abbrev ref4 : (⟨S1x4096x12x64, .f32⟩ : BufTy).Contents (Elt Ideal) := m ((c : Thread nD τ).loc main_arg4)
abbrev ref5 : (⟨S1x4096x12, .f32⟩ : BufTy).Contents (Elt Ideal) := m ((c : Thread nD τ).loc main_arg5)

/-- The reference's run ends with its composed values of the arguments. -/
theorem run_out : θ_run defs (onTc (τ := τ) (main (F := Ideal))) ⟨m, fun _ => 0, ρ⟩ (fun r => ∀ c : Dev nD,
      r.2.mem ((c.tc : Thread nD τ).loc main_v276) = val_main_v276 (F := Ideal) (ref0 m c) (ref1 m c) (ref2 m c) (ref3 m c) (ref4 m c) (ref5 m c)
      ∧ r.2.mem ((c.tc : Thread nD τ).loc main_v278) = val_main_v278 (F := Ideal) (ref0 m c) (ref1 m c) (ref2 m c) (ref3 m c) (ref4 m c) (ref5 m c)
      ∧ r.2.mem ((c.tc : Thread nD τ).loc main_v280) = val_main_v280 (F := Ideal) (ref0 m c) (ref1 m c) (ref3 m c) (ref5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (val_main_v276_eq (StableHlo.launchContents m c)), (h c).2.1.trans (val_main_v278_eq (StableHlo.launchContents m c)),
    (h c).2.2.1.trans (val_main_v280_eq (StableHlo.launchContents m c)), (h c).2.2.2⟩) (Value.run m ρ)

end Cert.ReferenceIdeal.Da

/-! ## The two agree -/

namespace Cert.Da

open Idealize.ShloMosaic Idealize.SL.Sem
open Cert.KernelIdeal.Da Cert.ReferenceIdeal Cert.ReferenceIdeal.Da Cert.ReferenceIdeal.Read

variable (m : (ℓ : Loc Cert.KernelIdeal.nD Cert.KernelIdeal.τ Cert.KernelIdeal.sig) → Buf (Elt Ideal) ℓ) (c : Dev Cert.KernelIdeal.nD)
  (h : Cert.Pre_finite.fn (F := Ideal) (a0 m c) (a1 m c) (a2 m c) (a3 m c) (a4 m c) (a5 m c) = fun _ => 1#1)
include h

theorem same_q : val_main_v276 (F := Ideal) (a0 m c) (a1 m c) (a2 m c) (a3 m c) (a4 m c) (a5 m c) = outQ m c := by
  obtain ⟨X, M, G, L2, L3, O2, O3, H⟩ := ins_of_pre h
  obtain ⟨_, hm⟩ := b129 H
  exact (funext fun i => b276 H hm i).trans (final_dq m c H).symm

theorem same_k : val_main_v278 (F := Ideal) (a0 m c) (a1 m c) (a2 m c) (a3 m c) (a4 m c) (a5 m c) = outK m c := by
  obtain ⟨X, M, G, L2, L3, O2, O3, H⟩ := ins_of_pre h
  obtain ⟨_, hm⟩ := b129 H
  exact (funext fun i => b278 H hm i).trans (final_dk m c H).symm

theorem same_v : val_main_v280 (F := Ideal) (a0 m c) (a1 m c) (a3 m c) (a5 m c) = outV m c := by
  obtain ⟨X, M, G, L2, L3, O2, O3, H⟩ := ins_of_pre h
  obtain ⟨_, hm⟩ := b129 H
  exact (funext fun i => b280 H hm i).trans (final_dv m c H).symm

omit h in
/-- From memories that agree on the arguments, which meet the precondition, the reference's run ends with the kernel's arrays. -/
theorem run_same (m' : (ℓ : Loc Cert.ReferenceIdeal.nD Cert.ReferenceIdeal.τ Cert.ReferenceIdeal.sig) → Buf (Elt Ideal) ℓ)
    (ρ' : Dev Cert.ReferenceIdeal.nD → PrngReg)
    (hpre : ∀ c, Cert.Pre_finite.fn (F := Ideal) (a0 m c) (a1 m c) (a2 m c) (a3 m c) (a4 m c) (a5 m c) = fun _ => 1#1)
    (hag : ∀ c, ref0 m' c = a0 m c ∧ ref1 m' c = a1 m c ∧ ref2 m' c = a2 m c ∧ ref3 m' c = a3 m c ∧ ref4 m' c = a4 m c ∧ ref5 m' c = a5 m c) :
    θ_run Cert.ReferenceIdeal.defs (onTc (τ := τ) (main (F := Ideal))) ⟨m', fun _ => 0, ρ'⟩ (fun r => ∀ c : Dev nD,
      r.2.mem ((c.tc : Thread nD τ).loc main_v276) = outQ m c
      ∧ r.2.mem ((c.tc : Thread nD τ).loc main_v278) = outK m c
      ∧ r.2.mem ((c.tc : Thread nD τ).loc main_v280) = outV m c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run Cert.ReferenceIdeal.defs _ _).mono (fun _ h c => by
    obtain ⟨e0, e1, e2, e3, e4, e5⟩ := hag c
    have hq := h c
    rw [e0, e1, e2, e3, e4, e5, same_q m c (hpre c), same_k m c (hpre c), same_v m c (hpre c)] at hq
    exact hq) (Cert.ReferenceIdeal.Da.run_out m' ρ')

end Cert.Da

end
-- ==== Proof.Ffn.Call2.lean ====
/- The gradient of one up-projection weight: the array the version's call leaves is the reference's, sum by sum. -/
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2.Frame
public import Idealize.ShloMosaic.Lib.Pipeline.ValueKit

@[expose] public section

set_option maxRecDepth 16384

noncomputable section

namespace Cert.Ffn2

open Idealize.ShloMosaic Idealize.ShloMosaic.TcCoe
open Cert.Kernel2Ideal Cert.Kernel2Ideal.Gen

/-- A shard's weight gradient: for each input lane and shard column, the sum over the 4096 rows. -/
def total (x0 : Vec Ideal S4096x1024 .bf16) (x1 : Vec Ideal S4x4096x704 .bf16) : Vec Ideal S4x1024x704 .bf16 :=
  fun i => ∑ k : Fin 4096, x0 (ix2 k (i 1)) * x1 (ix3 (i 0) k (i 2))

/-! ## The version's call -/

theorem mm (x : FVec Ideal S4096x1024 .bf16) (y : FVec Ideal S4096x704 .bf16) (i : S1024x704.Idx) :
    matmul dot_S4096x1024_S4096x704_S1024x704_0_0_1_1_n_n none x y (constant S1024x704 .f32 0x00000000#32) i
      = ∑ k : Fin 4096, x (ix2 k (i 0)) * y (ix2 k (i 1)) := by
  show FloatOps.matmul _ _ _ _ (constant S1024x704 .f32 0x00000000#32) i = _
  rw [Ideal.matmul_constant_zero_apply,
    ← Equiv.sum_comp (ValueIdx.contrEquiv1 dot_S4096x1024_S4096x704_S1024x704_0_0_1_1_n_n 4096 rfl rfl).symm]
  refine Finset.sum_congr rfl fun k _ => ?_
  have hk := ValueIdx.contrEquiv1_symm_val dot_S4096x1024_S4096x704_S1024x704_0_0_1_1_n_n 4096 rfl rfl k
  congr 2
  · funext b; apply Fin.ext
    match b with
    | ⟨0, _⟩ => exact hk
    | ⟨1, _⟩ => rfl
  · funext b; apply Fin.ext
    match b with
    | ⟨0, _⟩ => exact hk
    | ⟨1, _⟩ => rfl

theorem pay (v0 : Vec Ideal S4096x1024 .bf16) (v1 : Vec Ideal S1x4096x704 .bf16) (y : S1x1024x704.Idx) :
    k0_pay1 (F := Ideal) v0 v1 y = ∑ k : Fin 4096, v0 (ix2 k (y 1)) * v1 (ix3 0 k (y 2)) := by
  have h0 : (y 0).val < 1 := (y 0).isLt
  unfold k0_pay1
  refine (shapeCast_apply _ shapeCasts_S1024x704_S1x1024x704 y (ix2 (y 1) (y 2)) ?_).trans ?_
  · rewrite [Shape.rowMajor_val_two, Shape.rowMajor_val_three]
    show (y 1).val * 704 + (y 2).val = ((y 0).val * 1024 + (y 1).val) * 704 + (y 2).val
    omega
  · refine (mm _ _ _).trans (Finset.sum_congr rfl fun k _ => congrArg₂ (· * ·) rfl ?_)
    refine shapeCast_apply _ shapeCasts_S1x4096x704_S4096x704 _ (ix3 0 k (y 2)) ?_
    rewrite [Shape.rowMajor_val_two, Shape.rowMajor_val_three]
    show (0 * 4096 + k.val) * 704 + (y 2).val = k.val * 704 + (y 2).val
    omega

theorem e0 : ∀ t : Fin cfg0.N, win0_0.index t = ![0, 0] := by decide +kernel
theorem e1 : ∀ t : Fin cfg0.N, win0_1.index t = ![t.val, 0, 0] := by decide +kernel
theorem e2 : ∀ t : Fin cfg0.N, win0_2.index t = ![t.val, 0, 0] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S4x4096x704 .bf16 := m ((c : Thread nD τ).loc main_arg1)

theorem blk0 (t : Fin cfg0.N) (y : S4096x1024.Idx) : iblk (F := Ideal) m c 0 t y = a0 m c (ix2 (y 0) (y 1)) := by
  blk_simp [iblk, V_main_arg0]
  refine congrArg (a0 m c) (funext fun a => Fin.ext ?_)
  match a with
  | ⟨0, _⟩ => blk_simp [e0] <;> rfl
  | ⟨1, _⟩ => blk_simp [e0] <;> rfl

theorem blk1 (t : Fin cfg0.N) (y : S1x4096x704.Idx) : iblk (F := Ideal) m c 1 t y = a1 m c (ix3 ⟨t.val, t.isLt⟩ (y 1) (y 2)) := by
  have h0 : (y 0).val < 1 := (y 0).isLt
  blk_simp [iblk, V_main_arg1]
  refine congrArg (a1 m c) (funext fun a => Fin.ext ?_)
  match a with
  | ⟨0, _⟩ => blk_simp [e1] <;> dsimp <;> omega
  | ⟨1, _⟩ => blk_simp [e1] <;> rfl
  | ⟨2, _⟩ => blk_simp [e1] <;> rfl

theorem out_eq : (dats (F := Ideal) m 0 c).arrAt 2 cfg0.N = total (a0 m c) (a1 m c) := by
  refine (dats m 0 c).arrAt_eq_of_covers 2 _ (by decide +kernel) fun t hf y => ?_
  have h0 : (y 0).val < 1 := (y 0).isLt
  rw [after0_2]
  frame_out
  refine (pay _ _ y).trans (Finset.sum_congr rfl fun k _ => congrArg₂ (· * ·) ?_ ?_)
  · refine (blk0 m c t _).trans (congrArg (a0 m c) (funext fun a => Fin.ext ?_))
    match a with
    | ⟨0, _⟩ => rfl
    | ⟨1, _⟩ => blk_simp [e2] <;> rfl
  · refine (blk1 m c t _).trans (congrArg (a1 m c) (funext fun a => Fin.ext ?_))
    match a with
    | ⟨0, _⟩ => blk_simp [e2] <;> dsimp <;> omega
    | ⟨1, _⟩ => rfl
    | ⟨2, _⟩ => blk_simp [e2] <;> rfl
end

/-! ## The reference -/

open Cert.Reference2Ideal.Read in
theorem ref_eq (x0 : Vec Ideal S4096x1024 .bf16) (x1 : Vec Ideal S4x4096x704 .bf16) :
    val_main_v10 (F := Ideal) x0 x1 = total x0 x1 := by
  funext i
  have h0 : (i 0).val < 4 := (i 0).isLt
  have h1 : (i 1).val < 1024 := (i 1).isLt
  have h2 : (i 2).val < 704 := (i 2).isLt
  show val_main_v9 (F := Ideal) x0 x1 i = _
  rw [val_main_v9_apply, val_main_v8_apply, val_main_v7_apply, val_main_v6_apply]
  refine Finset.sum_congr rfl fun k _ => ?_
  rw [mul_comm]
  refine congrArg₂ (· * ·) ?_ ?_
  · refine congrArg x0 (funext fun a => Fin.ext ?_)
    match a with
    | ⟨0, _⟩ => rfl
    | ⟨1, _⟩ => show (((i 1).val * 4 + (i 0).val) * 704 + (i 2).val) / 2816 = (i 1).val; omega
  · rw [val_main_v5_apply, val_main_v4_apply]
    refine congrArg x1 (funext fun a => Fin.ext ?_)
    have e : (((i 1).val * 4 + (i 0).val) * 704 + (i 2).val) % 2816 = (i 0).val * 704 + (i 2).val := by omega
    match a with
    | ⟨0, _⟩ => show (k.val * 2816 + (((i 1).val * 4 + (i 0).val) * 704 + (i 2).val) % 2816) / 704 % 4 = (i 0).val; omega
    | ⟨1, _⟩ => show (k.val * 2816 + (((i 1).val * 4 + (i 0).val) * 704 + (i 2).val) % 2816) / 2816 = k.val; omega
    | ⟨2, _⟩ => show (k.val * 2816 + (((i 1).val * 4 + (i 0).val) * 704 + (i 2).val) % 2816) % 704 = (i 2).val; omega

end Cert.Ffn2

end
-- ==== Proof.Ffn.Call3.lean ====
/- The gradient of the down-projection weight: the array the version's call leaves is the reference's, sum by sum. -/
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel3.Frame
public import Idealize.ShloMosaic.Lib.Pipeline.ValueKit

@[expose] public section

set_option maxRecDepth 16384

noncomputable section

namespace Cert.Ffn3

open Idealize.ShloMosaic Idealize.ShloMosaic.TcCoe
open Cert.Kernel3Ideal Cert.Kernel3Ideal.Gen

/-- A shard's weight gradient: for each shard row and output lane, the sum over the 4096 rows. -/
def total (x0 : Vec Ideal S4x4096x704 .bf16) (x1 : Vec Ideal S4096x1024 .bf16) : Vec Ideal S4x704x1024 .bf16 :=
  fun i => ∑ k : Fin 4096, x0 (ix3 (i 0) k (i 1)) * x1 (ix2 k (i 2))

/-! ## The version's call -/

theorem mm (x : FVec Ideal S4096x704 .bf16) (y : FVec Ideal S4096x1024 .bf16) (i : S704x1024.Idx) :
    matmul dot_S4096x704_S4096x1024_S704x1024_0_0_1_1_n_n none x y (constant S704x1024 .f32 0x00000000#32) i
      = ∑ k : Fin 4096, x (ix2 k (i 0)) * y (ix2 k (i 1)) := by
  show FloatOps.matmul _ _ _ _ (constant S704x1024 .f32 0x00000000#32) i = _
  rw [Ideal.matmul_constant_zero_apply,
    ← Equiv.sum_comp (ValueIdx.contrEquiv1 dot_S4096x704_S4096x1024_S704x1024_0_0_1_1_n_n 4096 rfl rfl).symm]
  refine Finset.sum_congr rfl fun k _ => ?_
  have hk := ValueIdx.contrEquiv1_symm_val dot_S4096x704_S4096x1024_S704x1024_0_0_1_1_n_n 4096 rfl rfl k
  congr 2
  · funext b; apply Fin.ext
    match b with
    | ⟨0, _⟩ => exact hk
    | ⟨1, _⟩ => rfl
  · funext b; apply Fin.ext
    match b with
    | ⟨0, _⟩ => exact hk
    | ⟨1, _⟩ => rfl

theorem pay (v0 : Vec Ideal S1x4096x704 .bf16) (v1 : Vec Ideal S4096x1024 .bf16) (y : S1x704x1024.Idx) :
    k0_pay1 (F := Ideal) v0 v1 y = ∑ k : Fin 4096, v0 (ix3 0 k (y 1)) * v1 (ix2 k (y 2)) := by
  have h0 : (y 0).val < 1 := (y 0).isLt
  unfold k0_pay1
  refine (shapeCast_apply _ shapeCasts_S704x1024_S1x704x1024 y (ix2 (y 1) (y 2)) ?_).trans ?_
  · rewrite [Shape.rowMajor_val_two, Shape.rowMajor_val_three]
    show (y 1).val * 1024 + (y 2).val = ((y 0).val * 704 + (y 1).val) * 1024 + (y 2).val
    omega
  · refine (mm _ _ _).trans (Finset.sum_congr rfl fun k _ => congrArg₂ (· * ·) ?_ rfl)
    refine shapeCast_apply _ shapeCasts_S1x4096x704_S4096x704 _ (ix3 0 k (y 1)) ?_
    rewrite [Shape.rowMajor_val_two, Shape.rowMajor_val_three]
    show (0 * 4096 + k.val) * 704 + (y 1).val = k.val * 704 + (y 1).val
    omega

theorem e0 : ∀ t : Fin cfg0.N, win0_0.index t = ![t.val, 0, 0] := by decide +kernel
theorem e1 : ∀ t : Fin cfg0.N, win0_1.index t = ![0, 0] := by decide +kernel
theorem e2 : ∀ t : Fin cfg0.N, win0_2.index t = ![t.val, 0, 0] := by decide +kernel

section
variable (m : (ℓ : Loc nD τ sig) → Buf (Elt Ideal) ℓ) (c : Dev nD)

abbrev a0 : Vec Ideal S4x4096x704 .bf16 := m ((c : Thread nD τ).loc main_arg0)
abbrev a1 : Vec Ideal S4096x1024 .bf16 := m ((c : Thread nD τ).loc main_arg1)

theorem blk0 (t : Fin cfg0.N) (y : S1x4096x704.Idx) : iblk (F := Ideal) m c 0 t y = a0 m c (ix3 ⟨t.val, t.isLt⟩ (y 1) (y 2)) := by
  have h0 : (y 0).val < 1 := (y 0).isLt
  blk_simp [iblk, V_main_arg0]
  refine congrArg (a0 m c) (funext fun a => Fin.ext ?_)
  match a with
  | ⟨0, _⟩ => blk_simp [e0] <;> dsimp <;> omega
  | ⟨1, _⟩ => blk_simp [e0] <;> rfl
  | ⟨2, _⟩ => blk_simp [e0] <;> rfl

theorem blk1 (t : Fin cfg0.N) (y : S4096x1024.Idx) : iblk (F := Ideal) m c 1 t y = a1 m c (ix2 (y 0) (y 1)) := by
  blk_simp [iblk, V_main_arg1]
  refine congrArg (a1 m c) (funext fun a => Fin.ext ?_)
  match a with
  | ⟨0, _⟩ => blk_simp [e1] <;> rfl
  | ⟨1, _⟩ => blk_simp [e1] <;> rfl

theorem out_eq : (dats (F := Ideal) m 0 c).arrAt 2 cfg0.N = total (a0 m c) (a1 m c) := by
  refine (dats m 0 c).arrAt_eq_of_covers 2 _ (by decide +kernel) fun t hf y => ?_
  have h0 : (y 0).val < 1 := (y 0).isLt
  rw [after0_2]
  frame_out
  refine (pay _ _ y).trans (Finset.sum_congr rfl fun k _ => congrArg₂ (· * ·) ?_ ?_)
  · refine (blk0 m c t _).trans (congrArg (a0 m c) (funext fun a => Fin.ext ?_))
    match a with
    | ⟨0, _⟩ => blk_simp [e2] <;> dsimp <;> omega
    | ⟨1, _⟩ => rfl
    | ⟨2, _⟩ => blk_simp [e2] <;> rfl
  · refine (blk1 m c t _).trans (congrArg (a1 m c) (funext fun a => Fin.ext ?_))
    match a with
    | ⟨0, _⟩ => rfl
    | ⟨1, _⟩ => blk_simp [e2] <;> rfl
end

/-! ## The reference -/

open Cert.Reference3Ideal.Read in
theorem ref_eq (x0 : Vec Ideal S4x4096x704 .bf16) (x1 : Vec Ideal S4096x1024 .bf16) :
    val_main_v9 (F := Ideal) x0 x1 = total x0 x1 := by
  funext i
  have h0 : (i 0).val < 4 := (i 0).isLt
  have h1 : (i 1).val < 704 := (i 1).isLt
  have h2 : (i 2).val < 1024 := (i 2).isLt
  have e : (((i 0).val * 704 + (i 1).val) * 1024 + (i 2).val) / 1024 = (i 0).val * 704 + (i 1).val := by omega
  show val_main_v8 (F := Ideal) x0 x1 i = _
  rw [val_main_v8_apply, val_main_v7_apply, val_main_v6_apply]
  refine Finset.sum_congr rfl fun k _ => ?_
  rw [mul_comm]
  refine congrArg₂ (· * ·) ?_ ?_
  · rw [val_main_v3_apply, val_main_v2_apply]
    refine congrArg x0 (funext fun a => Fin.ext ?_)
    match a with
    | ⟨0, _⟩ => show (k.val * 2816 + (((i 0).val * 704 + (i 1).val) * 1024 + (i 2).val) / 1024) / 704 % 4 = (i 0).val; omega
    | ⟨1, _⟩ => show (k.val * 2816 + (((i 0).val * 704 + (i 1).val) * 1024 + (i 2).val) / 1024) / 2816 = k.val; omega
    | ⟨2, _⟩ => show (k.val * 2816 + (((i 0).val * 704 + (i 1).val) * 1024 + (i 2).val) / 1024) % 704 = (i 1).val; omega
  · refine congrArg x1 (funext fun a => Fin.ext ?_)
    match a with
    | ⟨0, _⟩ => rfl
    | ⟨1, _⟩ => show (((i 0).val * 704 + (i 1).val) * 1024 + (i 2).val) % 1024 = (i 2).val; omega

end Cert.Ffn3

end
-- ==== Proof.Ffn.Call4.lean ====
/- The gradient of the branch's input: the array the version's call leaves is the reference's. -/
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4.Frame
public import Idealize.ShloMosaic.Lib.Pipeline.ValueKit

@[expose] public section

set_option maxRecDepth 16384

noncomputable section

namespace Cert.Ffn4

open Idealize.ShloMosaic Idealize.ShloMosaic.TcCoe
open Cert.Kernel4Ideal Cert.Kernel4Ideal.Gen

/-- A row's products with a shard's row of one of the gathered weights. -/
def part (p : Fin 4) (x : Vec Ideal S4x4096x704 .bf16) (w : Vec Ideal S4x4x1024x704 .bf16) (s : Fin 4) (r : Fin 4096) (j : Fin 1024) : EReal :=
  ∑ k : Fin 704, x (ix3 s r k) * w (ix4 s p j k)

/-- A shard's share of the gradient: the gate's and the up-projection's. -/
def both (x0 x1 : Vec Ideal S4x4096x704 .bf16) (x2 : Vec Ideal S4x4x1024x704 .bf16) (s : Fin 4) (r : Fin 4096) (j : Fin 1024) : EReal :=
  part 0 x0 x2 s r j + part 1 x1 x2 s r j

/-- The gradient of the branch's input, the shards summed. -/
def dT (x0 x1 : Vec Ideal S4x4096x704 .bf16) (x2 : Vec Ideal S4x4x1024x704 .bf16) : Vec Ideal S4096x1024 .f32 :=
  fun i => (∑ s : Fin 4, both x0 x1 x2 s (i 0) (i 1) : EReal)

/-! ## The version's call -/

theorem mm (x : FVec Ideal S1024x704 .bf16) (y : FVec Ideal S1024x704 .bf16) (i : S1024x1024.Idx) :
    matmul dot_S1024x704_S1024x704_S1024x1024_1_1_0_0_n_n none x y (constant S1024x1024 .f32 0x00000000#32) i
      = ∑ k : Fin 704, x (ix2 (i 0) k) * y (ix2 (i 1) k) := by
  show FloatOps.matmul _ _ _ _ (constant S1024x1024 .f32 0x00000000#32) i = _
  rw [Ideal.matmul_constant_zero_apply,
    ← Equiv.sum_comp (ValueIdx.contrEquiv1 dot_S1024x704_S1024x704_S1024x1024_1_1_0_0_n_n 704 rfl rfl).symm]
  refine Finset.sum_congr rfl fun k _ => ?_
  have hk := ValueIdx.contrEquiv1_symm_val dot_S1024x704_S1024x704_S1024x1024_1_1_0_0_n_n 704 rfl rfl k
  congr 2
  · funext b; apply Fin.ext
    match b with
    | ⟨0, _⟩ => exact rfl
    | ⟨1, _⟩ => exact hk
  · funext b; apply Fin.ext
    match b with
    | ⟨0, _⟩ => exact rfl
    | ⟨1, _⟩ => exact hk

theorem cast_down (x : FVec Ideal S1x1024x704 .bf16) (i : S1024x704.Idx) :
    shapeCast S1024x704 x shapeCasts_S1x1024x704_S1024x704 i = x (ix3 0 (i 0) (i 1)) := by
  refine shapeCast_apply _ shapeCasts_S1x1024x704_S1024x704 _ (ix3 0 (i 0) (i 1)) ?_
  rewrite [Shape.rowMajor_val_two, Shape.rowMajor_val_three]
  show (0 * 1024 + (i 0).val) * 704 + (i 1).val = (i 0).val * 704 + (i 1).val
  omega

theorem cast_same (x : FVec Ideal S1024x1024 .f32) : shapeCast S1024x1024 x shapeCasts_S1024x1024_S1024x1024 = x :=
  funext fun i => shapeCast_apply x shapeCasts_S1024x1024_S1024x1024 i i rfl

theorem one (v0 : Vec Ideal S1x1024x704 .bf16) (v2 : Vec Ideal S1x1x1024x704 .bf16) (i : S1024x1024.Idx) :
    matmul (F := Ideal) (φ₁ := .bf16) (φ₂ := .bf16) dot_S1024x704_S1024x704_S1024x1024_1_1_0_0_n_n none (shapeCast S1024x704 v0 shapeCasts_S1x1024x704_S1024x704)
      (shapeCast S1024x704 v2 shapeCasts_S1x1x1024x704_S1024x704) (constant S1024x1024 .f32 0x00000000#32) i
      = (∑ k : Fin 704, v0 (ix3 0 (i 0) k) * v2 (ix4 0 0 (i 1) k) : EReal) := by
  refine (mm _ _ _).trans (Finset.sum_congr rfl fun k _ => congrArg₂ (· * ·) (cast_down _ _) ?_)
  refine shapeCast_apply _ shapeCasts_S1x1x1024x704_S1024x704 _ (ix4 0 0 (i 1) k) ?_
  rewrite [Shape.rowMajor_val_two, Shape.rowMajor_val_four]
  show ((0 * 1 + 0) * 1024 + (i 1).val) * 704 + k.val = (i 1).val * 704 + k.val
  omega

theorem pay1 (v0 : Vec Ideal S1x1024x704 .bf16) (v2 : Vec Ideal S1x1x1024x704 .bf16) (v5 : Vec Ideal S1x1024x704 .bf16) (v7 : Vec Ideal S1x1x1024x704 .bf16) (i : S1024x1024.Idx) :
    k0_pay1 (F := Ideal) v0 v2 v5 v7 i = ((∑ k : Fin 704, v0 (ix3 0 (i 0) k) * v2 (ix4 0 0 (i 1) k)) + ∑ k : Fin 704, v5 (ix3 0 (i 0) k) * v7 (ix4 0 0 (i 1) k) : EReal) := by
  unfold k0_pay1
  exact congrArg₂ (fun a b : EReal => a + b) (one v0 v2 i) (one v5 v7 i)

theorem pay2 (v0 : Vec Ideal S1x1024x704 .bf16) (v2 : Vec Ideal S1x1x1024x704 .bf16) (v5 : Vec Ideal S1x1024x704 .bf16) (v7 : Vec Ideal S1x1x1024x704 .bf16) (i : S1024x1024.Idx) :
    k0_pay2 (F := Ideal) v0 v2 v5 v7 i = ((∑ k : Fin 704, v0 (ix3 0 (i 0) k) * v2 (ix4 0 0 (i 1) k)) + ∑ k : Fin 704, v5 (ix3 0 (i 0) k) * v7 (ix4 0 0 (i 1) k) : EReal) := by
  unfold k0_pay2
  exact (congrFun (cast_same _) i).trans (pay1 v0 v2 v5 v7 i)

theorem pay3 (v0 : Vec Ideal S1x1024x704 .bf16) (v2 : Vec Ideal S1x1x1024x704 .bf16) (v5 : Vec Ideal S1x1024x704 .bf16) (v7 : Vec Ideal S1x1x1024x704 .bf16) (v20 : Vec Ideal S1024x1024 .f32) (i : S1024x1024.Idx) :
    k0_pay3 (F := Ideal) v0 v2 v5 v7 v20 i = (v20 i + ((∑ k : Fin 704, v0 (ix3 0 (i 0) k) * v2 (ix4 0 0 (i 1) k)) + ∑ k : Fin 704, v5 (ix3 0 (i 0) k) * v7 (ix4 0 0 (i 1) k) : EReal) : EReal) := by
  unfold k0_pay3
  refine (congrFun (cast_same _) i).trans ?_
  exact congrArg (fun z : EReal => (v20 i + z : EReal)) (pay1 v0 v2 v5 v7 i)

theorem hN (t : Fin cfg0.N) : t.val < 16 := lt_of_lt_of_eq t.isLt (by decide +kernel)
theorem e0 : ∀ t : Fin cfg0.N, win0_0.index t = ![t.val % 4, t.val / 4, 0] := by decide +kernel
theorem e1 : ∀ t : Fin cfg0.N, win0_1.index t = ![t.val % 4, 0, 0, 0] := by decide +kernel
theorem e2 : ∀ t : Fin cfg0.N, win0_2.index t = ![t.val % 4, t.val / 4, 0] := by decide +kernel
theorem e3 : ∀ t : Fin cfg0.N, win0_3.index t = ![t.val % 4, 1, 0, 0] := by decide +kernel
theorem e4 : ∀ t : Fin cfg0.N, win0_4.index t = ![t.val / 4, 0] := by decide +kernel
theorem fl4 : ∀ t : Fin cfg0.N, (cfg0.win 4).flush t = true → t.val % 4 = 3 := by decide +kernel

/-- The shard a step works on, and the row its block's row is. -/
abbrev shard (t : Fin cfg0.N) : Fin 4 := ⟨t.val % 4, by omega⟩
abbrev row (t : Fin cfg0.N) (r : Fin 1024) : Fin 4096 := ⟨1024 * (t.val / 4) + r.val, by have := hN t; omega⟩

section
variable (m : (ℓ : Loc nD τ sig) → Buf (Elt Ideal) ℓ) (c : Dev nD)

abbrev a0 : Vec Ideal S4x4096x704 .bf16 := m ((c : Thread nD τ).loc main_arg0)
abbrev a1 : Vec Ideal S4x4096x704 .bf16 := m ((c : Thread nD τ).loc main_arg1)
abbrev a2 : Vec Ideal S4x4x1024x704 .bf16 := m ((c : Thread nD τ).loc main_arg2)

theorem blk0 (t : Fin cfg0.N) (y : S1x1024x704.Idx) : iblk (F := Ideal) m c 0 t y = a0 m c (ix3 (shard t) (row t (y 1)) (y 2)) := by
  have h0 : (y 0).val < 1 := (y 0).isLt
  blk_simp [iblk, V_main_arg0]
  refine congrArg (a0 m c) (funext fun a => Fin.ext ?_)
  match a with
  | ⟨0, _⟩ => blk_simp [e0] <;> dsimp <;> omega
  | ⟨1, _⟩ => blk_simp [e0] <;> dsimp <;> omega
  | ⟨2, _⟩ => blk_simp [e0] <;> rfl

theorem blk1 (t : Fin cfg0.N) (y : S1x1x1024x704.Idx) : iblk (F := Ideal) m c 1 t y = a2 m c (ix4 (shard t) 0 (y 2) (y 3)) := by
  have h0 : (y 0).val < 1 := (y 0).isLt
  have h1 : (y 1).val < 1 := (y 1).isLt
  blk_simp [iblk, V_main_arg2]
  refine congrArg (a2 m c) (funext fun a => Fin.ext ?_)
  match a with
  | ⟨0, _⟩ => blk_simp [e1] <;> dsimp <;> omega
  | ⟨1, _⟩ => blk_simp [e1] <;> dsimp <;> omega
  | ⟨2, _⟩ => blk_simp [e1] <;> rfl
  | ⟨3, _⟩ => blk_simp [e1] <;> rfl

theorem blk2 (t : Fin cfg0.N) (y : S1x1024x704.Idx) : iblk (F := Ideal) m c 2 t y = a1 m c (ix3 (shard t) (row t (y 1)) (y 2)) := by
  have h0 : (y 0).val < 1 := (y 0).isLt
  blk_simp [iblk, V_main_arg1]
  refine congrArg (a1 m c) (funext fun a => Fin.ext ?_)
  match a with
  | ⟨0, _⟩ => blk_simp [e2] <;> dsimp <;> omega
  | ⟨1, _⟩ => blk_simp [e2] <;> dsimp <;> omega
  | ⟨2, _⟩ => blk_simp [e2] <;> rfl

theorem blk3 (t : Fin cfg0.N) (y : S1x1x1024x704.Idx) : iblk (F := Ideal) m c 3 t y = a2 m c (ix4 (shard t) 1 (y 2) (y 3)) := by
  have h0 : (y 0).val < 1 := (y 0).isLt
  have h1 : (y 1).val < 1 := (y 1).isLt
  blk_simp [iblk, V_main_arg2]
  refine congrArg (a2 m c) (funext fun a => Fin.ext ?_)
  match a with
  | ⟨0, _⟩ => blk_simp [e3] <;> dsimp <;> omega
  | ⟨1, _⟩ => blk_simp [e3] <;> dsimp <;> omega
  | ⟨2, _⟩ => blk_simp [e3] <;> rfl
  | ⟨3, _⟩ => blk_simp [e3] <;> rfl

/-- What a step adds to the running sum. -/
def term (t : Fin cfg0.N) (y : S1024x1024.Idx) : EReal := both (a0 m c) (a1 m c) (a2 m c) (shard t) (row t (y 0)) (y 1)

theorem step2 (t : Fin cfg0.N) (y : S1024x1024.Idx) :
    k0_pay2 (F := Ideal) (iblk m c 0 t) (iblk m c 1 t) (iblk m c 2 t) (iblk m c 3 t) y = term m c t y := by
  unfold term both part
  exact (pay2 _ _ _ _ y).trans (congrArg₂ (fun a b : EReal => a + b)
    (Finset.sum_congr rfl fun k _ => congrArg₂ (· * ·) (blk0 m c t _) (blk1 m c t _))
    (Finset.sum_congr rfl fun k _ => congrArg₂ (· * ·) (blk2 m c t _) (blk3 m c t _)))

theorem step3 (t : Fin cfg0.N) (acc : Vec Ideal S1024x1024 .f32) (y : S1024x1024.Idx) :
    k0_pay3 (F := Ideal) (iblk m c 0 t) (iblk m c 1 t) (iblk m c 2 t) (iblk m c 3 t) acc y = (acc y + term m c t y : EReal) :=
  (pay3 _ _ _ _ _ y).trans (congrArg (fun z : EReal => (acc y + z : EReal)) ((pay2 _ _ _ _ y).symm.trans (step2 m c t y)))

theorem acc_first (t : Fin cfg0.N) (h : t.val % 4 = 0) (y : S1024x1024.Idx) :
    (outsAt0 (F := Ideal) m c t.val t.isLt).2 y = (0 + term m c t y : EReal) := by
  rw [outsAt0_A m c t h (by omega) (by omega)]
  frame_out
  exact (step2 m c t y).trans (zero_add _).symm

theorem acc_next (t : Fin cfg0.N) (h : ¬t.val % 4 = 0) (y : S1024x1024.Idx) :
    (outsAt0 (F := Ideal) m c t.val t.isLt).2 y
      = ((outsAt0 (F := Ideal) m c (t.val - 1) (Nat.lt_of_le_of_lt (Nat.sub_le _ _) t.isLt)).2 y + term m c t y : EReal) := by
  by_cases h3 : t.val % 4 = 3
  · rw [outsAt0_C m c t h (by omega) h3]
    frame_out
    refine Eq.trans ?_ (step3 m c t _ y)
    exact congrFun (congrArg _ (Memref.IsWhole.read_unread (Memref.isWhole_whole cc0_scratch0) _)) y
  · rw [outsAt0_B m c t h (by omega) h3]
    frame_out
    refine Eq.trans ?_ (step3 m c t _ y)
    exact congrFun (congrArg _ (Memref.IsWhole.read_unread (Memref.isWhole_whole cc0_scratch0) _)) y

/-- After a row block's last step the running sum is the gradient's block. -/
theorem acc_last (t : Fin cfg0.N) (h : t.val % 4 = 3) (y : S1024x1024.Idx) :
    (outsAt0 (F := Ideal) m c t.val t.isLt).2 y = dT (a0 m c) (a1 m c) (a2 m c) (ix2 (row t (y 0)) (y 1)) := by
  refine (Pipeline.eq_sum_fin_of_reset_step_apply_of_flush (M := EReal) (fun n hn y => (outsAt0 (F := Ideal) m c n hn).2 y) 4 (fun _ => 0) (term m c)
    (fun t h y => acc_first m c t h y) (fun t h y => acc_next m c t h y) t h y).trans ?_
  refine (zero_add _).trans (Finset.sum_congr rfl fun s _ => ?_)
  have hs := s.isLt
  unfold term
  refine congr (congrArg₂ (both (a0 m c) (a1 m c) (a2 m c)) (Fin.ext ?_) (Fin.ext ?_)) rfl
  · show (4 * (t.val / 4) + s.val) % 4 = s.val
    omega
  · show 1024 * ((4 * (t.val / 4) + s.val) / 4) + (y 0).val = 1024 * (t.val / 4) + (y 0).val
    omega

/-- The block a row block's last step writes is the running sum it leaves. -/
theorem last_d (t : Fin cfg0.N) (h : t.val % 4 = 3) :
    (outsAt0 (F := Ideal) m c t.val t.isLt).1 = (outsAt0 (F := Ideal) m c t.val t.isLt).2 := by
  rw [outsAt0_C m c t (by omega) (by omega) h]
  frame_out

theorem out_eq : (dats (F := Ideal) m 0 c).arrAt 4 cfg0.N = dT (a0 m c) (a1 m c) (a2 m c) := by
  refine (dats m 0 c).arrAt_eq_of_covers 4 _ (by decide +kernel) fun t hf y => ?_
  have h3 := fl4 t hf
  rw [after0_4, last_d m c t h3]
  refine (acc_last m c t h3 y).trans ?_
  refine congrArg (dT (a0 m c) (a1 m c) (a2 m c)) (funext fun a => Fin.ext ?_)
  match a with
  | ⟨0, _⟩ => blk_simp [e4] <;> dsimp <;> omega
  | ⟨1, _⟩ => blk_simp [e4] <;> rfl
end

/-! ## The reference -/

section
open Cert.Reference4Ideal.Read

variable (x0 x1 : Vec Ideal S4x4096x704 .bf16) (x2 : Vec Ideal S4x4x1024x704 .bf16)

theorem split {r q s j : ℕ} (hs : s < 4) (hj : j < 704) (hq : q = s * 704 + j) :
    (r * 2816 + q) / 2816 = r ∧ (r * 2816 + q) / 704 % 4 = s ∧ (r * 2816 + q) % 704 = j := by omega

theorem ref_dg (s : Fin 4) (r : Fin 4096) (k : Fin 704) (q : Cert.Reference4Ideal.S4096x2816.Idx) (h0 : (q 0).val = r.val) (h1 : (q 1).val = s.val * 704 + k.val) :
    val_main_v15 (F := Ideal) x0 q = x0 (ix3 s r k) := by
  have sp := split (r := (q 0).val) s.isLt k.isLt h1
  rw [val_main_v15_apply, val_main_v14_apply, val_main_v13_apply]
  refine congrArg x0 (funext fun a => Fin.ext ?_)
  match a with
  | ⟨0, _⟩ => exact sp.2.1
  | ⟨1, _⟩ => exact sp.1.trans h0
  | ⟨2, _⟩ => exact sp.2.2

theorem ref_du (s : Fin 4) (r : Fin 4096) (k : Fin 704) (q : Cert.Reference4Ideal.S4096x2816.Idx) (h0 : (q 0).val = r.val) (h1 : (q 1).val = s.val * 704 + k.val) :
    val_main_v18 (F := Ideal) x1 q = x1 (ix3 s r k) := by
  have sp := split (r := (q 0).val) s.isLt k.isLt h1
  rw [val_main_v18_apply, val_main_v17_apply, val_main_v16_apply]
  refine congrArg x1 (funext fun a => Fin.ext ?_)
  match a with
  | ⟨0, _⟩ => exact sp.2.1
  | ⟨1, _⟩ => exact sp.1.trans h0
  | ⟨2, _⟩ => exact sp.2.2

theorem ref_wg (s : Fin 4) (j : Fin 1024) (k : Fin 704) (q : Cert.Reference4Ideal.S1024x2816.Idx) (h0 : (q 0).val = j.val) (h1 : (q 1).val = s.val * 704 + k.val) :
    val_main_v5 (F := Ideal) x2 q = x2 (ix4 s 0 j k) := by
  have hs := s.isLt
  have hk := k.isLt
  have hj := j.isLt
  have sp := split (r := (q 0).val) hs hk h1
  rw [val_main_v5_apply, val_main_v4_apply, val_main_v3_apply, val_main_v2_apply, val_main_v1_apply]
  refine congrArg x2 (funext fun a => Fin.ext ?_)
  match a with
  | ⟨0, _⟩ => dsimp; simp only [sp.1, sp.2.1, sp.2.2]; omega
  | ⟨1, _⟩ => dsimp
  | ⟨2, _⟩ => dsimp; simp only [sp.1, sp.2.1, sp.2.2]; omega
  | ⟨3, _⟩ => dsimp; simp only [sp.1, sp.2.1, sp.2.2]; omega

theorem ref_wu (s : Fin 4) (j : Fin 1024) (k : Fin 704) (q : Cert.Reference4Ideal.S1024x2816.Idx) (h0 : (q 0).val = j.val) (h1 : (q 1).val = s.val * 704 + k.val) :
    val_main_v11 (F := Ideal) x2 q = x2 (ix4 s 1 j k) := by
  have hs := s.isLt
  have hk := k.isLt
  have hj := j.isLt
  have sp := split (r := (q 0).val) hs hk h1
  rw [val_main_v11_apply, val_main_v10_apply, val_main_v9_apply, val_main_v8_apply, val_main_v7_apply]
  refine congrArg x2 (funext fun a => Fin.ext ?_)
  match a with
  | ⟨0, _⟩ => dsimp; simp only [sp.1, sp.2.1, sp.2.2]; omega
  | ⟨1, _⟩ => dsimp
  | ⟨2, _⟩ => dsimp; simp only [sp.1, sp.2.1, sp.2.2]; omega
  | ⟨3, _⟩ => dsimp; simp only [sp.1, sp.2.1, sp.2.2]; omega

theorem ref_gate (i : S4096x1024.Idx) : val_main_v20 (F := Ideal) x0 x2 i = ∑ s : Fin 4, part 0 x0 x2 s (i 0) (i 1) := by
  rw [val_main_v20_apply]
  refine Eq.symm (Fin.sum_mul_add_congr fun s k hl => ?_)
  exact congrArg₂ (· * ·) (ref_dg x0 s (i 0) k _ rfl rfl).symm (ref_wg x2 s (i 1) k _ rfl rfl).symm

theorem ref_up (i : S4096x1024.Idx) : val_main_v19 (F := Ideal) x1 x2 i = ∑ s : Fin 4, part 1 x1 x2 s (i 0) (i 1) := by
  rw [val_main_v19_apply]
  refine Eq.symm (Fin.sum_mul_add_congr fun s k hl => ?_)
  exact congrArg₂ (· * ·) (ref_du x1 s (i 0) k _ rfl rfl).symm (ref_wu x2 s (i 1) k _ rfl rfl).symm

theorem ref_eq : val_main_v21 (F := Ideal) x0 x1 x2 = dT x0 x1 x2 := by
  funext i
  rw [val_main_v21_apply, ref_gate, ref_up]
  refine (add_comm (G := EReal) _ _).trans ?_
  exact (Finset.sum_add_distrib (M := EReal)).symm
end

end Cert.Ffn4

end
-- ==== Proof.Ffn.Gate.lean ====
/- The gate of the feed-forward branch over the extended reals: the logistic as the reference writes it. -/
module

public import Idealize.ShloMosaic.Lib.Pipeline.Value
public import Idealize.ShloMosaic.PureOps.Ideal.Laws

@[expose] public section

noncomputable section

namespace Cert.Ffn

open Idealize.ShloMosaic

theorem one_val : (FloatOps.ofBits .f32 0x3F800000#32 : Ideal .f32) = (1 : EReal) := by
  show Ideal.ofBits .f32 0x3F800000#32 = 1
  simp [Ideal.ofBits, Ideal.ieee, -EReal.coe_mul]
  norm_num

/-- One over one plus the exponential of the negated argument is the logistic. -/
theorem logistic_val (x : Ideal .f32) :
    FloatOps.hostDivf (FloatOps.ofBits .f32 0x3F800000#32) (FloatOps.addf (FloatOps.ofBits .f32 0x3F800000#32) (FloatOps.hostUnary .exp (FloatOps.hostNegf x)))
      = (Ideal.logistic x : Ideal .f32) := by
  rw [one_val]; rfl

end Cert.Ffn

end
-- ==== Proof.Ffn.Call5.lean ====
/- The gradients behind the gate: the two arrays the version's call leaves are the reference's. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5.Frame
public import proofs.«01_k».proof.Proof.Ffn.Gate
public import Idealize.ShloMosaic.Lib.Pipeline.ValueKit

@[expose] public section

set_option maxRecDepth 16384

noncomputable section

namespace Cert.Ffn5

open Idealize.ShloMosaic Idealize.ShloMosaic.TcCoe
open Cert.Kernel5Ideal Cert.Kernel5Ideal.Gen

/-- The gradient of the activation at a place: a row against a shard's row of the gathered weight. -/
def back (x0 : Vec Ideal S4096x1024 .bf16) (x1 : Vec Ideal S4x2x704x1024 .bf16) (s : Fin 4) (r : Fin 4096) (j : Fin 704) : EReal :=
  ∑ k : Fin 1024, x0 (ix2 r k) * x1 (ix4 s 0 j k)

/-- The gradient of the gate's argument from the gradient `p`, the argument `g` and the up-projection `u`. -/
def gateGrad (p g u : EReal) : EReal :=
  p * u * Ideal.logistic g + g * (p * u) * (Ideal.logistic g * (1 - Ideal.logistic g))

def dgT (x0 : Vec Ideal S4096x1024 .bf16) (x1 : Vec Ideal S4x2x704x1024 .bf16) (x2 x3 : Vec Ideal S4x4096x704 .bf16) : Vec Ideal S4x4096x704 .bf16 :=
  fun i => gateGrad (back x0 x1 (i 0) (i 1) (i 2)) (x2 i) (x3 i)
def duT (x0 : Vec Ideal S4096x1024 .bf16) (x1 : Vec Ideal S4x2x704x1024 .bf16) (x2 : Vec Ideal S4x4096x704 .bf16) : Vec Ideal S4x4096x704 .bf16 :=
  fun i => (x2 i * Ideal.logistic (x2 i) * back x0 x1 (i 0) (i 1) (i 2) : EReal)

/-! ## The version's call -/

theorem mm (x : FVec Ideal S1024x1024 .bf16) (y : FVec Ideal S704x1024 .bf16) (i : S1024x704.Idx) :
    matmul dot_S1024x1024_S704x1024_S1024x704_1_1_0_0_n_n none x y (constant S1024x704 .f32 0x00000000#32) i
      = ∑ k : Fin 1024, x (ix2 (i 0) k) * y (ix2 (i 1) k) := by
  show FloatOps.matmul _ _ _ _ (constant S1024x704 .f32 0x00000000#32) i = _
  rw [Ideal.matmul_constant_zero_apply,
    ← Equiv.sum_comp (ValueIdx.contrEquiv1 dot_S1024x1024_S704x1024_S1024x704_1_1_0_0_n_n 1024 rfl rfl).symm]
  refine Finset.sum_congr rfl fun k _ => ?_
  have hk := ValueIdx.contrEquiv1_symm_val dot_S1024x1024_S704x1024_S1024x704_1_1_0_0_n_n 1024 rfl rfl k
  congr 2
  · funext b; apply Fin.ext
    match b with
    | ⟨0, _⟩ => rfl
    | ⟨1, _⟩ => exact hk
  · funext b; apply Fin.ext
    match b with
    | ⟨0, _⟩ => rfl
    | ⟨1, _⟩ => exact hk

theorem pay1 (v0 : Vec Ideal S1024x1024 .bf16) (v1 : Vec Ideal S1x1x704x1024 .bf16) (i : S1024x704.Idx) :
    k0_pay1 (F := Ideal) v0 v1 i = ∑ k : Fin 1024, v0 (ix2 (i 0) k) * v1 (ix4 0 0 (i 1) k) := by
  unfold k0_pay1
  refine (mm _ _ _).trans (Finset.sum_congr rfl fun k _ => congrArg₂ (· * ·) rfl ?_)
  refine shapeCast_apply _ shapeCasts_S1x1x704x1024_S704x1024 _ (ix4 0 0 (i 1) k) ?_
  rewrite [Shape.rowMajor_val_two, Shape.rowMajor_val_four]
  show ((0 * 1 + 0) * 704 + (i 1).val) * 1024 + k.val = (i 1).val * 1024 + k.val
  omega

theorem cast_up (x : FVec Ideal S1024x704 .bf16) (y : S1x1024x704.Idx) :
    shapeCast S1x1024x704 x shapeCasts_S1024x704_S1x1024x704 y = x (ix2 (y 1) (y 2)) := by
  have h0 : (y 0).val < 1 := (y 0).isLt
  refine shapeCast_apply _ shapeCasts_S1024x704_S1x1024x704 y (ix2 (y 1) (y 2)) ?_
  rewrite [Shape.rowMajor_val_two, Shape.rowMajor_val_three]
  show (y 1).val * 704 + (y 2).val = ((y 0).val * 1024 + (y 1).val) * 704 + (y 2).val
  omega

theorem cast_down (x : FVec Ideal S1x1024x704 .bf16) (y : S1x1024x704.Idx) :
    shapeCast S1024x704 x shapeCasts_S1x1024x704_S1024x704 (ix2 (y 1) (y 2)) = x y := by
  have h0 : (y 0).val < 1 := (y 0).isLt
  refine shapeCast_apply _ shapeCasts_S1x1024x704_S1024x704 _ y ?_
  rewrite [Shape.rowMajor_val_two, Shape.rowMajor_val_three]
  show ((y 0).val * 1024 + (y 1).val) * 704 + (y 2).val = (y 1).val * 704 + (y 2).val
  omega

theorem pay4 (v0 : Vec Ideal S1024x1024 .bf16) (v1 : Vec Ideal S1x1x704x1024 .bf16) (v4 v6 : Vec Ideal S1x1024x704 .bf16) (y : S1x1024x704.Idx) :
    k0_pay4 (F := Ideal) v0 v1 v4 v6 y = gateGrad (k0_pay1 (F := Ideal) v0 v1 (ix2 (y 1) (y 2))) (v4 y) (v6 y) := by
  unfold k0_pay4
  refine (cast_up _ y).trans ?_
  rw [← cast_down v4 y, ← cast_down v6 y, gateGrad, ← Ffn.one_val]
  rfl

theorem pay5 (v0 : Vec Ideal S1024x1024 .bf16) (v1 : Vec Ideal S1x1x704x1024 .bf16) (v4 : Vec Ideal S1x1024x704 .bf16) (y : S1x1024x704.Idx) :
    k0_pay5 (F := Ideal) v0 v1 v4 y = (v4 y * Ideal.logistic (v4 y) * k0_pay1 (F := Ideal) v0 v1 (ix2 (y 1) (y 2)) : EReal) := by
  unfold k0_pay5
  refine (cast_up _ y).trans ?_
  rw [← cast_down v4 y]
  rfl

theorem hN (t : Fin cfg0.N) : t.val < 16 := lt_of_lt_of_eq t.isLt (by decide +kernel)
theorem e0 : ∀ t : Fin cfg0.N, win0_0.index t = ![t.val / 4, 0] := by decide +kernel
theorem e1 : ∀ t : Fin cfg0.N, win0_1.index t = ![t.val % 4, 0, 0, 0] := by decide +kernel
theorem e2 : ∀ t : Fin cfg0.N, win0_2.index t = ![t.val % 4, t.val / 4, 0] := by decide +kernel
theorem e3 : ∀ t : Fin cfg0.N, win0_3.index t = ![t.val % 4, t.val / 4, 0] := by decide +kernel
theorem e4 : ∀ t : Fin cfg0.N, win0_4.index t = ![t.val % 4, t.val / 4, 0] := by decide +kernel
theorem e5 : ∀ t : Fin cfg0.N, win0_5.index t = ![t.val % 4, t.val / 4, 0] := by decide +kernel

/-- The shard a step works on, and the row its block's row is. -/
abbrev shard (t : Fin cfg0.N) : Fin 4 := ⟨t.val % 4, by omega⟩
abbrev row (t : Fin cfg0.N) (r : Fin 1024) : Fin 4096 := ⟨1024 * (t.val / 4) + r.val, by have := hN t; omega⟩

section
variable (m : (ℓ : Loc nD τ sig) → Buf (Elt Ideal) ℓ) (c : Dev nD)

abbrev a0 : Vec Ideal S4096x1024 .bf16 := m ((c : Thread nD τ).loc main_arg0)
abbrev a1 : Vec Ideal S4x2x704x1024 .bf16 := m ((c : Thread nD τ).loc main_arg1)
abbrev a2 : Vec Ideal S4x4096x704 .bf16 := m ((c : Thread nD τ).loc main_arg2)
abbrev a3 : Vec Ideal S4x4096x704 .bf16 := m ((c : Thread nD τ).loc main_arg3)

theorem blk0 (t : Fin cfg0.N) (y : S1024x1024.Idx) : iblk (F := Ideal) m c 0 t y = a0 m c (ix2 (row t (y 0)) (y 1)) := by
  blk_simp [iblk, V_main_arg0]
  refine congrArg (a0 m c) (funext fun a => Fin.ext ?_)
  match a with
  | ⟨0, _⟩ => blk_simp [e0] <;> dsimp <;> omega
  | ⟨1, _⟩ => blk_simp [e0] <;> rfl

theorem blk1 (t : Fin cfg0.N) (y : S1x1x704x1024.Idx) : iblk (F := Ideal) m c 1 t y = a1 m c (ix4 (shard t) 0 (y 2) (y 3)) := by
  have h0 : (y 0).val < 1 := (y 0).isLt
  have h1 : (y 1).val < 1 := (y 1).isLt
  blk_simp [iblk, V_main_arg1]
  refine congrArg (a1 m c) (funext fun a => Fin.ext ?_)
  match a with
  | ⟨0, _⟩ => blk_simp [e1] <;> dsimp <;> omega
  | ⟨1, _⟩ => blk_simp [e1] <;> dsimp <;> omega
  | ⟨2, _⟩ => blk_simp [e1] <;> rfl
  | ⟨3, _⟩ => blk_simp [e1] <;> rfl

theorem blk2 (t : Fin cfg0.N) (y : S1x1024x704.Idx) : iblk (F := Ideal) m c 2 t y = a2 m c (ix3 (shard t) (row t (y 1)) (y 2)) := by
  have h0 : (y 0).val < 1 := (y 0).isLt
  blk_simp [iblk, V_main_arg2]
  refine congrArg (a2 m c) (funext fun a => Fin.ext ?_)
  match a with
  | ⟨0, _⟩ => blk_simp [e2] <;> dsimp <;> omega
  | ⟨1, _⟩ => blk_simp [e2] <;> dsimp <;> omega
  | ⟨2, _⟩ => blk_simp [e2] <;> rfl

theorem blk3 (t : Fin cfg0.N) (y : S1x1024x704.Idx) : iblk (F := Ideal) m c 3 t y = a3 m c (ix3 (shard t) (row t (y 1)) (y 2)) := by
  have h0 : (y 0).val < 1 := (y 0).isLt
  blk_simp [iblk, V_main_arg3]
  refine congrArg (a3 m c) (funext fun a => Fin.ext ?_)
  match a with
  | ⟨0, _⟩ => blk_simp [e3] <;> dsimp <;> omega
  | ⟨1, _⟩ => blk_simp [e3] <;> dsimp <;> omega
  | ⟨2, _⟩ => blk_simp [e3] <;> rfl

theorem back_step (t : Fin cfg0.N) (y : S1024x704.Idx) :
    k0_pay1 (F := Ideal) (iblk m c 0 t) (iblk m c 1 t) y = back (a0 m c) (a1 m c) (shard t) (row t (y 0)) (y 1) :=
  (pay1 _ _ y).trans (Finset.sum_congr rfl fun k _ => congrArg₂ (· * ·) (blk0 m c t _) (blk1 m c t _))

theorem out_dg : (dats (F := Ideal) m 0 c).arrAt 4 cfg0.N = dgT (a0 m c) (a1 m c) (a2 m c) (a3 m c) := by
  refine (dats m 0 c).arrAt_eq_of_covers 4 _ (by decide +kernel) fun t hf y => ?_
  have h0 : (y 0).val < 1 := (y 0).isLt
  rw [after0_4]
  frame_out
  refine (pay4 _ _ _ _ y).trans ?_
  refine (congr (congrArg₂ gateGrad (back_step m c t (ix2 (y 1) (y 2))) (blk2 m c t _)) (blk3 m c t _)).trans ?_
  show dgT (a0 m c) (a1 m c) (a2 m c) (a3 m c) (ix3 (shard t) (row t (y 1)) (y 2)) = _
  refine congrArg (dgT (a0 m c) (a1 m c) (a2 m c) (a3 m c)) (funext fun a => Fin.ext ?_)
  match a with
  | ⟨0, _⟩ => blk_simp [e4] <;> dsimp <;> omega
  | ⟨1, _⟩ => blk_simp [e4] <;> dsimp <;> omega
  | ⟨2, _⟩ => blk_simp [e4] <;> rfl

theorem out_du : (dats (F := Ideal) m 0 c).arrAt 5 cfg0.N = duT (a0 m c) (a1 m c) (a2 m c) := by
  refine (dats m 0 c).arrAt_eq_of_covers 5 _ (by decide +kernel) fun t hf y => ?_
  have h0 : (y 0).val < 1 := (y 0).isLt
  rw [after0_5]
  frame_out
  refine (pay5 _ _ _ y).trans ?_
  refine (congrArg₂ (fun p g : EReal => g * Ideal.logistic g * p) (back_step m c t (ix2 (y 1) (y 2))) (blk2 m c t _)).trans ?_
  show duT (a0 m c) (a1 m c) (a2 m c) (ix3 (shard t) (row t (y 1)) (y 2)) = _
  refine congrArg (duT (a0 m c) (a1 m c) (a2 m c)) (funext fun a => Fin.ext ?_)
  match a with
  | ⟨0, _⟩ => blk_simp [e5] <;> dsimp <;> omega
  | ⟨1, _⟩ => blk_simp [e5] <;> dsimp <;> omega
  | ⟨2, _⟩ => blk_simp [e5] <;> rfl
end

/-! ## The reference -/

section
open Cert.Reference5Ideal.Read

variable (x0 : Vec Ideal S4096x1024 .bf16) (x1 : Vec Ideal S4x2x704x1024 .bf16) (x2 x3 : Vec Ideal S4x4096x704 .bf16)

theorem ref_back (r : Fin 4096) (s : Fin 4) (j : Fin 704) (q : Cert.Reference5Ideal.S4096x2816.Idx) (h0 : (q 0).val = r.val) (h1 : (q 1).val = s.val * 704 + j.val) :
    val_main_v14 (F := Ideal) x0 x1 q = back x0 x1 s r j := by
  have hj := j.isLt
  have hs := s.isLt
  rw [val_main_v14_apply]
  refine Finset.sum_congr rfl fun k _ => congrArg₂ (· * ·) ?_ ?_
  · show x0 _ = _
    refine congrArg x0 (funext fun a => Fin.ext ?_)
    match a with
    | ⟨0, _⟩ => exact h0
    | ⟨1, _⟩ => rfl
  · have hk := k.isLt
    rw [val_main_v3_apply, val_main_v2_apply, val_main_v1_apply, val_main_v0_apply]
    refine congrArg x1 (funext fun a => Fin.ext ?_)
    match a with
    | ⟨0, _⟩ => dsimp; omega
    | ⟨1, _⟩ => dsimp
    | ⟨2, _⟩ => dsimp; omega
    | ⟨3, _⟩ => dsimp; omega

/-- A place among the shards' columns, side by side, and back. -/
theorem place {r s j : ℕ} (hs : s < 4) (hj : j < 704) : ((r * 4 + s) * 704 + j) / 2816 = r ∧ ((r * 4 + s) * 704 + j) % 2816 = s * 704 + j := by omega
theorem split {k q s j : ℕ} (hs : s < 4) (hj : j < 704) (hq : q = s * 704 + j) :
    (k * 2816 + q) / 2816 = k ∧ (k * 2816 + q) / 704 % 4 = s ∧ (k * 2816 + q) % 704 = j := by omega

theorem ref_g (i : S4x4096x704.Idx) (q : Cert.Reference5Ideal.S4096x2816.Idx) (h0 : (q 0).val = (i 1).val) (h1 : (q 1).val = (i 0).val * 704 + (i 2).val) :
    val_main_v6 (F := Ideal) x2 q = x2 i := by
  have sp := split (k := (q 0).val) (i 0).isLt (i 2).isLt h1
  rw [val_main_v6_apply, val_main_v5_apply, val_main_v4_apply]
  refine congrArg x2 (funext fun a => Fin.ext ?_)
  match a with
  | ⟨0, _⟩ => exact sp.2.1
  | ⟨1, _⟩ => exact sp.1.trans h0
  | ⟨2, _⟩ => exact sp.2.2

theorem ref_u (i : S4x4096x704.Idx) (q : Cert.Reference5Ideal.S4096x2816.Idx) (h0 : (q 0).val = (i 1).val) (h1 : (q 1).val = (i 0).val * 704 + (i 2).val) :
    val_main_v9 (F := Ideal) x3 q = x3 i := by
  have sp := split (k := (q 0).val) (i 0).isLt (i 2).isLt h1
  rw [val_main_v9_apply, val_main_v8_apply, val_main_v7_apply]
  refine congrArg x3 (funext fun a => Fin.ext ?_)
  match a with
  | ⟨0, _⟩ => exact sp.2.1
  | ⟨1, _⟩ => exact sp.1.trans h0
  | ⟨2, _⟩ => exact sp.2.2

theorem ref_logistic (q : Cert.Reference5Ideal.S4096x2816.Idx) : val_main_v10_2 (F := Ideal) x2 q = (Ideal.logistic (val_main_v6 (F := Ideal) x2 q) : EReal) := by
  rw [val_main_v10_2_apply, val_main_call0_v4_apply, val_main_call0_cst_0_apply, val_main_call0_v3_apply, val_main_call0_v2_apply, val_main_call0_cst_apply,
    val_main_call0_v1_apply, val_main_call0_v0_apply, Ffn.logistic_val]

theorem ref_dg : val_main_v20 (F := Ideal) x0 x1 x2 x3 = dgT x0 x1 x2 x3 := by
  funext i
  show val_main_v19 (F := Ideal) x0 x1 x2 x3 i = _
  have pl := place (r := (i 1).val) (i 0).isLt (i 2).isLt
  rw [val_main_v19_apply, val_main_v18_apply, val_main_v17_apply, val_main_call1_v1_apply, val_main_call1_v2_apply, val_main_call1_v0_apply,
    val_main_v10_1_apply, val_main_call0_v7_apply, val_main_call0_v6_apply, val_main_call0_cst_1_apply, val_main_v16_apply, ref_logistic,
    ref_back x0 x1 (i 1) (i 0) (i 2) _ pl.1 pl.2, ref_g x2 i _ pl.1 pl.2, ref_u x3 i _ pl.1 pl.2, Ffn.one_val]
  rfl

theorem ref_du : val_main_v23 (F := Ideal) x0 x1 x2 = duT x0 x1 x2 := by
  funext i
  show val_main_v22 (F := Ideal) x0 x1 x2 i = _
  have pl := place (r := (i 1).val) (i 0).isLt (i 2).isLt
  rw [val_main_v22_apply, val_main_v21_apply, val_main_v15_apply, val_main_v10_0_apply, ref_logistic,
    ref_back x0 x1 (i 1) (i 0) (i 2) _ pl.1 pl.2, ref_g x2 i _ pl.1 pl.2]
  rfl
end

end Cert.Ffn5

end
-- ==== Proof.Ffn.Call6.lean ====
/- The up-projection with its gate: the three arrays the version's call leaves are the reference's. -/
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6.Frame
public import proofs.«01_k».proof.Proof.Ffn.Gate
public import Idealize.ShloMosaic.Lib.Pipeline.ValueKit

@[expose] public section

set_option maxRecDepth 16384

noncomputable section

namespace Cert.Ffn6

open Idealize.ShloMosaic Idealize.ShloMosaic.TcCoe
open Cert.Kernel6Ideal Cert.Kernel6Ideal.Gen

/-- A row against a shard's column of one of the gathered weights. -/
def lin (p : Fin 4) (x0 : Vec Ideal S4096x1024 .bf16) (x1 : Vec Ideal S4x4x1024x704 .bf16) (s : Fin 4) (r : Fin 4096) (j : Fin 704) : EReal :=
  ∑ k : Fin 1024, x0 (ix2 r k) * x1 (ix4 s p k j)

/-- The gate, the up-projection, and their product as the activation takes it. -/
def gT (x0 : Vec Ideal S4096x1024 .bf16) (x1 : Vec Ideal S4x4x1024x704 .bf16) : Vec Ideal S4x4096x704 .bf16 :=
  fun i => lin 0 x0 x1 (i 0) (i 1) (i 2)
def uT (x0 : Vec Ideal S4096x1024 .bf16) (x1 : Vec Ideal S4x4x1024x704 .bf16) : Vec Ideal S4x4096x704 .bf16 :=
  fun i => lin 1 x0 x1 (i 0) (i 1) (i 2)
def fT (x0 : Vec Ideal S4096x1024 .bf16) (x1 : Vec Ideal S4x4x1024x704 .bf16) : Vec Ideal S4x4096x704 .bf16 :=
  fun i => lin 0 x0 x1 (i 0) (i 1) (i 2) * Ideal.logistic (lin 0 x0 x1 (i 0) (i 1) (i 2)) * lin 1 x0 x1 (i 0) (i 1) (i 2)

/-! ## The version's call -/

theorem mm (x : FVec Ideal S1024x1024 .bf16) (y : FVec Ideal S1024x704 .bf16) (i : S1024x704.Idx) :
    matmul dot_S1024x1024_S1024x704_S1024x704_1_0_0_1_n_n none x y (constant S1024x704 .f32 0x00000000#32) i
      = ∑ k : Fin 1024, x (ix2 (i 0) k) * y (ix2 k (i 1)) := by
  show FloatOps.matmul _ _ _ _ (constant S1024x704 .f32 0x00000000#32) i = _
  rw [Ideal.matmul_constant_zero_apply,
    ← Equiv.sum_comp (ValueIdx.contrEquiv1 dot_S1024x1024_S1024x704_S1024x704_1_0_0_1_n_n 1024 rfl rfl).symm]
  refine Finset.sum_congr rfl fun k _ => ?_
  have hk := ValueIdx.contrEquiv1_symm_val dot_S1024x1024_S1024x704_S1024x704_1_0_0_1_n_n 1024 rfl rfl k
  congr 2
  · funext b; apply Fin.ext
    match b with
    | ⟨0, _⟩ => rfl
    | ⟨1, _⟩ => exact hk
  · funext b; apply Fin.ext
    match b with
    | ⟨0, _⟩ => exact hk
    | ⟨1, _⟩ => rfl

theorem pay1 (v0 : Vec Ideal S1024x1024 .bf16) (v1 : Vec Ideal S1x1x1024x704 .bf16) (i : S1024x704.Idx) :
    k0_pay1 (F := Ideal) v0 v1 i = ∑ k : Fin 1024, v0 (ix2 (i 0) k) * v1 (ix4 0 0 k (i 1)) := by
  unfold k0_pay1
  refine (mm _ _ _).trans (Finset.sum_congr rfl fun k _ => congrArg₂ (· * ·) rfl ?_)
  refine shapeCast_apply _ shapeCasts_S1x1x1024x704_S1024x704 _ (ix4 0 0 k (i 1)) ?_
  rewrite [Shape.rowMajor_val_two, Shape.rowMajor_val_four]
  show ((0 * 1 + 0) * 1024 + k.val) * 704 + (i 1).val = k.val * 704 + (i 1).val
  omega

theorem pay2 (v0 : Vec Ideal S1024x1024 .bf16) (v4 : Vec Ideal S1x1x1024x704 .bf16) (i : S1024x704.Idx) :
    k0_pay2 (F := Ideal) v0 v4 i = ∑ k : Fin 1024, v0 (ix2 (i 0) k) * v4 (ix4 0 0 k (i 1)) := pay1 v0 v4 i

theorem cast_up (x : FVec Ideal S1024x704 .bf16) (y : S1x1024x704.Idx) :
    shapeCast S1x1024x704 x shapeCasts_S1024x704_S1x1024x704 y = x (ix2 (y 1) (y 2)) := by
  have h0 : (y 0).val < 1 := (y 0).isLt
  refine shapeCast_apply _ shapeCasts_S1024x704_S1x1024x704 y (ix2 (y 1) (y 2)) ?_
  rewrite [Shape.rowMajor_val_two, Shape.rowMajor_val_three]
  show (y 1).val * 704 + (y 2).val = ((y 0).val * 1024 + (y 1).val) * 704 + (y 2).val
  omega

theorem pay5 (v0 : Vec Ideal S1024x1024 .bf16) (v1 v4 : Vec Ideal S1x1x1024x704 .bf16) (y : S1x1024x704.Idx) :
    k0_pay5 (F := Ideal) v0 v1 v4 y = (k0_pay1 (F := Ideal) v0 v1 (ix2 (y 1) (y 2)) * Ideal.logistic (k0_pay1 (F := Ideal) v0 v1 (ix2 (y 1) (y 2)))
      * k0_pay2 (F := Ideal) v0 v4 (ix2 (y 1) (y 2)) : EReal) := by
  unfold k0_pay5
  exact cast_up _ y

theorem hN (t : Fin cfg0.N) : t.val < 16 := lt_of_lt_of_eq t.isLt (by decide +kernel)
theorem e0 : ∀ t : Fin cfg0.N, win0_0.index t = ![t.val / 4, 0] := by decide +kernel
theorem e1 : ∀ t : Fin cfg0.N, win0_1.index t = ![t.val % 4, 0, 0, 0] := by decide +kernel
theorem e2 : ∀ t : Fin cfg0.N, win0_2.index t = ![t.val % 4, 1, 0, 0] := by decide +kernel
theorem e3 : ∀ t : Fin cfg0.N, win0_3.index t = ![t.val % 4, t.val / 4, 0] := by decide +kernel
theorem e4 : ∀ t : Fin cfg0.N, win0_4.index t = ![t.val % 4, t.val / 4, 0] := by decide +kernel
theorem e5 : ∀ t : Fin cfg0.N, win0_5.index t = ![t.val % 4, t.val / 4, 0] := by decide +kernel

/-- The shard a step works on, and the row its block's row is. -/
abbrev shard (t : Fin cfg0.N) : Fin 4 := ⟨t.val % 4, by omega⟩
abbrev row (t : Fin cfg0.N) (r : Fin 1024) : Fin 4096 := ⟨1024 * (t.val / 4) + r.val, by have := hN t; omega⟩

section
variable (m : (ℓ : Loc nD τ sig) → Buf (Elt Ideal) ℓ) (c : Dev nD)

abbrev a0 : Vec Ideal S4096x1024 .bf16 := m ((c : Thread nD τ).loc main_arg0)
abbrev a1 : Vec Ideal S4x4x1024x704 .bf16 := m ((c : Thread nD τ).loc main_arg1)

theorem blk0 (t : Fin cfg0.N) (y : S1024x1024.Idx) : iblk (F := Ideal) m c 0 t y = a0 m c (ix2 (row t (y 0)) (y 1)) := by
  blk_simp [iblk, V_main_arg0]
  refine congrArg (a0 m c) (funext fun a => Fin.ext ?_)
  match a with
  | ⟨0, _⟩ => blk_simp [e0] <;> dsimp <;> omega
  | ⟨1, _⟩ => blk_simp [e0] <;> rfl

theorem blk1 (t : Fin cfg0.N) (y : S1x1x1024x704.Idx) : iblk (F := Ideal) m c 1 t y = a1 m c (ix4 (shard t) 0 (y 2) (y 3)) := by
  have h0 : (y 0).val < 1 := (y 0).isLt
  have h1 : (y 1).val < 1 := (y 1).isLt
  blk_simp [iblk, V_main_arg1]
  refine congrArg (a1 m c) (funext fun a => Fin.ext ?_)
  match a with
  | ⟨0, _⟩ => blk_simp [e1] <;> dsimp <;> omega
  | ⟨1, _⟩ => blk_simp [e1] <;> dsimp <;> omega
  | ⟨2, _⟩ => blk_simp [e1] <;> rfl
  | ⟨3, _⟩ => blk_simp [e1] <;> rfl

theorem blk2 (t : Fin cfg0.N) (y : S1x1x1024x704.Idx) : iblk (F := Ideal) m c 2 t y = a1 m c (ix4 (shard t) 1 (y 2) (y 3)) := by
  have h0 : (y 0).val < 1 := (y 0).isLt
  have h1 : (y 1).val < 1 := (y 1).isLt
  blk_simp [iblk, V_main_arg1]
  refine congrArg (a1 m c) (funext fun a => Fin.ext ?_)
  match a with
  | ⟨0, _⟩ => blk_simp [e2] <;> dsimp <;> omega
  | ⟨1, _⟩ => blk_simp [e2] <;> dsimp <;> omega
  | ⟨2, _⟩ => blk_simp [e2] <;> rfl
  | ⟨3, _⟩ => blk_simp [e2] <;> rfl

theorem gate_step (t : Fin cfg0.N) (y : S1024x704.Idx) :
    k0_pay1 (F := Ideal) (iblk m c 0 t) (iblk m c 1 t) y = lin 0 (a0 m c) (a1 m c) (shard t) (row t (y 0)) (y 1) :=
  (pay1 _ _ y).trans (Finset.sum_congr rfl fun k _ => congrArg₂ (· * ·) (blk0 m c t _) (blk1 m c t _))

theorem up_step (t : Fin cfg0.N) (y : S1024x704.Idx) :
    k0_pay2 (F := Ideal) (iblk m c 0 t) (iblk m c 2 t) y = lin 1 (a0 m c) (a1 m c) (shard t) (row t (y 0)) (y 1) :=
  (pay2 _ _ y).trans (Finset.sum_congr rfl fun k _ => congrArg₂ (· * ·) (blk0 m c t _) (blk2 m c t _))

theorem out_g : (dats (F := Ideal) m 0 c).arrAt 3 cfg0.N = gT (a0 m c) (a1 m c) := by
  refine (dats m 0 c).arrAt_eq_of_covers 3 _ (by decide +kernel) fun t hf y => ?_
  have h0 : (y 0).val < 1 := (y 0).isLt
  rw [after0_3]
  frame_out
  refine (cast_up _ y).trans ((gate_step m c t _).trans ?_)
  show gT (a0 m c) (a1 m c) (ix3 (shard t) (row t (y 1)) (y 2)) = _
  refine congrArg (gT (a0 m c) (a1 m c)) (funext fun a => Fin.ext ?_)
  match a with
  | ⟨0, _⟩ => blk_simp [e3] <;> dsimp <;> omega
  | ⟨1, _⟩ => blk_simp [e3] <;> dsimp <;> omega
  | ⟨2, _⟩ => blk_simp [e3] <;> rfl

theorem out_u : (dats (F := Ideal) m 0 c).arrAt 4 cfg0.N = uT (a0 m c) (a1 m c) := by
  refine (dats m 0 c).arrAt_eq_of_covers 4 _ (by decide +kernel) fun t hf y => ?_
  have h0 : (y 0).val < 1 := (y 0).isLt
  rw [after0_4]
  frame_out
  refine (cast_up _ y).trans ((up_step m c t _).trans ?_)
  show uT (a0 m c) (a1 m c) (ix3 (shard t) (row t (y 1)) (y 2)) = _
  refine congrArg (uT (a0 m c) (a1 m c)) (funext fun a => Fin.ext ?_)
  match a with
  | ⟨0, _⟩ => blk_simp [e4] <;> dsimp <;> omega
  | ⟨1, _⟩ => blk_simp [e4] <;> dsimp <;> omega
  | ⟨2, _⟩ => blk_simp [e4] <;> rfl

theorem out_f : (dats (F := Ideal) m 0 c).arrAt 5 cfg0.N = fT (a0 m c) (a1 m c) := by
  refine (dats m 0 c).arrAt_eq_of_covers 5 _ (by decide +kernel) fun t hf y => ?_
  have h0 : (y 0).val < 1 := (y 0).isLt
  rw [after0_5]
  frame_out
  refine (pay5 _ _ _ y).trans ?_
  have eg := gate_step m c t (ix2 (y 1) (y 2))
  have eu := up_step m c t (ix2 (y 1) (y 2))
  refine (congrArg₂ (fun g u : EReal => g * Ideal.logistic g * u) eg eu).trans ?_
  show fT (a0 m c) (a1 m c) (ix3 (shard t) (row t (y 1)) (y 2)) = _
  refine congrArg (fT (a0 m c) (a1 m c)) (funext fun a => Fin.ext ?_)
  match a with
  | ⟨0, _⟩ => blk_simp [e5] <;> dsimp <;> omega
  | ⟨1, _⟩ => blk_simp [e5] <;> dsimp <;> omega
  | ⟨2, _⟩ => blk_simp [e5] <;> rfl
end

/-! ## The reference -/

section
open Cert.Reference6Ideal.Read

variable (x0 : Vec Ideal S4096x1024 .bf16) (x1 : Vec Ideal S4x4x1024x704 .bf16)

theorem split {k q s j : ℕ} (hs : s < 4) (hj : j < 704) (hq : q = s * 704 + j) :
    (k * 2816 + q) / 2816 = k ∧ (k * 2816 + q) / 704 % 4 = s ∧ (k * 2816 + q) % 704 = j := by omega

theorem ref_gate (r : Fin 4096) (s : Fin 4) (j : Fin 704) (q : Cert.Reference6Ideal.S4096x2816.Idx) (h0 : (q 0).val = r.val) (h1 : (q 1).val = s.val * 704 + j.val) :
    val_main_v6 (F := Ideal) x0 x1 q = lin 0 x0 x1 s r j := by
  have hj := j.isLt
  have hs := s.isLt
  rw [val_main_v6_apply]
  refine Finset.sum_congr rfl fun k _ => congrArg₂ (· * ·) ?_ ?_
  · refine congrArg x0 (funext fun a => Fin.ext ?_)
    match a with
    | ⟨0, _⟩ => exact h0
    | ⟨1, _⟩ => rfl
  · have hk := k.isLt
    have sp := split (k := k.val) hs hj h1
    rw [val_main_v5_apply, val_main_v4_apply, val_main_v3_apply, val_main_v2_apply, val_main_v1_apply]
    refine congrArg x1 (funext fun a => Fin.ext ?_)
    match a with
    | ⟨0, _⟩ => dsimp; omega
    | ⟨1, _⟩ => dsimp
    | ⟨2, _⟩ => dsimp; simp only [sp.1, sp.2.1, sp.2.2]; omega
    | ⟨3, _⟩ => dsimp; omega

theorem ref_up (r : Fin 4096) (s : Fin 4) (j : Fin 704) (q : Cert.Reference6Ideal.S4096x2816.Idx) (h0 : (q 0).val = r.val) (h1 : (q 1).val = s.val * 704 + j.val) :
    val_main_v12 (F := Ideal) x0 x1 q = lin 1 x0 x1 s r j := by
  have hj := j.isLt
  have hs := s.isLt
  rw [val_main_v12_apply]
  refine Finset.sum_congr rfl fun k _ => congrArg₂ (· * ·) ?_ ?_
  · refine congrArg x0 (funext fun a => Fin.ext ?_)
    match a with
    | ⟨0, _⟩ => exact h0
    | ⟨1, _⟩ => rfl
  · have hk := k.isLt
    have sp := split (k := k.val) hs hj h1
    rw [val_main_v11_apply, val_main_v10_apply, val_main_v9_apply, val_main_v8_apply, val_main_v7_apply]
    refine congrArg x1 (funext fun a => Fin.ext ?_)
    match a with
    | ⟨0, _⟩ => dsimp; omega
    | ⟨1, _⟩ => dsimp
    | ⟨2, _⟩ => dsimp; simp only [sp.1, sp.2.1, sp.2.2]; omega
    | ⟨3, _⟩ => dsimp; omega

/-- A place among the shards' columns, side by side. -/
theorem place {r s j : ℕ} (hs : s < 4) (hj : j < 704) : ((r * 4 + s) * 704 + j) / 2816 = r ∧ ((r * 4 + s) * 704 + j) % 2816 = s * 704 + j := by omega

theorem ref_g : val_main_v15 (F := Ideal) x0 x1 = gT x0 x1 := by
  funext i
  show val_main_v14 (F := Ideal) x0 x1 i = _
  rw [val_main_v14_apply, val_main_v13_apply]
  exact ref_gate x0 x1 (i 1) (i 0) (i 2) _ (place (i 0).isLt (i 2).isLt).1 (place (i 0).isLt (i 2).isLt).2

theorem ref_u : val_main_v18 (F := Ideal) x0 x1 = uT x0 x1 := by
  funext i
  show val_main_v17 (F := Ideal) x0 x1 i = _
  rw [val_main_v17_apply, val_main_v16_apply]
  exact ref_up x0 x1 (i 1) (i 0) (i 2) _ (place (i 0).isLt (i 2).isLt).1 (place (i 0).isLt (i 2).isLt).2

theorem ref_f : val_main_v23 (F := Ideal) x0 x1 = fT x0 x1 := by
  funext i
  show val_main_v22 (F := Ideal) x0 x1 i = _
  rw [val_main_v22_apply, val_main_v21_apply, val_main_v20_apply, val_main_v19_apply, val_main_call0_v5_apply,
    val_main_call0_v4_apply, val_main_call0_cst_0_apply, val_main_call0_v3_apply, val_main_call0_v2_apply, val_main_call0_cst_apply,
    val_main_call0_v1_apply, val_main_call0_v0_apply, Ffn.logistic_val,
    ref_gate x0 x1 (i 1) (i 0) (i 2) _ (place (i 0).isLt (i 2).isLt).1 (place (i 0).isLt (i 2).isLt).2,
    ref_up x0 x1 (i 1) (i 0) (i 2) _ (place (i 0).isLt (i 2).isLt).1 (place (i 0).isLt (i 2).isLt).2]
  rfl
end

end Cert.Ffn6

end
-- ==== Proof.Ffn.Call7.lean ====
/- The down-projection: the two arrays the version's call leaves are the reference's. -/
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel7.Frame
public import Idealize.ShloMosaic.Lib.Pipeline.ValueKit

@[expose] public section

set_option maxRecDepth 16384

noncomputable section

namespace Cert.Ffn7

open Idealize.ShloMosaic Idealize.ShloMosaic.TcCoe
open Cert.Kernel7Ideal Cert.Kernel7Ideal.Gen

/-- A row's products with a shard of the gathered weight. -/
def part (x0 : Vec Ideal S4x4096x704 .bf16) (x1 : Vec Ideal S4x2x704x1024 .bf16) (s : Fin 4) (r : Fin 4096) (j : Fin 1024) : EReal :=
  ∑ k : Fin 704, x0 (ix3 s r k) * x1 (ix4 s 0 k j)

/-- The down-projection, the shards summed. -/
def oT (x0 : Vec Ideal S4x4096x704 .bf16) (x1 : Vec Ideal S4x2x704x1024 .bf16) : Vec Ideal S4096x1024 .bf16 :=
  fun i => (∑ s : Fin 4, part x0 x1 s (i 0) (i 1) : EReal)

/-- The stream with the branch added: half the gate times the down-projection. -/
def hT (x0 : Vec Ideal S4x4096x704 .bf16) (x1 : Vec Ideal S4x2x704x1024 .bf16) (x2 : Vec Ideal S4096x1024 .f32) (x3 : Vec Ideal S1x1024 .f32) :
    Vec Ideal S4096x1024 .f32 :=
  fun i => (x2 i + (FloatOps.ofBits (F := Ideal) .f32 0x3F000000#32 : EReal) * x3 (ix2 0 (i 1)) * oT x0 x1 i : EReal)

/-! ## The version's call -/

theorem mm (x : FVec Ideal S1024x704 .bf16) (y : FVec Ideal S704x1024 .bf16) (i : S1024x1024.Idx) :
    matmul dot_S1024x704_S704x1024_S1024x1024_1_0_0_1_n_n none x y (constant S1024x1024 .f32 0x00000000#32) i
      = ∑ k : Fin 704, x (ix2 (i 0) k) * y (ix2 k (i 1)) := by
  show FloatOps.matmul _ _ _ _ (constant S1024x1024 .f32 0x00000000#32) i = _
  rw [Ideal.matmul_constant_zero_apply,
    ← Equiv.sum_comp (ValueIdx.contrEquiv1 dot_S1024x704_S704x1024_S1024x1024_1_0_0_1_n_n 704 rfl rfl).symm]
  refine Finset.sum_congr rfl fun k _ => ?_
  have hk := ValueIdx.contrEquiv1_symm_val dot_S1024x704_S704x1024_S1024x1024_1_0_0_1_n_n 704 rfl rfl k
  congr 2
  · funext b; apply Fin.ext
    match b with
    | ⟨0, _⟩ => exact rfl
    | ⟨1, _⟩ => exact hk
  · funext b; apply Fin.ext
    match b with
    | ⟨0, _⟩ => exact hk
    | ⟨1, _⟩ => exact rfl

theorem cast_down (x : FVec Ideal S1x1024x704 .bf16) (i : S1024x704.Idx) :
    shapeCast S1024x704 x shapeCasts_S1x1024x704_S1024x704 i = x (ix3 0 (i 0) (i 1)) := by
  refine shapeCast_apply _ shapeCasts_S1x1024x704_S1024x704 _ (ix3 0 (i 0) (i 1)) ?_
  rewrite [Shape.rowMajor_val_two, Shape.rowMajor_val_three]
  show (0 * 1024 + (i 0).val) * 704 + (i 1).val = (i 0).val * 704 + (i 1).val
  omega

theorem cast_same (x : FVec Ideal S1024x1024 .f32) : shapeCast S1024x1024 x shapeCasts_S1024x1024_S1024x1024 = x :=
  funext fun i => shapeCast_apply x shapeCasts_S1024x1024_S1024x1024 i i rfl

theorem pay1 (v0 : Vec Ideal S1x1024x704 .bf16) (v2 : Vec Ideal S1x1x704x1024 .bf16) (i : S1024x1024.Idx) :
    k0_pay1 (F := Ideal) v0 v2 i = ∑ k : Fin 704, v0 (ix3 0 (i 0) k) * v2 (ix4 0 0 k (i 1)) := by
  unfold k0_pay1
  refine (mm _ _ _).trans (Finset.sum_congr rfl fun k _ => congrArg₂ (· * ·) (cast_down _ _) ?_)
  refine shapeCast_apply _ shapeCasts_S1x1x704x1024_S704x1024 _ (ix4 0 0 k (i 1)) ?_
  rewrite [Shape.rowMajor_val_two, Shape.rowMajor_val_four]
  show ((0 * 1 + 0) * 704 + k.val) * 1024 + (i 1).val = k.val * 1024 + (i 1).val
  omega

theorem pay2 (v0 : Vec Ideal S1x1024x704 .bf16) (v2 : Vec Ideal S1x1x704x1024 .bf16) (i : S1024x1024.Idx) :
    k0_pay2 (F := Ideal) v0 v2 i = ∑ k : Fin 704, v0 (ix3 0 (i 0) k) * v2 (ix4 0 0 k (i 1)) := by
  unfold k0_pay2
  exact (congrFun (cast_same _) i).trans (pay1 v0 v2 i)

theorem pay3 (v0 : Vec Ideal S1x1024x704 .bf16) (v2 : Vec Ideal S1x1x704x1024 .bf16) (v14 : Vec Ideal S1024x1024 .f32) (i : S1024x1024.Idx) :
    k0_pay3 (F := Ideal) v0 v2 v14 i = (v14 i + ∑ k : Fin 704, v0 (ix3 0 (i 0) k) * v2 (ix4 0 0 k (i 1)) : EReal) := by
  unfold k0_pay3
  refine (congrFun (cast_same _) i).trans ?_
  exact congrArg (fun z : EReal => (v14 i + z : EReal)) (pay1 v0 v2 i)

theorem pay4 (v14 v15 : Vec Ideal S1024x1024 .f32) (v16 : Vec Ideal S1x1024 .f32) (i : S1024x1024.Idx) :
    k0_pay4 (F := Ideal) v14 v15 v16 i
      = (v15 i + (FloatOps.ofBits (F := Ideal) .f32 0x3F000000#32 : EReal) * v16 (ix2 0 (i 1)) * v14 i : EReal) := by
  unfold k0_pay4
  refine congrArg (fun z : EReal => (v15 i + z * v14 i : EReal)) ?_
  refine (broadcastTo_apply _ broadcasts_S1x1024_S1024x1024 i (ix2 0 (i 1)) fun a => ?_).trans rfl
  match a with
  | ⟨0, _⟩ => exact (if_pos rfl).symm
  | ⟨1, _⟩ => exact (if_neg (show ¬(1024 : ℕ) = 1 by decide)).symm

theorem hN (t : Fin cfg0.N) : t.val < 16 := lt_of_lt_of_eq t.isLt (by decide +kernel)
theorem e0 : ∀ t : Fin cfg0.N, win0_0.index t = ![t.val % 4, t.val / 4, 0] := by decide +kernel
theorem e1 : ∀ t : Fin cfg0.N, win0_1.index t = ![t.val % 4, 0, 0, 0] := by decide +kernel
theorem e2 : ∀ t : Fin cfg0.N, win0_2.index t = ![t.val / 4, 0] := by decide +kernel
theorem e3 : ∀ t : Fin cfg0.N, win0_3.index t = ![0, 0] := by decide +kernel
theorem e4 : ∀ t : Fin cfg0.N, win0_4.index t = ![t.val / 4, 0] := by decide +kernel
theorem e5 : ∀ t : Fin cfg0.N, win0_5.index t = ![t.val / 4, 0] := by decide +kernel
theorem fl4 : ∀ t : Fin cfg0.N, (cfg0.win 4).flush t = true → t.val % 4 = 3 := by decide +kernel
theorem fl5 : ∀ t : Fin cfg0.N, (cfg0.win 5).flush t = true → t.val % 4 = 3 := by decide +kernel

/-- The shard a step works on, and the row its block's row is. -/
abbrev shard (t : Fin cfg0.N) : Fin 4 := ⟨t.val % 4, by omega⟩
abbrev row (t : Fin cfg0.N) (r : Fin 1024) : Fin 4096 := ⟨1024 * (t.val / 4) + r.val, by have := hN t; omega⟩

section
variable (m : (ℓ : Loc nD τ sig) → Buf (Elt Ideal) ℓ) (c : Dev nD)

abbrev a0 : Vec Ideal S4x4096x704 .bf16 := m ((c : Thread nD τ).loc main_arg0)
abbrev a1 : Vec Ideal S4x2x704x1024 .bf16 := m ((c : Thread nD τ).loc main_arg1)
abbrev a2 : Vec Ideal S4096x1024 .f32 := m ((c : Thread nD τ).loc main_arg2)
abbrev a3 : Vec Ideal S1x1024 .f32 := m ((c : Thread nD τ).loc main_arg3)

theorem blk0 (t : Fin cfg0.N) (y : S1x1024x704.Idx) : iblk (F := Ideal) m c 0 t y = a0 m c (ix3 (shard t) (row t (y 1)) (y 2)) := by
  have h0 : (y 0).val < 1 := (y 0).isLt
  blk_simp [iblk, V_main_arg0]
  refine congrArg (a0 m c) (funext fun a => Fin.ext ?_)
  match a with
  | ⟨0, _⟩ => blk_simp [e0] <;> dsimp <;> omega
  | ⟨1, _⟩ => blk_simp [e0] <;> dsimp <;> omega
  | ⟨2, _⟩ => blk_simp [e0] <;> rfl

theorem blk1 (t : Fin cfg0.N) (y : S1x1x704x1024.Idx) : iblk (F := Ideal) m c 1 t y = a1 m c (ix4 (shard t) 0 (y 2) (y 3)) := by
  have h0 : (y 0).val < 1 := (y 0).isLt
  have h1 : (y 1).val < 1 := (y 1).isLt
  blk_simp [iblk, V_main_arg1]
  refine congrArg (a1 m c) (funext fun a => Fin.ext ?_)
  match a with
  | ⟨0, _⟩ => blk_simp [e1] <;> dsimp <;> omega
  | ⟨1, _⟩ => blk_simp [e1] <;> dsimp <;> omega
  | ⟨2, _⟩ => blk_simp [e1] <;> rfl
  | ⟨3, _⟩ => blk_simp [e1] <;> rfl

theorem blk2 (t : Fin cfg0.N) (y : S1024x1024.Idx) : iblk (F := Ideal) m c 2 t y = a2 m c (ix2 (row t (y 0)) (y 1)) := by
  blk_simp [iblk, V_main_arg2]
  refine congrArg (a2 m c) (funext fun a => Fin.ext ?_)
  match a with
  | ⟨0, _⟩ => blk_simp [e2] <;> dsimp <;> omega
  | ⟨1, _⟩ => blk_simp [e2] <;> rfl

theorem blk3 (t : Fin cfg0.N) (j : Fin 1024) : iblk (F := Ideal) m c 3 t (ix2 0 j) = a3 m c (ix2 0 j) := by
  blk_simp [iblk, V_main_arg3]
  refine congrArg (a3 m c) (funext fun a => Fin.ext ?_)
  match a with
  | ⟨0, _⟩ => blk_simp [e3] <;> rfl
  | ⟨1, _⟩ => blk_simp [e3] <;> rfl

/-- What a step adds to the running sum. -/
def term (t : Fin cfg0.N) (y : S1024x1024.Idx) : EReal := part (a0 m c) (a1 m c) (shard t) (row t (y 0)) (y 1)

theorem step2 (t : Fin cfg0.N) (y : S1024x1024.Idx) : k0_pay2 (F := Ideal) (iblk m c 0 t) (iblk m c 1 t) y = term m c t y := by
  unfold term part
  exact (pay2 _ _ y).trans (Finset.sum_congr rfl fun k _ => congrArg₂ (· * ·) (blk0 m c t _) (blk1 m c t _))

theorem step3 (t : Fin cfg0.N) (acc : Vec Ideal S1024x1024 .f32) (y : S1024x1024.Idx) :
    k0_pay3 (F := Ideal) (iblk m c 0 t) (iblk m c 1 t) acc y = (acc y + term m c t y : EReal) :=
  (pay3 _ _ _ y).trans (congrArg (fun z : EReal => (acc y + z : EReal)) ((pay2 _ _ y).symm.trans (step2 m c t y)))

theorem acc_first (t : Fin cfg0.N) (h : t.val % 4 = 0) (y : S1024x1024.Idx) :
    (outsAt0 (F := Ideal) m c t.val t.isLt).2.2 y = (0 + term m c t y : EReal) := by
  rw [outsAt0_A m c t h (by omega) (by omega)]
  frame_out
  exact (step2 m c t y).trans (zero_add _).symm

theorem acc_next (t : Fin cfg0.N) (h : ¬t.val % 4 = 0) (y : S1024x1024.Idx) :
    (outsAt0 (F := Ideal) m c t.val t.isLt).2.2 y
      = ((outsAt0 (F := Ideal) m c (t.val - 1) (Nat.lt_of_le_of_lt (Nat.sub_le _ _) t.isLt)).2.2 y + term m c t y : EReal) := by
  by_cases h3 : t.val % 4 = 3
  · rw [outsAt0_C m c t h (by omega) h3]
    frame_out
    refine Eq.trans ?_ (step3 m c t _ y)
    exact congrFun (congrArg _ (Memref.IsWhole.read_unread (Memref.isWhole_whole cc0_scratch0) _)) y
  · rw [outsAt0_B m c t h (by omega) h3]
    frame_out
    refine Eq.trans ?_ (step3 m c t _ y)
    exact congrFun (congrArg _ (Memref.IsWhole.read_unread (Memref.isWhole_whole cc0_scratch0) _)) y

/-- After a row block's last step the running sum is the down-projection's block. -/
theorem acc_last (t : Fin cfg0.N) (h : t.val % 4 = 3) (y : S1024x1024.Idx) :
    (outsAt0 (F := Ideal) m c t.val t.isLt).2.2 y = oT (a0 m c) (a1 m c) (ix2 (row t (y 0)) (y 1)) := by
  refine (Pipeline.eq_sum_fin_of_reset_step_apply_of_flush (M := EReal) (fun n hn y => (outsAt0 (F := Ideal) m c n hn).2.2 y) 4 (fun _ => 0) (term m c)
    (fun t h y => acc_first m c t h y) (fun t h y => acc_next m c t h y) t h y).trans ?_
  refine (zero_add _).trans (Finset.sum_congr rfl fun s _ => ?_)
  have hs := s.isLt
  unfold term
  refine congr (congrArg₂ (part (a0 m c) (a1 m c)) (Fin.ext ?_) (Fin.ext ?_)) rfl
  · show (4 * (t.val / 4) + s.val) % 4 = s.val
    omega
  · show 1024 * ((4 * (t.val / 4) + s.val) / 4) + (y 0).val = 1024 * (t.val / 4) + (y 0).val
    omega

/-- The two blocks a row block's last step writes, from the running sum it leaves. -/
theorem last_h (t : Fin cfg0.N) (h : t.val % 4 = 3) :
    (outsAt0 (F := Ideal) m c t.val t.isLt).1 = k0_pay4 (F := Ideal) (outsAt0 (F := Ideal) m c t.val t.isLt).2.2 (iblk m c 2 t) (iblk m c 3 t) := by
  rw [outsAt0_C m c t (by omega) (by omega) h]
  frame_out

theorem last_o (t : Fin cfg0.N) (h : t.val % 4 = 3) :
    (outsAt0 (F := Ideal) m c t.val t.isLt).2.1 = k0_pay5 (F := Ideal) (outsAt0 (F := Ideal) m c t.val t.isLt).2.2 := by
  rw [outsAt0_C m c t (by omega) (by omega) h]
  frame_out

theorem out_h : (dats (F := Ideal) m 0 c).arrAt 4 cfg0.N = hT (a0 m c) (a1 m c) (a2 m c) (a3 m c) := by
  refine (dats m 0 c).arrAt_eq_of_covers 4 _ (by decide +kernel) fun t hf y => ?_
  have h3 := fl4 t hf
  rw [after0_4, last_h m c t h3]
  refine (pay4 _ _ _ y).trans ?_
  refine (congr (congrArg₂ (fun a b o : EReal => a + (FloatOps.ofBits (F := Ideal) .f32 0x3F000000#32 : EReal) * b * o) (blk2 m c t y) (blk3 m c t (y 1)))
    (acc_last m c t h3 y)).trans ?_
  show hT (a0 m c) (a1 m c) (a2 m c) (a3 m c) (ix2 (row t (y 0)) (y 1)) = _
  refine congrArg (hT (a0 m c) (a1 m c) (a2 m c) (a3 m c)) (funext fun a => Fin.ext ?_)
  match a with
  | ⟨0, _⟩ => blk_simp [e4] <;> dsimp <;> omega
  | ⟨1, _⟩ => blk_simp [e4] <;> rfl

theorem out_o : (dats (F := Ideal) m 0 c).arrAt 5 cfg0.N = oT (a0 m c) (a1 m c) := by
  refine (dats m 0 c).arrAt_eq_of_covers 5 _ (by decide +kernel) fun t hf y => ?_
  have h3 := fl5 t hf
  rw [after0_5, last_o m c t h3]
  refine (acc_last m c t h3 y).trans ?_
  refine congrArg (oT (a0 m c) (a1 m c)) (funext fun a => Fin.ext ?_)
  match a with
  | ⟨0, _⟩ => blk_simp [e5] <;> dsimp <;> omega
  | ⟨1, _⟩ => blk_simp [e5] <;> rfl
end

/-! ## The reference -/

section
open Cert.Reference7Ideal.Read

variable (x0 : Vec Ideal S4x4096x704 .bf16) (x1 : Vec Ideal S4x2x704x1024 .bf16) (x2 : Vec Ideal S4096x1024 .f32) (x3 : Vec Ideal S1x1024 .f32)

theorem split {r q s j : ℕ} (hs : s < 4) (hj : j < 704) (hq : q = s * 704 + j) :
    (r * 2816 + q) / 2816 = r ∧ (r * 2816 + q) / 704 % 4 = s ∧ (r * 2816 + q) % 704 = j := by omega
theorem split' {q s k j : ℕ} (hs : s < 4) (hk : k < 704) (hj : j < 1024) (hq : q = s * 704 + k) :
    (q * 1024 + j) / 720896 = s ∧ (q * 1024 + j) / 1024 % 704 = k ∧ (q * 1024 + j) % 1024 = j := by omega

theorem ref_f (s : Fin 4) (r : Fin 4096) (k : Fin 704) (q : Cert.Reference7Ideal.S4096x2816.Idx) (h0 : (q 0).val = r.val) (h1 : (q 1).val = s.val * 704 + k.val) :
    val_main_v2 (F := Ideal) x0 q = x0 (ix3 s r k) := by
  have sp := split (r := (q 0).val) s.isLt k.isLt h1
  rw [val_main_v2_apply, val_main_v1_apply, val_main_v0_apply]
  refine congrArg x0 (funext fun a => Fin.ext ?_)
  match a with
  | ⟨0, _⟩ => exact sp.2.1
  | ⟨1, _⟩ => exact sp.1.trans h0
  | ⟨2, _⟩ => exact sp.2.2

theorem ref_w (s : Fin 4) (k : Fin 704) (j : Fin 1024) (q : Cert.Reference7Ideal.S2816x1024.Idx) (h0 : (q 0).val = s.val * 704 + k.val) (h1 : (q 1).val = j.val) :
    val_main_v6 (F := Ideal) x1 q = x1 (ix4 s 0 k j) := by
  have hs := s.isLt
  have hk := k.isLt
  have hj := j.isLt
  have sp := split' (q := (q 0).val) (j := (q 1).val) hs hk (q 1).isLt h0
  rw [val_main_v6_apply, val_main_v5_apply, val_main_v4_apply, val_main_v3_apply]
  refine congrArg x1 (funext fun a => Fin.ext ?_)
  match a with
  | ⟨0, _⟩ => dsimp; simp only [sp.1, sp.2.1, sp.2.2]; omega
  | ⟨1, _⟩ => dsimp
  | ⟨2, _⟩ => dsimp; simp only [sp.1, sp.2.1, sp.2.2]; omega
  | ⟨3, _⟩ => dsimp; simp only [sp.1, sp.2.1, sp.2.2]; omega

theorem ref_sum (i : S4096x1024.Idx) : val_main_v7 (F := Ideal) x0 x1 i = oT x0 x1 i := by
  rw [val_main_v7_apply]
  refine Eq.symm (Fin.sum_mul_add_congr fun s k hl => ?_)
  exact congrArg₂ (· * ·) (ref_f x0 s (i 0) k _ rfl rfl).symm (ref_w x1 s k (i 1) _ rfl rfl).symm

theorem ref_o : val_main_v13 (F := Ideal) x0 x1 = oT x0 x1 := funext fun i => ref_sum x0 x1 i

theorem ref_h : val_main_v12 (F := Ideal) x0 x1 x2 x3 = hT x0 x1 x2 x3 := by
  funext i
  rw [val_main_v12_apply, val_main_v11_apply, val_main_v10_apply, val_main_v9_apply, val_main_v8_apply, val_main_cst_apply, ref_sum]
  refine congrArg (fun z : EReal => (x2 i + (FloatOps.ofBits (F := Ideal) .f32 0x3F000000#32 : EReal) * z * oT x0 x1 i : EReal)) (congrArg x3 (funext fun a => Fin.ext ?_))
  match a with
  | ⟨0, _⟩ => rfl
  | ⟨1, _⟩ => rfl
end

end Cert.Ffn7

end
-- ==== Proof.Ffn.Slots.lean ====
/- The second feed-forward's weights, where the first's lie. -/
module

public import Idealize.ShloMosaic.Lib.Pipeline.ValueKit
public import proofs.«01_k».proof.Proof.Gen.Kernel4Ideal.Value
public import proofs.«01_k».proof.Proof.Gen.Kernel5Ideal.Value

@[expose] public section

noncomputable section

namespace Cert.Ffn

open Idealize.ShloMosaic Idealize.ShloMosaic.TcCoe

/-- The second pair's place for the first's, and the second down-projection's. -/
def two (p : Fin 4) : Fin 4 := p + 2
def one (p : Fin 2) : Fin 2 := p + 1

theorem slot2 (p : Fin 4) (h : p.val < 2) : (two p).val = p.val + 2 := by
  show (p.val + 2) % 4 = p.val + 2
  omega
theorem slot1 (p : Fin 2) (h : p.val < 1) : (one p).val = p.val + 1 := by
  show (p.val + 1) % 2 = p.val + 1
  omega

/-- Gathered gate and up-projections with the second pair in the place of the first. -/
def ups (x : Vec Ideal Cert.Kernel4Ideal.S4x4x1024x704 .bf16) : Vec Ideal Cert.Kernel4Ideal.S4x4x1024x704 .bf16 :=
  fun i => x (ix4 (i 0) (two (i 1)) (i 2) (i 3))

/-- Gathered down-projections with the second in the place of the first. -/
def downs (x : Vec Ideal Cert.Kernel5Ideal.S4x2x704x1024 .bf16) : Vec Ideal Cert.Kernel5Ideal.S4x2x704x1024 .bf16 :=
  fun i => x (ix4 (i 0) (one (i 1)) (i 2) (i 3))

end Cert.Ffn

end
-- ==== Proof.Ffn.Call8.lean ====
/- The gradient of the second feed-forward's input: the array the version's call leaves is the reference's. -/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel8.Frame
public import proofs.«01_k».proof.Proof.Ffn.Call4
public import proofs.«01_k».proof.Proof.Ffn.Slots

@[expose] public section

set_option maxRecDepth 16384

noncomputable section

namespace Cert.Ffn8

open Idealize.ShloMosaic Idealize.ShloMosaic.TcCoe
open Cert.Kernel8Ideal Cert.Kernel8Ideal.Gen
open Cert.Ffn4 (part both dT pay2 pay3)

/-! ## The version's call -/

theorem hN (t : Fin cfg0.N) : t.val < 16 := lt_of_lt_of_eq t.isLt (by decide +kernel)
theorem e0 : ∀ t : Fin cfg0.N, win0_0.index t = ![t.val % 4, t.val / 4, 0] := by decide +kernel
theorem e1 : ∀ t : Fin cfg0.N, win0_1.index t = ![t.val % 4, 2, 0, 0] := by decide +kernel
theorem e2 : ∀ t : Fin cfg0.N, win0_2.index t = ![t.val % 4, t.val / 4, 0] := by decide +kernel
theorem e3 : ∀ t : Fin cfg0.N, win0_3.index t = ![t.val % 4, 3, 0, 0] := by decide +kernel
theorem e4 : ∀ t : Fin cfg0.N, win0_4.index t = ![t.val / 4, 0] := by decide +kernel
theorem fl4 : ∀ t : Fin cfg0.N, (cfg0.win 4).flush t = true → t.val % 4 = 3 := by decide +kernel

/-- The shard a step works on, and the row its block's row is. -/
abbrev shard (t : Fin cfg0.N) : Fin 4 := ⟨t.val % 4, by omega⟩
abbrev row (t : Fin cfg0.N) (r : Fin 1024) : Fin 4096 := ⟨1024 * (t.val / 4) + r.val, by have := hN t; omega⟩

section
variable (m : (ℓ : Loc nD τ sig) → Buf (Elt Ideal) ℓ) (c : Dev nD)

abbrev a0 : Vec Ideal S4x4096x704 .bf16 := m ((c : Thread nD τ).loc main_arg0)
abbrev a1 : Vec Ideal S4x4096x704 .bf16 := m ((c : Thread nD τ).loc main_arg1)
abbrev a2w : Vec Ideal S4x4x1024x704 .bf16 := m ((c : Thread nD τ).loc main_arg2)
/-- The gathered weight, the second feed-forward's in the place of the first's. -/
abbrev a2 : Vec Ideal S4x4x1024x704 .bf16 := Ffn.ups (a2w m c)

theorem blk0 (t : Fin cfg0.N) (y : S1x1024x704.Idx) : iblk (F := Ideal) m c 0 t y = a0 m c (ix3 (shard t) (row t (y 1)) (y 2)) := by
  have h0 : (y 0).val < 1 := (y 0).isLt
  blk_simp [iblk, V_main_arg0]
  refine congrArg (a0 m c) (funext fun a => Fin.ext ?_)
  match a with
  | ⟨0, _⟩ => blk_simp [e0] <;> dsimp <;> omega
  | ⟨1, _⟩ => blk_simp [e0] <;> dsimp <;> omega
  | ⟨2, _⟩ => blk_simp [e0] <;> rfl

theorem blk1 (t : Fin cfg0.N) (y : S1x1x1024x704.Idx) : iblk (F := Ideal) m c 1 t y = a2 m c (ix4 (shard t) 0 (y 2) (y 3)) := by
  have h0 : (y 0).val < 1 := (y 0).isLt
  have h1 : (y 1).val < 1 := (y 1).isLt
  blk_simp [iblk, V_main_arg2]
  have hp : (Ffn.two 0).val = 2 := rfl
  refine congrArg (a2w m c) (funext fun a => Fin.ext ?_)
  match a with
  | ⟨0, _⟩ => blk_simp [e1] <;> dsimp <;> omega
  | ⟨1, _⟩ => blk_simp [e1] <;> dsimp [hp] <;> omega
  | ⟨2, _⟩ => blk_simp [e1] <;> rfl
  | ⟨3, _⟩ => blk_simp [e1] <;> rfl

theorem blk2 (t : Fin cfg0.N) (y : S1x1024x704.Idx) : iblk (F := Ideal) m c 2 t y = a1 m c (ix3 (shard t) (row t (y 1)) (y 2)) := by
  have h0 : (y 0).val < 1 := (y 0).isLt
  blk_simp [iblk, V_main_arg1]
  refine congrArg (a1 m c) (funext fun a => Fin.ext ?_)
  match a with
  | ⟨0, _⟩ => blk_simp [e2] <;> dsimp <;> omega
  | ⟨1, _⟩ => blk_simp [e2] <;> dsimp <;> omega
  | ⟨2, _⟩ => blk_simp [e2] <;> rfl

theorem blk3 (t : Fin cfg0.N) (y : S1x1x1024x704.Idx) : iblk (F := Ideal) m c 3 t y = a2 m c (ix4 (shard t) 1 (y 2) (y 3)) := by
  have h0 : (y 0).val < 1 := (y 0).isLt
  have h1 : (y 1).val < 1 := (y 1).isLt
  blk_simp [iblk, V_main_arg2]
  have hp : (Ffn.two 1).val = 3 := rfl
  refine congrArg (a2w m c) (funext fun a => Fin.ext ?_)
  match a with
  | ⟨0, _⟩ => blk_simp [e3] <;> dsimp <;> omega
  | ⟨1, _⟩ => blk_simp [e3] <;> dsimp [hp] <;> omega
  | ⟨2, _⟩ => blk_simp [e3] <;> rfl
  | ⟨3, _⟩ => blk_simp [e3] <;> rfl

/-- What a step adds to the running sum. -/
def term (t : Fin cfg0.N) (y : S1024x1024.Idx) : EReal := both (a0 m c) (a1 m c) (a2 m c) (shard t) (row t (y 0)) (y 1)

theorem step2 (t : Fin cfg0.N) (y : S1024x1024.Idx) :
    k0_pay2 (F := Ideal) (iblk m c 0 t) (iblk m c 1 t) (iblk m c 2 t) (iblk m c 3 t) y = term m c t y := by
  unfold term both part
  exact (pay2 _ _ _ _ y).trans (congrArg₂ (fun a b : EReal => a + b)
    (Finset.sum_congr rfl fun k _ => congrArg₂ (· * ·) (blk0 m c t _) (blk1 m c t _))
    (Finset.sum_congr rfl fun k _ => congrArg₂ (· * ·) (blk2 m c t _) (blk3 m c t _)))

theorem step3 (t : Fin cfg0.N) (acc : Vec Ideal S1024x1024 .f32) (y : S1024x1024.Idx) :
    k0_pay3 (F := Ideal) (iblk m c 0 t) (iblk m c 1 t) (iblk m c 2 t) (iblk m c 3 t) acc y = (acc y + term m c t y : EReal) :=
  (pay3 _ _ _ _ _ y).trans (congrArg (fun z : EReal => (acc y + z : EReal)) ((pay2 _ _ _ _ y).symm.trans (step2 m c t y)))

theorem acc_first (t : Fin cfg0.N) (h : t.val % 4 = 0) (y : S1024x1024.Idx) :
    (outsAt0 (F := Ideal) m c t.val t.isLt).2 y = (0 + term m c t y : EReal) := by
  rw [outsAt0_A m c t h (by omega) (by omega)]
  frame_out
  exact (step2 m c t y).trans (zero_add _).symm

theorem acc_next (t : Fin cfg0.N) (h : ¬t.val % 4 = 0) (y : S1024x1024.Idx) :
    (outsAt0 (F := Ideal) m c t.val t.isLt).2 y
      = ((outsAt0 (F := Ideal) m c (t.val - 1) (Nat.lt_of_le_of_lt (Nat.sub_le _ _) t.isLt)).2 y + term m c t y : EReal) := by
  by_cases h3 : t.val % 4 = 3
  · rw [outsAt0_C m c t h (by omega) h3]
    frame_out
    refine Eq.trans ?_ (step3 m c t _ y)
    exact congrFun (congrArg _ (Memref.IsWhole.read_unread (Memref.isWhole_whole cc0_scratch0) _)) y
  · rw [outsAt0_B m c t h (by omega) h3]
    frame_out
    refine Eq.trans ?_ (step3 m c t _ y)
    exact congrFun (congrArg _ (Memref.IsWhole.read_unread (Memref.isWhole_whole cc0_scratch0) _)) y

/-- After a row block's last step the running sum is the gradient's block. -/
theorem acc_last (t : Fin cfg0.N) (h : t.val % 4 = 3) (y : S1024x1024.Idx) :
    (outsAt0 (F := Ideal) m c t.val t.isLt).2 y = dT (a0 m c) (a1 m c) (a2 m c) (ix2 (row t (y 0)) (y 1)) := by
  refine (Pipeline.eq_sum_fin_of_reset_step_apply_of_flush (M := EReal) (fun n hn y => (outsAt0 (F := Ideal) m c n hn).2 y) 4 (fun _ => 0) (term m c)
    (fun t h y => acc_first m c t h y) (fun t h y => acc_next m c t h y) t h y).trans ?_
  refine (zero_add _).trans (Finset.sum_congr rfl fun s _ => ?_)
  have hs := s.isLt
  unfold term
  refine congr (congrArg₂ (both (a0 m c) (a1 m c) (a2 m c)) (Fin.ext ?_) (Fin.ext ?_)) rfl
  · show (4 * (t.val / 4) + s.val) % 4 = s.val
    omega
  · show 1024 * ((4 * (t.val / 4) + s.val) / 4) + (y 0).val = 1024 * (t.val / 4) + (y 0).val
    omega

/-- The block a row block's last step writes is the running sum it leaves. -/
theorem last_d (t : Fin cfg0.N) (h : t.val % 4 = 3) :
    (outsAt0 (F := Ideal) m c t.val t.isLt).1 = (outsAt0 (F := Ideal) m c t.val t.isLt).2 := by
  rw [outsAt0_C m c t (by omega) (by omega) h]
  frame_out

theorem out_eq : (dats (F := Ideal) m 0 c).arrAt 4 cfg0.N = dT (a0 m c) (a1 m c) (a2 m c) := by
  refine (dats m 0 c).arrAt_eq_of_covers 4 _ (by decide +kernel) fun t hf y => ?_
  have h3 := fl4 t hf
  rw [after0_4, last_d m c t h3]
  refine (acc_last m c t h3 y).trans ?_
  refine congrArg (dT (a0 m c) (a1 m c) (a2 m c)) (funext fun a => Fin.ext ?_)
  match a with
  | ⟨0, _⟩ => blk_simp [e4] <;> dsimp <;> omega
  | ⟨1, _⟩ => blk_simp [e4] <;> rfl
end

/-! ## The reference -/

section
open Cert.Reference8Ideal.Read

variable (x0 x1 : Vec Ideal S4x4096x704 .bf16) (x2 : Vec Ideal S4x4x1024x704 .bf16)

/-- The two weights the reference slices are those the first feed-forward's reference slices of the array with the second pair in front. -/
theorem ref_slice1 : val_main_v1 (F := Ideal) x2 = Cert.Reference4Ideal.Read.val_main_v1 (F := Ideal) (Ffn.ups x2) := by
  funext i
  rw [val_main_v1_apply, Cert.Reference4Ideal.Read.val_main_v1_apply]
  have h1 : (i 1).val = 0 := Nat.lt_one_iff.mp (i 1).isLt
  refine congrArg x2 (funext fun a => ?_)
  match a with
  | ⟨0, _⟩ => rfl
  | ⟨1, _⟩ => exact Fin.ext (Eq.trans (by dsimp; omega) (Ffn.slot2 _ (by dsimp; omega)).symm)
  | ⟨2, _⟩ => rfl
  | ⟨3, _⟩ => rfl
theorem ref_slice7 : val_main_v7 (F := Ideal) x2 = Cert.Reference4Ideal.Read.val_main_v7 (F := Ideal) (Ffn.ups x2) := by
  funext i
  rw [val_main_v7_apply, Cert.Reference4Ideal.Read.val_main_v7_apply]
  have h1 : (i 1).val = 0 := Nat.lt_one_iff.mp (i 1).isLt
  refine congrArg x2 (funext fun a => ?_)
  match a with
  | ⟨0, _⟩ => rfl
  | ⟨1, _⟩ => exact Fin.ext (Eq.trans (by dsimp; omega) (Ffn.slot2 _ (by dsimp; omega)).symm)
  | ⟨2, _⟩ => rfl
  | ⟨3, _⟩ => rfl

theorem ref_eq : val_main_v21 (F := Ideal) x0 x1 x2 = dT x0 x1 (Ffn.ups x2) := by
  refine Eq.trans ?_ (Cert.Ffn4.ref_eq x0 x1 (Ffn.ups x2))
  unfold val_main_v21 val_main_v20 val_main_v19 val_main_v11 val_main_v10 val_main_v9 val_main_v8 val_main_v5 val_main_v4 val_main_v3 val_main_v2
  rw [ref_slice1, ref_slice7]
  rfl
end

end Cert.Ffn8

end
-- ==== Proof.Ffn.Call9.lean ====
/- The gradients behind the second feed-forward's gate: the two arrays the version's call leaves are the reference's. -/
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel9.Frame
public import proofs.«01_k».proof.Proof.Ffn.Call5
public import proofs.«01_k».proof.Proof.Ffn.Slots

@[expose] public section

set_option maxRecDepth 16384

noncomputable section

namespace Cert.Ffn9

open Idealize.ShloMosaic Idealize.ShloMosaic.TcCoe
open Cert.Kernel9Ideal Cert.Kernel9Ideal.Gen
open Cert.Ffn5 (back gateGrad dgT duT pay1 pay4 pay5)

/-! ## The version's call -/

theorem hN (t : Fin cfg0.N) : t.val < 16 := lt_of_lt_of_eq t.isLt (by decide +kernel)
theorem e0 : ∀ t : Fin cfg0.N, win0_0.index t = ![t.val / 4, 0] := by decide +kernel
theorem e1 : ∀ t : Fin cfg0.N, win0_1.index t = ![t.val % 4, 1, 0, 0] := by decide +kernel
theorem e2 : ∀ t : Fin cfg0.N, win0_2.index t = ![t.val % 4, t.val / 4, 0] := by decide +kernel
theorem e3 : ∀ t : Fin cfg0.N, win0_3.index t = ![t.val % 4, t.val / 4, 0] := by decide +kernel
theorem e4 : ∀ t : Fin cfg0.N, win0_4.index t = ![t.val % 4, t.val / 4, 0] := by decide +kernel
theorem e5 : ∀ t : Fin cfg0.N, win0_5.index t = ![t.val % 4, t.val / 4, 0] := by decide +kernel

/-- The shard a step works on, and the row its block's row is. -/
abbrev shard (t : Fin cfg0.N) : Fin 4 := ⟨t.val % 4, by omega⟩
abbrev row (t : Fin cfg0.N) (r : Fin 1024) : Fin 4096 := ⟨1024 * (t.val / 4) + r.val, by have := hN t; omega⟩

section
variable (m : (ℓ : Loc nD τ sig) → Buf (Elt Ideal) ℓ) (c : Dev nD)

abbrev a0 : Vec Ideal S4096x1024 .bf16 := m ((c : Thread nD τ).loc main_arg0)
abbrev a1w : Vec Ideal S4x2x704x1024 .bf16 := m ((c : Thread nD τ).loc main_arg1)
/-- The gathered weight, the second feed-forward's in the place of the first's. -/
abbrev a1 : Vec Ideal S4x2x704x1024 .bf16 := Ffn.downs (a1w m c)
abbrev a2 : Vec Ideal S4x4096x704 .bf16 := m ((c : Thread nD τ).loc main_arg2)
abbrev a3 : Vec Ideal S4x4096x704 .bf16 := m ((c : Thread nD τ).loc main_arg3)

theorem blk0 (t : Fin cfg0.N) (y : S1024x1024.Idx) : iblk (F := Ideal) m c 0 t y = a0 m c (ix2 (row t (y 0)) (y 1)) := by
  blk_simp [iblk, V_main_arg0]
  refine congrArg (a0 m c) (funext fun a => Fin.ext ?_)
  match a with
  | ⟨0, _⟩ => blk_simp [e0] <;> dsimp <;> omega
  | ⟨1, _⟩ => blk_simp [e0] <;> rfl

theorem blk1 (t : Fin cfg0.N) (y : S1x1x704x1024.Idx) : iblk (F := Ideal) m c 1 t y = a1 m c (ix4 (shard t) 0 (y 2) (y 3)) := by
  have h0 : (y 0).val < 1 := (y 0).isLt
  have h1 : (y 1).val < 1 := (y 1).isLt
  blk_simp [iblk, V_main_arg1]
  have hp : (Ffn.one 0).val = 1 := rfl
  refine congrArg (a1w m c) (funext fun a => Fin.ext ?_)
  match a with
  | ⟨0, _⟩ => blk_simp [e1] <;> dsimp <;> omega
  | ⟨1, _⟩ => blk_simp [e1] <;> dsimp [hp] <;> omega
  | ⟨2, _⟩ => blk_simp [e1] <;> rfl
  | ⟨3, _⟩ => blk_simp [e1] <;> rfl

theorem blk2 (t : Fin cfg0.N) (y : S1x1024x704.Idx) : iblk (F := Ideal) m c 2 t y = a2 m c (ix3 (shard t) (row t (y 1)) (y 2)) := by
  have h0 : (y 0).val < 1 := (y 0).isLt
  blk_simp [iblk, V_main_arg2]
  refine congrArg (a2 m c) (funext fun a => Fin.ext ?_)
  match a with
  | ⟨0, _⟩ => blk_simp [e2] <;> dsimp <;> omega
  | ⟨1, _⟩ => blk_simp [e2] <;> dsimp <;> omega
  | ⟨2, _⟩ => blk_simp [e2] <;> rfl

theorem blk3 (t : Fin cfg0.N) (y : S1x1024x704.Idx) : iblk (F := Ideal) m c 3 t y = a3 m c (ix3 (shard t) (row t (y 1)) (y 2)) := by
  have h0 : (y 0).val < 1 := (y 0).isLt
  blk_simp [iblk, V_main_arg3]
  refine congrArg (a3 m c) (funext fun a => Fin.ext ?_)
  match a with
  | ⟨0, _⟩ => blk_simp [e3] <;> dsimp <;> omega
  | ⟨1, _⟩ => blk_simp [e3] <;> dsimp <;> omega
  | ⟨2, _⟩ => blk_simp [e3] <;> rfl

theorem back_step (t : Fin cfg0.N) (y : S1024x704.Idx) :
    k0_pay1 (F := Ideal) (iblk m c 0 t) (iblk m c 1 t) y = back (a0 m c) (a1 m c) (shard t) (row t (y 0)) (y 1) :=
  (pay1 _ _ y).trans (Finset.sum_congr rfl fun k _ => congrArg₂ (· * ·) (blk0 m c t _) (blk1 m c t _))

theorem out_dg : (dats (F := Ideal) m 0 c).arrAt 4 cfg0.N = dgT (a0 m c) (a1 m c) (a2 m c) (a3 m c) := by
  refine (dats m 0 c).arrAt_eq_of_covers 4 _ (by decide +kernel) fun t hf y => ?_
  have h0 : (y 0).val < 1 := (y 0).isLt
  rw [after0_4]
  frame_out
  refine (pay4 _ _ _ _ y).trans ?_
  refine (congr (congrArg₂ gateGrad (back_step m c t (ix2 (y 1) (y 2))) (blk2 m c t _)) (blk3 m c t _)).trans ?_
  show dgT (a0 m c) (a1 m c) (a2 m c) (a3 m c) (ix3 (shard t) (row t (y 1)) (y 2)) = _
  refine congrArg (dgT (a0 m c) (a1 m c) (a2 m c) (a3 m c)) (funext fun a => Fin.ext ?_)
  match a with
  | ⟨0, _⟩ => blk_simp [e4] <;> dsimp <;> omega
  | ⟨1, _⟩ => blk_simp [e4] <;> dsimp <;> omega
  | ⟨2, _⟩ => blk_simp [e4] <;> rfl

theorem out_du : (dats (F := Ideal) m 0 c).arrAt 5 cfg0.N = duT (a0 m c) (a1 m c) (a2 m c) := by
  refine (dats m 0 c).arrAt_eq_of_covers 5 _ (by decide +kernel) fun t hf y => ?_
  have h0 : (y 0).val < 1 := (y 0).isLt
  rw [after0_5]
  frame_out
  refine (pay5 _ _ _ y).trans ?_
  refine (congrArg₂ (fun p g : EReal => g * Ideal.logistic g * p) (back_step m c t (ix2 (y 1) (y 2))) (blk2 m c t _)).trans ?_
  show duT (a0 m c) (a1 m c) (a2 m c) (ix3 (shard t) (row t (y 1)) (y 2)) = _
  refine congrArg (duT (a0 m c) (a1 m c) (a2 m c)) (funext fun a => Fin.ext ?_)
  match a with
  | ⟨0, _⟩ => blk_simp [e5] <;> dsimp <;> omega
  | ⟨1, _⟩ => blk_simp [e5] <;> dsimp <;> omega
  | ⟨2, _⟩ => blk_simp [e5] <;> rfl
end

/-! ## The reference -/

section
open Cert.Reference9Ideal.Read

variable (x0 : Vec Ideal S4096x1024 .bf16) (x1 : Vec Ideal S4x2x704x1024 .bf16) (x2 x3 : Vec Ideal S4x4096x704 .bf16)

/-- The weight the reference slices is the one the first feed-forward's reference slices of the array with the second in front. -/
theorem ref_slice0 : val_main_v0 (F := Ideal) x1 = Cert.Reference5Ideal.Read.val_main_v0 (F := Ideal) (Ffn.downs x1) := by
  funext i
  rw [val_main_v0_apply, Cert.Reference5Ideal.Read.val_main_v0_apply]
  have h1 : (i 1).val = 0 := Nat.lt_one_iff.mp (i 1).isLt
  refine congrArg x1 (funext fun a => ?_)
  match a with
  | ⟨0, _⟩ => rfl
  | ⟨1, _⟩ => exact Fin.ext (Eq.trans (by dsimp; omega) (Ffn.slot1 _ (by dsimp; omega)).symm)
  | ⟨2, _⟩ => rfl
  | ⟨3, _⟩ => rfl

theorem ref_back : val_main_v14 (F := Ideal) x0 x1 = Cert.Reference5Ideal.Read.val_main_v14 (F := Ideal) x0 (Ffn.downs x1) := by
  unfold val_main_v14 val_main_v3 val_main_v2 val_main_v1
  rw [ref_slice0]
  rfl

theorem ref_dg : val_main_v20 (F := Ideal) x0 x1 x2 x3 = dgT x0 (Ffn.downs x1) x2 x3 := by
  refine Eq.trans ?_ (Cert.Ffn5.ref_dg x0 (Ffn.downs x1) x2 x3)
  unfold val_main_v20 val_main_v19 val_main_v18 val_main_v17 val_main_call1_v2 val_main_call1_v1 val_main_call1_v0 val_main_v16
  rw [ref_back]
  rfl
theorem ref_du : val_main_v23 (F := Ideal) x0 x1 x2 = duT x0 (Ffn.downs x1) x2 := by
  refine Eq.trans ?_ (Cert.Ffn5.ref_du x0 (Ffn.downs x1) x2)
  unfold val_main_v23 val_main_v22 val_main_v21 val_main_v15
  rw [ref_back]
  rfl
end

end Cert.Ffn9

end
-- ==== Proof.Ffn.Call10.lean ====
/- The second feed-forward's up-projection with its gate: the three arrays the version's call leaves are the reference's. -/
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel10.Frame
public import proofs.«01_k».proof.Proof.Ffn.Call6
public import proofs.«01_k».proof.Proof.Ffn.Slots

@[expose] public section

set_option maxRecDepth 16384

noncomputable section

namespace Cert.Ffn10

open Idealize.ShloMosaic Idealize.ShloMosaic.TcCoe
open Cert.Kernel10Ideal Cert.Kernel10Ideal.Gen
open Cert.Ffn6 (lin gT uT fT pay1 pay2 pay5 cast_up)

/-! ## The version's call -/

theorem hN (t : Fin cfg0.N) : t.val < 16 := lt_of_lt_of_eq t.isLt (by decide +kernel)
theorem e0 : ∀ t : Fin cfg0.N, win0_0.index t = ![t.val / 4, 0] := by decide +kernel
theorem e1 : ∀ t : Fin cfg0.N, win0_1.index t = ![t.val % 4, 2, 0, 0] := by decide +kernel
theorem e2 : ∀ t : Fin cfg0.N, win0_2.index t = ![t.val % 4, 3, 0, 0] := by decide +kernel
theorem e3 : ∀ t : Fin cfg0.N, win0_3.index t = ![t.val % 4, t.val / 4, 0] := by decide +kernel
theorem e4 : ∀ t : Fin cfg0.N, win0_4.index t = ![t.val % 4, t.val / 4, 0] := by decide +kernel
theorem e5 : ∀ t : Fin cfg0.N, win0_5.index t = ![t.val % 4, t.val / 4, 0] := by decide +kernel

/-- The shard a step works on, and the row its block's row is. -/
abbrev shard (t : Fin cfg0.N) : Fin 4 := ⟨t.val % 4, by omega⟩
abbrev row (t : Fin cfg0.N) (r : Fin 1024) : Fin 4096 := ⟨1024 * (t.val / 4) + r.val, by have := hN t; omega⟩

section
variable (m : (ℓ : Loc nD τ sig) → Buf (Elt Ideal) ℓ) (c : Dev nD)

abbrev a0 : Vec Ideal S4096x1024 .bf16 := m ((c : Thread nD τ).loc main_arg0)
abbrev a1w : Vec Ideal S4x4x1024x704 .bf16 := m ((c : Thread nD τ).loc main_arg1)
/-- The gathered weight, the second feed-forward's in the place of the first's. -/
abbrev a1 : Vec Ideal S4x4x1024x704 .bf16 := Ffn.ups (a1w m c)

theorem blk0 (t : Fin cfg0.N) (y : S1024x1024.Idx) : iblk (F := Ideal) m c 0 t y = a0 m c (ix2 (row t (y 0)) (y 1)) := by
  blk_simp [iblk, V_main_arg0]
  refine congrArg (a0 m c) (funext fun a => Fin.ext ?_)
  match a with
  | ⟨0, _⟩ => blk_simp [e0] <;> dsimp <;> omega
  | ⟨1, _⟩ => blk_simp [e0] <;> rfl

theorem blk1 (t : Fin cfg0.N) (y : S1x1x1024x704.Idx) : iblk (F := Ideal) m c 1 t y = a1 m c (ix4 (shard t) 0 (y 2) (y 3)) := by
  have h0 : (y 0).val < 1 := (y 0).isLt
  have h1 : (y 1).val < 1 := (y 1).isLt
  blk_simp [iblk, V_main_arg1]
  have hp : (Ffn.two 0).val = 2 := rfl
  refine congrArg (a1w m c) (funext fun a => Fin.ext ?_)
  match a with
  | ⟨0, _⟩ => blk_simp [e1] <;> dsimp <;> omega
  | ⟨1, _⟩ => blk_simp [e1] <;> dsimp [hp] <;> omega
  | ⟨2, _⟩ => blk_simp [e1] <;> rfl
  | ⟨3, _⟩ => blk_simp [e1] <;> rfl

theorem blk2 (t : Fin cfg0.N) (y : S1x1x1024x704.Idx) : iblk (F := Ideal) m c 2 t y = a1 m c (ix4 (shard t) 1 (y 2) (y 3)) := by
  have h0 : (y 0).val < 1 := (y 0).isLt
  have h1 : (y 1).val < 1 := (y 1).isLt
  blk_simp [iblk, V_main_arg1]
  have hp : (Ffn.two 1).val = 3 := rfl
  refine congrArg (a1w m c) (funext fun a => Fin.ext ?_)
  match a with
  | ⟨0, _⟩ => blk_simp [e2] <;> dsimp <;> omega
  | ⟨1, _⟩ => blk_simp [e2] <;> dsimp [hp] <;> omega
  | ⟨2, _⟩ => blk_simp [e2] <;> rfl
  | ⟨3, _⟩ => blk_simp [e2] <;> rfl

theorem gate_step (t : Fin cfg0.N) (y : S1024x704.Idx) :
    k0_pay1 (F := Ideal) (iblk m c 0 t) (iblk m c 1 t) y = lin 0 (a0 m c) (a1 m c) (shard t) (row t (y 0)) (y 1) :=
  (pay1 _ _ y).trans (Finset.sum_congr rfl fun k _ => congrArg₂ (· * ·) (blk0 m c t _) (blk1 m c t _))

theorem up_step (t : Fin cfg0.N) (y : S1024x704.Idx) :
    k0_pay2 (F := Ideal) (iblk m c 0 t) (iblk m c 2 t) y = lin 1 (a0 m c) (a1 m c) (shard t) (row t (y 0)) (y 1) :=
  (pay2 _ _ y).trans (Finset.sum_congr rfl fun k _ => congrArg₂ (· * ·) (blk0 m c t _) (blk2 m c t _))

theorem out_g : (dats (F := Ideal) m 0 c).arrAt 3 cfg0.N = gT (a0 m c) (a1 m c) := by
  refine (dats m 0 c).arrAt_eq_of_covers 3 _ (by decide +kernel) fun t hf y => ?_
  have h0 : (y 0).val < 1 := (y 0).isLt
  rw [after0_3]
  frame_out
  refine (cast_up _ y).trans ((gate_step m c t _).trans ?_)
  show gT (a0 m c) (a1 m c) (ix3 (shard t) (row t (y 1)) (y 2)) = _
  refine congrArg (gT (a0 m c) (a1 m c)) (funext fun a => Fin.ext ?_)
  match a with
  | ⟨0, _⟩ => blk_simp [e3] <;> dsimp <;> omega
  | ⟨1, _⟩ => blk_simp [e3] <;> dsimp <;> omega
  | ⟨2, _⟩ => blk_simp [e3] <;> rfl

theorem out_u : (dats (F := Ideal) m 0 c).arrAt 4 cfg0.N = uT (a0 m c) (a1 m c) := by
  refine (dats m 0 c).arrAt_eq_of_covers 4 _ (by decide +kernel) fun t hf y => ?_
  have h0 : (y 0).val < 1 := (y 0).isLt
  rw [after0_4]
  frame_out
  refine (cast_up _ y).trans ((up_step m c t _).trans ?_)
  show uT (a0 m c) (a1 m c) (ix3 (shard t) (row t (y 1)) (y 2)) = _
  refine congrArg (uT (a0 m c) (a1 m c)) (funext fun a => Fin.ext ?_)
  match a with
  | ⟨0, _⟩ => blk_simp [e4] <;> dsimp <;> omega
  | ⟨1, _⟩ => blk_simp [e4] <;> dsimp <;> omega
  | ⟨2, _⟩ => blk_simp [e4] <;> rfl

theorem out_f : (dats (F := Ideal) m 0 c).arrAt 5 cfg0.N = fT (a0 m c) (a1 m c) := by
  refine (dats m 0 c).arrAt_eq_of_covers 5 _ (by decide +kernel) fun t hf y => ?_
  have h0 : (y 0).val < 1 := (y 0).isLt
  rw [after0_5]
  frame_out
  refine (pay5 _ _ _ y).trans ?_
  have eg := gate_step m c t (ix2 (y 1) (y 2))
  have eu := up_step m c t (ix2 (y 1) (y 2))
  refine (congrArg₂ (fun g u : EReal => g * Ideal.logistic g * u) eg eu).trans ?_
  show fT (a0 m c) (a1 m c) (ix3 (shard t) (row t (y 1)) (y 2)) = _
  refine congrArg (fT (a0 m c) (a1 m c)) (funext fun a => Fin.ext ?_)
  match a with
  | ⟨0, _⟩ => blk_simp [e5] <;> dsimp <;> omega
  | ⟨1, _⟩ => blk_simp [e5] <;> dsimp <;> omega
  | ⟨2, _⟩ => blk_simp [e5] <;> rfl
end

/-! ## The reference -/

section
open Cert.Reference10Ideal.Read

variable (x0 : Vec Ideal S4096x1024 .bf16) (x1 : Vec Ideal S4x4x1024x704 .bf16)

/-- The two weights the reference slices are those the first feed-forward's reference slices of the array with the second pair in front. -/
theorem ref_slice1 : val_main_v1 (F := Ideal) x1 = Cert.Reference6Ideal.Read.val_main_v1 (F := Ideal) (Ffn.ups x1) := by
  funext i
  rw [val_main_v1_apply, Cert.Reference6Ideal.Read.val_main_v1_apply]
  have h1 : (i 1).val = 0 := Nat.lt_one_iff.mp (i 1).isLt
  refine congrArg x1 (funext fun a => ?_)
  match a with
  | ⟨0, _⟩ => rfl
  | ⟨1, _⟩ => exact Fin.ext (Eq.trans (by dsimp; omega) (Ffn.slot2 _ (by dsimp; omega)).symm)
  | ⟨2, _⟩ => rfl
  | ⟨3, _⟩ => rfl
theorem ref_slice7 : val_main_v7 (F := Ideal) x1 = Cert.Reference6Ideal.Read.val_main_v7 (F := Ideal) (Ffn.ups x1) := by
  funext i
  rw [val_main_v7_apply, Cert.Reference6Ideal.Read.val_main_v7_apply]
  have h1 : (i 1).val = 0 := Nat.lt_one_iff.mp (i 1).isLt
  refine congrArg x1 (funext fun a => ?_)
  match a with
  | ⟨0, _⟩ => rfl
  | ⟨1, _⟩ => exact Fin.ext (Eq.trans (by dsimp; omega) (Ffn.slot2 _ (by dsimp; omega)).symm)
  | ⟨2, _⟩ => rfl
  | ⟨3, _⟩ => rfl

theorem ref_gate : val_main_v6 (F := Ideal) x0 x1 = Cert.Reference6Ideal.Read.val_main_v6 (F := Ideal) x0 (Ffn.ups x1) := by
  unfold val_main_v6 val_main_v5 val_main_v4 val_main_v3 val_main_v2
  rw [ref_slice1]
  rfl
theorem ref_up : val_main_v12 (F := Ideal) x0 x1 = Cert.Reference6Ideal.Read.val_main_v12 (F := Ideal) x0 (Ffn.ups x1) := by
  unfold val_main_v12 val_main_v11 val_main_v10 val_main_v9 val_main_v8
  rw [ref_slice7]
  rfl

theorem ref_g : val_main_v15 (F := Ideal) x0 x1 = gT x0 (Ffn.ups x1) := by
  refine Eq.trans ?_ (Cert.Ffn6.ref_g x0 (Ffn.ups x1))
  unfold val_main_v15 val_main_v14 val_main_v13
  rw [ref_gate]
  rfl
theorem ref_u : val_main_v18 (F := Ideal) x0 x1 = uT x0 (Ffn.ups x1) := by
  refine Eq.trans ?_ (Cert.Ffn6.ref_u x0 (Ffn.ups x1))
  unfold val_main_v18 val_main_v17 val_main_v16
  rw [ref_up]
  rfl
theorem ref_f : val_main_v23 (F := Ideal) x0 x1 = fT x0 (Ffn.ups x1) := by
  refine Eq.trans ?_ (Cert.Ffn6.ref_f x0 (Ffn.ups x1))
  unfold val_main_v23 val_main_v22 val_main_v21 val_main_v20 val_main_v19 val_main_call0_v5 val_main_call0_v3 val_main_call0_v1 val_main_call0_v0
  rw [ref_gate, ref_up]
  rfl
end

end Cert.Ffn10

end
-- ==== Proof.Ffn.Call11.lean ====
/- The second feed-forward's down-projection: the two arrays the version's call leaves are the reference's. -/
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel11.Frame
public import proofs.«01_k».proof.Proof.Ffn.Call7
public import proofs.«01_k».proof.Proof.Ffn.Slots

@[expose] public section

set_option maxRecDepth 16384

noncomputable section

namespace Cert.Ffn11

open Idealize.ShloMosaic Idealize.ShloMosaic.TcCoe
open Cert.Kernel11Ideal Cert.Kernel11Ideal.Gen
open Cert.Ffn7 (part oT hT pay2 pay3 pay4)

/-! ## The version's call -/

theorem hN (t : Fin cfg0.N) : t.val < 16 := lt_of_lt_of_eq t.isLt (by decide +kernel)
theorem e0 : ∀ t : Fin cfg0.N, win0_0.index t = ![t.val % 4, t.val / 4, 0] := by decide +kernel
theorem e1 : ∀ t : Fin cfg0.N, win0_1.index t = ![t.val % 4, 1, 0, 0] := by decide +kernel
theorem e2 : ∀ t : Fin cfg0.N, win0_2.index t = ![t.val / 4, 0] := by decide +kernel
theorem e3 : ∀ t : Fin cfg0.N, win0_3.index t = ![0, 0] := by decide +kernel
theorem e4 : ∀ t : Fin cfg0.N, win0_4.index t = ![t.val / 4, 0] := by decide +kernel
theorem e5 : ∀ t : Fin cfg0.N, win0_5.index t = ![t.val / 4, 0] := by decide +kernel
theorem fl4 : ∀ t : Fin cfg0.N, (cfg0.win 4).flush t = true → t.val % 4 = 3 := by decide +kernel
theorem fl5 : ∀ t : Fin cfg0.N, (cfg0.win 5).flush t = true → t.val % 4 = 3 := by decide +kernel

/-- The shard a step works on, and the row its block's row is. -/
abbrev shard (t : Fin cfg0.N) : Fin 4 := ⟨t.val % 4, by omega⟩
abbrev row (t : Fin cfg0.N) (r : Fin 1024) : Fin 4096 := ⟨1024 * (t.val / 4) + r.val, by have := hN t; omega⟩

section
variable (m : (ℓ : Loc nD τ sig) → Buf (Elt Ideal) ℓ) (c : Dev nD)

abbrev a0 : Vec Ideal S4x4096x704 .bf16 := m ((c : Thread nD τ).loc main_arg0)
abbrev a1w : Vec Ideal S4x2x704x1024 .bf16 := m ((c : Thread nD τ).loc main_arg1)
/-- The gathered weight, the second feed-forward's in the place of the first's. -/
abbrev a1 : Vec Ideal S4x2x704x1024 .bf16 := Ffn.downs (a1w m c)
abbrev a2 : Vec Ideal S4096x1024 .f32 := m ((c : Thread nD τ).loc main_arg2)
abbrev a3 : Vec Ideal S1x1024 .f32 := m ((c : Thread nD τ).loc main_arg3)

theorem blk0 (t : Fin cfg0.N) (y : S1x1024x704.Idx) : iblk (F := Ideal) m c 0 t y = a0 m c (ix3 (shard t) (row t (y 1)) (y 2)) := by
  have h0 : (y 0).val < 1 := (y 0).isLt
  blk_simp [iblk, V_main_arg0]
  refine congrArg (a0 m c) (funext fun a => Fin.ext ?_)
  match a with
  | ⟨0, _⟩ => blk_simp [e0] <;> dsimp <;> omega
  | ⟨1, _⟩ => blk_simp [e0] <;> dsimp <;> omega
  | ⟨2, _⟩ => blk_simp [e0] <;> rfl

theorem blk1 (t : Fin cfg0.N) (y : S1x1x704x1024.Idx) : iblk (F := Ideal) m c 1 t y = a1 m c (ix4 (shard t) 0 (y 2) (y 3)) := by
  have h0 : (y 0).val < 1 := (y 0).isLt
  have h1 : (y 1).val < 1 := (y 1).isLt
  blk_simp [iblk, V_main_arg1]
  have hp : (Ffn.one 0).val = 1 := rfl
  refine congrArg (a1w m c) (funext fun a => Fin.ext ?_)
  match a with
  | ⟨0, _⟩ => blk_simp [e1] <;> dsimp <;> omega
  | ⟨1, _⟩ => blk_simp [e1] <;> dsimp [hp] <;> omega
  | ⟨2, _⟩ => blk_simp [e1] <;> rfl
  | ⟨3, _⟩ => blk_simp [e1] <;> rfl

theorem blk2 (t : Fin cfg0.N) (y : S1024x1024.Idx) : iblk (F := Ideal) m c 2 t y = a2 m c (ix2 (row t (y 0)) (y 1)) := by
  blk_simp [iblk, V_main_arg2]
  refine congrArg (a2 m c) (funext fun a => Fin.ext ?_)
  match a with
  | ⟨0, _⟩ => blk_simp [e2] <;> dsimp <;> omega
  | ⟨1, _⟩ => blk_simp [e2] <;> rfl

theorem blk3 (t : Fin cfg0.N) (j : Fin 1024) : iblk (F := Ideal) m c 3 t (ix2 0 j) = a3 m c (ix2 0 j) := by
  blk_simp [iblk, V_main_arg3]
  refine congrArg (a3 m c) (funext fun a => Fin.ext ?_)
  match a with
  | ⟨0, _⟩ => blk_simp [e3] <;> rfl
  | ⟨1, _⟩ => blk_simp [e3] <;> rfl

/-- What a step adds to the running sum. -/
def term (t : Fin cfg0.N) (y : S1024x1024.Idx) : EReal := part (a0 m c) (a1 m c) (shard t) (row t (y 0)) (y 1)

theorem step2 (t : Fin cfg0.N) (y : S1024x1024.Idx) : k0_pay2 (F := Ideal) (iblk m c 0 t) (iblk m c 1 t) y = term m c t y := by
  unfold term part
  exact (pay2 _ _ y).trans (Finset.sum_congr rfl fun k _ => congrArg₂ (· * ·) (blk0 m c t _) (blk1 m c t _))

theorem step3 (t : Fin cfg0.N) (acc : Vec Ideal S1024x1024 .f32) (y : S1024x1024.Idx) :
    k0_pay3 (F := Ideal) (iblk m c 0 t) (iblk m c 1 t) acc y = (acc y + term m c t y : EReal) :=
  (pay3 _ _ _ y).trans (congrArg (fun z : EReal => (acc y + z : EReal)) ((pay2 _ _ y).symm.trans (step2 m c t y)))

theorem acc_first (t : Fin cfg0.N) (h : t.val % 4 = 0) (y : S1024x1024.Idx) :
    (outsAt0 (F := Ideal) m c t.val t.isLt).2.2 y = (0 + term m c t y : EReal) := by
  rw [outsAt0_A m c t h (by omega) (by omega)]
  frame_out
  exact (step2 m c t y).trans (zero_add _).symm

theorem acc_next (t : Fin cfg0.N) (h : ¬t.val % 4 = 0) (y : S1024x1024.Idx) :
    (outsAt0 (F := Ideal) m c t.val t.isLt).2.2 y
      = ((outsAt0 (F := Ideal) m c (t.val - 1) (Nat.lt_of_le_of_lt (Nat.sub_le _ _) t.isLt)).2.2 y + term m c t y : EReal) := by
  by_cases h3 : t.val % 4 = 3
  · rw [outsAt0_C m c t h (by omega) h3]
    frame_out
    refine Eq.trans ?_ (step3 m c t _ y)
    exact congrFun (congrArg _ (Memref.IsWhole.read_unread (Memref.isWhole_whole cc0_scratch0) _)) y
  · rw [outsAt0_B m c t h (by omega) h3]
    frame_out
    refine Eq.trans ?_ (step3 m c t _ y)
    exact congrFun (congrArg _ (Memref.IsWhole.read_unread (Memref.isWhole_whole cc0_scratch0) _)) y

/-- After a row block's last step the running sum is the down-projection's block. -/
theorem acc_last (t : Fin cfg0.N) (h : t.val % 4 = 3) (y : S1024x1024.Idx) :
    (outsAt0 (F := Ideal) m c t.val t.isLt).2.2 y = oT (a0 m c) (a1 m c) (ix2 (row t (y 0)) (y 1)) := by
  refine (Pipeline.eq_sum_fin_of_reset_step_apply_of_flush (M := EReal) (fun n hn y => (outsAt0 (F := Ideal) m c n hn).2.2 y) 4 (fun _ => 0) (term m c)
    (fun t h y => acc_first m c t h y) (fun t h y => acc_next m c t h y) t h y).trans ?_
  refine (zero_add _).trans (Finset.sum_congr rfl fun s _ => ?_)
  have hs := s.isLt
  unfold term
  refine congr (congrArg₂ (part (a0 m c) (a1 m c)) (Fin.ext ?_) (Fin.ext ?_)) rfl
  · show (4 * (t.val / 4) + s.val) % 4 = s.val
    omega
  · show 1024 * ((4 * (t.val / 4) + s.val) / 4) + (y 0).val = 1024 * (t.val / 4) + (y 0).val
    omega

/-- The two blocks a row block's last step writes, from the running sum it leaves. -/
theorem last_h (t : Fin cfg0.N) (h : t.val % 4 = 3) :
    (outsAt0 (F := Ideal) m c t.val t.isLt).1 = k0_pay4 (F := Ideal) (outsAt0 (F := Ideal) m c t.val t.isLt).2.2 (iblk m c 2 t) (iblk m c 3 t) := by
  rw [outsAt0_C m c t (by omega) (by omega) h]
  frame_out

theorem last_o (t : Fin cfg0.N) (h : t.val % 4 = 3) :
    (outsAt0 (F := Ideal) m c t.val t.isLt).2.1 = k0_pay5 (F := Ideal) (outsAt0 (F := Ideal) m c t.val t.isLt).2.2 := by
  rw [outsAt0_C m c t (by omega) (by omega) h]
  frame_out

theorem out_h : (dats (F := Ideal) m 0 c).arrAt 4 cfg0.N = hT (a0 m c) (a1 m c) (a2 m c) (a3 m c) := by
  refine (dats m 0 c).arrAt_eq_of_covers 4 _ (by decide +kernel) fun t hf y => ?_
  have h3 := fl4 t hf
  rw [after0_4, last_h m c t h3]
  refine (pay4 _ _ _ y).trans ?_
  refine (congr (congrArg₂ (fun a b o : EReal => a + (FloatOps.ofBits (F := Ideal) .f32 0x3F000000#32 : EReal) * b * o) (blk2 m c t y) (blk3 m c t (y 1)))
    (acc_last m c t h3 y)).trans ?_
  show hT (a0 m c) (a1 m c) (a2 m c) (a3 m c) (ix2 (row t (y 0)) (y 1)) = _
  refine congrArg (hT (a0 m c) (a1 m c) (a2 m c) (a3 m c)) (funext fun a => Fin.ext ?_)
  match a with
  | ⟨0, _⟩ => blk_simp [e4] <;> dsimp <;> omega
  | ⟨1, _⟩ => blk_simp [e4] <;> rfl

theorem out_o : (dats (F := Ideal) m 0 c).arrAt 5 cfg0.N = oT (a0 m c) (a1 m c) := by
  refine (dats m 0 c).arrAt_eq_of_covers 5 _ (by decide +kernel) fun t hf y => ?_
  have h3 := fl5 t hf
  rw [after0_5, last_o m c t h3]
  refine (acc_last m c t h3 y).trans ?_
  refine congrArg (oT (a0 m c) (a1 m c)) (funext fun a => Fin.ext ?_)
  match a with
  | ⟨0, _⟩ => blk_simp [e5] <;> dsimp <;> omega
  | ⟨1, _⟩ => blk_simp [e5] <;> rfl
end

/-! ## The reference -/

section
open Cert.Reference11Ideal.Read

variable (x0 : Vec Ideal S4x4096x704 .bf16) (x1 : Vec Ideal S4x2x704x1024 .bf16) (x2 : Vec Ideal S4096x1024 .f32) (x3 : Vec Ideal S1x1024 .f32)

/-- The weight the reference slices is the one the first feed-forward's reference slices of the array with the second in front. -/
theorem ref_slice3 : val_main_v3 (F := Ideal) x1 = Cert.Reference7Ideal.Read.val_main_v3 (F := Ideal) (Ffn.downs x1) := by
  funext i
  rw [val_main_v3_apply, Cert.Reference7Ideal.Read.val_main_v3_apply]
  have h1 : (i 1).val = 0 := Nat.lt_one_iff.mp (i 1).isLt
  refine congrArg x1 (funext fun a => ?_)
  match a with
  | ⟨0, _⟩ => rfl
  | ⟨1, _⟩ => exact Fin.ext (Eq.trans (by dsimp; omega) (Ffn.slot1 _ (by dsimp; omega)).symm)
  | ⟨2, _⟩ => rfl
  | ⟨3, _⟩ => rfl

theorem ref_sum : val_main_v7 (F := Ideal) x0 x1 = Cert.Reference7Ideal.Read.val_main_v7 (F := Ideal) x0 (Ffn.downs x1) := by
  unfold val_main_v7 val_main_v6 val_main_v5 val_main_v4
  rw [ref_slice3]
  rfl

theorem ref_o : val_main_v13 (F := Ideal) x0 x1 = oT x0 (Ffn.downs x1) := by
  refine Eq.trans ?_ (Cert.Ffn7.ref_o x0 (Ffn.downs x1))
  unfold val_main_v13
  rw [ref_sum]
  rfl
theorem ref_h : val_main_v12 (F := Ideal) x0 x1 x2 x3 = hT x0 (Ffn.downs x1) x2 x3 := by
  refine Eq.trans ?_ (Cert.Ffn7.ref_h x0 (Ffn.downs x1) x2 x3)
  unfold val_main_v12 val_main_v11
  rw [ref_sum]
  rfl
end

end Cert.Ffn11

end
-- ==== Proof.Ffn.Claims.lean ====
/- The claims about the feed-forward branch's calls: each runs, and each leaves its reference's arrays. -/
module

public import proofs.«01_k».proof.Defs
public import proofs.«01_k».proof.Proof.Ffn.Call2
public import proofs.«01_k».proof.Proof.Ffn.Call3
public import proofs.«01_k».proof.Proof.Ffn.Call4
public import proofs.«01_k».proof.Proof.Ffn.Call5
public import proofs.«01_k».proof.Proof.Ffn.Call6
public import proofs.«01_k».proof.Proof.Ffn.Call7
public import proofs.«01_k».proof.Proof.Ffn.Call8
public import proofs.«01_k».proof.Proof.Ffn.Call9
public import proofs.«01_k».proof.Proof.Ffn.Call10
public import proofs.«01_k».proof.Proof.Ffn.Call11
public import Idealize.ShloMosaic.Adequacy
public import Idealize.ShloMosaic.Init

@[expose] public section

noncomputable section

namespace Cert.Proof

open Idealize.ShloMosaic Idealize.SL.Sem

/-! ## Call 2: the gradient of the gathered gate or up-projection -/

theorem frame_kernel2 : Cert.quiescent_Kernel2 := fun m ρ _ => Cert.Kernel2.Gen.frame (F := Bits) m ρ
theorem frame_ideal2 : Cert.quiescent_Kernel2Ideal := fun m ρ _ => Cert.Kernel2Ideal.Gen.frame (F := Ideal) m ρ
theorem frame_reference2 : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)
theorem preserves2 : Cert.preserves_Kernel2_Kernel2Ideal := trivial

abbrev ref2_0 (m' : (ℓ : Loc Cert.Reference2Ideal.nD Cert.Reference2Ideal.τ Cert.Reference2Ideal.sig) → Buf (Elt Ideal) ℓ) (c : Dev Cert.Reference2Ideal.nD) :=
  m' ((c.tc : Thread Cert.Reference2Ideal.nD Cert.Reference2Ideal.τ).loc Cert.Reference2Ideal.main_arg0)
abbrev ref2_1 (m' : (ℓ : Loc Cert.Reference2Ideal.nD Cert.Reference2Ideal.τ Cert.Reference2Ideal.sig) → Buf (Elt Ideal) ℓ) (c : Dev Cert.Reference2Ideal.nD) :=
  m' ((c.tc : Thread Cert.Reference2Ideal.nD Cert.Reference2Ideal.τ).loc Cert.Reference2Ideal.main_arg1)

theorem same2_out_eq (m : (ℓ : Loc Cert.Kernel2Ideal.nD Cert.Kernel2Ideal.τ Cert.Kernel2Ideal.sig) → Buf (Elt Ideal) ℓ) (c : Dev Cert.Kernel2Ideal.nD) {y0 y1} (h0 : y0 = Cert.Ffn2.a0 m c) (h1 : y1 = Cert.Ffn2.a1 m c) :
    Cert.Reference2Ideal.Read.val_main_v10 (F := Ideal) y0 y1 = (Cert.Kernel2Ideal.Gen.dats (F := Ideal) m 0 c).arrAt 2 Cert.Kernel2Ideal.cfg0.N := by
  rw [h0, h1, Cert.Ffn2.ref_eq]
  exact (Cert.Ffn2.out_eq m c).symm

theorem algebraic2 : Cert.algebraic_Kernel2Ideal_Reference2Ideal :=
  fun m ρ m' ρ' _ (hag : ∀ c, ref2_0 m' c = Cert.Ffn2.a0 m c ∧ ref2_1 m' c = Cert.Ffn2.a1 m c) =>
    ⟨fun c => (Cert.Kernel2Ideal.Gen.dats (F := Ideal) m 0 c).arrAt 2 Cert.Kernel2Ideal.cfg0.N, Cert.Kernel2Ideal.Value.run_blocks m ρ,
      (θ_run Cert.Reference2Ideal.defs _ _).mono (fun r h c => ⟨(h c).1.trans ((Cert.Reference2Ideal.Read.val_main_v10_eq (ref2_0 m' c) (ref2_1 m' c)).trans (same2_out_eq m c (hag c).1 (hag c).2)), (h c).2⟩) (Cert.Reference2Ideal.Value.run m' ρ')⟩

/-! ## Call 3: the gradient of the gathered down-projection -/

theorem frame_kernel3 : Cert.quiescent_Kernel3 := fun m ρ _ => Cert.Kernel3.Gen.frame (F := Bits) m ρ
theorem frame_ideal3 : Cert.quiescent_Kernel3Ideal := fun m ρ _ => Cert.Kernel3Ideal.Gen.frame (F := Ideal) m ρ
theorem frame_reference3 : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)
theorem preserves3 : Cert.preserves_Kernel3_Kernel3Ideal := trivial

abbrev ref3_0 (m' : (ℓ : Loc Cert.Reference3Ideal.nD Cert.Reference3Ideal.τ Cert.Reference3Ideal.sig) → Buf (Elt Ideal) ℓ) (c : Dev Cert.Reference3Ideal.nD) :=
  m' ((c.tc : Thread Cert.Reference3Ideal.nD Cert.Reference3Ideal.τ).loc Cert.Reference3Ideal.main_arg0)
abbrev ref3_1 (m' : (ℓ : Loc Cert.Reference3Ideal.nD Cert.Reference3Ideal.τ Cert.Reference3Ideal.sig) → Buf (Elt Ideal) ℓ) (c : Dev Cert.Reference3Ideal.nD) :=
  m' ((c.tc : Thread Cert.Reference3Ideal.nD Cert.Reference3Ideal.τ).loc Cert.Reference3Ideal.main_arg1)

theorem same3_out_eq (m : (ℓ : Loc Cert.Kernel3Ideal.nD Cert.Kernel3Ideal.τ Cert.Kernel3Ideal.sig) → Buf (Elt Ideal) ℓ) (c : Dev Cert.Kernel3Ideal.nD) {y0 y1} (h0 : y0 = Cert.Ffn3.a0 m c) (h1 : y1 = Cert.Ffn3.a1 m c) :
    Cert.Reference3Ideal.Read.val_main_v9 (F := Ideal) y0 y1 = (Cert.Kernel3Ideal.Gen.dats (F := Ideal) m 0 c).arrAt 2 Cert.Kernel3Ideal.cfg0.N := by
  rw [h0, h1, Cert.Ffn3.ref_eq]
  exact (Cert.Ffn3.out_eq m c).symm

theorem algebraic3 : Cert.algebraic_Kernel3Ideal_Reference3Ideal :=
  fun m ρ m' ρ' _ (hag : ∀ c, ref3_0 m' c = Cert.Ffn3.a0 m c ∧ ref3_1 m' c = Cert.Ffn3.a1 m c) =>
    ⟨fun c => (Cert.Kernel3Ideal.Gen.dats (F := Ideal) m 0 c).arrAt 2 Cert.Kernel3Ideal.cfg0.N, Cert.Kernel3Ideal.Value.run_blocks m ρ,
      (θ_run Cert.Reference3Ideal.defs _ _).mono (fun r h c => ⟨(h c).1.trans ((Cert.Reference3Ideal.Read.val_main_v9_eq (ref3_0 m' c) (ref3_1 m' c)).trans (same3_out_eq m c (hag c).1 (hag c).2)), (h c).2⟩) (Cert.Reference3Ideal.Value.run m' ρ')⟩

/-! ## Call 4: the gradient of the branch's input -/

theorem frame_kernel4 : Cert.quiescent_Kernel4 := fun m ρ _ => Cert.Kernel4.Gen.frame (F := Bits) m ρ
theorem frame_ideal4 : Cert.quiescent_Kernel4Ideal := fun m ρ _ => Cert.Kernel4Ideal.Gen.frame (F := Ideal) m ρ
theorem frame_reference4 : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)
theorem preserves4 : Cert.preserves_Kernel4_Kernel4Ideal := trivial

abbrev ref4_0 (m' : (ℓ : Loc Cert.Reference4Ideal.nD Cert.Reference4Ideal.τ Cert.Reference4Ideal.sig) → Buf (Elt Ideal) ℓ) (c : Dev Cert.Reference4Ideal.nD) :=
  m' ((c.tc : Thread Cert.Reference4Ideal.nD Cert.Reference4Ideal.τ).loc Cert.Reference4Ideal.main_arg0)
abbrev ref4_1 (m' : (ℓ : Loc Cert.Reference4Ideal.nD Cert.Reference4Ideal.τ Cert.Reference4Ideal.sig) → Buf (Elt Ideal) ℓ) (c : Dev Cert.Reference4Ideal.nD) :=
  m' ((c.tc : Thread Cert.Reference4Ideal.nD Cert.Reference4Ideal.τ).loc Cert.Reference4Ideal.main_arg1)
abbrev ref4_2 (m' : (ℓ : Loc Cert.Reference4Ideal.nD Cert.Reference4Ideal.τ Cert.Reference4Ideal.sig) → Buf (Elt Ideal) ℓ) (c : Dev Cert.Reference4Ideal.nD) :=
  m' ((c.tc : Thread Cert.Reference4Ideal.nD Cert.Reference4Ideal.τ).loc Cert.Reference4Ideal.main_arg2)

theorem same4_out_eq (m : (ℓ : Loc Cert.Kernel4Ideal.nD Cert.Kernel4Ideal.τ Cert.Kernel4Ideal.sig) → Buf (Elt Ideal) ℓ) (c : Dev Cert.Kernel4Ideal.nD) {y0 y1 y2} (h0 : y0 = Cert.Ffn4.a0 m c) (h1 : y1 = Cert.Ffn4.a1 m c) (h2 : y2 = Cert.Ffn4.a2 m c) :
    Cert.Reference4Ideal.Read.val_main_v21 (F := Ideal) y0 y1 y2 = (Cert.Kernel4Ideal.Gen.dats (F := Ideal) m 0 c).arrAt 4 Cert.Kernel4Ideal.cfg0.N := by
  rw [h0, h1, h2, Cert.Ffn4.ref_eq]
  exact (Cert.Ffn4.out_eq m c).symm

theorem algebraic4 : Cert.algebraic_Kernel4Ideal_Reference4Ideal :=
  fun m ρ m' ρ' _ (hag : ∀ c, ref4_0 m' c = Cert.Ffn4.a0 m c ∧ ref4_1 m' c = Cert.Ffn4.a1 m c ∧ ref4_2 m' c = Cert.Ffn4.a2 m c) =>
    ⟨fun c => (Cert.Kernel4Ideal.Gen.dats (F := Ideal) m 0 c).arrAt 4 Cert.Kernel4Ideal.cfg0.N, Cert.Kernel4Ideal.Value.run_blocks m ρ,
      (θ_run Cert.Reference4Ideal.defs _ _).mono (fun r h c => ⟨(h c).1.trans ((Cert.Reference4Ideal.Read.val_main_v21_eq (ref4_0 m' c) (ref4_1 m' c) (ref4_2 m' c)).trans (same4_out_eq m c (hag c).1 (hag c).2.1 (hag c).2.2)), (h c).2⟩) (Cert.Reference4Ideal.Value.run m' ρ')⟩

/-! ## Call 5: the gradients behind the gate -/

theorem frame_kernel5 : Cert.quiescent_Kernel5 := fun m ρ _ => Cert.Kernel5.Gen.frame (F := Bits) m ρ
theorem frame_ideal5 : Cert.quiescent_Kernel5Ideal := fun m ρ _ => Cert.Kernel5Ideal.Gen.frame (F := Ideal) m ρ
theorem frame_reference5 : Cert.quiescent_Reference5Ideal := fun m ρ _ =>
  (θ_run Cert.Reference5Ideal.defs _ _).mono (fun r h => ⟨fun c => (h c).2.2, sem_eq_zero_of_no_sems (by decide) r.2⟩) (Cert.Reference5Ideal.Value.run m ρ)
theorem preserves5 : Cert.preserves_Kernel5_Kernel5Ideal := trivial

abbrev ref5_0 (m' : (ℓ : Loc Cert.Reference5Ideal.nD Cert.Reference5Ideal.τ Cert.Reference5Ideal.sig) → Buf (Elt Ideal) ℓ) (c : Dev Cert.Reference5Ideal.nD) :=
  m' ((c.tc : Thread Cert.Reference5Ideal.nD Cert.Reference5Ideal.τ).loc Cert.Reference5Ideal.main_arg0)
abbrev ref5_1 (m' : (ℓ : Loc Cert.Reference5Ideal.nD Cert.Reference5Ideal.τ Cert.Reference5Ideal.sig) → Buf (Elt Ideal) ℓ) (c : Dev Cert.Reference5Ideal.nD) :=
  m' ((c.tc : Thread Cert.Reference5Ideal.nD Cert.Reference5Ideal.τ).loc Cert.Reference5Ideal.main_arg1)
abbrev ref5_2 (m' : (ℓ : Loc Cert.Reference5Ideal.nD Cert.Reference5Ideal.τ Cert.Reference5Ideal.sig) → Buf (Elt Ideal) ℓ) (c : Dev Cert.Reference5Ideal.nD) :=
  m' ((c.tc : Thread Cert.Reference5Ideal.nD Cert.Reference5Ideal.τ).loc Cert.Reference5Ideal.main_arg2)
abbrev ref5_3 (m' : (ℓ : Loc Cert.Reference5Ideal.nD Cert.Reference5Ideal.τ Cert.Reference5Ideal.sig) → Buf (Elt Ideal) ℓ) (c : Dev Cert.Reference5Ideal.nD) :=
  m' ((c.tc : Thread Cert.Reference5Ideal.nD Cert.Reference5Ideal.τ).loc Cert.Reference5Ideal.main_arg3)

theorem same5_out_dg (m : (ℓ : Loc Cert.Kernel5Ideal.nD Cert.Kernel5Ideal.τ Cert.Kernel5Ideal.sig) → Buf (Elt Ideal) ℓ) (c : Dev Cert.Kernel5Ideal.nD) {y0 y1 y2 y3} (h0 : y0 = Cert.Ffn5.a0 m c) (h1 : y1 = Cert.Ffn5.a1 m c) (h2 : y2 = Cert.Ffn5.a2 m c) (h3 : y3 = Cert.Ffn5.a3 m c) :
    Cert.Reference5Ideal.Read.val_main_v20 (F := Ideal) y0 y1 y2 y3 = (Cert.Kernel5Ideal.Gen.dats (F := Ideal) m 0 c).arrAt 4 Cert.Kernel5Ideal.cfg0.N := by
  rw [h0, h1, h2, h3, Cert.Ffn5.ref_dg]
  exact (Cert.Ffn5.out_dg m c).symm

theorem same5_out_du (m : (ℓ : Loc Cert.Kernel5Ideal.nD Cert.Kernel5Ideal.τ Cert.Kernel5Ideal.sig) → Buf (Elt Ideal) ℓ) (c : Dev Cert.Kernel5Ideal.nD) {y0 y1 y2} (h0 : y0 = Cert.Ffn5.a0 m c) (h1 : y1 = Cert.Ffn5.a1 m c) (h2 : y2 = Cert.Ffn5.a2 m c) :
    Cert.Reference5Ideal.Read.val_main_v23 (F := Ideal) y0 y1 y2 = (Cert.Kernel5Ideal.Gen.dats (F := Ideal) m 0 c).arrAt 5 Cert.Kernel5Ideal.cfg0.N := by
  rw [h0, h1, h2, Cert.Ffn5.ref_du]
  exact (Cert.Ffn5.out_du m c).symm

theorem algebraic5 : Cert.algebraic_Kernel5Ideal_Reference5Ideal :=
  fun m ρ m' ρ' _ (hag : ∀ c, ref5_0 m' c = Cert.Ffn5.a0 m c ∧ ref5_1 m' c = Cert.Ffn5.a1 m c ∧ ref5_2 m' c = Cert.Ffn5.a2 m c ∧ ref5_3 m' c = Cert.Ffn5.a3 m c) =>
    ⟨fun c => (Cert.Kernel5Ideal.Gen.dats (F := Ideal) m 0 c).arrAt 4 Cert.Kernel5Ideal.cfg0.N, fun c => (Cert.Kernel5Ideal.Gen.dats (F := Ideal) m 0 c).arrAt 5 Cert.Kernel5Ideal.cfg0.N, Cert.Kernel5Ideal.Value.run_blocks m ρ,
      (θ_run Cert.Reference5Ideal.defs _ _).mono (fun r h c => ⟨(h c).1.trans ((Cert.Reference5Ideal.Read.val_main_v20_eq (ref5_0 m' c) (ref5_1 m' c) (ref5_2 m' c) (ref5_3 m' c)).trans (same5_out_dg m c (hag c).1 (hag c).2.1 (hag c).2.2.1 (hag c).2.2.2)),
        (h c).2.1.trans ((Cert.Reference5Ideal.Read.val_main_v23_eq (ref5_0 m' c) (ref5_1 m' c) (ref5_2 m' c)).trans (same5_out_du m c (hag c).1 (hag c).2.1 (hag c).2.2.1)), (h c).2.2⟩) (Cert.Reference5Ideal.Value.run m' ρ')⟩

/-! ## Call 6: the up-projection with its gate -/

theorem frame_kernel6 : Cert.quiescent_Kernel6 := fun m ρ _ => Cert.Kernel6.Gen.frame (F := Bits) m ρ
theorem frame_ideal6 : Cert.quiescent_Kernel6Ideal := fun m ρ _ => Cert.Kernel6Ideal.Gen.frame (F := Ideal) m ρ
theorem frame_reference6 : Cert.quiescent_Reference6Ideal := fun m ρ _ =>
  (θ_run Cert.Reference6Ideal.defs _ _).mono (fun r h => ⟨fun c => (h c).2.2.2, sem_eq_zero_of_no_sems (by decide) r.2⟩) (Cert.Reference6Ideal.Value.run m ρ)
theorem preserves6 : Cert.preserves_Kernel6_Kernel6Ideal := trivial

abbrev ref6_0 (m' : (ℓ : Loc Cert.Reference6Ideal.nD Cert.Reference6Ideal.τ Cert.Reference6Ideal.sig) → Buf (Elt Ideal) ℓ) (c : Dev Cert.Reference6Ideal.nD) :=
  m' ((c.tc : Thread Cert.Reference6Ideal.nD Cert.Reference6Ideal.τ).loc Cert.Reference6Ideal.main_arg0)
abbrev ref6_1 (m' : (ℓ : Loc Cert.Reference6Ideal.nD Cert.Reference6Ideal.τ Cert.Reference6Ideal.sig) → Buf (Elt Ideal) ℓ) (c : Dev Cert.Reference6Ideal.nD) :=
  m' ((c.tc : Thread Cert.Reference6Ideal.nD Cert.Reference6Ideal.τ).loc Cert.Reference6Ideal.main_arg1)

theorem same6_out_g (m : (ℓ : Loc Cert.Kernel6Ideal.nD Cert.Kernel6Ideal.τ Cert.Kernel6Ideal.sig) → Buf (Elt Ideal) ℓ) (c : Dev Cert.Kernel6Ideal.nD) {y0 y1} (h0 : y0 = Cert.Ffn6.a0 m c) (h1 : y1 = Cert.Ffn6.a1 m c) :
    Cert.Reference6Ideal.Read.val_main_v15 (F := Ideal) y0 y1 = (Cert.Kernel6Ideal.Gen.dats (F := Ideal) m 0 c).arrAt 3 Cert.Kernel6Ideal.cfg0.N := by
  rw [h0, h1, Cert.Ffn6.ref_g]
  exact (Cert.Ffn6.out_g m c).symm

theorem same6_out_u (m : (ℓ : Loc Cert.Kernel6Ideal.nD Cert.Kernel6Ideal.τ Cert.Kernel6Ideal.sig) → Buf (Elt Ideal) ℓ) (c : Dev Cert.Kernel6Ideal.nD) {y0 y1} (h0 : y0 = Cert.Ffn6.a0 m c) (h1 : y1 = Cert.Ffn6.a1 m c) :
    Cert.Reference6Ideal.Read.val_main_v18 (F := Ideal) y0 y1 = (Cert.Kernel6Ideal.Gen.dats (F := Ideal) m 0 c).arrAt 4 Cert.Kernel6Ideal.cfg0.N := by
  rw [h0, h1, Cert.Ffn6.ref_u]
  exact (Cert.Ffn6.out_u m c).symm

theorem same6_out_f (m : (ℓ : Loc Cert.Kernel6Ideal.nD Cert.Kernel6Ideal.τ Cert.Kernel6Ideal.sig) → Buf (Elt Ideal) ℓ) (c : Dev Cert.Kernel6Ideal.nD) {y0 y1} (h0 : y0 = Cert.Ffn6.a0 m c) (h1 : y1 = Cert.Ffn6.a1 m c) :
    Cert.Reference6Ideal.Read.val_main_v23 (F := Ideal) y0 y1 = (Cert.Kernel6Ideal.Gen.dats (F := Ideal) m 0 c).arrAt 5 Cert.Kernel6Ideal.cfg0.N := by
  rw [h0, h1, Cert.Ffn6.ref_f]
  exact (Cert.Ffn6.out_f m c).symm

theorem algebraic6 : Cert.algebraic_Kernel6Ideal_Reference6Ideal :=
  fun m ρ m' ρ' _ (hag : ∀ c, ref6_0 m' c = Cert.Ffn6.a0 m c ∧ ref6_1 m' c = Cert.Ffn6.a1 m c) =>
    ⟨fun c => (Cert.Kernel6Ideal.Gen.dats (F := Ideal) m 0 c).arrAt 3 Cert.Kernel6Ideal.cfg0.N, fun c => (Cert.Kernel6Ideal.Gen.dats (F := Ideal) m 0 c).arrAt 4 Cert.Kernel6Ideal.cfg0.N, fun c => (Cert.Kernel6Ideal.Gen.dats (F := Ideal) m 0 c).arrAt 5 Cert.Kernel6Ideal.cfg0.N, Cert.Kernel6Ideal.Value.run_blocks m ρ,
      (θ_run Cert.Reference6Ideal.defs _ _).mono (fun r h c => ⟨(h c).1.trans ((Cert.Reference6Ideal.Read.val_main_v15_eq (ref6_0 m' c) (ref6_1 m' c)).trans (same6_out_g m c (hag c).1 (hag c).2)),
        (h c).2.1.trans ((Cert.Reference6Ideal.Read.val_main_v18_eq (ref6_0 m' c) (ref6_1 m' c)).trans (same6_out_u m c (hag c).1 (hag c).2)),
        (h c).2.2.1.trans ((Cert.Reference6Ideal.Read.val_main_v23_eq (ref6_0 m' c) (ref6_1 m' c)).trans (same6_out_f m c (hag c).1 (hag c).2)), (h c).2.2.2⟩) (Cert.Reference6Ideal.Value.run m' ρ')⟩

/-! ## Call 7: the down-projection and the residual -/

theorem frame_kernel7 : Cert.quiescent_Kernel7 := fun m ρ _ => Cert.Kernel7.Gen.frame (F := Bits) m ρ
theorem frame_ideal7 : Cert.quiescent_Kernel7Ideal := fun m ρ _ => Cert.Kernel7Ideal.Gen.frame (F := Ideal) m ρ
theorem frame_reference7 : Cert.quiescent_Reference7Ideal := fun m ρ _ =>
  (θ_run Cert.Reference7Ideal.defs _ _).mono (fun r h => ⟨fun c => (h c).2.2, sem_eq_zero_of_no_sems (by decide) r.2⟩) (Cert.Reference7Ideal.Value.run m ρ)
theorem preserves7 : Cert.preserves_Kernel7_Kernel7Ideal := trivial

abbrev ref7_0 (m' : (ℓ : Loc Cert.Reference7Ideal.nD Cert.Reference7Ideal.τ Cert.Reference7Ideal.sig) → Buf (Elt Ideal) ℓ) (c : Dev Cert.Reference7Ideal.nD) :=
  m' ((c.tc : Thread Cert.Reference7Ideal.nD Cert.Reference7Ideal.τ).loc Cert.Reference7Ideal.main_arg0)
abbrev ref7_1 (m' : (ℓ : Loc Cert.Reference7Ideal.nD Cert.Reference7Ideal.τ Cert.Reference7Ideal.sig) → Buf (Elt Ideal) ℓ) (c : Dev Cert.Reference7Ideal.nD) :=
  m' ((c.tc : Thread Cert.Reference7Ideal.nD Cert.Reference7Ideal.τ).loc Cert.Reference7Ideal.main_arg1)
abbrev ref7_2 (m' : (ℓ : Loc Cert.Reference7Ideal.nD Cert.Reference7Ideal.τ Cert.Reference7Ideal.sig) → Buf (Elt Ideal) ℓ) (c : Dev Cert.Reference7Ideal.nD) :=
  m' ((c.tc : Thread Cert.Reference7Ideal.nD Cert.Reference7Ideal.τ).loc Cert.Reference7Ideal.main_arg2)
abbrev ref7_3 (m' : (ℓ : Loc Cert.Reference7Ideal.nD Cert.Reference7Ideal.τ Cert.Reference7Ideal.sig) → Buf (Elt Ideal) ℓ) (c : Dev Cert.Reference7Ideal.nD) :=
  m' ((c.tc : Thread Cert.Reference7Ideal.nD Cert.Reference7Ideal.τ).loc Cert.Reference7Ideal.main_arg3)

theorem same7_out_h (m : (ℓ : Loc Cert.Kernel7Ideal.nD Cert.Kernel7Ideal.τ Cert.Kernel7Ideal.sig) → Buf (Elt Ideal) ℓ) (c : Dev Cert.Kernel7Ideal.nD) {y0 y1 y2 y3} (h0 : y0 = Cert.Ffn7.a0 m c) (h1 : y1 = Cert.Ffn7.a1 m c) (h2 : y2 = Cert.Ffn7.a2 m c) (h3 : y3 = Cert.Ffn7.a3 m c) :
    Cert.Reference7Ideal.Read.val_main_v12 (F := Ideal) y0 y1 y2 y3 = (Cert.Kernel7Ideal.Gen.dats (F := Ideal) m 0 c).arrAt 4 Cert.Kernel7Ideal.cfg0.N := by
  rw [h0, h1, h2, h3, Cert.Ffn7.ref_h]
  exact (Cert.Ffn7.out_h m c).symm

theorem same7_out_o (m : (ℓ : Loc Cert.Kernel7Ideal.nD Cert.Kernel7Ideal.τ Cert.Kernel7Ideal.sig) → Buf (Elt Ideal) ℓ) (c : Dev Cert.Kernel7Ideal.nD) {y0 y1} (h0 : y0 = Cert.Ffn7.a0 m c) (h1 : y1 = Cert.Ffn7.a1 m c) :
    Cert.Reference7Ideal.Read.val_main_v13 (F := Ideal) y0 y1 = (Cert.Kernel7Ideal.Gen.dats (F := Ideal) m 0 c).arrAt 5 Cert.Kernel7Ideal.cfg0.N := by
  rw [h0, h1, Cert.Ffn7.ref_o]
  exact (Cert.Ffn7.out_o m c).symm

theorem algebraic7 : Cert.algebraic_Kernel7Ideal_Reference7Ideal :=
  fun m ρ m' ρ' _ (hag : ∀ c, ref7_0 m' c = Cert.Ffn7.a0 m c ∧ ref7_1 m' c = Cert.Ffn7.a1 m c ∧ ref7_2 m' c = Cert.Ffn7.a2 m c ∧ ref7_3 m' c = Cert.Ffn7.a3 m c) =>
    ⟨fun c => (Cert.Kernel7Ideal.Gen.dats (F := Ideal) m 0 c).arrAt 4 Cert.Kernel7Ideal.cfg0.N, fun c => (Cert.Kernel7Ideal.Gen.dats (F := Ideal) m 0 c).arrAt 5 Cert.Kernel7Ideal.cfg0.N, Cert.Kernel7Ideal.Value.run_blocks m ρ,
      (θ_run Cert.Reference7Ideal.defs _ _).mono (fun r h c => ⟨(h c).1.trans ((Cert.Reference7Ideal.Read.val_main_v12_eq (ref7_0 m' c) (ref7_1 m' c) (ref7_2 m' c) (ref7_3 m' c)).trans (same7_out_h m c (hag c).1 (hag c).2.1 (hag c).2.2.1 (hag c).2.2.2)),
        (h c).2.1.trans ((Cert.Reference7Ideal.Read.val_main_v13_eq (ref7_0 m' c) (ref7_1 m' c)).trans (same7_out_o m c (hag c).1 (hag c).2.1)), (h c).2.2⟩) (Cert.Reference7Ideal.Value.run m' ρ')⟩

/-! ## Call 8: the gradient of the branch's input, of the second feed-forward -/

theorem frame_kernel8 : Cert.quiescent_Kernel8 := fun m ρ _ => Cert.Kernel8.Gen.frame (F := Bits) m ρ
theorem frame_ideal8 : Cert.quiescent_Kernel8Ideal := fun m ρ _ => Cert.Kernel8Ideal.Gen.frame (F := Ideal) m ρ
theorem frame_reference8 : Cert.quiescent_Reference8Ideal := fun m ρ _ =>
  (θ_run Cert.Reference8Ideal.defs _ _).mono (fun r h => ⟨fun c => (h c).2, sem_eq_zero_of_no_sems (by decide) r.2⟩) (Cert.Reference8Ideal.Value.run m ρ)
theorem preserves8 : Cert.preserves_Kernel8_Kernel8Ideal := trivial

abbrev ref8_0 (m' : (ℓ : Loc Cert.Reference8Ideal.nD Cert.Reference8Ideal.τ Cert.Reference8Ideal.sig) → Buf (Elt Ideal) ℓ) (c : Dev Cert.Reference8Ideal.nD) :=
  m' ((c.tc : Thread Cert.Reference8Ideal.nD Cert.Reference8Ideal.τ).loc Cert.Reference8Ideal.main_arg0)
abbrev ref8_1 (m' : (ℓ : Loc Cert.Reference8Ideal.nD Cert.Reference8Ideal.τ Cert.Reference8Ideal.sig) → Buf (Elt Ideal) ℓ) (c : Dev Cert.Reference8Ideal.nD) :=
  m' ((c.tc : Thread Cert.Reference8Ideal.nD Cert.Reference8Ideal.τ).loc Cert.Reference8Ideal.main_arg1)
abbrev ref8_2 (m' : (ℓ : Loc Cert.Reference8Ideal.nD Cert.Reference8Ideal.τ Cert.Reference8Ideal.sig) → Buf (Elt Ideal) ℓ) (c : Dev Cert.Reference8Ideal.nD) :=
  m' ((c.tc : Thread Cert.Reference8Ideal.nD Cert.Reference8Ideal.τ).loc Cert.Reference8Ideal.main_arg2)

theorem same8_out_eq (m : (ℓ : Loc Cert.Kernel8Ideal.nD Cert.Kernel8Ideal.τ Cert.Kernel8Ideal.sig) → Buf (Elt Ideal) ℓ) (c : Dev Cert.Kernel8Ideal.nD) {y0 y1 y2} (h0 : y0 = Cert.Ffn8.a0 m c) (h1 : y1 = Cert.Ffn8.a1 m c) (h2 : y2 = Cert.Ffn8.a2w m c) :
    Cert.Reference8Ideal.Read.val_main_v21 (F := Ideal) y0 y1 y2 = (Cert.Kernel8Ideal.Gen.dats (F := Ideal) m 0 c).arrAt 4 Cert.Kernel8Ideal.cfg0.N := by
  rw [h0, h1, h2, Cert.Ffn8.ref_eq]
  exact (Cert.Ffn8.out_eq m c).symm

theorem algebraic8 : Cert.algebraic_Kernel8Ideal_Reference8Ideal :=
  fun m ρ m' ρ' _ (hag : ∀ c, ref8_0 m' c = Cert.Ffn8.a0 m c ∧ ref8_1 m' c = Cert.Ffn8.a1 m c ∧ ref8_2 m' c = Cert.Ffn8.a2w m c) =>
    ⟨fun c => (Cert.Kernel8Ideal.Gen.dats (F := Ideal) m 0 c).arrAt 4 Cert.Kernel8Ideal.cfg0.N, Cert.Kernel8Ideal.Value.run_blocks m ρ,
      (θ_run Cert.Reference8Ideal.defs _ _).mono (fun r h c => ⟨(h c).1.trans ((Cert.Reference8Ideal.Read.val_main_v21_eq (ref8_0 m' c) (ref8_1 m' c) (ref8_2 m' c)).trans (same8_out_eq m c (hag c).1 (hag c).2.1 (hag c).2.2)), (h c).2⟩) (Cert.Reference8Ideal.Value.run m' ρ')⟩

/-! ## Call 9: the gradients behind the gate, of the second feed-forward -/

theorem frame_kernel9 : Cert.quiescent_Kernel9 := fun m ρ _ => Cert.Kernel9.Gen.frame (F := Bits) m ρ
theorem frame_ideal9 : Cert.quiescent_Kernel9Ideal := fun m ρ _ => Cert.Kernel9Ideal.Gen.frame (F := Ideal) m ρ
theorem frame_reference9 : Cert.quiescent_Reference9Ideal := fun m ρ _ =>
  (θ_run Cert.Reference9Ideal.defs _ _).mono (fun r h => ⟨fun c => (h c).2.2, sem_eq_zero_of_no_sems (by decide) r.2⟩) (Cert.Reference9Ideal.Value.run m ρ)
theorem preserves9 : Cert.preserves_Kernel9_Kernel9Ideal := trivial

abbrev ref9_0 (m' : (ℓ : Loc Cert.Reference9Ideal.nD Cert.Reference9Ideal.τ Cert.Reference9Ideal.sig) → Buf (Elt Ideal) ℓ) (c : Dev Cert.Reference9Ideal.nD) :=
  m' ((c.tc : Thread Cert.Reference9Ideal.nD Cert.Reference9Ideal.τ).loc Cert.Reference9Ideal.main_arg0)
abbrev ref9_1 (m' : (ℓ : Loc Cert.Reference9Ideal.nD Cert.Reference9Ideal.τ Cert.Reference9Ideal.sig) → Buf (Elt Ideal) ℓ) (c : Dev Cert.Reference9Ideal.nD) :=
  m' ((c.tc : Thread Cert.Reference9Ideal.nD Cert.Reference9Ideal.τ).loc Cert.Reference9Ideal.main_arg1)
abbrev ref9_2 (m' : (ℓ : Loc Cert.Reference9Ideal.nD Cert.Reference9Ideal.τ Cert.Reference9Ideal.sig) → Buf (Elt Ideal) ℓ) (c : Dev Cert.Reference9Ideal.nD) :=
  m' ((c.tc : Thread Cert.Reference9Ideal.nD Cert.Reference9Ideal.τ).loc Cert.Reference9Ideal.main_arg2)
abbrev ref9_3 (m' : (ℓ : Loc Cert.Reference9Ideal.nD Cert.Reference9Ideal.τ Cert.Reference9Ideal.sig) → Buf (Elt Ideal) ℓ) (c : Dev Cert.Reference9Ideal.nD) :=
  m' ((c.tc : Thread Cert.Reference9Ideal.nD Cert.Reference9Ideal.τ).loc Cert.Reference9Ideal.main_arg3)

theorem same9_out_dg (m : (ℓ : Loc Cert.Kernel9Ideal.nD Cert.Kernel9Ideal.τ Cert.Kernel9Ideal.sig) → Buf (Elt Ideal) ℓ) (c : Dev Cert.Kernel9Ideal.nD) {y0 y1 y2 y3} (h0 : y0 = Cert.Ffn9.a0 m c) (h1 : y1 = Cert.Ffn9.a1w m c) (h2 : y2 = Cert.Ffn9.a2 m c) (h3 : y3 = Cert.Ffn9.a3 m c) :
    Cert.Reference9Ideal.Read.val_main_v20 (F := Ideal) y0 y1 y2 y3 = (Cert.Kernel9Ideal.Gen.dats (F := Ideal) m 0 c).arrAt 4 Cert.Kernel9Ideal.cfg0.N := by
  rw [h0, h1, h2, h3, Cert.Ffn9.ref_dg]
  exact (Cert.Ffn9.out_dg m c).symm

theorem same9_out_du (m : (ℓ : Loc Cert.Kernel9Ideal.nD Cert.Kernel9Ideal.τ Cert.Kernel9Ideal.sig) → Buf (Elt Ideal) ℓ) (c : Dev Cert.Kernel9Ideal.nD) {y0 y1 y2} (h0 : y0 = Cert.Ffn9.a0 m c) (h1 : y1 = Cert.Ffn9.a1w m c) (h2 : y2 = Cert.Ffn9.a2 m c) :
    Cert.Reference9Ideal.Read.val_main_v23 (F := Ideal) y0 y1 y2 = (Cert.Kernel9Ideal.Gen.dats (F := Ideal) m 0 c).arrAt 5 Cert.Kernel9Ideal.cfg0.N := by
  rw [h0, h1, h2, Cert.Ffn9.ref_du]
  exact (Cert.Ffn9.out_du m c).symm

theorem algebraic9 : Cert.algebraic_Kernel9Ideal_Reference9Ideal :=
  fun m ρ m' ρ' _ (hag : ∀ c, ref9_0 m' c = Cert.Ffn9.a0 m c ∧ ref9_1 m' c = Cert.Ffn9.a1w m c ∧ ref9_2 m' c = Cert.Ffn9.a2 m c ∧ ref9_3 m' c = Cert.Ffn9.a3 m c) =>
    ⟨fun c => (Cert.Kernel9Ideal.Gen.dats (F := Ideal) m 0 c).arrAt 4 Cert.Kernel9Ideal.cfg0.N, fun c => (Cert.Kernel9Ideal.Gen.dats (F := Ideal) m 0 c).arrAt 5 Cert.Kernel9Ideal.cfg0.N, Cert.Kernel9Ideal.Value.run_blocks m ρ,
      (θ_run Cert.Reference9Ideal.defs _ _).mono (fun r h c => ⟨(h c).1.trans ((Cert.Reference9Ideal.Read.val_main_v20_eq (ref9_0 m' c) (ref9_1 m' c) (ref9_2 m' c) (ref9_3 m' c)).trans (same9_out_dg m c (hag c).1 (hag c).2.1 (hag c).2.2.1 (hag c).2.2.2)),
        (h c).2.1.trans ((Cert.Reference9Ideal.Read.val_main_v23_eq (ref9_0 m' c) (ref9_1 m' c) (ref9_2 m' c)).trans (same9_out_du m c (hag c).1 (hag c).2.1 (hag c).2.2.1)), (h c).2.2⟩) (Cert.Reference9Ideal.Value.run m' ρ')⟩

/-! ## Call 10: the up-projection with its gate, of the second feed-forward -/

theorem frame_kernel10 : Cert.quiescent_Kernel10 := fun m ρ _ => Cert.Kernel10.Gen.frame (F := Bits) m ρ
theorem frame_ideal10 : Cert.quiescent_Kernel10Ideal := fun m ρ _ => Cert.Kernel10Ideal.Gen.frame (F := Ideal) m ρ
theorem frame_reference10 : Cert.quiescent_Reference10Ideal := fun m ρ _ =>
  (θ_run Cert.Reference10Ideal.defs _ _).mono (fun r h => ⟨fun c => (h c).2.2.2, sem_eq_zero_of_no_sems (by decide) r.2⟩) (Cert.Reference10Ideal.Value.run m ρ)
theorem preserves10 : Cert.preserves_Kernel10_Kernel10Ideal := trivial

abbrev ref10_0 (m' : (ℓ : Loc Cert.Reference10Ideal.nD Cert.Reference10Ideal.τ Cert.Reference10Ideal.sig) → Buf (Elt Ideal) ℓ) (c : Dev Cert.Reference10Ideal.nD) :=
  m' ((c.tc : Thread Cert.Reference10Ideal.nD Cert.Reference10Ideal.τ).loc Cert.Reference10Ideal.main_arg0)
abbrev ref10_1 (m' : (ℓ : Loc Cert.Reference10Ideal.nD Cert.Reference10Ideal.τ Cert.Reference10Ideal.sig) → Buf (Elt Ideal) ℓ) (c : Dev Cert.Reference10Ideal.nD) :=
  m' ((c.tc : Thread Cert.Reference10Ideal.nD Cert.Reference10Ideal.τ).loc Cert.Reference10Ideal.main_arg1)

theorem same10_out_g (m : (ℓ : Loc Cert.Kernel10Ideal.nD Cert.Kernel10Ideal.τ Cert.Kernel10Ideal.sig) → Buf (Elt Ideal) ℓ) (c : Dev Cert.Kernel10Ideal.nD) {y0 y1} (h0 : y0 = Cert.Ffn10.a0 m c) (h1 : y1 = Cert.Ffn10.a1w m c) :
    Cert.Reference10Ideal.Read.val_main_v15 (F := Ideal) y0 y1 = (Cert.Kernel10Ideal.Gen.dats (F := Ideal) m 0 c).arrAt 3 Cert.Kernel10Ideal.cfg0.N := by
  rw [h0, h1, Cert.Ffn10.ref_g]
  exact (Cert.Ffn10.out_g m c).symm

theorem same10_out_u (m : (ℓ : Loc Cert.Kernel10Ideal.nD Cert.Kernel10Ideal.τ Cert.Kernel10Ideal.sig) → Buf (Elt Ideal) ℓ) (c : Dev Cert.Kernel10Ideal.nD) {y0 y1} (h0 : y0 = Cert.Ffn10.a0 m c) (h1 : y1 = Cert.Ffn10.a1w m c) :
    Cert.Reference10Ideal.Read.val_main_v18 (F := Ideal) y0 y1 = (Cert.Kernel10Ideal.Gen.dats (F := Ideal) m 0 c).arrAt 4 Cert.Kernel10Ideal.cfg0.N := by
  rw [h0, h1, Cert.Ffn10.ref_u]
  exact (Cert.Ffn10.out_u m c).symm

theorem same10_out_f (m : (ℓ : Loc Cert.Kernel10Ideal.nD Cert.Kernel10Ideal.τ Cert.Kernel10Ideal.sig) → Buf (Elt Ideal) ℓ) (c : Dev Cert.Kernel10Ideal.nD) {y0 y1} (h0 : y0 = Cert.Ffn10.a0 m c) (h1 : y1 = Cert.Ffn10.a1w m c) :
    Cert.Reference10Ideal.Read.val_main_v23 (F := Ideal) y0 y1 = (Cert.Kernel10Ideal.Gen.dats (F := Ideal) m 0 c).arrAt 5 Cert.Kernel10Ideal.cfg0.N := by
  rw [h0, h1, Cert.Ffn10.ref_f]
  exact (Cert.Ffn10.out_f m c).symm

theorem algebraic10 : Cert.algebraic_Kernel10Ideal_Reference10Ideal :=
  fun m ρ m' ρ' _ (hag : ∀ c, ref10_0 m' c = Cert.Ffn10.a0 m c ∧ ref10_1 m' c = Cert.Ffn10.a1w m c) =>
    ⟨fun c => (Cert.Kernel10Ideal.Gen.dats (F := Ideal) m 0 c).arrAt 3 Cert.Kernel10Ideal.cfg0.N, fun c => (Cert.Kernel10Ideal.Gen.dats (F := Ideal) m 0 c).arrAt 4 Cert.Kernel10Ideal.cfg0.N, fun c => (Cert.Kernel10Ideal.Gen.dats (F := Ideal) m 0 c).arrAt 5 Cert.Kernel10Ideal.cfg0.N, Cert.Kernel10Ideal.Value.run_blocks m ρ,
      (θ_run Cert.Reference10Ideal.defs _ _).mono (fun r h c => ⟨(h c).1.trans ((Cert.Reference10Ideal.Read.val_main_v15_eq (ref10_0 m' c) (ref10_1 m' c)).trans (same10_out_g m c (hag c).1 (hag c).2)),
        (h c).2.1.trans ((Cert.Reference10Ideal.Read.val_main_v18_eq (ref10_0 m' c) (ref10_1 m' c)).trans (same10_out_u m c (hag c).1 (hag c).2)),
        (h c).2.2.1.trans ((Cert.Reference10Ideal.Read.val_main_v23_eq (ref10_0 m' c) (ref10_1 m' c)).trans (same10_out_f m c (hag c).1 (hag c).2)), (h c).2.2.2⟩) (Cert.Reference10Ideal.Value.run m' ρ')⟩

/-! ## Call 11: the down-projection and the residual, of the second feed-forward -/

theorem frame_kernel11 : Cert.quiescent_Kernel11 := fun m ρ _ => Cert.Kernel11.Gen.frame (F := Bits) m ρ
theorem frame_ideal11 : Cert.quiescent_Kernel11Ideal := fun m ρ _ => Cert.Kernel11Ideal.Gen.frame (F := Ideal) m ρ
theorem frame_reference11 : Cert.quiescent_Reference11Ideal := fun m ρ _ =>
  (θ_run Cert.Reference11Ideal.defs _ _).mono (fun r h => ⟨fun c => (h c).2.2, sem_eq_zero_of_no_sems (by decide) r.2⟩) (Cert.Reference11Ideal.Value.run m ρ)
theorem preserves11 : Cert.preserves_Kernel11_Kernel11Ideal := trivial

abbrev ref11_0 (m' : (ℓ : Loc Cert.Reference11Ideal.nD Cert.Reference11Ideal.τ Cert.Reference11Ideal.sig) → Buf (Elt Ideal) ℓ) (c : Dev Cert.Reference11Ideal.nD) :=
  m' ((c.tc : Thread Cert.Reference11Ideal.nD Cert.Reference11Ideal.τ).loc Cert.Reference11Ideal.main_arg0)
abbrev ref11_1 (m' : (ℓ : Loc Cert.Reference11Ideal.nD Cert.Reference11Ideal.τ Cert.Reference11Ideal.sig) → Buf (Elt Ideal) ℓ) (c : Dev Cert.Reference11Ideal.nD) :=
  m' ((c.tc : Thread Cert.Reference11Ideal.nD Cert.Reference11Ideal.τ).loc Cert.Reference11Ideal.main_arg1)
abbrev ref11_2 (m' : (ℓ : Loc Cert.Reference11Ideal.nD Cert.Reference11Ideal.τ Cert.Reference11Ideal.sig) → Buf (Elt Ideal) ℓ) (c : Dev Cert.Reference11Ideal.nD) :=
  m' ((c.tc : Thread Cert.Reference11Ideal.nD Cert.Reference11Ideal.τ).loc Cert.Reference11Ideal.main_arg2)
abbrev ref11_3 (m' : (ℓ : Loc Cert.Reference11Ideal.nD Cert.Reference11Ideal.τ Cert.Reference11Ideal.sig) → Buf (Elt Ideal) ℓ) (c : Dev Cert.Reference11Ideal.nD) :=
  m' ((c.tc : Thread Cert.Reference11Ideal.nD Cert.Reference11Ideal.τ).loc Cert.Reference11Ideal.main_arg3)

theorem same11_out_h (m : (ℓ : Loc Cert.Kernel11Ideal.nD Cert.Kernel11Ideal.τ Cert.Kernel11Ideal.sig) → Buf (Elt Ideal) ℓ) (c : Dev Cert.Kernel11Ideal.nD) {y0 y1 y2 y3} (h0 : y0 = Cert.Ffn11.a0 m c) (h1 : y1 = Cert.Ffn11.a1w m c) (h2 : y2 = Cert.Ffn11.a2 m c) (h3 : y3 = Cert.Ffn11.a3 m c) :
    Cert.Reference11Ideal.Read.val_main_v12 (F := Ideal) y0 y1 y2 y3 = (Cert.Kernel11Ideal.Gen.dats (F := Ideal) m 0 c).arrAt 4 Cert.Kernel11Ideal.cfg0.N := by
  rw [h0, h1, h2, h3, Cert.Ffn11.ref_h]
  exact (Cert.Ffn11.out_h m c).symm

theorem same11_out_o (m : (ℓ : Loc Cert.Kernel11Ideal.nD Cert.Kernel11Ideal.τ Cert.Kernel11Ideal.sig) → Buf (Elt Ideal) ℓ) (c : Dev Cert.Kernel11Ideal.nD) {y0 y1} (h0 : y0 = Cert.Ffn11.a0 m c) (h1 : y1 = Cert.Ffn11.a1w m c) :
    Cert.Reference11Ideal.Read.val_main_v13 (F := Ideal) y0 y1 = (Cert.Kernel11Ideal.Gen.dats (F := Ideal) m 0 c).arrAt 5 Cert.Kernel11Ideal.cfg0.N := by
  rw [h0, h1, Cert.Ffn11.ref_o]
  exact (Cert.Ffn11.out_o m c).symm

theorem algebraic11 : Cert.algebraic_Kernel11Ideal_Reference11Ideal :=
  fun m ρ m' ρ' _ (hag : ∀ c, ref11_0 m' c = Cert.Ffn11.a0 m c ∧ ref11_1 m' c = Cert.Ffn11.a1w m c ∧ ref11_2 m' c = Cert.Ffn11.a2 m c ∧ ref11_3 m' c = Cert.Ffn11.a3 m c) =>
    ⟨fun c => (Cert.Kernel11Ideal.Gen.dats (F := Ideal) m 0 c).arrAt 4 Cert.Kernel11Ideal.cfg0.N, fun c => (Cert.Kernel11Ideal.Gen.dats (F := Ideal) m 0 c).arrAt 5 Cert.Kernel11Ideal.cfg0.N, Cert.Kernel11Ideal.Value.run_blocks m ρ,
      (θ_run Cert.Reference11Ideal.defs _ _).mono (fun r h c => ⟨(h c).1.trans ((Cert.Reference11Ideal.Read.val_main_v12_eq (ref11_0 m' c) (ref11_1 m' c) (ref11_2 m' c) (ref11_3 m' c)).trans (same11_out_h m c (hag c).1 (hag c).2.1 (hag c).2.2.1 (hag c).2.2.2)),
        (h c).2.1.trans ((Cert.Reference11Ideal.Read.val_main_v13_eq (ref11_0 m' c) (ref11_1 m' c)).trans (same11_out_o m c (hag c).1 (hag c).2.1)), (h c).2.2⟩) (Cert.Reference11Ideal.Value.run m' ρ')⟩

end Cert.Proof

end
-- ==== Proof.Proj.Products.lean ====
/- The three products of a projection, as sums: of the input and the weight, and the two of the backward pass. -/
module

public import Idealize.ShloMosaic.Lib.MatmulPlain
public import Idealize.ShloMosaic.Lib.Pipeline.ValueKit

@[expose] public section

noncomputable section

namespace Cert.Proj

open Idealize.ShloMosaic

variable {M K N : ℕ} {φ₁ φ₂ φ : FTy}

/-- Rows of the first against columns of the second. -/
def rowCol (x : FVec Ideal ⟨2, ![M, K]⟩ .bf16) (y : FVec Ideal ⟨2, ![K, N]⟩ .bf16) : FVec Ideal ⟨2, ![M, N]⟩ φ :=
  fun i => ∑ k : Fin K, x (ix2 (i 0) k) * y (ix2 k (i 1))

/-- Columns of the first against columns of the second. -/
def colCol (x : FVec Ideal ⟨2, ![K, M]⟩ .bf16) (y : FVec Ideal ⟨2, ![K, N]⟩ .bf16) : FVec Ideal ⟨2, ![M, N]⟩ φ :=
  fun i => ∑ k : Fin K, x (ix2 k (i 0)) * y (ix2 k (i 1))

/-- Rows of the first against rows of the second. -/
def rowRow (x : FVec Ideal ⟨2, ![M, K]⟩ .bf16) (y : FVec Ideal ⟨2, ![N, K]⟩ .bf16) : FVec Ideal ⟨2, ![M, N]⟩ φ :=
  fun i => ∑ k : Fin K, x (ix2 (i 0) k) * y (ix2 (i 1) k)

/-- Rows of the first against rows of the second, beside what is there already. -/
def rowRowAdd (x : FVec Ideal ⟨2, ![M, K]⟩ .bf16) (y : FVec Ideal ⟨2, ![N, K]⟩ .bf16) (z : FVec Ideal ⟨2, ![M, N]⟩ .f32) : FVec Ideal ⟨2, ![M, N]⟩ .f32 :=
  fun i => (∑ k : Fin K, x (ix2 (i 0) k) * y (ix2 (i 1) k)) + z i

/-- An index of a matrix from its two coordinates. -/
theorem eta2 (i : (⟨2, ![M, N]⟩ : Shape).Idx) : i = ix2 (i 0) (i 1) := by
  funext a
  match a with
  | ⟨0, _⟩ => rfl
  | ⟨1, _⟩ => rfl

/-- A product that contracts one axis, added to zeros, as a sum over that axis. -/
theorem mm_sum {sl sr so : Shape} (d : DotDims sl sr so) (hr : d.contr.rank = 1) (hs : d.contr.size ⟨0, by omega⟩ = K)
    (x : FVec Ideal sl φ₁) (y : FVec Ideal sr φ₂) (i : so.Idx) (L : Fin K → sl.Idx) (R : Fin K → sr.Idx)
    (hl : ∀ k, d.lhsIdx i k = L ((k ⟨0, by omega⟩).cast hs)) (hR : ∀ k, d.rhsIdx i k = R ((k ⟨0, by omega⟩).cast hs)) :
    matmul d none x y (constant so .f32 0x00000000#32) i = ∑ k : Fin K, x (L k) * y (R k) := by
  show FloatOps.matmul _ _ _ _ (constant so .f32 0x00000000#32) i = _
  rw [Ideal.matmul_constant_zero_apply, ← Equiv.sum_comp (ValueIdx.contrEquiv1 d K hr hs).symm]
  refine Finset.sum_congr rfl fun k _ => ?_
  have hk : (((ValueIdx.contrEquiv1 d K hr hs).symm k) ⟨0, by omega⟩).cast hs = k := (ValueIdx.contrEquiv1 d K hr hs).apply_symm_apply k
  rw [hl, hR, hk]

theorem mm_rowCol (x : FVec Ideal ⟨2, ![M, K]⟩ φ₁) (y : FVec Ideal ⟨2, ![K, N]⟩ φ₂) (i : (⟨2, ![M, N]⟩ : Shape).Idx) :
    matmul (DotDims.plain M K N) none x y (constant ⟨2, ![M, N]⟩ .f32 0x00000000#32) i = ∑ k : Fin K, x (ix2 (i 0) k) * y (ix2 k (i 1)) :=
  mm_sum (DotDims.plain M K N) rfl rfl x y i (fun k => ix2 (i 0) k) (fun k => ix2 k (i 1)) (fun k => eta2 _) (fun k => eta2 _)

theorem mm_rowRow (x : FVec Ideal ⟨2, ![M, K]⟩ φ₁) (y : FVec Ideal ⟨2, ![N, K]⟩ φ₂) (i : (⟨2, ![M, N]⟩ : Shape).Idx) :
    matmul (DotDims.transposedRhs M K N) none x y (constant ⟨2, ![M, N]⟩ .f32 0x00000000#32) i = ∑ k : Fin K, x (ix2 (i 0) k) * y (ix2 (i 1) k) :=
  mm_sum (DotDims.transposedRhs M K N) rfl rfl x y i (fun k => ix2 (i 0) k) (fun k => ix2 (i 1) k) (fun k => eta2 _) (fun k => eta2 _)

variable {m n : ℕ} {x : FVec Ideal ⟨2, ![M, K]⟩ .bf16} {x' : FVec Ideal ⟨2, ![K, M]⟩ .bf16} {y : FVec Ideal ⟨2, ![K, N]⟩ .bf16} {y' : FVec Ideal ⟨2, ![N, K]⟩ .bf16}
variable {z : FVec Ideal ⟨2, ![M, N]⟩ .f32} {b : FVec Ideal ⟨2, ![m, n]⟩ .f32} {j : (⟨2, ![m, n]⟩ : Shape).Idx} {i : (⟨2, ![M, N]⟩ : Shape).Idx}

/-! ## A block of a product

An element of the product of two blocks is the whole product's, if the blocks' lines there are the whole arrays' lines. -/

theorem rowCol_blk {p : FVec Ideal ⟨2, ![m, K]⟩ .bf16} {q : FVec Ideal ⟨2, ![K, n]⟩ .bf16}
    (hp : ∀ k, p (ix2 (j 0) k) = x (ix2 (i 0) k)) (hq : ∀ k, q (ix2 k (j 1)) = y (ix2 k (i 1))) :
    matmul (DotDims.plain m K n) none p q (constant ⟨2, ![m, n]⟩ .f32 0x00000000#32) j = rowCol (φ := φ) x y i :=
  (mm_rowCol p q j).trans (Finset.sum_congr rfl fun k _ => congrArg₂ (· * ·) (hp k) (hq k))

theorem colCol_blk {p : FVec Ideal ⟨2, ![K, m]⟩ .bf16} {q : FVec Ideal ⟨2, ![K, n]⟩ .bf16} (d : DotDims ⟨2, ![K, m]⟩ ⟨2, ![K, n]⟩ ⟨2, ![m, n]⟩)
    (hr : d.contr.rank = 1) (hs : d.contr.size ⟨0, by omega⟩ = K)
    (hl : ∀ k, d.lhsIdx j k = ix2 ((k ⟨0, by omega⟩).cast hs) (j 0)) (hR : ∀ k, d.rhsIdx j k = ix2 ((k ⟨0, by omega⟩).cast hs) (j 1))
    (hp : ∀ k, p (ix2 k (j 0)) = x' (ix2 k (i 0))) (hq : ∀ k, q (ix2 k (j 1)) = y (ix2 k (i 1))) :
    matmul d none p q (constant ⟨2, ![m, n]⟩ .f32 0x00000000#32) j = colCol (φ := φ) x' y i :=
  (mm_sum d hr hs p q j (fun k => ix2 k (j 0)) (fun k => ix2 k (j 1)) hl hR).trans (Finset.sum_congr rfl fun k _ => congrArg₂ (· * ·) (hp k) (hq k))

theorem rowRow_blk {p : FVec Ideal ⟨2, ![m, K]⟩ .bf16} {q : FVec Ideal ⟨2, ![n, K]⟩ .bf16}
    (hp : ∀ k, p (ix2 (j 0) k) = x (ix2 (i 0) k)) (hq : ∀ k, q (ix2 (j 1) k) = y' (ix2 (i 1) k)) :
    matmul (DotDims.transposedRhs m K n) none p q (constant ⟨2, ![m, n]⟩ .f32 0x00000000#32) j = rowRow (φ := φ) x y' i :=
  (mm_rowRow p q j).trans (Finset.sum_congr rfl fun k _ => congrArg₂ (· * ·) (hp k) (hq k))

theorem rowRowAdd_blk {p : FVec Ideal ⟨2, ![m, K]⟩ .bf16} {q : FVec Ideal ⟨2, ![n, K]⟩ .bf16}
    (hp : ∀ k, p (ix2 (j 0) k) = x (ix2 (i 0) k)) (hq : ∀ k, q (ix2 (j 1) k) = y' (ix2 (i 1) k)) (hb : b j = z i) :
    addf (matmul (DotDims.transposedRhs m K n) none p q (constant ⟨2, ![m, n]⟩ .f32 0x00000000#32)) b j = rowRowAdd x y' z i :=
  congrArg₂ (· + ·) (rowRow_blk (φ := .f32) hp hq) hb

/-! ## An array whose elements are such sums

The references' products, read element by element. -/

theorem rowCol_ref {f : FVec Ideal ⟨2, ![M, N]⟩ φ} {L : (⟨2, ![M, N]⟩ : Shape).Idx → Fin K → (⟨2, ![M, K]⟩ : Shape).Idx} {R : (⟨2, ![M, N]⟩ : Shape).Idx → Fin K → (⟨2, ![K, N]⟩ : Shape).Idx}
    (h : ∀ i, f i = ∑ k, x (L i k) * y (R i k)) (hL : ∀ i k, L i k = ix2 (i 0) k) (hR : ∀ i k, R i k = ix2 k (i 1)) : f = rowCol x y :=
  funext fun i => (h i).trans (Finset.sum_congr rfl fun k _ => congrArg₂ (· * ·) (congrArg x (hL i k)) (congrArg y (hR i k)))

theorem rowRow_ref {f : FVec Ideal ⟨2, ![M, N]⟩ φ} {L : (⟨2, ![M, N]⟩ : Shape).Idx → Fin K → (⟨2, ![M, K]⟩ : Shape).Idx} {R : (⟨2, ![M, N]⟩ : Shape).Idx → Fin K → (⟨2, ![N, K]⟩ : Shape).Idx}
    (h : ∀ i, f i = ∑ k, x (L i k) * y' (R i k)) (hL : ∀ i k, L i k = ix2 (i 0) k) (hR : ∀ i k, R i k = ix2 (i 1) k) : f = rowRow x y' :=
  funext fun i => (h i).trans (Finset.sum_congr rfl fun k _ => congrArg₂ (· * ·) (congrArg x (hL i k)) (congrArg y' (hR i k)))

/-- The reference's product is the transposed one, with the factors in the other order. -/
theorem colCol_ref {f : FVec Ideal ⟨2, ![M, N]⟩ φ} {L : (⟨2, ![M, N]⟩ : Shape).Idx → Fin K → (⟨2, ![K, N]⟩ : Shape).Idx} {R : (⟨2, ![M, N]⟩ : Shape).Idx → Fin K → (⟨2, ![K, M]⟩ : Shape).Idx}
    (h : ∀ i, f i = ∑ k, y (L i k) * x' (R i k)) (hL : ∀ i k, L i k = ix2 k (i 1)) (hR : ∀ i k, R i k = ix2 k (i 0)) : f = colCol x' y :=
  funext fun i => (h i).trans (Finset.sum_congr rfl fun k _ => (mul_comm _ _).trans (congrArg₂ (· * ·) (congrArg x' (hR i k)) (congrArg y (hL i k))))

theorem rowRowAdd_ref {f : FVec Ideal ⟨2, ![M, N]⟩ .f32} (h : f = rowRow x y') : addf z f = rowRowAdd x y' z :=
  funext fun i => (add_comm _ _).trans (congrArg (fun v => v i + z i) h)

end Cert.Proj

end
-- ==== Proof.Proj.Call12.lean ====
/- The projection to q, k and v of the delta rule. -/
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel12.Frame
public import proofs.«01_k».proof.Proof.Proj.Products

@[expose] public section

set_option maxRecDepth 16384

noncomputable section

namespace Cert.Proj12

open Idealize.ShloMosaic Idealize.ShloMosaic.TcCoe Cert.Proj
open Cert.Kernel12Ideal Cert.Kernel12Ideal.Gen

theorem e0 : ∀ t : Fin cfg0.N, win0_0.index t = ![t.val / 3, 0] := by decide +kernel
theorem e1 : ∀ t : Fin cfg0.N, win0_1.index t = ![0, t.val % 3] := by decide +kernel
theorem e2 : ∀ t : Fin cfg0.N, win0_2.index t = ![t.val / 3, t.val % 3] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S1024x3072 .bf16 := m ((c : Thread nD τ).loc main_arg1)
/-- What the call leaves. -/
abbrev out := (dats (F := Ideal) m 0 c).arrAt 2 cfg0.N

theorem out_eq : out m c = rowCol (φ := .bf16) (a0 m c) (a1 m c) := by
  refine (dats m 0 c).arrAt_eq_of_covers 2 _ (by decide +kernel) fun t _ y => ?_
  rw [after0_2]
  frame_out
  refine rowCol_blk (fun k => ?_) (fun k => ?_)
  · blk_ext [iblk, V_main_arg0, e0, e2]
  · blk_ext [iblk, V_main_arg1, e1, e2]

open Cert.Reference12Ideal.Read

theorem ref_eq (x0 : Vec Ideal S4096x1024 .bf16) (x1 : Vec Ideal S1024x3072 .bf16) :
    val_main_v3 (F := Ideal) x0 x1 = rowCol (φ := .bf16) x0 x1 :=
  rowCol_ref (val_main_v2_apply x0 x1) (fun _ _ => eta2 _) (fun _ _ => eta2 _)

theorem same {y0 y1} (h0 : y0 = a0 m c) (h1 : y1 = a1 m c) : val_main_v3 (F := Ideal) y0 y1 = out m c := by
  rw [h0, h1, ref_eq, out_eq]
end

end Cert.Proj12

end
-- ==== Proof.Proj.Call13.lean ====
/- The projection to q, k and v of the attention. -/
module

public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel13.Frame
public import proofs.«01_k».proof.Proof.Proj.Products

@[expose] public section

set_option maxRecDepth 16384

noncomputable section

namespace Cert.Proj13

open Idealize.ShloMosaic Idealize.ShloMosaic.TcCoe Cert.Proj
open Cert.Kernel13Ideal Cert.Kernel13Ideal.Gen

theorem e0 : ∀ t : Fin cfg0.N, win0_0.index t = ![t.val / 3, 0] := by decide +kernel
theorem e1 : ∀ t : Fin cfg0.N, win0_1.index t = ![0, t.val % 3] := by decide +kernel
theorem e2 : ∀ t : Fin cfg0.N, win0_2.index t = ![t.val / 3, t.val % 3] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S1024x2304 .bf16 := m ((c : Thread nD τ).loc main_arg1)
/-- What the call leaves. -/
abbrev out := (dats (F := Ideal) m 0 c).arrAt 2 cfg0.N

theorem out_eq : out m c = rowCol (φ := .bf16) (a0 m c) (a1 m c) := by
  refine (dats m 0 c).arrAt_eq_of_covers 2 _ (by decide +kernel) fun t _ y => ?_
  rw [after0_2]
  frame_out
  refine rowCol_blk (fun k => ?_) (fun k => ?_)
  · blk_ext [iblk, V_main_arg0, e0, e2]
  · blk_ext [iblk, V_main_arg1, e1, e2]

open Cert.Reference13Ideal.Read

theorem ref_eq (x0 : Vec Ideal S4096x1024 .bf16) (x1 : Vec Ideal S1024x2304 .bf16) :
    val_main_v3 (F := Ideal) x0 x1 = rowCol (φ := .bf16) x0 x1 :=
  rowCol_ref (val_main_v2_apply x0 x1) (fun _ _ => eta2 _) (fun _ _ => eta2 _)

theorem same {y0 y1} (h0 : y0 = a0 m c) (h1 : y1 = a1 m c) : val_main_v3 (F := Ideal) y0 y1 = out m c := by
  rw [h0, h1, ref_eq, out_eq]
end

end Cert.Proj13

end
-- ==== Proof.Proj.Call14.lean ====
/- The projection to the two gates of the mixture. -/
module

public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel14.Frame
public import proofs.«01_k».proof.Proof.Proj.Products

@[expose] public section

set_option maxRecDepth 16384

noncomputable section

namespace Cert.Proj14

open Idealize.ShloMosaic Idealize.ShloMosaic.TcCoe Cert.Proj
open Cert.Kernel14Ideal Cert.Kernel14Ideal.Gen

theorem e0 : ∀ t : Fin cfg0.N, win0_0.index t = ![t.val / 2, 0] := by decide +kernel
theorem e1 : ∀ t : Fin cfg0.N, win0_1.index t = ![0, t.val % 2] := by decide +kernel
theorem e2 : ∀ t : Fin cfg0.N, win0_2.index t = ![t.val / 2, t.val % 2] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S1024x2048 .bf16 := m ((c : Thread nD τ).loc main_arg1)
/-- What the call leaves. -/
abbrev out := (dats (F := Ideal) m 0 c).arrAt 2 cfg0.N

theorem out_eq : out m c = rowCol (φ := .bf16) (a0 m c) (a1 m c) := by
  refine (dats m 0 c).arrAt_eq_of_covers 2 _ (by decide +kernel) fun t _ y => ?_
  rw [after0_2]
  frame_out
  refine rowCol_blk (fun k => ?_) (fun k => ?_)
  · blk_ext [iblk, V_main_arg0, e0, e2]
  · blk_ext [iblk, V_main_arg1, e1, e2]

open Cert.Reference14Ideal.Read

theorem ref_eq (x0 : Vec Ideal S4096x1024 .bf16) (x1 : Vec Ideal S1024x2048 .bf16) :
    val_main_v3 (F := Ideal) x0 x1 = rowCol (φ := .bf16) x0 x1 :=
  rowCol_ref (val_main_v2_apply x0 x1) (fun _ _ => eta2 _) (fun _ _ => eta2 _)

theorem same {y0 y1} (h0 : y0 = a0 m c) (h1 : y1 = a1 m c) : val_main_v3 (F := Ideal) y0 y1 = out m c := by
  rw [h0, h1, ref_eq, out_eq]
end

end Cert.Proj14

end
-- ==== Proof.Proj.Call15.lean ====
/- A projection of 1024 columns. -/
module

public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel15.Frame
public import proofs.«01_k».proof.Proof.Proj.Products

@[expose] public section

set_option maxRecDepth 16384

noncomputable section

namespace Cert.Proj15

open Idealize.ShloMosaic Idealize.ShloMosaic.TcCoe Cert.Proj
open Cert.Kernel15Ideal Cert.Kernel15Ideal.Gen

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S1024x1024 .bf16 := m ((c : Thread nD τ).loc main_arg1)
/-- What the call leaves. -/
abbrev out := (dats (F := Ideal) m 0 c).arrAt 2 cfg0.N

theorem out_eq : out m c = rowCol (φ := .bf16) (a0 m c) (a1 m c) := by
  refine (dats m 0 c).arrAt_eq_of_covers 2 _ (by decide +kernel) fun t _ y => ?_
  rw [after0_2]
  frame_out
  refine rowCol_blk (fun k => ?_) (fun k => ?_)
  · blk_ext [iblk, V_main_arg0, e0, e2]
  · blk_ext [iblk, V_main_arg1, e1, e2]

open Cert.Reference15Ideal.Read

theorem ref_eq (x0 : Vec Ideal S4096x1024 .bf16) (x1 : Vec Ideal S1024x1024 .bf16) :
    val_main_v3 (F := Ideal) x0 x1 = rowCol (φ := .bf16) x0 x1 :=
  rowCol_ref (val_main_v2_apply x0 x1) (fun _ _ => eta2 _) (fun _ _ => eta2 _)

theorem same {y0 y1} (h0 : y0 = a0 m c) (h1 : y1 = a1 m c) : val_main_v3 (F := Ideal) y0 y1 = out m c := by
  rw [h0, h1, ref_eq, out_eq]
end

end Cert.Proj15

end
-- ==== Proof.Proj.Call16.lean ====
/- The gradient of the weight of the delta rule's q, k and v. -/
module

public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel16.Frame
public import proofs.«01_k».proof.Proof.Proj.Products

@[expose] public section

set_option maxRecDepth 16384

noncomputable section

namespace Cert.Proj16

open Idealize.ShloMosaic Idealize.ShloMosaic.TcCoe Cert.Proj
open Cert.Kernel16Ideal Cert.Kernel16Ideal.Gen

theorem e0 : ∀ t : Fin cfg0.N, win0_0.index t = ![0, 0] := by decide +kernel
theorem e1 : ∀ t : Fin cfg0.N, win0_1.index t = ![0, t.val] := by decide +kernel
theorem e2 : ∀ t : Fin cfg0.N, win0_2.index t = ![0, t.val] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S4096x3072 .bf16 := m ((c : Thread nD τ).loc main_arg1)
/-- What the call leaves. -/
abbrev out := (dats (F := Ideal) m 0 c).arrAt 2 cfg0.N

theorem out_eq : out m c = colCol (φ := .bf16) (a0 m c) (a1 m c) := by
  refine (dats m 0 c).arrAt_eq_of_covers 2 _ (by decide +kernel) fun t _ y => ?_
  rw [after0_2]
  frame_out
  refine colCol_blk _ rfl rfl (fun _ => eta2 _) (fun _ => eta2 _) (fun k => ?_) (fun k => ?_)
  · blk_ext [iblk, V_main_arg0, e0, e2]
  · blk_ext [iblk, V_main_arg1, e1, e2]

open Cert.Reference16Ideal.Read

theorem ref_eq (x0 : Vec Ideal S4096x1024 .bf16) (x1 : Vec Ideal S4096x3072 .bf16) :
    val_main_v6 (F := Ideal) x0 x1 = colCol (φ := .bf16) x0 x1 :=
  colCol_ref (fun i => (val_main_v5_apply x0 x1 i).trans (val_main_v4_apply x0 x1 (idx_main_v5 i))) (fun _ _ => eta2 _) (fun _ _ => eta2 _)

theorem same {y0 y1} (h0 : y0 = a0 m c) (h1 : y1 = a1 m c) : val_main_v6 (F := Ideal) y0 y1 = out m c := by
  rw [h0, h1, ref_eq, out_eq]
end

end Cert.Proj16

end
-- ==== Proof.Proj.Call17.lean ====
/- The gradient of the weight of the attention's q, k and v. -/
module

public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel17.Frame
public import proofs.«01_k».proof.Proof.Proj.Products

@[expose] public section

set_option maxRecDepth 16384

noncomputable section

namespace Cert.Proj17

open Idealize.ShloMosaic Idealize.ShloMosaic.TcCoe Cert.Proj
open Cert.Kernel17Ideal Cert.Kernel17Ideal.Gen

theorem e0 : ∀ t : Fin cfg0.N, win0_0.index t = ![0, 0] := by decide +kernel
theorem e1 : ∀ t : Fin cfg0.N, win0_1.index t = ![0, t.val] := by decide +kernel
theorem e2 : ∀ t : Fin cfg0.N, win0_2.index t = ![0, t.val] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S4096x2304 .bf16 := m ((c : Thread nD τ).loc main_arg1)
/-- What the call leaves. -/
abbrev out := (dats (F := Ideal) m 0 c).arrAt 2 cfg0.N

theorem out_eq : out m c = colCol (φ := .bf16) (a0 m c) (a1 m c) := by
  refine (dats m 0 c).arrAt_eq_of_covers 2 _ (by decide +kernel) fun t _ y => ?_
  rw [after0_2]
  frame_out
  refine colCol_blk _ rfl rfl (fun _ => eta2 _) (fun _ => eta2 _) (fun k => ?_) (fun k => ?_)
  · blk_ext [iblk, V_main_arg0, e0, e2]
  · blk_ext [iblk, V_main_arg1, e1, e2]

open Cert.Reference17Ideal.Read

theorem ref_eq (x0 : Vec Ideal S4096x1024 .bf16) (x1 : Vec Ideal S4096x2304 .bf16) :
    val_main_v6 (F := Ideal) x0 x1 = colCol (φ := .bf16) x0 x1 :=
  colCol_ref (fun i => (val_main_v5_apply x0 x1 i).trans (val_main_v4_apply x0 x1 (idx_main_v5 i))) (fun _ _ => eta2 _) (fun _ _ => eta2 _)

theorem same {y0 y1} (h0 : y0 = a0 m c) (h1 : y1 = a1 m c) : val_main_v6 (F := Ideal) y0 y1 = out m c := by
  rw [h0, h1, ref_eq, out_eq]
end

end Cert.Proj17

end
-- ==== Proof.Proj.Call18.lean ====
/- The gradient of the weight of the mixture's gates. -/
module

public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel18.Frame
public import proofs.«01_k».proof.Proof.Proj.Products

@[expose] public section

set_option maxRecDepth 16384

noncomputable section

namespace Cert.Proj18

open Idealize.ShloMosaic Idealize.ShloMosaic.TcCoe Cert.Proj
open Cert.Kernel18Ideal Cert.Kernel18Ideal.Gen

theorem e0 : ∀ t : Fin cfg0.N, win0_0.index t = ![0, 0] := by decide +kernel
theorem e1 : ∀ t : Fin cfg0.N, win0_1.index t = ![0, t.val] := by decide +kernel
theorem e2 : ∀ t : Fin cfg0.N, win0_2.index t = ![0, t.val] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S4096x2048 .bf16 := m ((c : Thread nD τ).loc main_arg1)
/-- What the call leaves. -/
abbrev out := (dats (F := Ideal) m 0 c).arrAt 2 cfg0.N

theorem out_eq : out m c = colCol (φ := .bf16) (a0 m c) (a1 m c) := by
  refine (dats m 0 c).arrAt_eq_of_covers 2 _ (by decide +kernel) fun t _ y => ?_
  rw [after0_2]
  frame_out
  refine colCol_blk _ rfl rfl (fun _ => eta2 _) (fun _ => eta2 _) (fun k => ?_) (fun k => ?_)
  · blk_ext [iblk, V_main_arg0, e0, e2]
  · blk_ext [iblk, V_main_arg1, e1, e2]

open Cert.Reference18Ideal.Read

theorem ref_eq (x0 : Vec Ideal S4096x1024 .bf16) (x1 : Vec Ideal S4096x2048 .bf16) :
    val_main_v6 (F := Ideal) x0 x1 = colCol (φ := .bf16) x0 x1 :=
  colCol_ref (fun i => (val_main_v5_apply x0 x1 i).trans (val_main_v4_apply x0 x1 (idx_main_v5 i))) (fun _ _ => eta2 _) (fun _ _ => eta2 _)

theorem same {y0 y1} (h0 : y0 = a0 m c) (h1 : y1 = a1 m c) : val_main_v6 (F := Ideal) y0 y1 = out m c := by
  rw [h0, h1, ref_eq, out_eq]
end

end Cert.Proj18

end
-- ==== Proof.Proj.Call19.lean ====
/- The gradient of a weight of 1024 rows and columns. -/
module

public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel19.Frame
public import proofs.«01_k».proof.Proof.Proj.Products

@[expose] public section

set_option maxRecDepth 16384

noncomputable section

namespace Cert.Proj19

open Idealize.ShloMosaic Idealize.ShloMosaic.TcCoe Cert.Proj
open Cert.Kernel19Ideal Cert.Kernel19Ideal.Gen

theorem e0 : ∀ t : Fin cfg0.N, win0_0.index t = ![0, 0] := by decide +kernel
theorem e1 : ∀ t : Fin cfg0.N, win0_1.index t = ![0, t.val] := by decide +kernel
theorem e2 : ∀ t : Fin cfg0.N, win0_2.index t = ![0, t.val] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S4096x1024 .bf16 := m ((c : Thread nD τ).loc main_arg1)
/-- What the call leaves. -/
abbrev out := (dats (F := Ideal) m 0 c).arrAt 2 cfg0.N

theorem out_eq : out m c = colCol (φ := .bf16) (a0 m c) (a1 m c) := by
  refine (dats m 0 c).arrAt_eq_of_covers 2 _ (by decide +kernel) fun t _ y => ?_
  rw [after0_2]
  frame_out
  refine colCol_blk _ rfl rfl (fun _ => eta2 _) (fun _ => eta2 _) (fun k => ?_) (fun k => ?_)
  · blk_ext [iblk, V_main_arg0, e0, e2]
  · blk_ext [iblk, V_main_arg1, e1, e2]

open Cert.Reference19Ideal.Read

theorem ref_eq (x0 : Vec Ideal S4096x1024 .bf16) (x1 : Vec Ideal S4096x1024 .bf16) :
    val_main_v6 (F := Ideal) x0 x1 = colCol (φ := .bf16) x0 x1 :=
  colCol_ref (fun i => (val_main_v5_apply x0 x1 i).trans (val_main_v4_apply x0 x1 (idx_main_v5 i))) (fun _ _ => eta2 _) (fun _ _ => eta2 _)

theorem same {y0 y1} (h0 : y0 = a0 m c) (h1 : y1 = a1 m c) : val_main_v6 (F := Ideal) y0 y1 = out m c := by
  rw [h0, h1, ref_eq, out_eq]
end

end Cert.Proj19

end
-- ==== Proof.Proj.Call20.lean ====
/- The gradient of the mixer's input through the delta rule's q, k and v. -/
module

public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel20.Frame
public import proofs.«01_k».proof.Proof.Proj.Products

@[expose] public section

set_option maxRecDepth 16384

noncomputable section

namespace Cert.Proj20

open Idealize.ShloMosaic Idealize.ShloMosaic.TcCoe Cert.Proj
open Cert.Kernel20Ideal Cert.Kernel20Ideal.Gen

theorem e0 : ∀ t : Fin cfg0.N, win0_0.index t = ![t.val / 2, 0] := by decide +kernel
theorem e1 : ∀ t : Fin cfg0.N, win0_1.index t = ![t.val % 2, 0] := by decide +kernel
theorem e2 : ∀ t : Fin cfg0.N, win0_2.index t = ![t.val / 2, t.val % 2] := by decide +kernel

section
variable (m : (ℓ : Loc nD τ sig) → Buf (Elt Ideal) ℓ) (c : Dev nD)

abbrev a0 : Vec Ideal S4096x3072 .bf16 := m ((c : Thread nD τ).loc main_arg0)
abbrev a1 : Vec Ideal S1024x3072 .bf16 := m ((c : Thread nD τ).loc main_arg1)
/-- What the call leaves. -/
abbrev out := (dats (F := Ideal) m 0 c).arrAt 2 cfg0.N

theorem out_eq : out m c = rowRow (φ := .f32) (a0 m c) (a1 m c) := by
  refine (dats m 0 c).arrAt_eq_of_covers 2 _ (by decide +kernel) fun t _ y => ?_
  rw [after0_2]
  frame_out
  refine rowRow_blk (fun k => ?_) (fun k => ?_)
  · blk_ext [iblk, V_main_arg0, e0, e2]
  · blk_ext [iblk, V_main_arg1, e1, e2]

open Cert.Reference20Ideal.Read

theorem ref_eq (x0 : Vec Ideal S4096x3072 .bf16) (x1 : Vec Ideal S1024x3072 .bf16) :
    val_main_v4 (F := Ideal) x0 x1 = rowRow (φ := .f32) x0 x1 :=
  rowRow_ref (val_main_v4_apply x0 x1) (fun _ _ => eta2 _) (fun _ _ => eta2 _)

theorem same {y0 y1} (h0 : y0 = a0 m c) (h1 : y1 = a1 m c) : val_main_v4 (F := Ideal) y0 y1 = out m c := by
  rw [h0, h1, ref_eq, out_eq]
end

end Cert.Proj20

end
-- ==== Proof.Proj.Call21.lean ====
/- The gradient of the mixer's input through the attention's q, k and v. -/
module

public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel21.Frame
public import proofs.«01_k».proof.Proof.Proj.Products

@[expose] public section

set_option maxRecDepth 16384

noncomputable section

namespace Cert.Proj21

open Idealize.ShloMosaic Idealize.ShloMosaic.TcCoe Cert.Proj
open Cert.Kernel21Ideal Cert.Kernel21Ideal.Gen

theorem e0 : ∀ t : Fin cfg0.N, win0_0.index t = ![t.val / 2, 0] := by decide +kernel
theorem e1 : ∀ t : Fin cfg0.N, win0_1.index t = ![t.val % 2, 0] := by decide +kernel
theorem e2 : ∀ t : Fin cfg0.N, win0_2.index t = ![t.val / 2, t.val % 2] := by decide +kernel
theorem e3 : ∀ t : Fin cfg0.N, win0_3.index t = ![t.val / 2, t.val % 2] := by decide +kernel

section
variable (m : (ℓ : Loc nD τ sig) → Buf (Elt Ideal) ℓ) (c : Dev nD)

abbrev a0 : Vec Ideal S4096x2304 .bf16 := m ((c : Thread nD τ).loc main_arg0)
abbrev a1 : Vec Ideal S1024x2304 .bf16 := m ((c : Thread nD τ).loc main_arg1)
abbrev a2 : Vec Ideal S4096x1024 .f32 := m ((c : Thread nD τ).loc main_arg2)
/-- What the call leaves. -/
abbrev out := (dats (F := Ideal) m 0 c).arrAt 3 cfg0.N

theorem out_eq : out m c = rowRowAdd (a0 m c) (a1 m c) (a2 m c) := by
  refine (dats m 0 c).arrAt_eq_of_covers 3 _ (by decide +kernel) fun t _ y => ?_
  rw [after0_3]
  frame_out
  refine rowRowAdd_blk (fun k => ?_) (fun k => ?_) ?_
  · blk_ext [iblk, V_main_arg0, e0, e3]
  · blk_ext [iblk, V_main_arg1, e1, e3]
  · blk_ext [iblk, V_main_arg2, e2, e3]

open Cert.Reference21Ideal.Read

theorem ref_eq (x0 : Vec Ideal S4096x2304 .bf16) (x1 : Vec Ideal S1024x2304 .bf16) (x2 : Vec Ideal S4096x1024 .f32) :
    val_main_v5 (F := Ideal) x0 x1 x2 = rowRowAdd x0 x1 x2 :=
  rowRowAdd_ref (rowRow_ref (val_main_v4_apply x0 x1) (fun _ _ => eta2 _) (fun _ _ => eta2 _))

theorem same {y0 y1 y2} (h0 : y0 = a0 m c) (h1 : y1 = a1 m c) (h2 : y2 = a2 m c) : val_main_v5 (F := Ideal) y0 y1 y2 = out m c := by
  rw [h0, h1, h2, ref_eq, out_eq]
end

end Cert.Proj21

end
-- ==== Proof.Proj.Call22.lean ====
/- The gradient of the mixer's input through the mixture's gates. -/
module

public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel22.Frame
public import proofs.«01_k».proof.Proof.Proj.Products

@[expose] public section

set_option maxRecDepth 16384

noncomputable section

namespace Cert.Proj22

open Idealize.ShloMosaic Idealize.ShloMosaic.TcCoe Cert.Proj
open Cert.Kernel22Ideal Cert.Kernel22Ideal.Gen

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel
theorem e3 : ∀ t : Fin cfg0.N, win0_3.index t = ![t.val, 0] := by decide +kernel

section
variable (m : (ℓ : Loc nD τ sig) → Buf (Elt Ideal) ℓ) (c : Dev nD)

abbrev a0 : Vec Ideal S4096x2048 .bf16 := m ((c : Thread nD τ).loc main_arg0)
abbrev a1 : Vec Ideal S1024x2048 .bf16 := m ((c : Thread nD τ).loc main_arg1)
abbrev a2 : Vec Ideal S4096x1024 .f32 := m ((c : Thread nD τ).loc main_arg2)
/-- What the call leaves. -/
abbrev out := (dats (F := Ideal) m 0 c).arrAt 3 cfg0.N

theorem out_eq : out m c = rowRowAdd (a0 m c) (a1 m c) (a2 m c) := by
  refine (dats m 0 c).arrAt_eq_of_covers 3 _ (by decide +kernel) fun t _ y => ?_
  rw [after0_3]
  frame_out
  refine rowRowAdd_blk (fun k => ?_) (fun k => ?_) ?_
  · blk_ext [iblk, V_main_arg0, e0, e3]
  · blk_ext [iblk, V_main_arg1, e1, e3]
  · blk_ext [iblk, V_main_arg2, e2, e3]

open Cert.Reference22Ideal.Read

theorem ref_eq (x0 : Vec Ideal S4096x2048 .bf16) (x1 : Vec Ideal S1024x2048 .bf16) (x2 : Vec Ideal S4096x1024 .f32) :
    val_main_v5 (F := Ideal) x0 x1 x2 = rowRowAdd x0 x1 x2 :=
  rowRowAdd_ref (rowRow_ref (val_main_v4_apply x0 x1) (fun _ _ => eta2 _) (fun _ _ => eta2 _))

theorem same {y0 y1 y2} (h0 : y0 = a0 m c) (h1 : y1 = a1 m c) (h2 : y2 = a2 m c) : val_main_v5 (F := Ideal) y0 y1 y2 = out m c := by
  rw [h0, h1, h2, ref_eq, out_eq]
end

end Cert.Proj22

end
-- ==== Proof.Proj.Call23.lean ====
/- The gradient of the mixer's input through the delta rule's output gate. -/
module

public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel23.Frame
public import proofs.«01_k».proof.Proof.Proj.Products

@[expose] public section

set_option maxRecDepth 16384

noncomputable section

namespace Cert.Proj23

open Idealize.ShloMosaic Idealize.ShloMosaic.TcCoe Cert.Proj
open Cert.Kernel23Ideal Cert.Kernel23Ideal.Gen

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel
theorem e3 : ∀ t : Fin cfg0.N, win0_3.index t = ![t.val, 0] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S1024x1024 .bf16 := m ((c : Thread nD τ).loc main_arg1)
abbrev a2 : Vec Ideal S4096x1024 .f32 := m ((c : Thread nD τ).loc main_arg2)
/-- What the call leaves. -/
abbrev out := (dats (F := Ideal) m 0 c).arrAt 3 cfg0.N

theorem out_eq : out m c = rowRowAdd (a0 m c) (a1 m c) (a2 m c) := by
  refine (dats m 0 c).arrAt_eq_of_covers 3 _ (by decide +kernel) fun t _ y => ?_
  rw [after0_3]
  frame_out
  refine rowRowAdd_blk (fun k => ?_) (fun k => ?_) ?_
  · blk_ext [iblk, V_main_arg0, e0, e3]
  · blk_ext [iblk, V_main_arg1, e1, e3]
  · blk_ext [iblk, V_main_arg2, e2, e3]

open Cert.Reference23Ideal.Read

theorem ref_eq (x0 : Vec Ideal S4096x1024 .bf16) (x1 : Vec Ideal S1024x1024 .bf16) (x2 : Vec Ideal S4096x1024 .f32) :
    val_main_v5 (F := Ideal) x0 x1 x2 = rowRowAdd x0 x1 x2 :=
  rowRowAdd_ref (rowRow_ref (val_main_v4_apply x0 x1) (fun _ _ => eta2 _) (fun _ _ => eta2 _))

theorem same {y0 y1 y2} (h0 : y0 = a0 m c) (h1 : y1 = a1 m c) (h2 : y2 = a2 m c) : val_main_v5 (F := Ideal) y0 y1 y2 = out m c := by
  rw [h0, h1, h2, ref_eq, out_eq]
end

end Cert.Proj23

end
-- ==== Proof.Proj.Call24.lean ====
/- The projection of the attention's output. -/
module

public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel24.Frame
public import proofs.«01_k».proof.Proof.Proj.Products

@[expose] public section

set_option maxRecDepth 16384

noncomputable section

namespace Cert.Proj24

open Idealize.ShloMosaic Idealize.ShloMosaic.TcCoe Cert.Proj
open Cert.Kernel24Ideal Cert.Kernel24Ideal.Gen

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel

section
variable (m : (ℓ : Loc nD τ sig) → Buf (Elt Ideal) ℓ) (c : Dev nD)

abbrev a0 : Vec Ideal S4096x768 .bf16 := m ((c : Thread nD τ).loc main_arg0)
abbrev a1 : Vec Ideal S768x1024 .bf16 := m ((c : Thread nD τ).loc main_arg1)
/-- What the call leaves. -/
abbrev out := (dats (F := Ideal) m 0 c).arrAt 2 cfg0.N

theorem out_eq : out m c = rowCol (φ := .bf16) (a0 m c) (a1 m c) := by
  refine (dats m 0 c).arrAt_eq_of_covers 2 _ (by decide +kernel) fun t _ y => ?_
  rw [after0_2]
  frame_out
  refine rowCol_blk (fun k => ?_) (fun k => ?_)
  · blk_ext [iblk, V_main_arg0, e0, e2]
  · blk_ext [iblk, V_main_arg1, e1, e2]

open Cert.Reference24Ideal.Read

theorem ref_eq (x0 : Vec Ideal S4096x768 .bf16) (x1 : Vec Ideal S768x1024 .bf16) :
    val_main_v3 (F := Ideal) x0 x1 = rowCol (φ := .bf16) x0 x1 :=
  rowCol_ref (val_main_v2_apply x0 x1) (fun _ _ => eta2 _) (fun _ _ => eta2 _)

theorem same {y0 y1} (h0 : y0 = a0 m c) (h1 : y1 = a1 m c) : val_main_v3 (F := Ideal) y0 y1 = out m c := by
  rw [h0, h1, ref_eq, out_eq]
end

end Cert.Proj24

end
-- ==== Proof.Proj.Call25.lean ====
/- The gradient of the weight of the attention's output projection. -/
module

public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel25.Frame
public import proofs.«01_k».proof.Proof.Proj.Products

@[expose] public section

set_option maxRecDepth 16384

noncomputable section

namespace Cert.Proj25

open Idealize.ShloMosaic Idealize.ShloMosaic.TcCoe Cert.Proj
open Cert.Kernel25Ideal Cert.Kernel25Ideal.Gen

theorem e0 : ∀ t : Fin cfg0.N, win0_0.index t = ![0, 0] := by decide +kernel
theorem e1 : ∀ t : Fin cfg0.N, win0_1.index t = ![0, t.val] := by decide +kernel
theorem e2 : ∀ t : Fin cfg0.N, win0_2.index t = ![0, t.val] := by decide +kernel

section
variable (m : (ℓ : Loc nD τ sig) → Buf (Elt Ideal) ℓ) (c : Dev nD)

abbrev a0 : Vec Ideal S4096x768 .bf16 := m ((c : Thread nD τ).loc main_arg0)
abbrev a1 : Vec Ideal S4096x1024 .bf16 := m ((c : Thread nD τ).loc main_arg1)
/-- What the call leaves. -/
abbrev out := (dats (F := Ideal) m 0 c).arrAt 2 cfg0.N

theorem out_eq : out m c = colCol (φ := .bf16) (a0 m c) (a1 m c) := by
  refine (dats m 0 c).arrAt_eq_of_covers 2 _ (by decide +kernel) fun t _ y => ?_
  rw [after0_2]
  frame_out
  refine colCol_blk _ rfl rfl (fun _ => eta2 _) (fun _ => eta2 _) (fun k => ?_) (fun k => ?_)
  · blk_ext [iblk, V_main_arg0, e0, e2]
  · blk_ext [iblk, V_main_arg1, e1, e2]

open Cert.Reference25Ideal.Read

theorem ref_eq (x0 : Vec Ideal S4096x768 .bf16) (x1 : Vec Ideal S4096x1024 .bf16) :
    val_main_v6 (F := Ideal) x0 x1 = colCol (φ := .bf16) x0 x1 :=
  colCol_ref (fun i => (val_main_v5_apply x0 x1 i).trans (val_main_v4_apply x0 x1 (idx_main_v5 i))) (fun _ _ => eta2 _) (fun _ _ => eta2 _)

theorem same {y0 y1} (h0 : y0 = a0 m c) (h1 : y1 = a1 m c) : val_main_v6 (F := Ideal) y0 y1 = out m c := by
  rw [h0, h1, ref_eq, out_eq]
end

end Cert.Proj25

end
-- ==== Proof.Proj.Call26.lean ====
/- The gradient of the attention's output. -/
module

public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel26.Frame
public import proofs.«01_k».proof.Proof.Proj.Products

@[expose] public section

set_option maxRecDepth 16384

noncomputable section

namespace Cert.Proj26

open Idealize.ShloMosaic Idealize.ShloMosaic.TcCoe Cert.Proj
open Cert.Kernel26Ideal Cert.Kernel26Ideal.Gen

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S768x1024 .bf16 := m ((c : Thread nD τ).loc main_arg1)
/-- What the call leaves. -/
abbrev out := (dats (F := Ideal) m 0 c).arrAt 2 cfg0.N

theorem out_eq : out m c = rowRow (φ := .bf16) (a0 m c) (a1 m c) := by
  refine (dats m 0 c).arrAt_eq_of_covers 2 _ (by decide +kernel) fun t _ y => ?_
  rw [after0_2]
  frame_out
  refine rowRow_blk (fun k => ?_) (fun k => ?_)
  · blk_ext [iblk, V_main_arg0, e0, e2]
  · blk_ext [iblk, V_main_arg1, e1, e2]

open Cert.Reference26Ideal.Read

theorem ref_eq (x0 : Vec Ideal S4096x1024 .bf16) (x1 : Vec Ideal S768x1024 .bf16) :
    val_main_v5 (F := Ideal) x0 x1 = rowRow (φ := .bf16) x0 x1 :=
  rowRow_ref (val_main_v4_apply x0 x1) (fun _ _ => eta2 _) (fun _ _ => eta2 _)

theorem same {y0 y1} (h0 : y0 = a0 m c) (h1 : y1 = a1 m c) : val_main_v5 (F := Ideal) y0 y1 = out m c := by
  rw [h0, h1, ref_eq, out_eq]
end

end Cert.Proj26

end
-- ==== Proof.Proj.Call27.lean ====
/- The gradient of the mixture. -/
module

public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel27.Frame
public import proofs.«01_k».proof.Proof.Proj.Products

@[expose] public section

set_option maxRecDepth 16384

noncomputable section

namespace Cert.Proj27

open Idealize.ShloMosaic Idealize.ShloMosaic.TcCoe Cert.Proj
open Cert.Kernel27Ideal Cert.Kernel27Ideal.Gen

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S1024x1024 .bf16 := m ((c : Thread nD τ).loc main_arg1)
/-- What the call leaves. -/
abbrev out := (dats (F := Ideal) m 0 c).arrAt 2 cfg0.N

theorem out_eq : out m c = rowRow (φ := .bf16) (a0 m c) (a1 m c) := by
  refine (dats m 0 c).arrAt_eq_of_covers 2 _ (by decide +kernel) fun t _ y => ?_
  rw [after0_2]
  frame_out
  refine rowRow_blk (fun k => ?_) (fun k => ?_)
  · blk_ext [iblk, V_main_arg0, e0, e2]
  · blk_ext [iblk, V_main_arg1, e1, e2]

open Cert.Reference27Ideal.Read

theorem ref_eq (x0 : Vec Ideal S4096x1024 .bf16) (x1 : Vec Ideal S1024x1024 .bf16) :
    val_main_v5 (F := Ideal) x0 x1 = rowRow (φ := .bf16) x0 x1 :=
  rowRow_ref (val_main_v4_apply x0 x1) (fun _ _ => eta2 _) (fun _ _ => eta2 _)

theorem same {y0 y1} (h0 : y0 = a0 m c) (h1 : y1 = a1 m c) : val_main_v5 (F := Ideal) y0 y1 = out m c := by
  rw [h0, h1, ref_eq, out_eq]
end

end Cert.Proj27

end
-- ==== Proof.Proj.Call28.lean ====
/- The gradient of the delta rule's output. -/
module

public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel28.Frame
public import proofs.«01_k».proof.Proof.Proj.Products

@[expose] public section

set_option maxRecDepth 16384

noncomputable section

namespace Cert.Proj28

open Idealize.ShloMosaic Idealize.ShloMosaic.TcCoe Cert.Proj
open Cert.Kernel28Ideal Cert.Kernel28Ideal.Gen

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S1024x1024 .bf16 := m ((c : Thread nD τ).loc main_arg1)
/-- What the call leaves. -/
abbrev out := (dats (F := Ideal) m 0 c).arrAt 2 cfg0.N

theorem out_eq : out m c = rowRow (φ := .f32) (a0 m c) (a1 m c) := by
  refine (dats m 0 c).arrAt_eq_of_covers 2 _ (by decide +kernel) fun t _ y => ?_
  rw [after0_2]
  frame_out
  refine rowRow_blk (fun k => ?_) (fun k => ?_)
  · blk_ext [iblk, V_main_arg0, e0, e2]
  · blk_ext [iblk, V_main_arg1, e1, e2]

open Cert.Reference28Ideal.Read

theorem ref_eq (x0 : Vec Ideal S4096x1024 .bf16) (x1 : Vec Ideal S1024x1024 .bf16) :
    val_main_v4 (F := Ideal) x0 x1 = rowRow (φ := .f32) x0 x1 :=
  rowRow_ref (val_main_v4_apply x0 x1) (fun _ _ => eta2 _) (fun _ _ => eta2 _)

theorem same {y0 y1} (h0 : y0 = a0 m c) (h1 : y1 = a1 m c) : val_main_v4 (F := Ideal) y0 y1 = out m c := by
  rw [h0, h1, ref_eq, out_eq]
end

end Cert.Proj28

end
-- ==== Proof.Proj.Call29.lean ====
/- The mixer's last projection, and the residual line that adds it under its gate. -/
module

public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel29.Frame
public import proofs.«01_k».proof.Proof.Proj.Products

@[expose] public section

set_option maxRecDepth 16384

noncomputable section

namespace Cert.Proj29

open Idealize.ShloMosaic Idealize.ShloMosaic.TcCoe Cert.Proj
open Cert.Kernel29Ideal Cert.Kernel29Ideal.Gen

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel
theorem e3 : ∀ t : Fin cfg0.N, win0_3.index t = ![0, 0] := by decide +kernel
theorem e4 : ∀ t : Fin cfg0.N, win0_4.index t = ![t.val, 0] := by decide +kernel
theorem e5 : ∀ t : Fin cfg0.N, win0_5.index t = ![t.val, 0] := by decide +kernel

/-- The residual stream and, under its gate, the projection. -/
def resid (x0 : FVec Ideal S4096x1024 .bf16) (x1 : FVec Ideal S1024x1024 .bf16) (x2 : FVec Ideal S4096x1024 .f32)
    (x3 : FVec Ideal S1x1024 .f32) : FVec Ideal S4096x1024 .f32 :=
  fun i => x2 i + x3 (ix2 0 (i 1)) * rowCol (φ := .f32) x0 x1 i

section
variable (m : (ℓ : Loc nD τ sig) → Buf (Elt Ideal) ℓ) (c : Dev nD)

abbrev a0 : Vec Ideal S4096x1024 .bf16 := m ((c : Thread nD τ).loc main_arg0)
abbrev a1 : Vec Ideal S1024x1024 .bf16 := m ((c : Thread nD τ).loc main_arg1)
abbrev a2 : Vec Ideal S4096x1024 .f32 := m ((c : Thread nD τ).loc main_arg2)
abbrev a3 : Vec Ideal S1x1024 .f32 := m ((c : Thread nD τ).loc main_arg3)

/-- What the call leaves. -/
abbrev outh := (dats (F := Ideal) m 0 c).arrAt 4 cfg0.N
abbrev outm := (dats (F := Ideal) m 0 c).arrAt 5 cfg0.N

theorem bcast (v : FVec Ideal S1x1024 .f32) (y : S1024x1024.Idx) :
    broadcastTo S1024x1024 v broadcasts_S1x1024_S1024x1024 y = v (ix2 0 (y 1)) := by
  refine congrArg v (funext fun a => Fin.ext ?_)
  match a with
  | ⟨0, _⟩ => rfl
  | ⟨1, _⟩ => rfl

theorem out_h : outh m c = resid (a0 m c) (a1 m c) (a2 m c) (a3 m c) := by
  refine (dats m 0 c).arrAt_eq_of_covers 4 _ (by decide +kernel) fun t _ y => ?_
  rw [after0_4]
  frame_out
  refine congrArg₂ (· + ·) ?_ (congrArg₂ (· * ·) ((bcast _ y).trans ?_)
    ((mm_rowCol _ _ y).trans (Finset.sum_congr rfl fun k _ => congrArg₂ (· * ·) ?_ ?_)))
  · blk_ext [iblk, V_main_arg2, e2, e4]
  · blk_ext [iblk, V_main_arg3, e3, e4]
  · blk_ext [iblk, V_main_arg0, e0, e4]
  · blk_ext [iblk, V_main_arg1, e1, e4]

theorem out_m : outm m c = rowCol (φ := .bf16) (a0 m c) (a1 m c) := by
  refine (dats m 0 c).arrAt_eq_of_covers 5 _ (by decide +kernel) fun t _ y => ?_
  rw [after0_5]
  frame_out
  refine rowCol_blk (fun k => ?_) (fun k => ?_)
  · blk_ext [iblk, V_main_arg0, e0, e5]
  · blk_ext [iblk, V_main_arg1, e1, e5]

open Cert.Reference29Ideal.Read

theorem ref_m (x0 : Vec Ideal S4096x1024 .bf16) (x1 : Vec Ideal S1024x1024 .bf16) :
    val_main_v6 (F := Ideal) x0 x1 = rowCol (φ := .bf16) x0 x1 :=
  rowCol_ref (val_main_v2_apply x0 x1) (fun _ _ => eta2 _) (fun _ _ => eta2 _)

theorem ref_h (x0 : Vec Ideal S4096x1024 .bf16) (x1 : Vec Ideal S1024x1024 .bf16) (x2 : Vec Ideal S4096x1024 .f32)
    (x3 : Vec Ideal S1x1024 .f32) : val_main_v5 (F := Ideal) x0 x1 x2 x3 = resid x0 x1 x2 x3 := by
  funext i
  refine congrArg (x2 i + ·) (congrArg₂ (· * ·) ((val_main_v3_apply x3 i).trans (congrArg x3 ?_)) (congrFun (ref_m x0 x1) i))
  funext a
  match a with
  | ⟨0, _⟩ => rfl
  | ⟨1, _⟩ => rfl

theorem sameh {y0 y1 y2 y3} (h0 : y0 = a0 m c) (h1 : y1 = a1 m c) (h2 : y2 = a2 m c) (h3 : y3 = a3 m c) :
    val_main_v5 (F := Ideal) y0 y1 y2 y3 = outh m c := by
  rw [h0, h1, h2, h3, ref_h, out_h]

theorem samem {y0 y1} (h0 : y0 = a0 m c) (h1 : y1 = a1 m c) : val_main_v6 (F := Ideal) y0 y1 = outm m c := by
  rw [h0, h1, ref_m, out_m]
end

end Cert.Proj29

end
-- ==== Proof.Proj.Call30.lean ====
/- The projection to the delta rule's write strength and decay. -/
module

public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel30.Frame
public import proofs.«01_k».proof.Proof.Proj.Products

@[expose] public section

set_option maxRecDepth 16384

noncomputable section

namespace Cert.Proj30

open Idealize.ShloMosaic Idealize.ShloMosaic.TcCoe Cert.Proj
open Cert.Kernel30Ideal Cert.Kernel30Ideal.Gen

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S1024x128 .bf16 := m ((c : Thread nD τ).loc main_arg1)
/-- What the call leaves. -/
abbrev out := (dats (F := Ideal) m 0 c).arrAt 2 cfg0.N

theorem out_eq : out m c = rowCol (φ := .f32) (a0 m c) (a1 m c) := by
  refine (dats m 0 c).arrAt_eq_of_covers 2 _ (by decide +kernel) fun t _ y => ?_
  rw [after0_2]
  frame_out
  refine rowCol_blk (fun k => ?_) (fun k => ?_)
  · blk_ext [iblk, V_main_arg0, e0, e2]
  · blk_ext [iblk, V_main_arg1, e1, e2]

open Cert.Reference30Ideal.Read

theorem ref_eq (x0 : Vec Ideal S4096x1024 .bf16) (x1 : Vec Ideal S1024x128 .bf16) :
    val_main_v2 (F := Ideal) x0 x1 = rowCol (φ := .f32) x0 x1 :=
  rowCol_ref (val_main_v2_apply x0 x1) (fun _ _ => eta2 _) (fun _ _ => eta2 _)

theorem same {y0 y1} (h0 : y0 = a0 m c) (h1 : y1 = a1 m c) : val_main_v2 (F := Ideal) y0 y1 = out m c := by
  rw [h0, h1, ref_eq, out_eq]
end

end Cert.Proj30

end
-- ==== Proof.Proj.Call31.lean ====
/- The gradient of the weight of the write strength and decay. -/
module

public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel31.Frame
public import proofs.«01_k».proof.Proof.Proj.Products

@[expose] public section

set_option maxRecDepth 16384

noncomputable section

namespace Cert.Proj31

open Idealize.ShloMosaic Idealize.ShloMosaic.TcCoe Cert.Proj
open Cert.Kernel31Ideal Cert.Kernel31Ideal.Gen

theorem e0 : ∀ t : Fin cfg0.N, win0_0.index t = ![0, 0] := by decide +kernel
theorem e1 : ∀ t : Fin cfg0.N, win0_1.index t = ![0, 0] := by decide +kernel
theorem e2 : ∀ t : Fin cfg0.N, win0_2.index t = ![0, 0] := by decide +kernel

section
variable (m : (ℓ : Loc nD τ sig) → Buf (Elt Ideal) ℓ) (c : Dev nD)

abbrev a0 : Vec Ideal S4096x1024 .bf16 := m ((c : Thread nD τ).loc main_arg0)
abbrev a1 : Vec Ideal S4096x128 .bf16 := m ((c : Thread nD τ).loc main_arg1)
/-- What the call leaves. -/
abbrev out := (dats (F := Ideal) m 0 c).arrAt 2 cfg0.N

theorem out_eq : out m c = colCol (φ := .bf16) (a0 m c) (a1 m c) := by
  refine (dats m 0 c).arrAt_eq_of_covers 2 _ (by decide +kernel) fun t _ y => ?_
  rw [after0_2]
  frame_out
  refine colCol_blk _ rfl rfl (fun _ => eta2 _) (fun _ => eta2 _) (fun k => ?_) (fun k => ?_)
  · blk_ext [iblk, V_main_arg0, e0, e2]
  · blk_ext [iblk, V_main_arg1, e1, e2]

open Cert.Reference31Ideal.Read

theorem ref_eq (x0 : Vec Ideal S4096x1024 .bf16) (x1 : Vec Ideal S4096x128 .bf16) :
    val_main_v6 (F := Ideal) x0 x1 = colCol (φ := .bf16) x0 x1 :=
  colCol_ref (fun i => (val_main_v5_apply x0 x1 i).trans (val_main_v4_apply x0 x1 (idx_main_v5 i))) (fun _ _ => eta2 _) (fun _ _ => eta2 _)

theorem same {y0 y1} (h0 : y0 = a0 m c) (h1 : y1 = a1 m c) : val_main_v6 (F := Ideal) y0 y1 = out m c := by
  rw [h0, h1, ref_eq, out_eq]
end

end Cert.Proj31

end
-- ==== Proof.Proj.Call32.lean ====
/- The gradient of the mixer's input through the write strength and decay. -/
module

public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Kernel32.Frame
public import proofs.«01_k».proof.Proof.Proj.Products

@[expose] public section

set_option maxRecDepth 16384

noncomputable section

namespace Cert.Proj32

open Idealize.ShloMosaic Idealize.ShloMosaic.TcCoe Cert.Proj
open Cert.Kernel32Ideal Cert.Kernel32Ideal.Gen

theorem e0 : ∀ t : Fin cfg0.N, win0_0.index t = ![t.val, 0] := by decide +kernel
theorem e1 : ∀ t : Fin cfg0.N, win0_1.index t = ![0, 0] := by decide +kernel
theorem e2 : ∀ t : Fin cfg0.N, win0_2.index t = ![t.val, 0] := by decide +kernel
theorem e3 : ∀ t : Fin cfg0.N, win0_3.index t = ![t.val, 0] := by decide +kernel

section
variable (m : (ℓ : Loc nD τ sig) → Buf (Elt Ideal) ℓ) (c : Dev nD)

abbrev a0 : Vec Ideal S4096x128 .bf16 := m ((c : Thread nD τ).loc main_arg0)
abbrev a1 : Vec Ideal S1024x128 .bf16 := m ((c : Thread nD τ).loc main_arg1)
abbrev a2 : Vec Ideal S4096x1024 .f32 := m ((c : Thread nD τ).loc main_arg2)
/-- What the call leaves. -/
abbrev out := (dats (F := Ideal) m 0 c).arrAt 3 cfg0.N

theorem out_eq : out m c = rowRowAdd (a0 m c) (a1 m c) (a2 m c) := by
  refine (dats m 0 c).arrAt_eq_of_covers 3 _ (by decide +kernel) fun t _ y => ?_
  rw [after0_3]
  frame_out
  refine rowRowAdd_blk (fun k => ?_) (fun k => ?_) ?_
  · blk_ext [iblk, V_main_arg0, e0, e3]
  · blk_ext [iblk, V_main_arg1, e1, e3]
  · blk_ext [iblk, V_main_arg2, e2, e3]

open Cert.Reference32Ideal.Read

theorem ref_eq (x0 : Vec Ideal S4096x128 .bf16) (x1 : Vec Ideal S1024x128 .bf16) (x2 : Vec Ideal S4096x1024 .f32) :
    val_main_v5 (F := Ideal) x0 x1 x2 = rowRowAdd x0 x1 x2 :=
  rowRowAdd_ref (rowRow_ref (val_main_v4_apply x0 x1) (fun _ _ => eta2 _) (fun _ _ => eta2 _))

theorem same {y0 y1 y2} (h0 : y0 = a0 m c) (h1 : y1 = a1 m c) (h2 : y2 = a2 m c) : val_main_v5 (F := Ideal) y0 y1 y2 = out m c := by
  rw [h0, h1, h2, ref_eq, out_eq]
end

end Cert.Proj32

end
-- ==== Proof.Proj.Claims.lean ====
/- The claims about the projections' calls: each runs, and each leaves its reference's arrays. -/
module

public import proofs.«01_k».proof.Defs
public import proofs.«01_k».proof.Proof.Proj.Call12
public import proofs.«01_k».proof.Proof.Proj.Call13
public import proofs.«01_k».proof.Proof.Proj.Call14
public import proofs.«01_k».proof.Proof.Proj.Call15
public import proofs.«01_k».proof.Proof.Proj.Call16
public import proofs.«01_k».proof.Proof.Proj.Call17
public import proofs.«01_k».proof.Proof.Proj.Call18
public import proofs.«01_k».proof.Proof.Proj.Call19
public import proofs.«01_k».proof.Proof.Proj.Call20
public import proofs.«01_k».proof.Proof.Proj.Call21
public import proofs.«01_k».proof.Proof.Proj.Call22
public import proofs.«01_k».proof.Proof.Proj.Call23
public import proofs.«01_k».proof.Proof.Proj.Call24
public import proofs.«01_k».proof.Proof.Proj.Call25
public import proofs.«01_k».proof.Proof.Proj.Call26
public import proofs.«01_k».proof.Proof.Proj.Call27
public import proofs.«01_k».proof.Proof.Proj.Call28
public import proofs.«01_k».proof.Proof.Proj.Call29
public import proofs.«01_k».proof.Proof.Proj.Call30
public import proofs.«01_k».proof.Proof.Proj.Call31
public import proofs.«01_k».proof.Proof.Proj.Call32
public import Idealize.ShloMosaic.Adequacy
public import Idealize.ShloMosaic.Init

@[expose] public section

noncomputable section

namespace Cert.Proof

open Idealize.ShloMosaic Idealize.SL.Sem

/-! ## Call 12: the projection to q, k and v of the delta rule -/

theorem frame_kernel12 : quiescent_Kernel12 := fun m ρ _ => Kernel12.Gen.frame (F := Bits) m ρ
theorem frame_ideal12 : quiescent_Kernel12Ideal := fun m ρ _ => Kernel12Ideal.Gen.frame (F := Ideal) m ρ
theorem frame_reference12 : quiescent_Reference12Ideal := fun m ρ _ =>
  (θ_run Reference12Ideal.defs _ _).mono (fun r h => ⟨fun c => (h c).2, sem_eq_zero_of_no_sems (by decide) r.2⟩) (Reference12Ideal.Value.run m ρ)
theorem preserves12 : preserves_Kernel12_Kernel12Ideal := trivial

abbrev at12 (m' : (ℓ : Loc Reference12Ideal.nD Reference12Ideal.τ Reference12Ideal.sig) → Buf (Elt Ideal) ℓ) (c : Dev Reference12Ideal.nD) (b) := m' ((c.tc : Thread Reference12Ideal.nD Reference12Ideal.τ).loc b)

theorem algebraic12 : algebraic_Kernel12Ideal_Reference12Ideal :=
  fun m ρ m' ρ' _ (hag : ∀ c, at12 m' c Reference12Ideal.main_arg0 = Proj12.a0 m c ∧ at12 m' c Reference12Ideal.main_arg1 = Proj12.a1 m c) =>
    ⟨fun c => Proj12.out m c, Kernel12Ideal.Value.run_blocks m ρ,
      (θ_run Reference12Ideal.defs _ _).mono (fun r h c => ⟨(h c).1.trans ((Reference12Ideal.Read.val_main_v3_eq (at12 m' c Reference12Ideal.main_arg0) (at12 m' c Reference12Ideal.main_arg1)).trans (Proj12.same m c (hag c).1 (hag c).2)), (h c).2⟩) (Reference12Ideal.Value.run m' ρ')⟩

/-! ## Call 13: the projection to q, k and v of the attention -/

theorem frame_kernel13 : quiescent_Kernel13 := fun m ρ _ => Kernel13.Gen.frame (F := Bits) m ρ
theorem frame_ideal13 : quiescent_Kernel13Ideal := fun m ρ _ => Kernel13Ideal.Gen.frame (F := Ideal) m ρ
theorem frame_reference13 : quiescent_Reference13Ideal := fun m ρ _ =>
  (θ_run Reference13Ideal.defs _ _).mono (fun r h => ⟨fun c => (h c).2, sem_eq_zero_of_no_sems (by decide) r.2⟩) (Reference13Ideal.Value.run m ρ)
theorem preserves13 : preserves_Kernel13_Kernel13Ideal := trivial

abbrev at13 (m' : (ℓ : Loc Reference13Ideal.nD Reference13Ideal.τ Reference13Ideal.sig) → Buf (Elt Ideal) ℓ) (c : Dev Reference13Ideal.nD) (b) := m' ((c.tc : Thread Reference13Ideal.nD Reference13Ideal.τ).loc b)

theorem algebraic13 : algebraic_Kernel13Ideal_Reference13Ideal :=
  fun m ρ m' ρ' _ (hag : ∀ c, at13 m' c Reference13Ideal.main_arg0 = Proj13.a0 m c ∧ at13 m' c Reference13Ideal.main_arg1 = Proj13.a1 m c) =>
    ⟨fun c => Proj13.out m c, Kernel13Ideal.Value.run_blocks m ρ,
      (θ_run Reference13Ideal.defs _ _).mono (fun r h c => ⟨(h c).1.trans ((Reference13Ideal.Read.val_main_v3_eq (at13 m' c Reference13Ideal.main_arg0) (at13 m' c Reference13Ideal.main_arg1)).trans (Proj13.same m c (hag c).1 (hag c).2)), (h c).2⟩) (Reference13Ideal.Value.run m' ρ')⟩

/-! ## Call 14: the projection to the two gates of the mixture -/

theorem frame_kernel14 : quiescent_Kernel14 := fun m ρ _ => Kernel14.Gen.frame (F := Bits) m ρ
theorem frame_ideal14 : quiescent_Kernel14Ideal := fun m ρ _ => Kernel14Ideal.Gen.frame (F := Ideal) m ρ
theorem frame_reference14 : quiescent_Reference14Ideal := fun m ρ _ =>
  (θ_run Reference14Ideal.defs _ _).mono (fun r h => ⟨fun c => (h c).2, sem_eq_zero_of_no_sems (by decide) r.2⟩) (Reference14Ideal.Value.run m ρ)
theorem preserves14 : preserves_Kernel14_Kernel14Ideal := trivial

abbrev at14 (m' : (ℓ : Loc Reference14Ideal.nD Reference14Ideal.τ Reference14Ideal.sig) → Buf (Elt Ideal) ℓ) (c : Dev Reference14Ideal.nD) (b) := m' ((c.tc : Thread Reference14Ideal.nD Reference14Ideal.τ).loc b)

theorem algebraic14 : algebraic_Kernel14Ideal_Reference14Ideal :=
  fun m ρ m' ρ' _ (hag : ∀ c, at14 m' c Reference14Ideal.main_arg0 = Proj14.a0 m c ∧ at14 m' c Reference14Ideal.main_arg1 = Proj14.a1 m c) =>
    ⟨fun c => Proj14.out m c, Kernel14Ideal.Value.run_blocks m ρ,
      (θ_run Reference14Ideal.defs _ _).mono (fun r h c => ⟨(h c).1.trans ((Reference14Ideal.Read.val_main_v3_eq (at14 m' c Reference14Ideal.main_arg0) (at14 m' c Reference14Ideal.main_arg1)).trans (Proj14.same m c (hag c).1 (hag c).2)), (h c).2⟩) (Reference14Ideal.Value.run m' ρ')⟩

/-! ## Call 15: a projection of 1024 columns -/

theorem frame_kernel15 : quiescent_Kernel15 := fun m ρ _ => Kernel15.Gen.frame (F := Bits) m ρ
theorem frame_ideal15 : quiescent_Kernel15Ideal := fun m ρ _ => Kernel15Ideal.Gen.frame (F := Ideal) m ρ
theorem frame_reference15 : quiescent_Reference15Ideal := fun m ρ _ =>
  (θ_run Reference15Ideal.defs _ _).mono (fun r h => ⟨fun c => (h c).2, sem_eq_zero_of_no_sems (by decide) r.2⟩) (Reference15Ideal.Value.run m ρ)
theorem preserves15 : preserves_Kernel15_Kernel15Ideal := trivial

abbrev at15 (m' : (ℓ : Loc Reference15Ideal.nD Reference15Ideal.τ Reference15Ideal.sig) → Buf (Elt Ideal) ℓ) (c : Dev Reference15Ideal.nD) (b) := m' ((c.tc : Thread Reference15Ideal.nD Reference15Ideal.τ).loc b)

theorem algebraic15 : algebraic_Kernel15Ideal_Reference15Ideal :=
  fun m ρ m' ρ' _ (hag : ∀ c, at15 m' c Reference15Ideal.main_arg0 = Proj15.a0 m c ∧ at15 m' c Reference15Ideal.main_arg1 = Proj15.a1 m c) =>
    ⟨fun c => Proj15.out m c, Kernel15Ideal.Value.run_blocks m ρ,
      (θ_run Reference15Ideal.defs _ _).mono (fun r h c => ⟨(h c).1.trans ((Reference15Ideal.Read.val_main_v3_eq (at15 m' c Reference15Ideal.main_arg0) (at15 m' c Reference15Ideal.main_arg1)).trans (Proj15.same m c (hag c).1 (hag c).2)), (h c).2⟩) (Reference15Ideal.Value.run m' ρ')⟩

/-! ## Call 16: the gradient of the weight of the delta rule's q, k and v -/

theorem frame_kernel16 : quiescent_Kernel16 := fun m ρ _ => Kernel16.Gen.frame (F := Bits) m ρ
theorem frame_ideal16 : quiescent_Kernel16Ideal := fun m ρ _ => Kernel16Ideal.Gen.frame (F := Ideal) m ρ
theorem frame_reference16 : quiescent_Reference16Ideal := fun m ρ _ =>
  (θ_run Reference16Ideal.defs _ _).mono (fun r h => ⟨fun c => (h c).2, sem_eq_zero_of_no_sems (by decide) r.2⟩) (Reference16Ideal.Value.run m ρ)
theorem preserves16 : preserves_Kernel16_Kernel16Ideal := trivial

abbrev at16 (m' : (ℓ : Loc Reference16Ideal.nD Reference16Ideal.τ Reference16Ideal.sig) → Buf (Elt Ideal) ℓ) (c : Dev Reference16Ideal.nD) (b) := m' ((c.tc : Thread Reference16Ideal.nD Reference16Ideal.τ).loc b)

theorem algebraic16 : algebraic_Kernel16Ideal_Reference16Ideal :=
  fun m ρ m' ρ' _ (hag : ∀ c, at16 m' c Reference16Ideal.main_arg0 = Proj16.a0 m c ∧ at16 m' c Reference16Ideal.main_arg1 = Proj16.a1 m c) =>
    ⟨fun c => Proj16.out m c, Kernel16Ideal.Value.run_blocks m ρ,
      (θ_run Reference16Ideal.defs _ _).mono (fun r h c => ⟨(h c).1.trans ((Reference16Ideal.Read.val_main_v6_eq (at16 m' c Reference16Ideal.main_arg0) (at16 m' c Reference16Ideal.main_arg1)).trans (Proj16.same m c (hag c).1 (hag c).2)), (h c).2⟩) (Reference16Ideal.Value.run m' ρ')⟩

/-! ## Call 17: the gradient of the weight of the attention's q, k and v -/

theorem frame_kernel17 : quiescent_Kernel17 := fun m ρ _ => Kernel17.Gen.frame (F := Bits) m ρ
theorem frame_ideal17 : quiescent_Kernel17Ideal := fun m ρ _ => Kernel17Ideal.Gen.frame (F := Ideal) m ρ
theorem frame_reference17 : quiescent_Reference17Ideal := fun m ρ _ =>
  (θ_run Reference17Ideal.defs _ _).mono (fun r h => ⟨fun c => (h c).2, sem_eq_zero_of_no_sems (by decide) r.2⟩) (Reference17Ideal.Value.run m ρ)
theorem preserves17 : preserves_Kernel17_Kernel17Ideal := trivial

abbrev at17 (m' : (ℓ : Loc Reference17Ideal.nD Reference17Ideal.τ Reference17Ideal.sig) → Buf (Elt Ideal) ℓ) (c : Dev Reference17Ideal.nD) (b) := m' ((c.tc : Thread Reference17Ideal.nD Reference17Ideal.τ).loc b)

theorem algebraic17 : algebraic_Kernel17Ideal_Reference17Ideal :=
  fun m ρ m' ρ' _ (hag : ∀ c, at17 m' c Reference17Ideal.main_arg0 = Proj17.a0 m c ∧ at17 m' c Reference17Ideal.main_arg1 = Proj17.a1 m c) =>
    ⟨fun c => Proj17.out m c, Kernel17Ideal.Value.run_blocks m ρ,
      (θ_run Reference17Ideal.defs _ _).mono (fun r h c => ⟨(h c).1.trans ((Reference17Ideal.Read.val_main_v6_eq (at17 m' c Reference17Ideal.main_arg0) (at17 m' c Reference17Ideal.main_arg1)).trans (Proj17.same m c (hag c).1 (hag c).2)), (h c).2⟩) (Reference17Ideal.Value.run m' ρ')⟩

/-! ## Call 18: the gradient of the weight of the mixture's gates -/

theorem frame_kernel18 : quiescent_Kernel18 := fun m ρ _ => Kernel18.Gen.frame (F := Bits) m ρ
theorem frame_ideal18 : quiescent_Kernel18Ideal := fun m ρ _ => Kernel18Ideal.Gen.frame (F := Ideal) m ρ
theorem frame_reference18 : quiescent_Reference18Ideal := fun m ρ _ =>
  (θ_run Reference18Ideal.defs _ _).mono (fun r h => ⟨fun c => (h c).2, sem_eq_zero_of_no_sems (by decide) r.2⟩) (Reference18Ideal.Value.run m ρ)
theorem preserves18 : preserves_Kernel18_Kernel18Ideal := trivial

abbrev at18 (m' : (ℓ : Loc Reference18Ideal.nD Reference18Ideal.τ Reference18Ideal.sig) → Buf (Elt Ideal) ℓ) (c : Dev Reference18Ideal.nD) (b) := m' ((c.tc : Thread Reference18Ideal.nD Reference18Ideal.τ).loc b)

theorem algebraic18 : algebraic_Kernel18Ideal_Reference18Ideal :=
  fun m ρ m' ρ' _ (hag : ∀ c, at18 m' c Reference18Ideal.main_arg0 = Proj18.a0 m c ∧ at18 m' c Reference18Ideal.main_arg1 = Proj18.a1 m c) =>
    ⟨fun c => Proj18.out m c, Kernel18Ideal.Value.run_blocks m ρ,
      (θ_run Reference18Ideal.defs _ _).mono (fun r h c => ⟨(h c).1.trans ((Reference18Ideal.Read.val_main_v6_eq (at18 m' c Reference18Ideal.main_arg0) (at18 m' c Reference18Ideal.main_arg1)).trans (Proj18.same m c (hag c).1 (hag c).2)), (h c).2⟩) (Reference18Ideal.Value.run m' ρ')⟩

/-! ## Call 19: the gradient of a weight of 1024 rows and columns -/

theorem frame_kernel19 : quiescent_Kernel19 := fun m ρ _ => Kernel19.Gen.frame (F := Bits) m ρ
theorem frame_ideal19 : quiescent_Kernel19Ideal := fun m ρ _ => Kernel19Ideal.Gen.frame (F := Ideal) m ρ
theorem frame_reference19 : quiescent_Reference19Ideal := fun m ρ _ =>
  (θ_run Reference19Ideal.defs _ _).mono (fun r h => ⟨fun c => (h c).2, sem_eq_zero_of_no_sems (by decide) r.2⟩) (Reference19Ideal.Value.run m ρ)
theorem preserves19 : preserves_Kernel19_Kernel19Ideal := trivial

abbrev at19 (m' : (ℓ : Loc Reference19Ideal.nD Reference19Ideal.τ Reference19Ideal.sig) → Buf (Elt Ideal) ℓ) (c : Dev Reference19Ideal.nD) (b) := m' ((c.tc : Thread Reference19Ideal.nD Reference19Ideal.τ).loc b)

theorem algebraic19 : algebraic_Kernel19Ideal_Reference19Ideal :=
  fun m ρ m' ρ' _ (hag : ∀ c, at19 m' c Reference19Ideal.main_arg0 = Proj19.a0 m c ∧ at19 m' c Reference19Ideal.main_arg1 = Proj19.a1 m c) =>
    ⟨fun c => Proj19.out m c, Kernel19Ideal.Value.run_blocks m ρ,
      (θ_run Reference19Ideal.defs _ _).mono (fun r h c => ⟨(h c).1.trans ((Reference19Ideal.Read.val_main_v6_eq (at19 m' c Reference19Ideal.main_arg0) (at19 m' c Reference19Ideal.main_arg1)).trans (Proj19.same m c (hag c).1 (hag c).2)), (h c).2⟩) (Reference19Ideal.Value.run m' ρ')⟩

/-! ## Call 20: the gradient of the mixer's input through the delta rule's q, k and v -/

theorem frame_kernel20 : quiescent_Kernel20 := fun m ρ _ => Kernel20.Gen.frame (F := Bits) m ρ
theorem frame_ideal20 : quiescent_Kernel20Ideal := fun m ρ _ => Kernel20Ideal.Gen.frame (F := Ideal) m ρ
theorem frame_reference20 : quiescent_Reference20Ideal := fun m ρ _ =>
  (θ_run Reference20Ideal.defs _ _).mono (fun r h => ⟨fun c => (h c).2, sem_eq_zero_of_no_sems (by decide) r.2⟩) (Reference20Ideal.Value.run m ρ)
theorem preserves20 : preserves_Kernel20_Kernel20Ideal := trivial

abbrev at20 (m' : (ℓ : Loc Reference20Ideal.nD Reference20Ideal.τ Reference20Ideal.sig) → Buf (Elt Ideal) ℓ) (c : Dev Reference20Ideal.nD) (b) := m' ((c.tc : Thread Reference20Ideal.nD Reference20Ideal.τ).loc b)

theorem algebraic20 : algebraic_Kernel20Ideal_Reference20Ideal :=
  fun m ρ m' ρ' _ (hag : ∀ c, at20 m' c Reference20Ideal.main_arg0 = Proj20.a0 m c ∧ at20 m' c Reference20Ideal.main_arg1 = Proj20.a1 m c) =>
    ⟨fun c => Proj20.out m c, Kernel20Ideal.Value.run_blocks m ρ,
      (θ_run Reference20Ideal.defs _ _).mono (fun r h c => ⟨(h c).1.trans ((Reference20Ideal.Read.val_main_v4_eq (at20 m' c Reference20Ideal.main_arg0) (at20 m' c Reference20Ideal.main_arg1)).trans (Proj20.same m c (hag c).1 (hag c).2)), (h c).2⟩) (Reference20Ideal.Value.run m' ρ')⟩

/-! ## Call 21: the gradient of the mixer's input through the attention's q, k and v -/

theorem frame_kernel21 : quiescent_Kernel21 := fun m ρ _ => Kernel21.Gen.frame (F := Bits) m ρ
theorem frame_ideal21 : quiescent_Kernel21Ideal := fun m ρ _ => Kernel21Ideal.Gen.frame (F := Ideal) m ρ
theorem frame_reference21 : quiescent_Reference21Ideal := fun m ρ _ =>
  (θ_run Reference21Ideal.defs _ _).mono (fun r h => ⟨fun c => (h c).2, sem_eq_zero_of_no_sems (by decide) r.2⟩) (Reference21Ideal.Value.run m ρ)
theorem preserves21 : preserves_Kernel21_Kernel21Ideal := trivial

abbrev at21 (m' : (ℓ : Loc Reference21Ideal.nD Reference21Ideal.τ Reference21Ideal.sig) → Buf (Elt Ideal) ℓ) (c : Dev Reference21Ideal.nD) (b) := m' ((c.tc : Thread Reference21Ideal.nD Reference21Ideal.τ).loc b)

theorem algebraic21 : algebraic_Kernel21Ideal_Reference21Ideal :=
  fun m ρ m' ρ' _ (hag : ∀ c, at21 m' c Reference21Ideal.main_arg0 = Proj21.a0 m c ∧ at21 m' c Reference21Ideal.main_arg1 = Proj21.a1 m c ∧ at21 m' c Reference21Ideal.main_arg2 = Proj21.a2 m c) =>
    ⟨fun c => Proj21.out m c, Kernel21Ideal.Value.run_blocks m ρ,
      (θ_run Reference21Ideal.defs _ _).mono (fun r h c => ⟨(h c).1.trans ((Reference21Ideal.Read.val_main_v5_eq (at21 m' c Reference21Ideal.main_arg0) (at21 m' c Reference21Ideal.main_arg1) (at21 m' c Reference21Ideal.main_arg2)).trans (Proj21.same m c (hag c).1 (hag c).2.1 (hag c).2.2)), (h c).2⟩) (Reference21Ideal.Value.run m' ρ')⟩

/-! ## Call 22: the gradient of the mixer's input through the mixture's gates -/

theorem frame_kernel22 : quiescent_Kernel22 := fun m ρ _ => Kernel22.Gen.frame (F := Bits) m ρ
theorem frame_ideal22 : quiescent_Kernel22Ideal := fun m ρ _ => Kernel22Ideal.Gen.frame (F := Ideal) m ρ
theorem frame_reference22 : quiescent_Reference22Ideal := fun m ρ _ =>
  (θ_run Reference22Ideal.defs _ _).mono (fun r h => ⟨fun c => (h c).2, sem_eq_zero_of_no_sems (by decide) r.2⟩) (Reference22Ideal.Value.run m ρ)
theorem preserves22 : preserves_Kernel22_Kernel22Ideal := trivial

abbrev at22 (m' : (ℓ : Loc Reference22Ideal.nD Reference22Ideal.τ Reference22Ideal.sig) → Buf (Elt Ideal) ℓ) (c : Dev Reference22Ideal.nD) (b) := m' ((c.tc : Thread Reference22Ideal.nD Reference22Ideal.τ).loc b)

theorem algebraic22 : algebraic_Kernel22Ideal_Reference22Ideal :=
  fun m ρ m' ρ' _ (hag : ∀ c, at22 m' c Reference22Ideal.main_arg0 = Proj22.a0 m c ∧ at22 m' c Reference22Ideal.main_arg1 = Proj22.a1 m c ∧ at22 m' c Reference22Ideal.main_arg2 = Proj22.a2 m c) =>
    ⟨fun c => Proj22.out m c, Kernel22Ideal.Value.run_blocks m ρ,
      (θ_run Reference22Ideal.defs _ _).mono (fun r h c => ⟨(h c).1.trans ((Reference22Ideal.Read.val_main_v5_eq (at22 m' c Reference22Ideal.main_arg0) (at22 m' c Reference22Ideal.main_arg1) (at22 m' c Reference22Ideal.main_arg2)).trans (Proj22.same m c (hag c).1 (hag c).2.1 (hag c).2.2)), (h c).2⟩) (Reference22Ideal.Value.run m' ρ')⟩

/-! ## Call 23: the gradient of the mixer's input through the delta rule's output gate -/

theorem frame_kernel23 : quiescent_Kernel23 := fun m ρ _ => Kernel23.Gen.frame (F := Bits) m ρ
theorem frame_ideal23 : quiescent_Kernel23Ideal := fun m ρ _ => Kernel23Ideal.Gen.frame (F := Ideal) m ρ
theorem frame_reference23 : quiescent_Reference23Ideal := fun m ρ _ =>
  (θ_run Reference23Ideal.defs _ _).mono (fun r h => ⟨fun c => (h c).2, sem_eq_zero_of_no_sems (by decide) r.2⟩) (Reference23Ideal.Value.run m ρ)
theorem preserves23 : preserves_Kernel23_Kernel23Ideal := trivial

abbrev at23 (m' : (ℓ : Loc Reference23Ideal.nD Reference23Ideal.τ Reference23Ideal.sig) → Buf (Elt Ideal) ℓ) (c : Dev Reference23Ideal.nD) (b) := m' ((c.tc : Thread Reference23Ideal.nD Reference23Ideal.τ).loc b)

theorem algebraic23 : algebraic_Kernel23Ideal_Reference23Ideal :=
  fun m ρ m' ρ' _ (hag : ∀ c, at23 m' c Reference23Ideal.main_arg0 = Proj23.a0 m c ∧ at23 m' c Reference23Ideal.main_arg1 = Proj23.a1 m c ∧ at23 m' c Reference23Ideal.main_arg2 = Proj23.a2 m c) =>
    ⟨fun c => Proj23.out m c, Kernel23Ideal.Value.run_blocks m ρ,
      (θ_run Reference23Ideal.defs _ _).mono (fun r h c => ⟨(h c).1.trans ((Reference23Ideal.Read.val_main_v5_eq (at23 m' c Reference23Ideal.main_arg0) (at23 m' c Reference23Ideal.main_arg1) (at23 m' c Reference23Ideal.main_arg2)).trans (Proj23.same m c (hag c).1 (hag c).2.1 (hag c).2.2)), (h c).2⟩) (Reference23Ideal.Value.run m' ρ')⟩

/-! ## Call 24: the projection of the attention's output -/

theorem frame_kernel24 : quiescent_Kernel24 := fun m ρ _ => Kernel24.Gen.frame (F := Bits) m ρ
theorem frame_ideal24 : quiescent_Kernel24Ideal := fun m ρ _ => Kernel24Ideal.Gen.frame (F := Ideal) m ρ
theorem frame_reference24 : quiescent_Reference24Ideal := fun m ρ _ =>
  (θ_run Reference24Ideal.defs _ _).mono (fun r h => ⟨fun c => (h c).2, sem_eq_zero_of_no_sems (by decide) r.2⟩) (Reference24Ideal.Value.run m ρ)
theorem preserves24 : preserves_Kernel24_Kernel24Ideal := trivial

abbrev at24 (m' : (ℓ : Loc Reference24Ideal.nD Reference24Ideal.τ Reference24Ideal.sig) → Buf (Elt Ideal) ℓ) (c : Dev Reference24Ideal.nD) (b) := m' ((c.tc : Thread Reference24Ideal.nD Reference24Ideal.τ).loc b)

theorem algebraic24 : algebraic_Kernel24Ideal_Reference24Ideal :=
  fun m ρ m' ρ' _ (hag : ∀ c, at24 m' c Reference24Ideal.main_arg0 = Proj24.a0 m c ∧ at24 m' c Reference24Ideal.main_arg1 = Proj24.a1 m c) =>
    ⟨fun c => Proj24.out m c, Kernel24Ideal.Value.run_blocks m ρ,
      (θ_run Reference24Ideal.defs _ _).mono (fun r h c => ⟨(h c).1.trans ((Reference24Ideal.Read.val_main_v3_eq (at24 m' c Reference24Ideal.main_arg0) (at24 m' c Reference24Ideal.main_arg1)).trans (Proj24.same m c (hag c).1 (hag c).2)), (h c).2⟩) (Reference24Ideal.Value.run m' ρ')⟩

/-! ## Call 25: the gradient of the weight of the attention's output projection -/

theorem frame_kernel25 : quiescent_Kernel25 := fun m ρ _ => Kernel25.Gen.frame (F := Bits) m ρ
theorem frame_ideal25 : quiescent_Kernel25Ideal := fun m ρ _ => Kernel25Ideal.Gen.frame (F := Ideal) m ρ
theorem frame_reference25 : quiescent_Reference25Ideal := fun m ρ _ =>
  (θ_run Reference25Ideal.defs _ _).mono (fun r h => ⟨fun c => (h c).2, sem_eq_zero_of_no_sems (by decide) r.2⟩) (Reference25Ideal.Value.run m ρ)
theorem preserves25 : preserves_Kernel25_Kernel25Ideal := trivial

abbrev at25 (m' : (ℓ : Loc Reference25Ideal.nD Reference25Ideal.τ Reference25Ideal.sig) → Buf (Elt Ideal) ℓ) (c : Dev Reference25Ideal.nD) (b) := m' ((c.tc : Thread Reference25Ideal.nD Reference25Ideal.τ).loc b)

theorem algebraic25 : algebraic_Kernel25Ideal_Reference25Ideal :=
  fun m ρ m' ρ' _ (hag : ∀ c, at25 m' c Reference25Ideal.main_arg0 = Proj25.a0 m c ∧ at25 m' c Reference25Ideal.main_arg1 = Proj25.a1 m c) =>
    ⟨fun c => Proj25.out m c, Kernel25Ideal.Value.run_blocks m ρ,
      (θ_run Reference25Ideal.defs _ _).mono (fun r h c => ⟨(h c).1.trans ((Reference25Ideal.Read.val_main_v6_eq (at25 m' c Reference25Ideal.main_arg0) (at25 m' c Reference25Ideal.main_arg1)).trans (Proj25.same m c (hag c).1 (hag c).2)), (h c).2⟩) (Reference25Ideal.Value.run m' ρ')⟩

/-! ## Call 26: the gradient of the attention's output -/

theorem frame_kernel26 : quiescent_Kernel26 := fun m ρ _ => Kernel26.Gen.frame (F := Bits) m ρ
theorem frame_ideal26 : quiescent_Kernel26Ideal := fun m ρ _ => Kernel26Ideal.Gen.frame (F := Ideal) m ρ
theorem frame_reference26 : quiescent_Reference26Ideal := fun m ρ _ =>
  (θ_run Reference26Ideal.defs _ _).mono (fun r h => ⟨fun c => (h c).2, sem_eq_zero_of_no_sems (by decide) r.2⟩) (Reference26Ideal.Value.run m ρ)
theorem preserves26 : preserves_Kernel26_Kernel26Ideal := trivial

abbrev at26 (m' : (ℓ : Loc Reference26Ideal.nD Reference26Ideal.τ Reference26Ideal.sig) → Buf (Elt Ideal) ℓ) (c : Dev Reference26Ideal.nD) (b) := m' ((c.tc : Thread Reference26Ideal.nD Reference26Ideal.τ).loc b)

theorem algebraic26 : algebraic_Kernel26Ideal_Reference26Ideal :=
  fun m ρ m' ρ' _ (hag : ∀ c, at26 m' c Reference26Ideal.main_arg0 = Proj26.a0 m c ∧ at26 m' c Reference26Ideal.main_arg1 = Proj26.a1 m c) =>
    ⟨fun c => Proj26.out m c, Kernel26Ideal.Value.run_blocks m ρ,
      (θ_run Reference26Ideal.defs _ _).mono (fun r h c => ⟨(h c).1.trans ((Reference26Ideal.Read.val_main_v5_eq (at26 m' c Reference26Ideal.main_arg0) (at26 m' c Reference26Ideal.main_arg1)).trans (Proj26.same m c (hag c).1 (hag c).2)), (h c).2⟩) (Reference26Ideal.Value.run m' ρ')⟩

/-! ## Call 27: the gradient of the mixture -/

theorem frame_kernel27 : quiescent_Kernel27 := fun m ρ _ => Kernel27.Gen.frame (F := Bits) m ρ
theorem frame_ideal27 : quiescent_Kernel27Ideal := fun m ρ _ => Kernel27Ideal.Gen.frame (F := Ideal) m ρ
theorem frame_reference27 : quiescent_Reference27Ideal := fun m ρ _ =>
  (θ_run Reference27Ideal.defs _ _).mono (fun r h => ⟨fun c => (h c).2, sem_eq_zero_of_no_sems (by decide) r.2⟩) (Reference27Ideal.Value.run m ρ)
theorem preserves27 : preserves_Kernel27_Kernel27Ideal := trivial

abbrev at27 (m' : (ℓ : Loc Reference27Ideal.nD Reference27Ideal.τ Reference27Ideal.sig) → Buf (Elt Ideal) ℓ) (c : Dev Reference27Ideal.nD) (b) := m' ((c.tc : Thread Reference27Ideal.nD Reference27Ideal.τ).loc b)

theorem algebraic27 : algebraic_Kernel27Ideal_Reference27Ideal :=
  fun m ρ m' ρ' _ (hag : ∀ c, at27 m' c Reference27Ideal.main_arg0 = Proj27.a0 m c ∧ at27 m' c Reference27Ideal.main_arg1 = Proj27.a1 m c) =>
    ⟨fun c => Proj27.out m c, Kernel27Ideal.Value.run_blocks m ρ,
      (θ_run Reference27Ideal.defs _ _).mono (fun r h c => ⟨(h c).1.trans ((Reference27Ideal.Read.val_main_v5_eq (at27 m' c Reference27Ideal.main_arg0) (at27 m' c Reference27Ideal.main_arg1)).trans (Proj27.same m c (hag c).1 (hag c).2)), (h c).2⟩) (Reference27Ideal.Value.run m' ρ')⟩

/-! ## Call 28: the gradient of the delta rule's output -/

theorem frame_kernel28 : quiescent_Kernel28 := fun m ρ _ => Kernel28.Gen.frame (F := Bits) m ρ
theorem frame_ideal28 : quiescent_Kernel28Ideal := fun m ρ _ => Kernel28Ideal.Gen.frame (F := Ideal) m ρ
theorem frame_reference28 : quiescent_Reference28Ideal := fun m ρ _ =>
  (θ_run Reference28Ideal.defs _ _).mono (fun r h => ⟨fun c => (h c).2, sem_eq_zero_of_no_sems (by decide) r.2⟩) (Reference28Ideal.Value.run m ρ)
theorem preserves28 : preserves_Kernel28_Kernel28Ideal := trivial

abbrev at28 (m' : (ℓ : Loc Reference28Ideal.nD Reference28Ideal.τ Reference28Ideal.sig) → Buf (Elt Ideal) ℓ) (c : Dev Reference28Ideal.nD) (b) := m' ((c.tc : Thread Reference28Ideal.nD Reference28Ideal.τ).loc b)

theorem algebraic28 : algebraic_Kernel28Ideal_Reference28Ideal :=
  fun m ρ m' ρ' _ (hag : ∀ c, at28 m' c Reference28Ideal.main_arg0 = Proj28.a0 m c ∧ at28 m' c Reference28Ideal.main_arg1 = Proj28.a1 m c) =>
    ⟨fun c => Proj28.out m c, Kernel28Ideal.Value.run_blocks m ρ,
      (θ_run Reference28Ideal.defs _ _).mono (fun r h c => ⟨(h c).1.trans ((Reference28Ideal.Read.val_main_v4_eq (at28 m' c Reference28Ideal.main_arg0) (at28 m' c Reference28Ideal.main_arg1)).trans (Proj28.same m c (hag c).1 (hag c).2)), (h c).2⟩) (Reference28Ideal.Value.run m' ρ')⟩

/-! ## Call 29: the mixer's last projection and its residual line -/

theorem frame_kernel29 : quiescent_Kernel29 := fun m ρ _ => Kernel29.Gen.frame (F := Bits) m ρ
theorem frame_ideal29 : quiescent_Kernel29Ideal := fun m ρ _ => Kernel29Ideal.Gen.frame (F := Ideal) m ρ
theorem frame_reference29 : quiescent_Reference29Ideal := fun m ρ _ =>
  (θ_run Reference29Ideal.defs _ _).mono (fun r h => ⟨fun c => (h c).2.2, sem_eq_zero_of_no_sems (by decide) r.2⟩) (Reference29Ideal.Value.run m ρ)
theorem preserves29 : preserves_Kernel29_Kernel29Ideal := trivial

abbrev at29 (m' : (ℓ : Loc Reference29Ideal.nD Reference29Ideal.τ Reference29Ideal.sig) → Buf (Elt Ideal) ℓ) (c : Dev Reference29Ideal.nD) (b) := m' ((c.tc : Thread Reference29Ideal.nD Reference29Ideal.τ).loc b)

theorem algebraic29 : algebraic_Kernel29Ideal_Reference29Ideal :=
  fun m ρ m' ρ' _ (hag : ∀ c, at29 m' c Reference29Ideal.main_arg0 = Proj29.a0 m c ∧ at29 m' c Reference29Ideal.main_arg1 = Proj29.a1 m c ∧ at29 m' c Reference29Ideal.main_arg2 = Proj29.a2 m c ∧ at29 m' c Reference29Ideal.main_arg3 = Proj29.a3 m c) =>
    ⟨fun c => Proj29.outh m c, fun c => Proj29.outm m c, Kernel29Ideal.Value.run_blocks m ρ,
      (θ_run Reference29Ideal.defs _ _).mono (fun r h c => ⟨(h c).1.trans ((Reference29Ideal.Read.val_main_v5_eq (at29 m' c Reference29Ideal.main_arg0) (at29 m' c Reference29Ideal.main_arg1) (at29 m' c Reference29Ideal.main_arg2) (at29 m' c Reference29Ideal.main_arg3)).trans (Proj29.sameh m c (hag c).1 (hag c).2.1 (hag c).2.2.1 (hag c).2.2.2)),
        (h c).2.1.trans ((Reference29Ideal.Read.val_main_v6_eq (at29 m' c Reference29Ideal.main_arg0) (at29 m' c Reference29Ideal.main_arg1)).trans (Proj29.samem m c (hag c).1 (hag c).2.1)), (h c).2.2⟩) (Reference29Ideal.Value.run m' ρ')⟩

/-! ## Call 30: the projection to the delta rule's write strength and decay -/

theorem frame_kernel30 : quiescent_Kernel30 := fun m ρ _ => Kernel30.Gen.frame (F := Bits) m ρ
theorem frame_ideal30 : quiescent_Kernel30Ideal := fun m ρ _ => Kernel30Ideal.Gen.frame (F := Ideal) m ρ
theorem frame_reference30 : quiescent_Reference30Ideal := fun m ρ _ =>
  (θ_run Reference30Ideal.defs _ _).mono (fun r h => ⟨fun c => (h c).2, sem_eq_zero_of_no_sems (by decide) r.2⟩) (Reference30Ideal.Value.run m ρ)
theorem preserves30 : preserves_Kernel30_Kernel30Ideal := trivial

abbrev at30 (m' : (ℓ : Loc Reference30Ideal.nD Reference30Ideal.τ Reference30Ideal.sig) → Buf (Elt Ideal) ℓ) (c : Dev Reference30Ideal.nD) (b) := m' ((c.tc : Thread Reference30Ideal.nD Reference30Ideal.τ).loc b)

theorem algebraic30 : algebraic_Kernel30Ideal_Reference30Ideal :=
  fun m ρ m' ρ' _ (hag : ∀ c, at30 m' c Reference30Ideal.main_arg0 = Proj30.a0 m c ∧ at30 m' c Reference30Ideal.main_arg1 = Proj30.a1 m c) =>
    ⟨fun c => Proj30.out m c, Kernel30Ideal.Value.run_blocks m ρ,
      (θ_run Reference30Ideal.defs _ _).mono (fun r h c => ⟨(h c).1.trans ((Reference30Ideal.Read.val_main_v2_eq (at30 m' c Reference30Ideal.main_arg0) (at30 m' c Reference30Ideal.main_arg1)).trans (Proj30.same m c (hag c).1 (hag c).2)), (h c).2⟩) (Reference30Ideal.Value.run m' ρ')⟩

/-! ## Call 31: the gradient of the weight of the write strength and decay -/

theorem frame_kernel31 : quiescent_Kernel31 := fun m ρ _ => Kernel31.Gen.frame (F := Bits) m ρ
theorem frame_ideal31 : quiescent_Kernel31Ideal := fun m ρ _ => Kernel31Ideal.Gen.frame (F := Ideal) m ρ
theorem frame_reference31 : quiescent_Reference31Ideal := fun m ρ _ =>
  (θ_run Reference31Ideal.defs _ _).mono (fun r h => ⟨fun c => (h c).2, sem_eq_zero_of_no_sems (by decide) r.2⟩) (Reference31Ideal.Value.run m ρ)
theorem preserves31 : preserves_Kernel31_Kernel31Ideal := trivial

abbrev at31 (m' : (ℓ : Loc Reference31Ideal.nD Reference31Ideal.τ Reference31Ideal.sig) → Buf (Elt Ideal) ℓ) (c : Dev Reference31Ideal.nD) (b) := m' ((c.tc : Thread Reference31Ideal.nD Reference31Ideal.τ).loc b)

theorem algebraic31 : algebraic_Kernel31Ideal_Reference31Ideal :=
  fun m ρ m' ρ' _ (hag : ∀ c, at31 m' c Reference31Ideal.main_arg0 = Proj31.a0 m c ∧ at31 m' c Reference31Ideal.main_arg1 = Proj31.a1 m c) =>
    ⟨fun c => Proj31.out m c, Kernel31Ideal.Value.run_blocks m ρ,
      (θ_run Reference31Ideal.defs _ _).mono (fun r h c => ⟨(h c).1.trans ((Reference31Ideal.Read.val_main_v6_eq (at31 m' c Reference31Ideal.main_arg0) (at31 m' c Reference31Ideal.main_arg1)).trans (Proj31.same m c (hag c).1 (hag c).2)), (h c).2⟩) (Reference31Ideal.Value.run m' ρ')⟩

/-! ## Call 32: the gradient of the mixer's input through the write strength and decay -/

theorem frame_kernel32 : quiescent_Kernel32 := fun m ρ _ => Kernel32.Gen.frame (F := Bits) m ρ
theorem frame_ideal32 : quiescent_Kernel32Ideal := fun m ρ _ => Kernel32Ideal.Gen.frame (F := Ideal) m ρ
theorem frame_reference32 : quiescent_Reference32Ideal := fun m ρ _ =>
  (θ_run Reference32Ideal.defs _ _).mono (fun r h => ⟨fun c => (h c).2, sem_eq_zero_of_no_sems (by decide) r.2⟩) (Reference32Ideal.Value.run m ρ)
theorem preserves32 : preserves_Kernel32_Kernel32Ideal := trivial

abbrev at32 (m' : (ℓ : Loc Reference32Ideal.nD Reference32Ideal.τ Reference32Ideal.sig) → Buf (Elt Ideal) ℓ) (c : Dev Reference32Ideal.nD) (b) := m' ((c.tc : Thread Reference32Ideal.nD Reference32Ideal.τ).loc b)

theorem algebraic32 : algebraic_Kernel32Ideal_Reference32Ideal :=
  fun m ρ m' ρ' _ (hag : ∀ c, at32 m' c Reference32Ideal.main_arg0 = Proj32.a0 m c ∧ at32 m' c Reference32Ideal.main_arg1 = Proj32.a1 m c ∧ at32 m' c Reference32Ideal.main_arg2 = Proj32.a2 m c) =>
    ⟨fun c => Proj32.out m c, Kernel32Ideal.Value.run_blocks m ρ,
      (θ_run Reference32Ideal.defs _ _).mono (fun r h c => ⟨(h c).1.trans ((Reference32Ideal.Read.val_main_v5_eq (at32 m' c Reference32Ideal.main_arg0) (at32 m' c Reference32Ideal.main_arg1) (at32 m' c Reference32Ideal.main_arg2)).trans (Proj32.same m c (hag c).1 (hag c).2.1 (hag c).2.2)), (h c).2⟩) (Reference32Ideal.Value.run m' ρ')⟩

end Cert.Proof

end
-- ==== Proof.lean ====
module

public import proofs.«01_k».proof.Defs
public import proofs.«01_k».proof.Proof.Bits.Launch
public import proofs.«01_k».proof.Proof.Values
public import proofs.«01_k».proof.Proof.Ffn.Claims
public import proofs.«01_k».proof.Proof.Proj.Claims
public import Idealize.ShloMosaic.Adequacy
public import Idealize.ShloMosaic.Init

@[expose] public section

noncomputable section

namespace Cert.Proof

open Idealize.ShloMosaic Idealize.SL.Sem Cert.KernelIdeal.Da Cert.ReferenceIdeal.Da

/-- The kernel as printed runs, at bit patterns. -/
theorem frame_kernel : Cert.quiescent_Kernel := fun m ρ _ => Cert.Kernel.Da.frame (F := Bits) m ρ

/-- The kernel over the extended reals runs, from any memory. -/
theorem frame_ideal : Cert.quiescent_KernelIdeal := fun m ρ _ => Cert.KernelIdeal.Da.frame (F := Ideal) m ρ
theorem frame_ideal_pre : Cert.quiescent_KernelIdeal_pre_finite := fun m ρ _ => Cert.KernelIdeal.Da.frame (F := Ideal) m ρ

/-- The reference runs, from any memory: it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩) (Cert.ReferenceIdeal.Da.run_out m ρ)
theorem frame_reference_pre : Cert.quiescent_ReferenceIdeal_pre_finite := fun m ρ _ => frame_reference m ρ trivial

/-- The one named constant is what its rule says. -/
theorem preserves : Cert.preserves_Kernel_KernelIdeal :=
  IdealRules.named_const.statement Cert.KernelIdeal.κ "mask" .f32 0xF149F2CA#32 ⊥ rfl

/-- Kernel and reference end with the same three arrays. -/
theorem algebraic : Cert.algebraic_KernelIdeal_ReferenceIdeal_pre_finite :=
  fun m ρ m' ρ' hpre (hag : ∀ c, ref0 m' c = a0 m c ∧ ref1 m' c = a1 m c ∧ ref2 m' c = a2 m c ∧ ref3 m' c = a3 m c ∧ ref4 m' c = a4 m c ∧ ref5 m' c = a5 m c) =>
    ⟨fun c => outQ m c, fun c => outK m c, fun c => outV m c, Cert.KernelIdeal.Da.run_out m ρ, Cert.Da.run_same m m' ρ' hpre hag⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Pre_finite.Gen.facts,
  frame_kernel, frame_ideal, frame_ideal_pre, frame_reference, frame_reference_pre,
  frame_kernel2, frame_ideal2, frame_reference2,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  frame_kernel9, frame_ideal9, frame_reference9,
  frame_kernel10, frame_ideal10, frame_reference10,
  frame_kernel11, frame_ideal11, frame_reference11,
  frame_kernel12, frame_ideal12, frame_reference12,
  frame_kernel13, frame_ideal13, frame_reference13,
  frame_kernel14, frame_ideal14, frame_reference14,
  frame_kernel15, frame_ideal15, frame_reference15,
  frame_kernel16, frame_ideal16, frame_reference16,
  frame_kernel17, frame_ideal17, frame_reference17,
  frame_kernel18, frame_ideal18, frame_reference18,
  frame_kernel19, frame_ideal19, frame_reference19,
  frame_kernel20, frame_ideal20, frame_reference20,
  frame_kernel21, frame_ideal21, frame_reference21,
  frame_kernel22, frame_ideal22, frame_reference22,
  frame_kernel23, frame_ideal23, frame_reference23,
  frame_kernel24, frame_ideal24, frame_reference24,
  frame_kernel25, frame_ideal25, frame_reference25,
  frame_kernel26, frame_ideal26, frame_reference26,
  frame_kernel27, frame_ideal27, frame_reference27,
  frame_kernel28, frame_ideal28, frame_reference28,
  frame_kernel29, frame_ideal29, frame_reference29,
  frame_kernel30, frame_ideal30, frame_reference30,
  frame_kernel31, frame_ideal31, frame_reference31,
  frame_kernel32, frame_ideal32, frame_reference32,
  preserves, algebraic,
  preserves2, algebraic2,
  preserves3, algebraic3,
  preserves4, algebraic4,
  preserves5, algebraic5,
  preserves6, algebraic6,
  preserves7, algebraic7,
  preserves8, algebraic8,
  preserves9, algebraic9,
  preserves10, algebraic10,
  preserves11, algebraic11,
  preserves12, algebraic12,
  preserves13, algebraic13,
  preserves14, algebraic14,
  preserves15, algebraic15,
  preserves16, algebraic16,
  preserves17, algebraic17,
  preserves18, algebraic18,
  preserves19, algebraic19,
  preserves20, algebraic20,
  preserves21, algebraic21,
  preserves22, algebraic22,
  preserves23, algebraic23,
  preserves24, algebraic24,
  preserves25, algebraic25,
  preserves26, algebraic26,
  preserves27, algebraic27,
  preserves28, algebraic28,
  preserves29, algebraic29,
  preserves30, algebraic30,
  preserves31, algebraic31,
  preserves32, algebraic32⟩

end Cert.Proof

end
